-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)) (v3 : (c : Dev Cert.Kernel3Ideal.nD) → Buf (Elt Ideal) ((c.tc : Thread Cert.Kernel3Ideal.nD Cert.Kernel3Ideal.τ).loc Cert.Kernel3Ideal.main_v43)) (v4 : (c : Dev Cert.Kernel3Ideal.nD) → Buf (Elt Ideal) ((c.tc : Thread Cert.Kernel3Ideal.nD Cert.Kernel3Ideal.τ).loc Cert.Kernel3Ideal.main_v44)) (v5 : (c : Dev Cert.Kernel3Ideal.nD) → Buf (Elt Ideal) ((c.tc : Thread Cert.Kernel3Ideal.nD Cert.Kernel3Ideal.τ).loc Cert.Kernel3Ideal.main_v42_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_v43) = v3 c
          ∧ r.2.mem ((c.tc : Thread Cert.Kernel3Ideal.nD Cert.Kernel3Ideal.τ).loc Cert.Kernel3Ideal.main_v44) = v4 c
          ∧ r.2.mem ((c.tc : Thread Cert.Kernel3Ideal.nD Cert.Kernel3Ideal.τ).loc Cert.Kernel3Ideal.main_v42_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v178) = v0 c
          ∧ r.2.mem ((c.tc : Thread Cert.Reference3Ideal.nD Cert.Reference3Ideal.τ).loc Cert.Reference3Ideal.main_v179) = v1 c
          ∧ r.2.mem ((c.tc : Thread Cert.Reference3Ideal.nD Cert.Reference3Ideal.τ).loc Cert.Reference3Ideal.main_v180) = v2 c
          ∧ r.2.mem ((c.tc : Thread Cert.Reference3Ideal.nD Cert.Reference3Ideal.τ).loc Cert.Reference3Ideal.main_v181) = v3 c
          ∧ r.2.mem ((c.tc : Thread Cert.Reference3Ideal.nD Cert.Reference3Ideal.τ).loc Cert.Reference3Ideal.main_v182) = v4 c
          ∧ r.2.mem ((c.tc : Thread Cert.Reference3Ideal.nD Cert.Reference3Ideal.τ).loc Cert.Reference3Ideal.main_v183) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S4x8x256x4096 : Shape := ⟨4, ![4, 8, 256, 4096]⟩
abbrev S4x8x4096x256 : Shape := ⟨4, ![4, 8, 4096, 256]⟩
abbrev S4x8x128x4096 : Shape := ⟨4, ![4, 8, 128, 4096]⟩
abbrev S4x1024x4096 : Shape := ⟨3, ![4, 1024, 4096]⟩
abbrev S_ : Shape := ⟨0, ![]⟩

class Facts : Prop where
  bitsLt_bf16_f32 : FTy.bits .bf16 < FTy.bits .f32
  bcast_S_S4x8x256x4096 : S_.BroadcastsInDim S4x8x256x4096 (![] : Fin 0 → Fin S4x8x256x4096.rank)
  bcast_S_S4x8x4096x256 : S_.BroadcastsInDim S4x8x4096x256 (![] : Fin 0 → Fin S4x8x4096x256.rank)

variable [Facts]

def fn {F : FTy → Type} [FloatOps F] (main_arg0 : FVec F S4x8x256x4096 .bf16) (main_arg1 : FVec F S4x8x4096x256 .bf16) (main_arg2 : FVec F S4x8x128x4096 .bf16) (main_arg3 : FVec F S4x1024x4096 .bf16) : IVec S4x8x256x4096 1 × IVec S4x8x4096x256 1 :=
  let main_v0 : FVec F S4x8x256x4096 .f32 := (extf .f32 · bitsLt_bf16_f32) main_arg0
  let main_v1 : FVec F S4x8x256x4096 .f32 := Host.absf main_v0
  let main_cst : FVec F S_ .f32 := constant S_ .f32 0x7F800000#32
  let main_v2 : FVec F S4x8x256x4096 .f32 := broadcastInDim S4x8x256x4096 ![] bcast_S_S4x8x256x4096 main_cst
  let main_v3 : IVec S4x8x256x4096 1 := cmpf .olt main_v1 main_v2
  let main_v4 : FVec F S4x8x4096x256 .f32 := (extf .f32 · bitsLt_bf16_f32) main_arg1
  let main_v5 : FVec F S4x8x4096x256 .f32 := Host.absf main_v4
  let main_cst_0 : FVec F S_ .f32 := constant S_ .f32 0x7F800000#32
  let main_v6 : FVec F S4x8x4096x256 .f32 := broadcastInDim S4x8x4096x256 ![] bcast_S_S4x8x4096x256 main_cst_0
  let main_v7 : IVec S4x8x4096x256 1 := cmpf .olt main_v5 main_v6
  (main_v3, main_v7)
-- ==== Pre_finite3.lean ====
abbrev S4x4096x2048 : Shape := ⟨3, ![4, 4096, 2048]⟩
abbrev S4x6144 : Shape := ⟨2, ![4, 6144]⟩
abbrev S4x4096 : Shape := ⟨2, ![4, 4096]⟩
abbrev S1x2048x4160 : Shape := ⟨3, ![1, 2048, 4160]⟩
abbrev S1x512 : Shape := ⟨2, ![1, 512]⟩
abbrev S1x512x1536 : Shape := ⟨3, ![1, 512, 1536]⟩
abbrev S1x512x2048 : Shape := ⟨3, ![1, 512, 2048]⟩
abbrev S1x128 : Shape := ⟨2, ![1, 128]⟩
abbrev S1x64 : Shape := ⟨2, ![1, 64]⟩
abbrev S_ : Shape := ⟨0, ![]⟩

class Facts : Prop where
  bcast_S_S4x6144 : S_.BroadcastsInDim S4x6144 (![] : Fin 0 → Fin S4x6144.rank)
  bcast_S_S1x2048x4160 : S_.BroadcastsInDim S1x2048x4160 (![] : Fin 0 → Fin S1x2048x4160.rank)

variable [Facts]

def fn {F : FTy → Type} [FloatOps F] (main_arg0 : FVec F S4x4096x2048 .f32) (main_arg1 : FVec F S4x6144 .f32) (main_arg2 : IVec S4x4096 32) (main_arg3 : FVec F S1x2048x4160 .f32) (main_arg4 : FVec F S1x512 .f32) (main_arg5 : FVec F S1x512x1536 .f32) (main_arg6 : FVec F S1x512 .f32) (main_arg7 : FVec F S1x512x2048 .f32) (main_arg8 : FVec F S1x128 .f32) (main_arg9 : FVec F S1x64 .f32) (main_arg10 : FVec F S1x128 .f32) (main_arg11 : FVec F S1x64 .f32) : IVec S4x6144 1 × IVec S1x2048x4160 1 :=
  let main_v0 : FVec F S4x6144 .f32 := Host.absf main_arg1
  let main_cst : FVec F S_ .f32 := constant S_ .f32 0x7F800000#32
  let main_v1 : FVec F S4x6144 .f32 := broadcastInDim S4x6144 ![] bcast_S_S4x6144 main_cst
  let main_v2 : IVec S4x6144 1 := cmpf .olt main_v0 main_v1
  let main_v3 : FVec F S1x2048x4160 .f32 := Host.absf main_arg3
  let main_cst_0 : FVec F S_ .f32 := constant S_ .f32 0x7F800000#32
  let main_v4 : FVec F S1x2048x4160 .f32 := broadcastInDim S1x2048x4160 ![] bcast_S_S1x2048x4160 main_cst_0
  let main_v5 : IVec S1x2048x4160 1 := cmpf .olt main_v3 main_v4
  (main_v2, main_v5)
-- ==== Kernel.lean ====
abbrev S4x8x256x4096 : Shape := ⟨4, ![4, 8, 256, 4096]⟩
abbrev S4x8x4096x256 : Shape := ⟨4, ![4, 8, 4096, 256]⟩
abbrev S4x8x128x4096 : Shape := ⟨4, ![4, 8, 128, 4096]⟩
abbrev S4x1024x4096 : Shape := ⟨3, ![4, 1024, 4096]⟩
abbrev S1x4x256x512 : Shape := ⟨4, ![1, 4, 256, 512]⟩
abbrev S1x4x4096x256 : Shape := ⟨4, ![1, 4, 4096, 256]⟩
abbrev S1x4x128x4096 : Shape := ⟨4, ![1, 4, 128, 4096]⟩
abbrev S1x512x512 : Shape := ⟨3, ![1, 512, 512]⟩
abbrev S4x128x512 : Shape := ⟨3, ![4, 128, 512]⟩
abbrev S1x512 : Shape := ⟨2, ![1, 512]⟩
abbrev S1x1x256x256 : Shape := ⟨4, ![1, 1, 256, 256]⟩
abbrev S256x256 : Shape := ⟨2, ![256, 256]⟩
abbrev S1x1x256x512 : Shape := ⟨4, ![1, 1, 256, 512]⟩
abbrev S256x512 : Shape := ⟨2, ![256, 512]⟩
abbrev S1x1x128x256 : Shape := ⟨4, ![1, 1, 128, 256]⟩
abbrev S128x256 : Shape := ⟨2, ![128, 256]⟩
abbrev S512 : Shape := ⟨1, ![512]⟩
abbrev S128x512 : Shape := ⟨2, ![128, 512]⟩
abbrev S1x128x512 : Shape := ⟨3, ![1, 128, 512]⟩
abbrev S1x256 : Shape := ⟨2, ![1, 256]⟩
abbrev S256 : Shape := ⟨1, ![256]⟩
abbrev S1x128x256 : Shape := ⟨3, ![1, 128, 256]⟩

abbrev nBuf : Space → Nat
  | .hbm => 5
  | .vmem => 11
  | .smem => 0
  | _ => 0

abbrev bufTy : (tb : Table) → Fin (tcTables nBuf tb) → BufTy
  | .hbm, ⟨0, _⟩ => ⟨S4x8x256x4096, .bf16⟩
  | .hbm, ⟨1, _⟩ => ⟨S4x8x4096x256, .bf16⟩
  | .hbm, ⟨2, _⟩ => ⟨S4x8x128x4096, .bf16⟩
  | .hbm, ⟨3, _⟩ => ⟨S4x1024x4096, .bf16⟩
  | .hbm, ⟨4, _⟩ => ⟨S4x1024x4096, .bf16⟩
  | .local _ .vmem, ⟨0, _⟩ => ⟨S1x4x256x512, .bf16⟩
  | .local _ .vmem, ⟨1, _⟩ => ⟨S1x4x256x512, .bf16⟩
  | .local _ .vmem, ⟨2, _⟩ => ⟨S1x4x4096x256, .bf16⟩
  | .local _ .vmem, ⟨3, _⟩ => ⟨S1x4x4096x256, .bf16⟩
  | .local _ .vmem, ⟨4, _⟩ => ⟨S1x4x128x4096, .bf16⟩
  | .local _ .vmem, ⟨5, _⟩ => ⟨S1x4x128x4096, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S4x128x512, .f32⟩
  | _, _ => ⟨S4x8x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg2 : BitVec 32 := BitVec.ofNat 32 (i 2).val
  let c4_i32 : BitVec 32 := 4#32
  let c0_i32_23 : BitVec 32 := 0#32
  let v28 : BitVec 1 := Scalar.cmpi .eq c4_i32 c0_i32_23
  let c1_i32_24 : BitVec 32 := 1#32
  let v29 : BitVec 32 := Scalar.select v28 c1_i32_24 c4_i32
  let v30 : BitVec 32 := Scalar.remsi arg2 v29
  let c0_i32_26 : BitVec 32 := 0#32
  let v32 : BitVec 1 := Scalar.cmpi .slt v30 c0_i32_26
  let c0_i32_27 : BitVec 32 := 0#32
  let v33 : BitVec 1 := Scalar.cmpi .slt v29 c0_i32_27
  let v34 : BitVec 1 := Scalar.xori v32 v33
  let c0_i32_25 : BitVec 32 := 0#32
  let v31 : BitVec 1 := Scalar.cmpi .ne v30 c0_i32_25
  let v35 : BitVec 1 := Scalar.andi v34 v31
  let v36 : BitVec 32 := Scalar.addi v30 v29
  let v37 : BitVec 32 := Scalar.select v35 v36 v30
  let c0_i32_28 : BitVec 32 := 0#32
  let v38 : BitVec 32 := Scalar.maxsi v37 c0_i32_28
  let c3_i32_29 : BitVec 32 := 3#32
  let v39 : BitVec 32 := Scalar.minsi v38 c3_i32_29
  let c0_i32_30 : BitVec 32 := 0#32
  let v40 : BitVec 1 := Scalar.cmpi .ne v39 c0_i32_30
  v40

def k0_cond2 (i : grid0.Coords) : BitVec 1 :=
  let arg2 : BitVec 32 := BitVec.ofNat 32 (i 2).val
  let c4_i32 : BitVec 32 := 4#32
  let c0_i32_23 : BitVec 32 := 0#32
  let v28 : BitVec 1 := Scalar.cmpi .eq c4_i32 c0_i32_23
  let c1_i32_24 : BitVec 32 := 1#32
  let v29 : BitVec 32 := Scalar.select v28 c1_i32_24 c4_i32
  let v30 : BitVec 32 := Scalar.remsi arg2 v29
  let c0_i32_26 : BitVec 32 := 0#32
  let v32 : BitVec 1 := Scalar.cmpi .slt v30 c0_i32_26
  let c0_i32_27 : BitVec 32 := 0#32
  let v33 : BitVec 1 := Scalar.cmpi .slt v29 c0_i32_27
  let v34 : BitVec 1 := Scalar.xori v32 v33
  let c0_i32_25 : BitVec 32 := 0#32
  let v31 : BitVec 1 := Scalar.cmpi .ne v30 c0_i32_25
  let v35 : BitVec 1 := Scalar.andi v34 v31
  let v36 : BitVec 32 := Scalar.addi v30 v29
  let v37 : BitVec 32 := Scalar.select v35 v36 v30
  let c0_i32_28 : BitVec 32 := 0#32
  let v38 : BitVec 32 := Scalar.maxsi v37 c0_i32_28
  let c3_i32_29 : BitVec 32 := 3#32
  let v39 : BitVec 32 := Scalar.minsi v38 c3_i32_29
  let c1_i32_71 : BitVec 32 := 1#32
  let v114 : BitVec 32 := Scalar.subi v39 c1_i32_71
  let c0_i32_72 : BitVec 32 := 0#32
  let v115 : BitVec 1 := Scalar.cmpi .ne v114 c0_i32_72
  v115

def k0_cond3 (i : grid0.Coords) : BitVec 1 :=
  let arg2 : BitVec 32 := BitVec.ofNat 32 (i 2).val
  let c4_i32 : BitVec 32 := 4#32
  let c0_i32_23 : BitVec 32 := 0#32
  let v28 : BitVec 1 := Scalar.cmpi .eq c4_i32 c0_i32_23
  let c1_i32_24 : BitVec 32 := 1#32
  let v29 : BitVec 32 := Scalar.select v28 c1_i32_24 c4_i32
  let v30 : BitVec 32 := Scalar.remsi arg2 v29
  let c0_i32_26 : BitVec 32 := 0#32
  let v32 : BitVec 1 := Scalar.cmpi .slt v30 c0_i32_26
  let c0_i32_27 : BitVec 32 := 0#32
  let v33 : BitVec 1 := Scalar.cmpi .slt v29 c0_i32_27
  let v34 : BitVec 1 := Scalar.xori v32 v33
  let c0_i32_25 : BitVec 32 := 0#32
  let v31 : BitVec 1 := Scalar.cmpi .ne v30 c0_i32_25
  let v35 : BitVec 1 := Scalar.andi v34 v31
  let v36 : BitVec 32 := Scalar.addi v30 v29
  let v37 : BitVec 32 := Scalar.select v35 v36 v30
  let c0_i32_28 : BitVec 32 := 0#32
  let v38 : BitVec 32 := Scalar.maxsi v37 c0_i32_28
  let c3_i32_29 : BitVec 32 := 3#32
  let v39 : BitVec 32 := Scalar.minsi v38 c3_i32_29
  let c1_i32_71 : BitVec 32 := 1#32
  let v114 : BitVec 32 := Scalar.subi v39 c1_i32_71
  let c1_i32_73 : BitVec 32 := 1#32
  let v117 : BitVec 32 := Scalar.subi v114 c1_i32_73
  let c0_i32_74 : BitVec 32 := 0#32
  let v118 : BitVec 1 := Scalar.cmpi .ne v117 c0_i32_74
  v118

def k0_mult1 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32 : BitVec 32 := 512#32
  let v120 : BitVec 32 := Scalar.muli v21 c512_i32
  let c0_i32_75 : BitVec 32 := 0#32
  let v121 : BitVec 32 := Scalar.addi v120 c0_i32_75
  v121
def k0_off1 (i : grid0.Coords) (c0_i32_16 : BitVec 32) (c0_i32_75 : BitVec 32) : Fin 4 → Nat :=
  let c0_76 : Index := 0#32
  let c0_77 : Index := 0#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32 : BitVec 32 := 512#32
  let v120 : BitVec 32 := Scalar.muli v21 c512_i32
  let v121 : BitVec 32 := Scalar.addi v120 c0_i32_75
  let v122 : BitVec 32 := v121
  let v123 : Index := Scalar.indexCast v122
  let c0_78 : Index := 0#32
  ![0, 0, v123.toNat, 0]
def k0_mult2 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_84 : BitVec 32 := 512#32
  let v129 : BitVec 32 := Scalar.muli v21 c512_i32_84
  let c0_i32_85 : BitVec 32 := 0#32
  let v130 : BitVec 32 := Scalar.addi v129 c0_i32_85
  v130
def k0_off2 (i : grid0.Coords) (c0_i32_16 : BitVec 32) (c0_i32_85 : BitVec 32) : Fin 4 → Nat :=
  let c0_86 : Index := 0#32
  let c1_87 : Index := 1#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_84 : BitVec 32 := 512#32
  let v129 : BitVec 32 := Scalar.muli v21 c512_i32_84
  let v130 : BitVec 32 := Scalar.addi v129 c0_i32_85
  let v131 : BitVec 32 := v130
  let v132 : Index := Scalar.indexCast v131
  let c0_88 : Index := 0#32
  ![0, 1, v132.toNat, 0]
def k0_mult3 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_94 : BitVec 32 := 512#32
  let v138 : BitVec 32 := Scalar.muli v21 c512_i32_94
  let c0_i32_95 : BitVec 32 := 0#32
  let v139 : BitVec 32 := Scalar.addi v138 c0_i32_95
  v139
def k0_off3 (i : grid0.Coords) (c0_i32_16 : BitVec 32) (c0_i32_95 : BitVec 32) : Fin 4 → Nat :=
  let c0_96 : Index := 0#32
  let c2_97 : Index := 2#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_94 : BitVec 32 := 512#32
  let v138 : BitVec 32 := Scalar.muli v21 c512_i32_94
  let v139 : BitVec 32 := Scalar.addi v138 c0_i32_95
  let v140 : BitVec 32 := v139
  let v141 : Index := Scalar.indexCast v140
  let c0_98 : Index := 0#32
  ![0, 2, v141.toNat, 0]
def k0_mult4 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_104 : BitVec 32 := 512#32
  let v147 : BitVec 32 := Scalar.muli v21 c512_i32_104
  let c0_i32_105 : BitVec 32 := 0#32
  let v148 : BitVec 32 := Scalar.addi v147 c0_i32_105
  v148
def k0_off4 (i : grid0.Coords) (c0_i32_16 : BitVec 32) (c0_i32_105 : BitVec 32) : Fin 4 → Nat :=
  let c0_106 : Index := 0#32
  let c3_107 : Index := 3#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_104 : BitVec 32 := 512#32
  let v147 : BitVec 32 := Scalar.muli v21 c512_i32_104
  let v148 : BitVec 32 := Scalar.addi v147 c0_i32_105
  let v149 : BitVec 32 := v148
  let v150 : Index := Scalar.indexCast v149
  let c0_108 : Index := 0#32
  ![0, 3, v150.toNat, 0]
def k0_mult5 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_114 : BitVec 32 := 512#32
  let v156 : BitVec 32 := Scalar.muli v21 c512_i32_114
  let c0_i32_115 : BitVec 32 := 0#32
  let v157 : BitVec 32 := Scalar.addi v156 c0_i32_115
  v157
def k0_off5 (i : grid0.Coords) (c0_i32_16 : BitVec 32) (c0_i32_115 : BitVec 32) : Fin 4 → Nat :=
  let c0_116 : Index := 0#32
  let c0_117 : Index := 0#32
  let c0_118 : Index := 0#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_114 : BitVec 32 := 512#32
  let v156 : BitVec 32 := Scalar.muli v21 c512_i32_114
  let v157 : BitVec 32 := Scalar.addi v156 c0_i32_115
  let v158 : BitVec 32 := v157
  let v159 : Index := Scalar.indexCast v158
  ![0, 0, 0, v159.toNat]
def k0_mult6 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_124 : BitVec 32 := 512#32
  let v171 : BitVec 32 := Scalar.muli v21 c512_i32_124
  let c256_i32 : BitVec 32 := 256#32
  let v172 : BitVec 32 := Scalar.addi v171 c256_i32
  v172
def k0_mult7 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_133 : BitVec 32 := 512#32
  let v180 : BitVec 32 := Scalar.muli v21 c512_i32_133
  let c0_i32_134 : BitVec 32 := 0#32
  let v181 : BitVec 32 := Scalar.addi v180 c0_i32_134
  v181
def k0_off6 (i : grid0.Coords) (c0_i32_16 : BitVec 32) (c0_i32_134 : BitVec 32) : Fin 4 → Nat :=
  let c0_135 : Index := 0#32
  let c1_136 : Index := 1#32
  let c0_137 : Index := 0#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_133 : BitVec 32 := 512#32
  let v180 : BitVec 32 := Scalar.muli v21 c512_i32_133
  let v181 : BitVec 32 := Scalar.addi v180 c0_i32_134
  let v182 : BitVec 32 := v181
  let v183 : Index := Scalar.indexCast v182
  ![0, 1, 0, v183.toNat]
def k0_mult8 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_143 : BitVec 32 := 512#32
  let v195 : BitVec 32 := Scalar.muli v21 c512_i32_143
  let c256_i32_144 : BitVec 32 := 256#32
  let v196 : BitVec 32 := Scalar.addi v195 c256_i32_144
  v196
def k0_mult9 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_153 : BitVec 32 := 512#32
  let v204 : BitVec 32 := Scalar.muli v21 c512_i32_153
  let c0_i32_154 : BitVec 32 := 0#32
  let v205 : BitVec 32 := Scalar.addi v204 c0_i32_154
  v205
def k0_off7 (i : grid0.Coords) (c0_i32_16 : BitVec 32) (c0_i32_154 : BitVec 32) : Fin 4 → Nat :=
  let c0_155 : Index := 0#32
  let c2_156 : Index := 2#32
  let c0_157 : Index := 0#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_153 : BitVec 32 := 512#32
  let v204 : BitVec 32 := Scalar.muli v21 c512_i32_153
  let v205 : BitVec 32 := Scalar.addi v204 c0_i32_154
  let v206 : BitVec 32 := v205
  let v207 : Index := Scalar.indexCast v206
  ![0, 2, 0, v207.toNat]
def k0_mult10 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_163 : BitVec 32 := 512#32
  let v219 : BitVec 32 := Scalar.muli v21 c512_i32_163
  let c256_i32_164 : BitVec 32 := 256#32
  let v220 : BitVec 32 := Scalar.addi v219 c256_i32_164
  v220
def k0_mult11 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_173 : BitVec 32 := 512#32
  let v228 : BitVec 32 := Scalar.muli v21 c512_i32_173
  let c0_i32_174 : BitVec 32 := 0#32
  let v229 : BitVec 32 := Scalar.addi v228 c0_i32_174
  v229
def k0_off8 (i : grid0.Coords) (c0_i32_16 : BitVec 32) (c0_i32_174 : BitVec 32) : Fin 4 → Nat :=
  let c0_175 : Index := 0#32
  let c3_176 : Index := 3#32
  let c0_177 : Index := 0#32
  let arg2 : BitVec 32 := BitVec.ofNat 32 (i 2).val
  let c3_i32 : BitVec 32 := 3#32
  let v20 : BitVec 32 := Scalar.subi arg2 c3_i32
  let v21 : BitVec 32 := Scalar.addi v20 c0_i32_16
  let c512_i32_173 : BitVec 32 := 512#32
  let v228 : BitVec 32 := Scalar.muli v21 c512_i32_173
  let v229 : BitVec 32 := Scalar.addi v228 c0_i32_174
  let v230 : BitVec 32 := v229
  let v231 : Index := Scalar.indexCast v230
  ![0, 3, 0, v231.toNat]
def k0_mult12 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_183 : BitVec 32 := 512#32
  let v243 : BitVec 32 := Scalar.muli v21 c512_i32_183
  let c256_i32_184 : BitVec 32 := 256#32
  let v244 : BitVec 32 := Scalar.addi v243 c256_i32_184
  v244
def k0_mult13 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_193 : BitVec 32 := 512#32
  let v252 : BitVec 32 := Scalar.muli v21 c512_i32_193
  let c256_i32_194 : BitVec 32 := 256#32
  let v253 : BitVec 32 := Scalar.addi v252 c256_i32_194
  v253
def k0_mult14 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_206 : BitVec 32 := 512#32
  let v270 : BitVec 32 := Scalar.muli v23 c512_i32_206
  let c0_i32_207 : BitVec 32 := 0#32
  let v271 : BitVec 32 := Scalar.addi v270 c0_i32_207
  v271
def k0_mult15 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_216 : BitVec 32 := 512#32
  let v279 : BitVec 32 := Scalar.muli v21 c512_i32_216
  let c256_i32_217 : BitVec 32 := 256#32
  let v280 : BitVec 32 := Scalar.addi v279 c256_i32_217
  v280
def k0_mult16 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_229 : BitVec 32 := 512#32
  let v297 : BitVec 32 := Scalar.muli v23 c512_i32_229
  let c0_i32_230 : BitVec 32 := 0#32
  let v298 : BitVec 32 := Scalar.addi v297 c0_i32_230
  v298
def k0_mult17 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_239 : BitVec 32 := 512#32
  let v306 : BitVec 32 := Scalar.muli v21 c512_i32_239
  let c256_i32_240 : BitVec 32 := 256#32
  let v307 : BitVec 32 := Scalar.addi v306 c256_i32_240
  v307
def k0_mult18 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_252 : BitVec 32 := 512#32
  let v324 : BitVec 32 := Scalar.muli v23 c512_i32_252
  let c0_i32_253 : BitVec 32 := 0#32
  let v325 : BitVec 32 := Scalar.addi v324 c0_i32_253
  v325
def k0_mult19 (i : grid0.Coords) : BitVec 32 :=
  let arg2 : BitVec 32 := BitVec.ofNat 32 (i 2).val
  let c3_i32 : BitVec 32 := 3#32
  let v20 : BitVec 32 := Scalar.subi arg2 c3_i32
  let c0_i32_16 : BitVec 32 := 0#32
  let v21 : BitVec 32 := Scalar.addi v20 c0_i32_16
  let c512_i32_262 : BitVec 32 := 512#32
  let v333 : BitVec 32 := Scalar.muli v21 c512_i32_262
  let c256_i32_263 : BitVec 32 := 256#32
  let v334 : BitVec 32 := Scalar.addi v333 c256_i32_263
  v334
def k0_mult20 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_275 : BitVec 32 := 512#32
  let v351 : BitVec 32 := Scalar.muli v23 c512_i32_275
  let c0_i32_276 : BitVec 32 := 0#32
  let v352 : BitVec 32 := Scalar.addi v351 c0_i32_276
  v352
def k0_mult21 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_285 : BitVec 32 := 512#32
  let v360 : BitVec 32 := Scalar.muli v23 c512_i32_285
  let c0_i32_286 : BitVec 32 := 0#32
  let v361 : BitVec 32 := Scalar.addi v360 c0_i32_286
  v361
def k0_mult22 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_298 : BitVec 32 := 512#32
  let v378 : BitVec 32 := Scalar.muli v23 c512_i32_298
  let c256_i32_299 : BitVec 32 := 256#32
  let v379 : BitVec 32 := Scalar.addi v378 c256_i32_299
  v379
def k0_mult23 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_308 : BitVec 32 := 512#32
  let v387 : BitVec 32 := Scalar.muli v23 c512_i32_308
  let c0_i32_309 : BitVec 32 := 0#32
  let v388 : BitVec 32 := Scalar.addi v387 c0_i32_309
  v388
def k0_mult24 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_321 : BitVec 32 := 512#32
  let v405 : BitVec 32 := Scalar.muli v23 c512_i32_321
  let c256_i32_322 : BitVec 32 := 256#32
  let v406 : BitVec 32 := Scalar.addi v405 c256_i32_322
  v406
def k0_mult25 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_331 : BitVec 32 := 512#32
  let v414 : BitVec 32 := Scalar.muli v23 c512_i32_331
  let c0_i32_332 : BitVec 32 := 0#32
  let v415 : BitVec 32 := Scalar.addi v414 c0_i32_332
  v415
def k0_mult26 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_344 : BitVec 32 := 512#32
  let v432 : BitVec 32 := Scalar.muli v23 c512_i32_344
  let c256_i32_345 : BitVec 32 := 256#32
  let v433 : BitVec 32 := Scalar.addi v432 c256_i32_345
  v433
def k0_mult27 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_354 : BitVec 32 := 512#32
  let v441 : BitVec 32 := Scalar.muli v23 c512_i32_354
  let c0_i32_355 : BitVec 32 := 0#32
  let v442 : BitVec 32 := Scalar.addi v441 c0_i32_355
  v442
def k0_mult28 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_367 : BitVec 32 := 512#32
  let v459 : BitVec 32 := Scalar.muli v23 c512_i32_367
  let c256_i32_368 : BitVec 32 := 256#32
  let v460 : BitVec 32 := Scalar.addi v459 c256_i32_368
  v460
def k0_mult29 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_377 : BitVec 32 := 512#32
  let v468 : BitVec 32 := Scalar.muli v23 c512_i32_377
  let c256_i32_378 : BitVec 32 := 256#32
  let v469 : BitVec 32 := Scalar.addi v468 c256_i32_378
  v469
def k0_mult30 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_390 : BitVec 32 := 512#32
  let v486 : BitVec 32 := Scalar.muli v25 c512_i32_390
  let c0_i32_391 : BitVec 32 := 0#32
  let v487 : BitVec 32 := Scalar.addi v486 c0_i32_391
  v487
def k0_mult31 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_400 : BitVec 32 := 512#32
  let v495 : BitVec 32 := Scalar.muli v23 c512_i32_400
  let c256_i32_401 : BitVec 32 := 256#32
  let v496 : BitVec 32 := Scalar.addi v495 c256_i32_401
  v496
def k0_mult32 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_413 : BitVec 32 := 512#32
  let v513 : BitVec 32 := Scalar.muli v25 c512_i32_413
  let c0_i32_414 : BitVec 32 := 0#32
  let v514 : BitVec 32 := Scalar.addi v513 c0_i32_414
  v514
def k0_mult33 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_423 : BitVec 32 := 512#32
  let v522 : BitVec 32 := Scalar.muli v23 c512_i32_423
  let c256_i32_424 : BitVec 32 := 256#32
  let v523 : BitVec 32 := Scalar.addi v522 c256_i32_424
  v523
def k0_mult34 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_436 : BitVec 32 := 512#32
  let v540 : BitVec 32 := Scalar.muli v25 c512_i32_436
  let c0_i32_437 : BitVec 32 := 0#32
  let v541 : BitVec 32 := Scalar.addi v540 c0_i32_437
  v541
def k0_mult35 (i : grid0.Coords) : BitVec 32 :=
  let arg2 : BitVec 32 := BitVec.ofNat 32 (i 2).val
  let c3_i32_17 : BitVec 32 := 3#32
  let v22 : BitVec 32 := Scalar.subi arg2 c3_i32_17
  let c1_i32_18 : BitVec 32 := 1#32
  let v23 : BitVec 32 := Scalar.addi v22 c1_i32_18
  let c512_i32_446 : BitVec 32 := 512#32
  let v549 : BitVec 32 := Scalar.muli v23 c512_i32_446
  let c256_i32_447 : BitVec 32 := 256#32
  let v550 : BitVec 32 := Scalar.addi v549 c256_i32_447
  v550
def k0_mult36 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_459 : BitVec 32 := 512#32
  let v567 : BitVec 32 := Scalar.muli v25 c512_i32_459
  let c0_i32_460 : BitVec 32 := 0#32
  let v568 : BitVec 32 := Scalar.addi v567 c0_i32_460
  v568
def k0_mult37 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_469 : BitVec 32 := 512#32
  let v576 : BitVec 32 := Scalar.muli v25 c512_i32_469
  let c0_i32_470 : BitVec 32 := 0#32
  let v577 : BitVec 32 := Scalar.addi v576 c0_i32_470
  v577
def k0_mult38 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_482 : BitVec 32 := 512#32
  let v594 : BitVec 32 := Scalar.muli v25 c512_i32_482
  let c256_i32_483 : BitVec 32 := 256#32
  let v595 : BitVec 32 := Scalar.addi v594 c256_i32_483
  v595
def k0_mult39 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_492 : BitVec 32 := 512#32
  let v603 : BitVec 32 := Scalar.muli v25 c512_i32_492
  let c0_i32_493 : BitVec 32 := 0#32
  let v604 : BitVec 32 := Scalar.addi v603 c0_i32_493
  v604
def k0_mult40 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_505 : BitVec 32 := 512#32
  let v621 : BitVec 32 := Scalar.muli v25 c512_i32_505
  let c256_i32_506 : BitVec 32 := 256#32
  let v622 : BitVec 32 := Scalar.addi v621 c256_i32_506
  v622
def k0_mult41 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_515 : BitVec 32 := 512#32
  let v630 : BitVec 32 := Scalar.muli v25 c512_i32_515
  let c0_i32_516 : BitVec 32 := 0#32
  let v631 : BitVec 32 := Scalar.addi v630 c0_i32_516
  v631
def k0_mult42 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_528 : BitVec 32 := 512#32
  let v648 : BitVec 32 := Scalar.muli v25 c512_i32_528
  let c256_i32_529 : BitVec 32 := 256#32
  let v649 : BitVec 32 := Scalar.addi v648 c256_i32_529
  v649
def k0_mult43 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_538 : BitVec 32 := 512#32
  let v657 : BitVec 32 := Scalar.muli v25 c512_i32_538
  let c0_i32_539 : BitVec 32 := 0#32
  let v658 : BitVec 32 := Scalar.addi v657 c0_i32_539
  v658
def k0_mult44 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_551 : BitVec 32 := 512#32
  let v675 : BitVec 32 := Scalar.muli v25 c512_i32_551
  let c256_i32_552 : BitVec 32 := 256#32
  let v676 : BitVec 32 := Scalar.addi v675 c256_i32_552
  v676
def k0_mult45 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_561 : BitVec 32 := 512#32
  let v684 : BitVec 32 := Scalar.muli v25 c512_i32_561
  let c256_i32_562 : BitVec 32 := 256#32
  let v685 : BitVec 32 := Scalar.addi v684 c256_i32_562
  v685
def k0_mult46 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_574 : BitVec 32 := 512#32
  let v702 : BitVec 32 := Scalar.muli v27 c512_i32_574
  let c0_i32_575 : BitVec 32 := 0#32
  let v703 : BitVec 32 := Scalar.addi v702 c0_i32_575
  v703
def k0_mult47 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_584 : BitVec 32 := 512#32
  let v711 : BitVec 32 := Scalar.muli v25 c512_i32_584
  let c256_i32_585 : BitVec 32 := 256#32
  let v712 : BitVec 32 := Scalar.addi v711 c256_i32_585
  v712
def k0_mult48 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_597 : BitVec 32 := 512#32
  let v729 : BitVec 32 := Scalar.muli v27 c512_i32_597
  let c0_i32_598 : BitVec 32 := 0#32
  let v730 : BitVec 32 := Scalar.addi v729 c0_i32_598
  v730
def k0_mult49 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_607 : BitVec 32 := 512#32
  let v738 : BitVec 32 := Scalar.muli v25 c512_i32_607
  let c256_i32_608 : BitVec 32 := 256#32
  let v739 : BitVec 32 := Scalar.addi v738 c256_i32_608
  v739
def k0_mult50 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_620 : BitVec 32 := 512#32
  let v756 : BitVec 32 := Scalar.muli v27 c512_i32_620
  let c0_i32_621 : BitVec 32 := 0#32
  let v757 : BitVec 32 := Scalar.addi v756 c0_i32_621
  v757
def k0_mult51 (i : grid0.Coords) : BitVec 32 :=
  let arg2 : BitVec 32 := BitVec.ofNat 32 (i 2).val
  let c3_i32_19 : BitVec 32 := 3#32
  let v24 : BitVec 32 := Scalar.subi arg2 c3_i32_19
  let c2_i32_20 : BitVec 32 := 2#32
  let v25 : BitVec 32 := Scalar.addi v24 c2_i32_20
  let c512_i32_630 : BitVec 32 := 512#32
  let v765 : BitVec 32 := Scalar.muli v25 c512_i32_630
  let c256_i32_631 : BitVec 32 := 256#32
  let v766 : BitVec 32 := Scalar.addi v765 c256_i32_631
  v766
def k0_mult52 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_643 : BitVec 32 := 512#32
  let v783 : BitVec 32 := Scalar.muli v27 c512_i32_643
  let c0_i32_644 : BitVec 32 := 0#32
  let v784 : BitVec 32 := Scalar.addi v783 c0_i32_644
  v784
def k0_mult53 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_656 : BitVec 32 := 512#32
  let v801 : BitVec 32 := Scalar.muli v27 c512_i32_656
  let c0_i32_657 : BitVec 32 := 0#32
  let v802 : BitVec 32 := Scalar.addi v801 c0_i32_657
  v802
def k0_mult54 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_669 : BitVec 32 := 512#32
  let v819 : BitVec 32 := Scalar.muli v27 c512_i32_669
  let c256_i32_670 : BitVec 32 := 256#32
  let v820 : BitVec 32 := Scalar.addi v819 c256_i32_670
  v820
def k0_mult55 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_682 : BitVec 32 := 512#32
  let v837 : BitVec 32 := Scalar.muli v27 c512_i32_682
  let c0_i32_683 : BitVec 32 := 0#32
  let v838 : BitVec 32 := Scalar.addi v837 c0_i32_683
  v838
def k0_mult56 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_695 : BitVec 32 := 512#32
  let v855 : BitVec 32 := Scalar.muli v27 c512_i32_695
  let c256_i32_696 : BitVec 32 := 256#32
  let v856 : BitVec 32 := Scalar.addi v855 c256_i32_696
  v856
def k0_mult57 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_708 : BitVec 32 := 512#32
  let v873 : BitVec 32 := Scalar.muli v27 c512_i32_708
  let c0_i32_709 : BitVec 32 := 0#32
  let v874 : BitVec 32 := Scalar.addi v873 c0_i32_709
  v874
def k0_mult58 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_721 : BitVec 32 := 512#32
  let v891 : BitVec 32 := Scalar.muli v27 c512_i32_721
  let c256_i32_722 : BitVec 32 := 256#32
  let v892 : BitVec 32 := Scalar.addi v891 c256_i32_722
  v892
def k0_mult59 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_734 : BitVec 32 := 512#32
  let v909 : BitVec 32 := Scalar.muli v27 c512_i32_734
  let c0_i32_735 : BitVec 32 := 0#32
  let v910 : BitVec 32 := Scalar.addi v909 c0_i32_735
  v910
def k0_mult60 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_747 : BitVec 32 := 512#32
  let v927 : BitVec 32 := Scalar.muli v27 c512_i32_747
  let c256_i32_748 : BitVec 32 := 256#32
  let v928 : BitVec 32 := Scalar.addi v927 c256_i32_748
  v928
def k0_mult61 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_760 : BitVec 32 := 512#32
  let v945 : BitVec 32 := Scalar.muli v27 c512_i32_760
  let c256_i32_761 : BitVec 32 := 256#32
  let v946 : BitVec 32 := Scalar.addi v945 c256_i32_761
  v946
def k0_mult62 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_776 : BitVec 32 := 512#32
  let v975 : BitVec 32 := Scalar.muli v27 c512_i32_776
  let c256_i32_777 : BitVec 32 := 256#32
  let v976 : BitVec 32 := Scalar.addi v975 c256_i32_777
  v976
def k0_mult63 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_792 : BitVec 32 := 512#32
  let v1005 : BitVec 32 := Scalar.muli v27 c512_i32_792
  let c256_i32_793 : BitVec 32 := 256#32
  let v1006 : BitVec 32 := Scalar.addi v1005 c256_i32_793
  v1006
def k0_mult64 (i : grid0.Coords) : BitVec 32 :=
  let arg2 : BitVec 32 := BitVec.ofNat 32 (i 2).val
  let c3_i32_21 : BitVec 32 := 3#32
  let v26 : BitVec 32 := Scalar.subi arg2 c3_i32_21
  let c3_i32_22 : BitVec 32 := 3#32
  let v27 : BitVec 32 := Scalar.addi v26 c3_i32_22
  let c512_i32_808 : BitVec 32 := 512#32
  let v1035 : BitVec 32 := Scalar.muli v27 c512_i32_808
  let c256_i32_809 : BitVec 32 := 256#32
  let v1036 : BitVec 32 := Scalar.addi v1035 c256_i32_809
  v1036
def k0_mult65 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32 : BitVec 32 := 512#32
  let v120 : BitVec 32 := Scalar.muli v15 c512_i32
  let c0_i32_75 : BitVec 32 := 0#32
  let v121 : BitVec 32 := Scalar.addi v120 c0_i32_75
  v121
def k0_off9 (i : grid0.Coords) (c0_i32_11 : BitVec 32) (c0_i32_75 : BitVec 32) : Fin 4 → Nat :=
  let c0_76 : Index := 0#32
  let c0_77 : Index := 0#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32 : BitVec 32 := 512#32
  let v120 : BitVec 32 := Scalar.muli v15 c512_i32
  let v121 : BitVec 32 := Scalar.addi v120 c0_i32_75
  let v122 : BitVec 32 := v121
  let v123 : Index := Scalar.indexCast v122
  let c0_78 : Index := 0#32
  ![0, 0, v123.toNat, 0]
def k0_mult66 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_84 : BitVec 32 := 512#32
  let v129 : BitVec 32 := Scalar.muli v15 c512_i32_84
  let c0_i32_85 : BitVec 32 := 0#32
  let v130 : BitVec 32 := Scalar.addi v129 c0_i32_85
  v130
def k0_off10 (i : grid0.Coords) (c0_i32_11 : BitVec 32) (c0_i32_85 : BitVec 32) : Fin 4 → Nat :=
  let c0_86 : Index := 0#32
  let c1_87 : Index := 1#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_84 : BitVec 32 := 512#32
  let v129 : BitVec 32 := Scalar.muli v15 c512_i32_84
  let v130 : BitVec 32 := Scalar.addi v129 c0_i32_85
  let v131 : BitVec 32 := v130
  let v132 : Index := Scalar.indexCast v131
  let c0_88 : Index := 0#32
  ![0, 1, v132.toNat, 0]
def k0_mult67 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_94 : BitVec 32 := 512#32
  let v138 : BitVec 32 := Scalar.muli v15 c512_i32_94
  let c0_i32_95 : BitVec 32 := 0#32
  let v139 : BitVec 32 := Scalar.addi v138 c0_i32_95
  v139
def k0_off11 (i : grid0.Coords) (c0_i32_11 : BitVec 32) (c0_i32_95 : BitVec 32) : Fin 4 → Nat :=
  let c0_96 : Index := 0#32
  let c2_97 : Index := 2#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_94 : BitVec 32 := 512#32
  let v138 : BitVec 32 := Scalar.muli v15 c512_i32_94
  let v139 : BitVec 32 := Scalar.addi v138 c0_i32_95
  let v140 : BitVec 32 := v139
  let v141 : Index := Scalar.indexCast v140
  let c0_98 : Index := 0#32
  ![0, 2, v141.toNat, 0]
def k0_mult68 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_104 : BitVec 32 := 512#32
  let v147 : BitVec 32 := Scalar.muli v15 c512_i32_104
  let c0_i32_105 : BitVec 32 := 0#32
  let v148 : BitVec 32 := Scalar.addi v147 c0_i32_105
  v148
def k0_off12 (i : grid0.Coords) (c0_i32_11 : BitVec 32) (c0_i32_105 : BitVec 32) : Fin 4 → Nat :=
  let c0_106 : Index := 0#32
  let c3_107 : Index := 3#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_104 : BitVec 32 := 512#32
  let v147 : BitVec 32 := Scalar.muli v15 c512_i32_104
  let v148 : BitVec 32 := Scalar.addi v147 c0_i32_105
  let v149 : BitVec 32 := v148
  let v150 : Index := Scalar.indexCast v149
  let c0_108 : Index := 0#32
  ![0, 3, v150.toNat, 0]
def k0_mult69 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_114 : BitVec 32 := 512#32
  let v156 : BitVec 32 := Scalar.muli v15 c512_i32_114
  let c0_i32_115 : BitVec 32 := 0#32
  let v157 : BitVec 32 := Scalar.addi v156 c0_i32_115
  v157
def k0_off13 (i : grid0.Coords) (c0_i32_11 : BitVec 32) (c0_i32_115 : BitVec 32) : Fin 4 → Nat :=
  let c0_116 : Index := 0#32
  let c0_117 : Index := 0#32
  let c0_118 : Index := 0#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_114 : BitVec 32 := 512#32
  let v156 : BitVec 32 := Scalar.muli v15 c512_i32_114
  let v157 : BitVec 32 := Scalar.addi v156 c0_i32_115
  let v158 : BitVec 32 := v157
  let v159 : Index := Scalar.indexCast v158
  ![0, 0, 0, v159.toNat]
def k0_mult70 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_124 : BitVec 32 := 512#32
  let v171 : BitVec 32 := Scalar.muli v15 c512_i32_124
  let c256_i32 : BitVec 32 := 256#32
  let v172 : BitVec 32 := Scalar.addi v171 c256_i32
  v172
def k0_mult71 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_133 : BitVec 32 := 512#32
  let v180 : BitVec 32 := Scalar.muli v15 c512_i32_133
  let c0_i32_134 : BitVec 32 := 0#32
  let v181 : BitVec 32 := Scalar.addi v180 c0_i32_134
  v181
def k0_off14 (i : grid0.Coords) (c0_i32_11 : BitVec 32) (c0_i32_134 : BitVec 32) : Fin 4 → Nat :=
  let c0_135 : Index := 0#32
  let c1_136 : Index := 1#32
  let c0_137 : Index := 0#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_133 : BitVec 32 := 512#32
  let v180 : BitVec 32 := Scalar.muli v15 c512_i32_133
  let v181 : BitVec 32 := Scalar.addi v180 c0_i32_134
  let v182 : BitVec 32 := v181
  let v183 : Index := Scalar.indexCast v182
  ![0, 1, 0, v183.toNat]
def k0_mult72 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_143 : BitVec 32 := 512#32
  let v195 : BitVec 32 := Scalar.muli v15 c512_i32_143
  let c256_i32_144 : BitVec 32 := 256#32
  let v196 : BitVec 32 := Scalar.addi v195 c256_i32_144
  v196
def k0_mult73 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_153 : BitVec 32 := 512#32
  let v204 : BitVec 32 := Scalar.muli v15 c512_i32_153
  let c0_i32_154 : BitVec 32 := 0#32
  let v205 : BitVec 32 := Scalar.addi v204 c0_i32_154
  v205
def k0_off15 (i : grid0.Coords) (c0_i32_11 : BitVec 32) (c0_i32_154 : BitVec 32) : Fin 4 → Nat :=
  let c0_155 : Index := 0#32
  let c2_156 : Index := 2#32
  let c0_157 : Index := 0#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_153 : BitVec 32 := 512#32
  let v204 : BitVec 32 := Scalar.muli v15 c512_i32_153
  let v205 : BitVec 32 := Scalar.addi v204 c0_i32_154
  let v206 : BitVec 32 := v205
  let v207 : Index := Scalar.indexCast v206
  ![0, 2, 0, v207.toNat]
def k0_mult74 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_163 : BitVec 32 := 512#32
  let v219 : BitVec 32 := Scalar.muli v15 c512_i32_163
  let c256_i32_164 : BitVec 32 := 256#32
  let v220 : BitVec 32 := Scalar.addi v219 c256_i32_164
  v220
def k0_mult75 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_173 : BitVec 32 := 512#32
  let v228 : BitVec 32 := Scalar.muli v15 c512_i32_173
  let c0_i32_174 : BitVec 32 := 0#32
  let v229 : BitVec 32 := Scalar.addi v228 c0_i32_174
  v229
def k0_off16 (i : grid0.Coords) (c0_i32_11 : BitVec 32) (c0_i32_174 : BitVec 32) : Fin 4 → Nat :=
  let c0_175 : Index := 0#32
  let c3_176 : Index := 3#32
  let c0_177 : Index := 0#32
  let arg2 : BitVec 32 := BitVec.ofNat 32 (i 2).val
  let c2_i32 : BitVec 32 := 2#32
  let v14 : BitVec 32 := Scalar.subi arg2 c2_i32
  let v15 : BitVec 32 := Scalar.addi v14 c0_i32_11
  let c512_i32_173 : BitVec 32 := 512#32
  let v228 : BitVec 32 := Scalar.muli v15 c512_i32_173
  let v229 : BitVec 32 := Scalar.addi v228 c0_i32_174
  let v230 : BitVec 32 := v229
  let v231 : Index := Scalar.indexCast v230
  ![0, 3, 0, v231.toNat]
def k0_mult76 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_183 : BitVec 32 := 512#32
  let v243 : BitVec 32 := Scalar.muli v15 c512_i32_183
  let c256_i32_184 : BitVec 32 := 256#32
  let v244 : BitVec 32 := Scalar.addi v243 c256_i32_184
  v244
def k0_mult77 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_193 : BitVec 32 := 512#32
  let v252 : BitVec 32 := Scalar.muli v15 c512_i32_193
  let c256_i32_194 : BitVec 32 := 256#32
  let v253 : BitVec 32 := Scalar.addi v252 c256_i32_194
  v253
def k0_mult78 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_206 : BitVec 32 := 512#32
  let v270 : BitVec 32 := Scalar.muli v17 c512_i32_206
  let c0_i32_207 : BitVec 32 := 0#32
  let v271 : BitVec 32 := Scalar.addi v270 c0_i32_207
  v271
def k0_mult79 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_216 : BitVec 32 := 512#32
  let v279 : BitVec 32 := Scalar.muli v15 c512_i32_216
  let c256_i32_217 : BitVec 32 := 256#32
  let v280 : BitVec 32 := Scalar.addi v279 c256_i32_217
  v280
def k0_mult80 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_229 : BitVec 32 := 512#32
  let v297 : BitVec 32 := Scalar.muli v17 c512_i32_229
  let c0_i32_230 : BitVec 32 := 0#32
  let v298 : BitVec 32 := Scalar.addi v297 c0_i32_230
  v298
def k0_mult81 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_239 : BitVec 32 := 512#32
  let v306 : BitVec 32 := Scalar.muli v15 c512_i32_239
  let c256_i32_240 : BitVec 32 := 256#32
  let v307 : BitVec 32 := Scalar.addi v306 c256_i32_240
  v307
def k0_mult82 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_252 : BitVec 32 := 512#32
  let v324 : BitVec 32 := Scalar.muli v17 c512_i32_252
  let c0_i32_253 : BitVec 32 := 0#32
  let v325 : BitVec 32 := Scalar.addi v324 c0_i32_253
  v325
def k0_mult83 (i : grid0.Coords) : BitVec 32 :=
  let arg2 : BitVec 32 := BitVec.ofNat 32 (i 2).val
  let c2_i32 : BitVec 32 := 2#32
  let v14 : BitVec 32 := Scalar.subi arg2 c2_i32
  let c0_i32_11 : BitVec 32 := 0#32
  let v15 : BitVec 32 := Scalar.addi v14 c0_i32_11
  let c512_i32_262 : BitVec 32 := 512#32
  let v333 : BitVec 32 := Scalar.muli v15 c512_i32_262
  let c256_i32_263 : BitVec 32 := 256#32
  let v334 : BitVec 32 := Scalar.addi v333 c256_i32_263
  v334
def k0_mult84 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_275 : BitVec 32 := 512#32
  let v351 : BitVec 32 := Scalar.muli v17 c512_i32_275
  let c0_i32_276 : BitVec 32 := 0#32
  let v352 : BitVec 32 := Scalar.addi v351 c0_i32_276
  v352
def k0_mult85 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_285 : BitVec 32 := 512#32
  let v360 : BitVec 32 := Scalar.muli v17 c512_i32_285
  let c0_i32_286 : BitVec 32 := 0#32
  let v361 : BitVec 32 := Scalar.addi v360 c0_i32_286
  v361
def k0_mult86 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_298 : BitVec 32 := 512#32
  let v378 : BitVec 32 := Scalar.muli v17 c512_i32_298
  let c256_i32_299 : BitVec 32 := 256#32
  let v379 : BitVec 32 := Scalar.addi v378 c256_i32_299
  v379
def k0_mult87 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_308 : BitVec 32 := 512#32
  let v387 : BitVec 32 := Scalar.muli v17 c512_i32_308
  let c0_i32_309 : BitVec 32 := 0#32
  let v388 : BitVec 32 := Scalar.addi v387 c0_i32_309
  v388
def k0_mult88 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_321 : BitVec 32 := 512#32
  let v405 : BitVec 32 := Scalar.muli v17 c512_i32_321
  let c256_i32_322 : BitVec 32 := 256#32
  let v406 : BitVec 32 := Scalar.addi v405 c256_i32_322
  v406
def k0_mult89 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_331 : BitVec 32 := 512#32
  let v414 : BitVec 32 := Scalar.muli v17 c512_i32_331
  let c0_i32_332 : BitVec 32 := 0#32
  let v415 : BitVec 32 := Scalar.addi v414 c0_i32_332
  v415
def k0_mult90 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_344 : BitVec 32 := 512#32
  let v432 : BitVec 32 := Scalar.muli v17 c512_i32_344
  let c256_i32_345 : BitVec 32 := 256#32
  let v433 : BitVec 32 := Scalar.addi v432 c256_i32_345
  v433
def k0_mult91 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_354 : BitVec 32 := 512#32
  let v441 : BitVec 32 := Scalar.muli v17 c512_i32_354
  let c0_i32_355 : BitVec 32 := 0#32
  let v442 : BitVec 32 := Scalar.addi v441 c0_i32_355
  v442
def k0_mult92 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_367 : BitVec 32 := 512#32
  let v459 : BitVec 32 := Scalar.muli v17 c512_i32_367
  let c256_i32_368 : BitVec 32 := 256#32
  let v460 : BitVec 32 := Scalar.addi v459 c256_i32_368
  v460
def k0_mult93 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_377 : BitVec 32 := 512#32
  let v468 : BitVec 32 := Scalar.muli v17 c512_i32_377
  let c256_i32_378 : BitVec 32 := 256#32
  let v469 : BitVec 32 := Scalar.addi v468 c256_i32_378
  v469
def k0_mult94 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_390 : BitVec 32 := 512#32
  let v486 : BitVec 32 := Scalar.muli v19 c512_i32_390
  let c0_i32_391 : BitVec 32 := 0#32
  let v487 : BitVec 32 := Scalar.addi v486 c0_i32_391
  v487
def k0_mult95 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_400 : BitVec 32 := 512#32
  let v495 : BitVec 32 := Scalar.muli v17 c512_i32_400
  let c256_i32_401 : BitVec 32 := 256#32
  let v496 : BitVec 32 := Scalar.addi v495 c256_i32_401
  v496
def k0_mult96 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_413 : BitVec 32 := 512#32
  let v513 : BitVec 32 := Scalar.muli v19 c512_i32_413
  let c0_i32_414 : BitVec 32 := 0#32
  let v514 : BitVec 32 := Scalar.addi v513 c0_i32_414
  v514
def k0_mult97 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_423 : BitVec 32 := 512#32
  let v522 : BitVec 32 := Scalar.muli v17 c512_i32_423
  let c256_i32_424 : BitVec 32 := 256#32
  let v523 : BitVec 32 := Scalar.addi v522 c256_i32_424
  v523
def k0_mult98 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_436 : BitVec 32 := 512#32
  let v540 : BitVec 32 := Scalar.muli v19 c512_i32_436
  let c0_i32_437 : BitVec 32 := 0#32
  let v541 : BitVec 32 := Scalar.addi v540 c0_i32_437
  v541
def k0_mult99 (i : grid0.Coords) : BitVec 32 :=
  let arg2 : BitVec 32 := BitVec.ofNat 32 (i 2).val
  let c2_i32_12 : BitVec 32 := 2#32
  let v16 : BitVec 32 := Scalar.subi arg2 c2_i32_12
  let c1_i32_13 : BitVec 32 := 1#32
  let v17 : BitVec 32 := Scalar.addi v16 c1_i32_13
  let c512_i32_446 : BitVec 32 := 512#32
  let v549 : BitVec 32 := Scalar.muli v17 c512_i32_446
  let c256_i32_447 : BitVec 32 := 256#32
  let v550 : BitVec 32 := Scalar.addi v549 c256_i32_447
  v550
def k0_mult100 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_459 : BitVec 32 := 512#32
  let v567 : BitVec 32 := Scalar.muli v19 c512_i32_459
  let c0_i32_460 : BitVec 32 := 0#32
  let v568 : BitVec 32 := Scalar.addi v567 c0_i32_460
  v568
def k0_mult101 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_472 : BitVec 32 := 512#32
  let v585 : BitVec 32 := Scalar.muli v19 c512_i32_472
  let c0_i32_473 : BitVec 32 := 0#32
  let v586 : BitVec 32 := Scalar.addi v585 c0_i32_473
  v586
def k0_mult102 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_485 : BitVec 32 := 512#32
  let v603 : BitVec 32 := Scalar.muli v19 c512_i32_485
  let c256_i32_486 : BitVec 32 := 256#32
  let v604 : BitVec 32 := Scalar.addi v603 c256_i32_486
  v604
def k0_mult103 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_498 : BitVec 32 := 512#32
  let v621 : BitVec 32 := Scalar.muli v19 c512_i32_498
  let c0_i32_499 : BitVec 32 := 0#32
  let v622 : BitVec 32 := Scalar.addi v621 c0_i32_499
  v622
def k0_mult104 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_511 : BitVec 32 := 512#32
  let v639 : BitVec 32 := Scalar.muli v19 c512_i32_511
  let c256_i32_512 : BitVec 32 := 256#32
  let v640 : BitVec 32 := Scalar.addi v639 c256_i32_512
  v640
def k0_mult105 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_524 : BitVec 32 := 512#32
  let v657 : BitVec 32 := Scalar.muli v19 c512_i32_524
  let c0_i32_525 : BitVec 32 := 0#32
  let v658 : BitVec 32 := Scalar.addi v657 c0_i32_525
  v658
def k0_mult106 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_537 : BitVec 32 := 512#32
  let v675 : BitVec 32 := Scalar.muli v19 c512_i32_537
  let c256_i32_538 : BitVec 32 := 256#32
  let v676 : BitVec 32 := Scalar.addi v675 c256_i32_538
  v676
def k0_mult107 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_550 : BitVec 32 := 512#32
  let v693 : BitVec 32 := Scalar.muli v19 c512_i32_550
  let c0_i32_551 : BitVec 32 := 0#32
  let v694 : BitVec 32 := Scalar.addi v693 c0_i32_551
  v694
def k0_mult108 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_563 : BitVec 32 := 512#32
  let v711 : BitVec 32 := Scalar.muli v19 c512_i32_563
  let c256_i32_564 : BitVec 32 := 256#32
  let v712 : BitVec 32 := Scalar.addi v711 c256_i32_564
  v712
def k0_mult109 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_576 : BitVec 32 := 512#32
  let v729 : BitVec 32 := Scalar.muli v19 c512_i32_576
  let c256_i32_577 : BitVec 32 := 256#32
  let v730 : BitVec 32 := Scalar.addi v729 c256_i32_577
  v730
def k0_mult110 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_592 : BitVec 32 := 512#32
  let v759 : BitVec 32 := Scalar.muli v19 c512_i32_592
  let c256_i32_593 : BitVec 32 := 256#32
  let v760 : BitVec 32 := Scalar.addi v759 c256_i32_593
  v760
def k0_mult111 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_608 : BitVec 32 := 512#32
  let v789 : BitVec 32 := Scalar.muli v19 c512_i32_608
  let c256_i32_609 : BitVec 32 := 256#32
  let v790 : BitVec 32 := Scalar.addi v789 c256_i32_609
  v790
def k0_mult112 (i : grid0.Coords) : BitVec 32 :=
  let arg2 : BitVec 32 := BitVec.ofNat 32 (i 2).val
  let c2_i32_14 : BitVec 32 := 2#32
  let v18 : BitVec 32 := Scalar.subi arg2 c2_i32_14
  let c2_i32_15 : BitVec 32 := 2#32
  let v19 : BitVec 32 := Scalar.addi v18 c2_i32_15
  let c512_i32_624 : BitVec 32 := 512#32
  let v819 : BitVec 32 := Scalar.muli v19 c512_i32_624
  let c256_i32_625 : BitVec 32 := 256#32
  let v820 : BitVec 32 := Scalar.addi v819 c256_i32_625
  v820
def k0_mult113 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32 : BitVec 32 := 512#32
  let v117 : BitVec 32 := Scalar.muli v11 c512_i32
  let c0_i32_73 : BitVec 32 := 0#32
  let v118 : BitVec 32 := Scalar.addi v117 c0_i32_73
  v118
def k0_off17 (i : grid0.Coords) (c0_i32_8 : BitVec 32) (c0_i32_73 : BitVec 32) : Fin 4 → Nat :=
  let c0_74 : Index := 0#32
  let c0_75 : Index := 0#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32 : BitVec 32 := 512#32
  let v117 : BitVec 32 := Scalar.muli v11 c512_i32
  let v118 : BitVec 32 := Scalar.addi v117 c0_i32_73
  let v119 : BitVec 32 := v118
  let v120 : Index := Scalar.indexCast v119
  let c0_76 : Index := 0#32
  ![0, 0, v120.toNat, 0]
def k0_mult114 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_82 : BitVec 32 := 512#32
  let v126 : BitVec 32 := Scalar.muli v11 c512_i32_82
  let c0_i32_83 : BitVec 32 := 0#32
  let v127 : BitVec 32 := Scalar.addi v126 c0_i32_83
  v127
def k0_off18 (i : grid0.Coords) (c0_i32_8 : BitVec 32) (c0_i32_83 : BitVec 32) : Fin 4 → Nat :=
  let c0_84 : Index := 0#32
  let c1_85 : Index := 1#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_82 : BitVec 32 := 512#32
  let v126 : BitVec 32 := Scalar.muli v11 c512_i32_82
  let v127 : BitVec 32 := Scalar.addi v126 c0_i32_83
  let v128 : BitVec 32 := v127
  let v129 : Index := Scalar.indexCast v128
  let c0_86 : Index := 0#32
  ![0, 1, v129.toNat, 0]
def k0_mult115 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_92 : BitVec 32 := 512#32
  let v135 : BitVec 32 := Scalar.muli v11 c512_i32_92
  let c0_i32_93 : BitVec 32 := 0#32
  let v136 : BitVec 32 := Scalar.addi v135 c0_i32_93
  v136
def k0_off19 (i : grid0.Coords) (c0_i32_8 : BitVec 32) (c0_i32_93 : BitVec 32) : Fin 4 → Nat :=
  let c0_94 : Index := 0#32
  let c2_95 : Index := 2#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_92 : BitVec 32 := 512#32
  let v135 : BitVec 32 := Scalar.muli v11 c512_i32_92
  let v136 : BitVec 32 := Scalar.addi v135 c0_i32_93
  let v137 : BitVec 32 := v136
  let v138 : Index := Scalar.indexCast v137
  let c0_96 : Index := 0#32
  ![0, 2, v138.toNat, 0]
def k0_mult116 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_102 : BitVec 32 := 512#32
  let v144 : BitVec 32 := Scalar.muli v11 c512_i32_102
  let c0_i32_103 : BitVec 32 := 0#32
  let v145 : BitVec 32 := Scalar.addi v144 c0_i32_103
  v145
def k0_off20 (i : grid0.Coords) (c0_i32_8 : BitVec 32) (c0_i32_103 : BitVec 32) : Fin 4 → Nat :=
  let c0_104 : Index := 0#32
  let c3_105 : Index := 3#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_102 : BitVec 32 := 512#32
  let v144 : BitVec 32 := Scalar.muli v11 c512_i32_102
  let v145 : BitVec 32 := Scalar.addi v144 c0_i32_103
  let v146 : BitVec 32 := v145
  let v147 : Index := Scalar.indexCast v146
  let c0_106 : Index := 0#32
  ![0, 3, v147.toNat, 0]
def k0_mult117 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_112 : BitVec 32 := 512#32
  let v153 : BitVec 32 := Scalar.muli v11 c512_i32_112
  let c0_i32_113 : BitVec 32 := 0#32
  let v154 : BitVec 32 := Scalar.addi v153 c0_i32_113
  v154
def k0_off21 (i : grid0.Coords) (c0_i32_8 : BitVec 32) (c0_i32_113 : BitVec 32) : Fin 4 → Nat :=
  let c0_114 : Index := 0#32
  let c0_115 : Index := 0#32
  let c0_116 : Index := 0#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_112 : BitVec 32 := 512#32
  let v153 : BitVec 32 := Scalar.muli v11 c512_i32_112
  let v154 : BitVec 32 := Scalar.addi v153 c0_i32_113
  let v155 : BitVec 32 := v154
  let v156 : Index := Scalar.indexCast v155
  ![0, 0, 0, v156.toNat]
def k0_mult118 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_122 : BitVec 32 := 512#32
  let v168 : BitVec 32 := Scalar.muli v11 c512_i32_122
  let c256_i32 : BitVec 32 := 256#32
  let v169 : BitVec 32 := Scalar.addi v168 c256_i32
  v169
def k0_mult119 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_131 : BitVec 32 := 512#32
  let v177 : BitVec 32 := Scalar.muli v11 c512_i32_131
  let c0_i32_132 : BitVec 32 := 0#32
  let v178 : BitVec 32 := Scalar.addi v177 c0_i32_132
  v178
def k0_off22 (i : grid0.Coords) (c0_i32_8 : BitVec 32) (c0_i32_132 : BitVec 32) : Fin 4 → Nat :=
  let c0_133 : Index := 0#32
  let c1_134 : Index := 1#32
  let c0_135 : Index := 0#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_131 : BitVec 32 := 512#32
  let v177 : BitVec 32 := Scalar.muli v11 c512_i32_131
  let v178 : BitVec 32 := Scalar.addi v177 c0_i32_132
  let v179 : BitVec 32 := v178
  let v180 : Index := Scalar.indexCast v179
  ![0, 1, 0, v180.toNat]
def k0_mult120 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_141 : BitVec 32 := 512#32
  let v192 : BitVec 32 := Scalar.muli v11 c512_i32_141
  let c256_i32_142 : BitVec 32 := 256#32
  let v193 : BitVec 32 := Scalar.addi v192 c256_i32_142
  v193
def k0_mult121 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_151 : BitVec 32 := 512#32
  let v201 : BitVec 32 := Scalar.muli v11 c512_i32_151
  let c0_i32_152 : BitVec 32 := 0#32
  let v202 : BitVec 32 := Scalar.addi v201 c0_i32_152
  v202
def k0_off23 (i : grid0.Coords) (c0_i32_8 : BitVec 32) (c0_i32_152 : BitVec 32) : Fin 4 → Nat :=
  let c0_153 : Index := 0#32
  let c2_154 : Index := 2#32
  let c0_155 : Index := 0#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_151 : BitVec 32 := 512#32
  let v201 : BitVec 32 := Scalar.muli v11 c512_i32_151
  let v202 : BitVec 32 := Scalar.addi v201 c0_i32_152
  let v203 : BitVec 32 := v202
  let v204 : Index := Scalar.indexCast v203
  ![0, 2, 0, v204.toNat]
def k0_mult122 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_161 : BitVec 32 := 512#32
  let v216 : BitVec 32 := Scalar.muli v11 c512_i32_161
  let c256_i32_162 : BitVec 32 := 256#32
  let v217 : BitVec 32 := Scalar.addi v216 c256_i32_162
  v217
def k0_mult123 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_171 : BitVec 32 := 512#32
  let v225 : BitVec 32 := Scalar.muli v11 c512_i32_171
  let c0_i32_172 : BitVec 32 := 0#32
  let v226 : BitVec 32 := Scalar.addi v225 c0_i32_172
  v226
def k0_off24 (i : grid0.Coords) (c0_i32_8 : BitVec 32) (c0_i32_172 : BitVec 32) : Fin 4 → Nat :=
  let c0_173 : Index := 0#32
  let c3_174 : Index := 3#32
  let c0_175 : Index := 0#32
  let arg2 : BitVec 32 := BitVec.ofNat 32 (i 2).val
  let c1_i32 : BitVec 32 := 1#32
  let v10 : BitVec 32 := Scalar.subi arg2 c1_i32
  let v11 : BitVec 32 := Scalar.addi v10 c0_i32_8
  let c512_i32_171 : BitVec 32 := 512#32
  let v225 : BitVec 32 := Scalar.muli v11 c512_i32_171
  let v226 : BitVec 32 := Scalar.addi v225 c0_i32_172
  let v227 : BitVec 32 := v226
  let v228 : Index := Scalar.indexCast v227
  ![0, 3, 0, v228.toNat]
def k0_mult124 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_181 : BitVec 32 := 512#32
  let v240 : BitVec 32 := Scalar.muli v11 c512_i32_181
  let c256_i32_182 : BitVec 32 := 256#32
  let v241 : BitVec 32 := Scalar.addi v240 c256_i32_182
  v241
def k0_mult125 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_191 : BitVec 32 := 512#32
  let v249 : BitVec 32 := Scalar.muli v11 c512_i32_191
  let c256_i32_192 : BitVec 32 := 256#32
  let v250 : BitVec 32 := Scalar.addi v249 c256_i32_192
  v250
def k0_mult126 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_204 : BitVec 32 := 512#32
  let v267 : BitVec 32 := Scalar.muli v13 c512_i32_204
  let c0_i32_205 : BitVec 32 := 0#32
  let v268 : BitVec 32 := Scalar.addi v267 c0_i32_205
  v268
def k0_mult127 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_214 : BitVec 32 := 512#32
  let v276 : BitVec 32 := Scalar.muli v11 c512_i32_214
  let c256_i32_215 : BitVec 32 := 256#32
  let v277 : BitVec 32 := Scalar.addi v276 c256_i32_215
  v277
def k0_mult128 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_227 : BitVec 32 := 512#32
  let v294 : BitVec 32 := Scalar.muli v13 c512_i32_227
  let c0_i32_228 : BitVec 32 := 0#32
  let v295 : BitVec 32 := Scalar.addi v294 c0_i32_228
  v295
def k0_mult129 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_237 : BitVec 32 := 512#32
  let v303 : BitVec 32 := Scalar.muli v11 c512_i32_237
  let c256_i32_238 : BitVec 32 := 256#32
  let v304 : BitVec 32 := Scalar.addi v303 c256_i32_238
  v304
def k0_mult130 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_250 : BitVec 32 := 512#32
  let v321 : BitVec 32 := Scalar.muli v13 c512_i32_250
  let c0_i32_251 : BitVec 32 := 0#32
  let v322 : BitVec 32 := Scalar.addi v321 c0_i32_251
  v322
def k0_mult131 (i : grid0.Coords) : BitVec 32 :=
  let arg2 : BitVec 32 := BitVec.ofNat 32 (i 2).val
  let c1_i32 : BitVec 32 := 1#32
  let v10 : BitVec 32 := Scalar.subi arg2 c1_i32
  let c0_i32_8 : BitVec 32 := 0#32
  let v11 : BitVec 32 := Scalar.addi v10 c0_i32_8
  let c512_i32_260 : BitVec 32 := 512#32
  let v330 : BitVec 32 := Scalar.muli v11 c512_i32_260
  let c256_i32_261 : BitVec 32 := 256#32
  let v331 : BitVec 32 := Scalar.addi v330 c256_i32_261
  v331
def k0_mult132 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_273 : BitVec 32 := 512#32
  let v348 : BitVec 32 := Scalar.muli v13 c512_i32_273
  let c0_i32_274 : BitVec 32 := 0#32
  let v349 : BitVec 32 := Scalar.addi v348 c0_i32_274
  v349
def k0_mult133 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_286 : BitVec 32 := 512#32
  let v366 : BitVec 32 := Scalar.muli v13 c512_i32_286
  let c0_i32_287 : BitVec 32 := 0#32
  let v367 : BitVec 32 := Scalar.addi v366 c0_i32_287
  v367
def k0_mult134 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_299 : BitVec 32 := 512#32
  let v384 : BitVec 32 := Scalar.muli v13 c512_i32_299
  let c256_i32_300 : BitVec 32 := 256#32
  let v385 : BitVec 32 := Scalar.addi v384 c256_i32_300
  v385
def k0_mult135 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_312 : BitVec 32 := 512#32
  let v402 : BitVec 32 := Scalar.muli v13 c512_i32_312
  let c0_i32_313 : BitVec 32 := 0#32
  let v403 : BitVec 32 := Scalar.addi v402 c0_i32_313
  v403
def k0_mult136 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_325 : BitVec 32 := 512#32
  let v420 : BitVec 32 := Scalar.muli v13 c512_i32_325
  let c256_i32_326 : BitVec 32 := 256#32
  let v421 : BitVec 32 := Scalar.addi v420 c256_i32_326
  v421
def k0_mult137 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_338 : BitVec 32 := 512#32
  let v438 : BitVec 32 := Scalar.muli v13 c512_i32_338
  let c0_i32_339 : BitVec 32 := 0#32
  let v439 : BitVec 32 := Scalar.addi v438 c0_i32_339
  v439
def k0_mult138 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_351 : BitVec 32 := 512#32
  let v456 : BitVec 32 := Scalar.muli v13 c512_i32_351
  let c256_i32_352 : BitVec 32 := 256#32
  let v457 : BitVec 32 := Scalar.addi v456 c256_i32_352
  v457
def k0_mult139 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_364 : BitVec 32 := 512#32
  let v474 : BitVec 32 := Scalar.muli v13 c512_i32_364
  let c0_i32_365 : BitVec 32 := 0#32
  let v475 : BitVec 32 := Scalar.addi v474 c0_i32_365
  v475
def k0_mult140 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_377 : BitVec 32 := 512#32
  let v492 : BitVec 32 := Scalar.muli v13 c512_i32_377
  let c256_i32_378 : BitVec 32 := 256#32
  let v493 : BitVec 32 := Scalar.addi v492 c256_i32_378
  v493
def k0_mult141 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_390 : BitVec 32 := 512#32
  let v510 : BitVec 32 := Scalar.muli v13 c512_i32_390
  let c256_i32_391 : BitVec 32 := 256#32
  let v511 : BitVec 32 := Scalar.addi v510 c256_i32_391
  v511
def k0_mult142 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_406 : BitVec 32 := 512#32
  let v540 : BitVec 32 := Scalar.muli v13 c512_i32_406
  let c256_i32_407 : BitVec 32 := 256#32
  let v541 : BitVec 32 := Scalar.addi v540 c256_i32_407
  v541
def k0_mult143 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_422 : BitVec 32 := 512#32
  let v570 : BitVec 32 := Scalar.muli v13 c512_i32_422
  let c256_i32_423 : BitVec 32 := 256#32
  let v571 : BitVec 32 := Scalar.addi v570 c256_i32_423
  v571
def k0_mult144 (i : grid0.Coords) : BitVec 32 :=
  let arg2 : BitVec 32 := BitVec.ofNat 32 (i 2).val
  let c1_i32_9 : BitVec 32 := 1#32
  let v12 : BitVec 32 := Scalar.subi arg2 c1_i32_9
  let c1_i32_10 : BitVec 32 := 1#32
  let v13 : BitVec 32 := Scalar.addi v12 c1_i32_10
  let c512_i32_438 : BitVec 32 := 512#32
  let v600 : BitVec 32 := Scalar.muli v13 c512_i32_438
  let c256_i32_439 : BitVec 32 := 256#32
  let v601 : BitVec 32 := Scalar.addi v600 c256_i32_439
  v601
def k0_mult145 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32 : BitVec 32 := 512#32
  let v114 : BitVec 32 := Scalar.muli v9 c512_i32
  let c0_i32_71 : BitVec 32 := 0#32
  let v115 : BitVec 32 := Scalar.addi v114 c0_i32_71
  v115
def k0_off25 (i : grid0.Coords) (c0_i32_71 : BitVec 32) : Fin 4 → Nat :=
  let c0_72 : Index := 0#32
  let c0_73 : Index := 0#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32 : BitVec 32 := 512#32
  let v114 : BitVec 32 := Scalar.muli v9 c512_i32
  let v115 : BitVec 32 := Scalar.addi v114 c0_i32_71
  let v116 : BitVec 32 := v115
  let v117 : Index := Scalar.indexCast v116
  let c0_74 : Index := 0#32
  ![0, 0, v117.toNat, 0]
def k0_mult146 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_80 : BitVec 32 := 512#32
  let v123 : BitVec 32 := Scalar.muli v9 c512_i32_80
  let c0_i32_81 : BitVec 32 := 0#32
  let v124 : BitVec 32 := Scalar.addi v123 c0_i32_81
  v124
def k0_off26 (i : grid0.Coords) (c0_i32_81 : BitVec 32) : Fin 4 → Nat :=
  let c0_82 : Index := 0#32
  let c1_83 : Index := 1#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_80 : BitVec 32 := 512#32
  let v123 : BitVec 32 := Scalar.muli v9 c512_i32_80
  let v124 : BitVec 32 := Scalar.addi v123 c0_i32_81
  let v125 : BitVec 32 := v124
  let v126 : Index := Scalar.indexCast v125
  let c0_84 : Index := 0#32
  ![0, 1, v126.toNat, 0]
def k0_mult147 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_90 : BitVec 32 := 512#32
  let v132 : BitVec 32 := Scalar.muli v9 c512_i32_90
  let c0_i32_91 : BitVec 32 := 0#32
  let v133 : BitVec 32 := Scalar.addi v132 c0_i32_91
  v133
def k0_off27 (i : grid0.Coords) (c0_i32_91 : BitVec 32) : Fin 4 → Nat :=
  let c0_92 : Index := 0#32
  let c2_93 : Index := 2#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_90 : BitVec 32 := 512#32
  let v132 : BitVec 32 := Scalar.muli v9 c512_i32_90
  let v133 : BitVec 32 := Scalar.addi v132 c0_i32_91
  let v134 : BitVec 32 := v133
  let v135 : Index := Scalar.indexCast v134
  let c0_94 : Index := 0#32
  ![0, 2, v135.toNat, 0]
def k0_mult148 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_100 : BitVec 32 := 512#32
  let v141 : BitVec 32 := Scalar.muli v9 c512_i32_100
  let c0_i32_101 : BitVec 32 := 0#32
  let v142 : BitVec 32 := Scalar.addi v141 c0_i32_101
  v142
def k0_off28 (i : grid0.Coords) (c0_i32_101 : BitVec 32) : Fin 4 → Nat :=
  let c0_102 : Index := 0#32
  let c3_103 : Index := 3#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_100 : BitVec 32 := 512#32
  let v141 : BitVec 32 := Scalar.muli v9 c512_i32_100
  let v142 : BitVec 32 := Scalar.addi v141 c0_i32_101
  let v143 : BitVec 32 := v142
  let v144 : Index := Scalar.indexCast v143
  let c0_104 : Index := 0#32
  ![0, 3, v144.toNat, 0]
def k0_mult149 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_113 : BitVec 32 := 512#32
  let v159 : BitVec 32 := Scalar.muli v9 c512_i32_113
  let c0_i32_114 : BitVec 32 := 0#32
  let v160 : BitVec 32 := Scalar.addi v159 c0_i32_114
  v160
def k0_off29 (i : grid0.Coords) (c0_i32_114 : BitVec 32) : Fin 4 → Nat :=
  let c0_115 : Index := 0#32
  let c0_116 : Index := 0#32
  let c0_117 : Index := 0#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_113 : BitVec 32 := 512#32
  let v159 : BitVec 32 := Scalar.muli v9 c512_i32_113
  let v160 : BitVec 32 := Scalar.addi v159 c0_i32_114
  let v161 : BitVec 32 := v160
  let v162 : Index := Scalar.indexCast v161
  ![0, 0, 0, v162.toNat]
def k0_mult150 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_123 : BitVec 32 := 512#32
  let v174 : BitVec 32 := Scalar.muli v9 c512_i32_123
  let c256_i32 : BitVec 32 := 256#32
  let v175 : BitVec 32 := Scalar.addi v174 c256_i32
  v175
def k0_mult151 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_135 : BitVec 32 := 512#32
  let v192 : BitVec 32 := Scalar.muli v9 c512_i32_135
  let c0_i32_136 : BitVec 32 := 0#32
  let v193 : BitVec 32 := Scalar.addi v192 c0_i32_136
  v193
def k0_off30 (i : grid0.Coords) (c0_i32_136 : BitVec 32) : Fin 4 → Nat :=
  let c0_137 : Index := 0#32
  let c1_138 : Index := 1#32
  let c0_139 : Index := 0#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_135 : BitVec 32 := 512#32
  let v192 : BitVec 32 := Scalar.muli v9 c512_i32_135
  let v193 : BitVec 32 := Scalar.addi v192 c0_i32_136
  let v194 : BitVec 32 := v193
  let v195 : Index := Scalar.indexCast v194
  ![0, 1, 0, v195.toNat]
def k0_mult152 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_145 : BitVec 32 := 512#32
  let v207 : BitVec 32 := Scalar.muli v9 c512_i32_145
  let c256_i32_146 : BitVec 32 := 256#32
  let v208 : BitVec 32 := Scalar.addi v207 c256_i32_146
  v208
def k0_mult153 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_158 : BitVec 32 := 512#32
  let v225 : BitVec 32 := Scalar.muli v9 c512_i32_158
  let c0_i32_159 : BitVec 32 := 0#32
  let v226 : BitVec 32 := Scalar.addi v225 c0_i32_159
  v226
def k0_off31 (i : grid0.Coords) (c0_i32_159 : BitVec 32) : Fin 4 → Nat :=
  let c0_160 : Index := 0#32
  let c2_161 : Index := 2#32
  let c0_162 : Index := 0#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_158 : BitVec 32 := 512#32
  let v225 : BitVec 32 := Scalar.muli v9 c512_i32_158
  let v226 : BitVec 32 := Scalar.addi v225 c0_i32_159
  let v227 : BitVec 32 := v226
  let v228 : Index := Scalar.indexCast v227
  ![0, 2, 0, v228.toNat]
def k0_mult154 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_168 : BitVec 32 := 512#32
  let v240 : BitVec 32 := Scalar.muli v9 c512_i32_168
  let c256_i32_169 : BitVec 32 := 256#32
  let v241 : BitVec 32 := Scalar.addi v240 c256_i32_169
  v241
def k0_mult155 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_181 : BitVec 32 := 512#32
  let v258 : BitVec 32 := Scalar.muli v9 c512_i32_181
  let c0_i32_182 : BitVec 32 := 0#32
  let v259 : BitVec 32 := Scalar.addi v258 c0_i32_182
  v259
def k0_off32 (i : grid0.Coords) (c0_i32_182 : BitVec 32) : Fin 4 → Nat :=
  let c0_183 : Index := 0#32
  let c3_184 : Index := 3#32
  let c0_185 : Index := 0#32
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_181 : BitVec 32 := 512#32
  let v258 : BitVec 32 := Scalar.muli v9 c512_i32_181
  let v259 : BitVec 32 := Scalar.addi v258 c0_i32_182
  let v260 : BitVec 32 := v259
  let v261 : Index := Scalar.indexCast v260
  ![0, 3, 0, v261.toNat]
def k0_mult156 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_191 : BitVec 32 := 512#32
  let v273 : BitVec 32 := Scalar.muli v9 c512_i32_191
  let c256_i32_192 : BitVec 32 := 256#32
  let v274 : BitVec 32 := Scalar.addi v273 c256_i32_192
  v274
def k0_mult157 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_204 : BitVec 32 := 512#32
  let v291 : BitVec 32 := Scalar.muli v9 c512_i32_204
  let c256_i32_205 : BitVec 32 := 256#32
  let v292 : BitVec 32 := Scalar.addi v291 c256_i32_205
  v292
def k0_mult158 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_220 : BitVec 32 := 512#32
  let v321 : BitVec 32 := Scalar.muli v9 c512_i32_220
  let c256_i32_221 : BitVec 32 := 256#32
  let v322 : BitVec 32 := Scalar.addi v321 c256_i32_221
  v322
def k0_mult159 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_236 : BitVec 32 := 512#32
  let v351 : BitVec 32 := Scalar.muli v9 c512_i32_236
  let c256_i32_237 : BitVec 32 := 256#32
  let v352 : BitVec 32 := Scalar.addi v351 c256_i32_237
  v352
def k0_mult160 (i : grid0.Coords) : BitVec 32 :=
  let arg2 : BitVec 32 := BitVec.ofNat 32 (i 2).val
  let c0_i32 : BitVec 32 := 0#32
  let v8 : BitVec 32 := Scalar.subi arg2 c0_i32
  let c0_i32_7 : BitVec 32 := 0#32
  let v9 : BitVec 32 := Scalar.addi v8 c0_i32_7
  let c512_i32_252 : BitVec 32 := 512#32
  let v381 : BitVec 32 := Scalar.muli v9 c512_i32_252
  let c256_i32_253 : BitVec 32 := 256#32
  let v382 : BitVec 32 := Scalar.addi v381 c256_i32_253
  v382
@[reducible] def k0_t1_loop (i : grid0.Coords) : Scf.Loop 32 :=
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_40 : BitVec 32 := 1#32
  ⟨c0_i32_38, v63, c1_i32_40⟩
def k0_mult161 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32 : BitVec 32 := 512#32
  let v122 : BitVec 32 := Scalar.muli v115 c512_i32
  let c0_i32_79 : BitVec 32 := 0#32
  let v123 : BitVec 32 := Scalar.addi v122 c0_i32_79
  v123
def k0_off33 (i : grid0.Coords) (k0_t1 : Fin (k0_t1_loop i).trips) (c0_i32_72 : BitVec 32) (c0_i32_79 : BitVec 32) : Fin 4 → Nat :=
  let c0_80 : Index := 0#32
  let c0_81 : Index := 0#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32 : BitVec 32 := 512#32
  let v122 : BitVec 32 := Scalar.muli v115 c512_i32
  let v123 : BitVec 32 := Scalar.addi v122 c0_i32_79
  let v124 : BitVec 32 := v123
  let v125 : Index := Scalar.indexCast v124
  let c0_82 : Index := 0#32
  ![0, 0, v125.toNat, 0]
def k0_mult162 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_88 : BitVec 32 := 512#32
  let v131 : BitVec 32 := Scalar.muli v115 c512_i32_88
  let c0_i32_89 : BitVec 32 := 0#32
  let v132 : BitVec 32 := Scalar.addi v131 c0_i32_89
  v132
def k0_off34 (i : grid0.Coords) (k0_t1 : Fin (k0_t1_loop i).trips) (c0_i32_72 : BitVec 32) (c0_i32_89 : BitVec 32) : Fin 4 → Nat :=
  let c0_90 : Index := 0#32
  let c1_91 : Index := 1#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_88 : BitVec 32 := 512#32
  let v131 : BitVec 32 := Scalar.muli v115 c512_i32_88
  let v132 : BitVec 32 := Scalar.addi v131 c0_i32_89
  let v133 : BitVec 32 := v132
  let v134 : Index := Scalar.indexCast v133
  let c0_92 : Index := 0#32
  ![0, 1, v134.toNat, 0]
def k0_mult163 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_98 : BitVec 32 := 512#32
  let v140 : BitVec 32 := Scalar.muli v115 c512_i32_98
  let c0_i32_99 : BitVec 32 := 0#32
  let v141 : BitVec 32 := Scalar.addi v140 c0_i32_99
  v141
def k0_off35 (i : grid0.Coords) (k0_t1 : Fin (k0_t1_loop i).trips) (c0_i32_72 : BitVec 32) (c0_i32_99 : BitVec 32) : Fin 4 → Nat :=
  let c0_100 : Index := 0#32
  let c2_101 : Index := 2#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_98 : BitVec 32 := 512#32
  let v140 : BitVec 32 := Scalar.muli v115 c512_i32_98
  let v141 : BitVec 32 := Scalar.addi v140 c0_i32_99
  let v142 : BitVec 32 := v141
  let v143 : Index := Scalar.indexCast v142
  let c0_102 : Index := 0#32
  ![0, 2, v143.toNat, 0]
def k0_mult164 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_108 : BitVec 32 := 512#32
  let v149 : BitVec 32 := Scalar.muli v115 c512_i32_108
  let c0_i32_109 : BitVec 32 := 0#32
  let v150 : BitVec 32 := Scalar.addi v149 c0_i32_109
  v150
def k0_off36 (i : grid0.Coords) (k0_t1 : Fin (k0_t1_loop i).trips) (c0_i32_72 : BitVec 32) (c0_i32_109 : BitVec 32) : Fin 4 → Nat :=
  let c0_110 : Index := 0#32
  let c3_111 : Index := 3#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_108 : BitVec 32 := 512#32
  let v149 : BitVec 32 := Scalar.muli v115 c512_i32_108
  let v150 : BitVec 32 := Scalar.addi v149 c0_i32_109
  let v151 : BitVec 32 := v150
  let v152 : Index := Scalar.indexCast v151
  let c0_112 : Index := 0#32
  ![0, 3, v152.toNat, 0]
def k0_mult165 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_118 : BitVec 32 := 512#32
  let v158 : BitVec 32 := Scalar.muli v115 c512_i32_118
  let c0_i32_119 : BitVec 32 := 0#32
  let v159 : BitVec 32 := Scalar.addi v158 c0_i32_119
  v159
def k0_off37 (i : grid0.Coords) (k0_t1 : Fin (k0_t1_loop i).trips) (c0_i32_72 : BitVec 32) (c0_i32_119 : BitVec 32) : Fin 4 → Nat :=
  let c0_120 : Index := 0#32
  let c0_121 : Index := 0#32
  let c0_122 : Index := 0#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_118 : BitVec 32 := 512#32
  let v158 : BitVec 32 := Scalar.muli v115 c512_i32_118
  let v159 : BitVec 32 := Scalar.addi v158 c0_i32_119
  let v160 : BitVec 32 := v159
  let v161 : Index := Scalar.indexCast v160
  ![0, 0, 0, v161.toNat]
def k0_mult166 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_131 : BitVec 32 := 512#32
  let v176 : BitVec 32 := Scalar.muli v115 c512_i32_131
  let c256_i32 : BitVec 32 := 256#32
  let v177 : BitVec 32 := Scalar.addi v176 c256_i32
  v177
def k0_mult167 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_140 : BitVec 32 := 512#32
  let v185 : BitVec 32 := Scalar.muli v115 c512_i32_140
  let c0_i32_141 : BitVec 32 := 0#32
  let v186 : BitVec 32 := Scalar.addi v185 c0_i32_141
  v186
def k0_off38 (i : grid0.Coords) (k0_t1 : Fin (k0_t1_loop i).trips) (c0_i32_72 : BitVec 32) (c0_i32_141 : BitVec 32) : Fin 4 → Nat :=
  let c0_142 : Index := 0#32
  let c1_143 : Index := 1#32
  let c0_144 : Index := 0#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_140 : BitVec 32 := 512#32
  let v185 : BitVec 32 := Scalar.muli v115 c512_i32_140
  let v186 : BitVec 32 := Scalar.addi v185 c0_i32_141
  let v187 : BitVec 32 := v186
  let v188 : Index := Scalar.indexCast v187
  ![0, 1, 0, v188.toNat]
def k0_mult168 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_153 : BitVec 32 := 512#32
  let v203 : BitVec 32 := Scalar.muli v115 c512_i32_153
  let c256_i32_154 : BitVec 32 := 256#32
  let v204 : BitVec 32 := Scalar.addi v203 c256_i32_154
  v204
def k0_mult169 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_163 : BitVec 32 := 512#32
  let v212 : BitVec 32 := Scalar.muli v115 c512_i32_163
  let c0_i32_164 : BitVec 32 := 0#32
  let v213 : BitVec 32 := Scalar.addi v212 c0_i32_164
  v213
def k0_off39 (i : grid0.Coords) (k0_t1 : Fin (k0_t1_loop i).trips) (c0_i32_72 : BitVec 32) (c0_i32_164 : BitVec 32) : Fin 4 → Nat :=
  let c0_165 : Index := 0#32
  let c2_166 : Index := 2#32
  let c0_167 : Index := 0#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_163 : BitVec 32 := 512#32
  let v212 : BitVec 32 := Scalar.muli v115 c512_i32_163
  let v213 : BitVec 32 := Scalar.addi v212 c0_i32_164
  let v214 : BitVec 32 := v213
  let v215 : Index := Scalar.indexCast v214
  ![0, 2, 0, v215.toNat]
def k0_mult170 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_176 : BitVec 32 := 512#32
  let v230 : BitVec 32 := Scalar.muli v115 c512_i32_176
  let c256_i32_177 : BitVec 32 := 256#32
  let v231 : BitVec 32 := Scalar.addi v230 c256_i32_177
  v231
def k0_mult171 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_186 : BitVec 32 := 512#32
  let v239 : BitVec 32 := Scalar.muli v115 c512_i32_186
  let c0_i32_187 : BitVec 32 := 0#32
  let v240 : BitVec 32 := Scalar.addi v239 c0_i32_187
  v240
def k0_off40 (i : grid0.Coords) (k0_t1 : Fin (k0_t1_loop i).trips) (c0_i32_72 : BitVec 32) (c0_i32_187 : BitVec 32) : Fin 4 → Nat :=
  let c0_188 : Index := 0#32
  let c3_189 : Index := 3#32
  let c0_190 : Index := 0#32
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let v115 : BitVec 32 := Scalar.addi v114 c0_i32_72
  let c512_i32_186 : BitVec 32 := 512#32
  let v239 : BitVec 32 := Scalar.muli v115 c512_i32_186
  let v240 : BitVec 32 := Scalar.addi v239 c0_i32_187
  let v241 : BitVec 32 := v240
  let v242 : Index := Scalar.indexCast v241
  ![0, 3, 0, v242.toNat]
def k0_mult172 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_199 : BitVec 32 := 512#32
  let v257 : BitVec 32 := Scalar.muli v115 c512_i32_199
  let c256_i32_200 : BitVec 32 := 256#32
  let v258 : BitVec 32 := Scalar.addi v257 c256_i32_200
  v258
def k0_mult173 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_209 : BitVec 32 := 512#32
  let v266 : BitVec 32 := Scalar.muli v115 c512_i32_209
  let c256_i32_210 : BitVec 32 := 256#32
  let v267 : BitVec 32 := Scalar.addi v266 c256_i32_210
  v267
def k0_mult174 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_222 : BitVec 32 := 512#32
  let v284 : BitVec 32 := Scalar.muli v117 c512_i32_222
  let c0_i32_223 : BitVec 32 := 0#32
  let v285 : BitVec 32 := Scalar.addi v284 c0_i32_223
  v285
def k0_mult175 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_232 : BitVec 32 := 512#32
  let v293 : BitVec 32 := Scalar.muli v115 c512_i32_232
  let c256_i32_233 : BitVec 32 := 256#32
  let v294 : BitVec 32 := Scalar.addi v293 c256_i32_233
  v294
def k0_mult176 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_245 : BitVec 32 := 512#32
  let v311 : BitVec 32 := Scalar.muli v117 c512_i32_245
  let c0_i32_246 : BitVec 32 := 0#32
  let v312 : BitVec 32 := Scalar.addi v311 c0_i32_246
  v312
def k0_mult177 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_255 : BitVec 32 := 512#32
  let v320 : BitVec 32 := Scalar.muli v115 c512_i32_255
  let c256_i32_256 : BitVec 32 := 256#32
  let v321 : BitVec 32 := Scalar.addi v320 c256_i32_256
  v321
def k0_mult178 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_268 : BitVec 32 := 512#32
  let v338 : BitVec 32 := Scalar.muli v117 c512_i32_268
  let c0_i32_269 : BitVec 32 := 0#32
  let v339 : BitVec 32 := Scalar.addi v338 c0_i32_269
  v339
def k0_mult179 (i : grid0.Coords) (k0_t1 : Fin (k0_t1_loop i).trips) : BitVec 32 :=
  let c4_i32_71 : BitVec 32 := 4#32
  let c0_i32_38 : BitVec 32 := 0#32
  let c1_i32_40 : BitVec 32 := 1#32
  let arg9 : BitVec 32 := Scf.iv c0_i32_38 c1_i32_40 k0_t1
  let v114 : BitVec 32 := Scalar.muli c4_i32_71 arg9
  let c0_i32_72 : BitVec 32 := 0#32
  let v115 : BitVec 32 := Scalar.addi v114 c0_i32_72
  let c512_i32_278 : BitVec 32 := 512#32
  let v347 : BitVec 32 := Scalar.muli v115 c512_i32_278
  let c256_i32_279 : BitVec 32 := 256#32
  let v348 : BitVec 32 := Scalar.addi v347 c256_i32_279
  v348
def k0_mult180 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_291 : BitVec 32 := 512#32
  let v365 : BitVec 32 := Scalar.muli v117 c512_i32_291
  let c0_i32_292 : BitVec 32 := 0#32
  let v366 : BitVec 32 := Scalar.addi v365 c0_i32_292
  v366
def k0_mult181 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_301 : BitVec 32 := 512#32
  let v374 : BitVec 32 := Scalar.muli v117 c512_i32_301
  let c0_i32_302 : BitVec 32 := 0#32
  let v375 : BitVec 32 := Scalar.addi v374 c0_i32_302
  v375
def k0_mult182 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_314 : BitVec 32 := 512#32
  let v392 : BitVec 32 := Scalar.muli v117 c512_i32_314
  let c256_i32_315 : BitVec 32 := 256#32
  let v393 : BitVec 32 := Scalar.addi v392 c256_i32_315
  v393
def k0_mult183 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_324 : BitVec 32 := 512#32
  let v401 : BitVec 32 := Scalar.muli v117 c512_i32_324
  let c0_i32_325 : BitVec 32 := 0#32
  let v402 : BitVec 32 := Scalar.addi v401 c0_i32_325
  v402
def k0_mult184 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_337 : BitVec 32 := 512#32
  let v419 : BitVec 32 := Scalar.muli v117 c512_i32_337
  let c256_i32_338 : BitVec 32 := 256#32
  let v420 : BitVec 32 := Scalar.addi v419 c256_i32_338
  v420
def k0_mult185 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_347 : BitVec 32 := 512#32
  let v428 : BitVec 32 := Scalar.muli v117 c512_i32_347
  let c0_i32_348 : BitVec 32 := 0#32
  let v429 : BitVec 32 := Scalar.addi v428 c0_i32_348
  v429
def k0_mult186 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_360 : BitVec 32 := 512#32
  let v446 : BitVec 32 := Scalar.muli v117 c512_i32_360
  let c256_i32_361 : BitVec 32 := 256#32
  let v447 : BitVec 32 := Scalar.addi v446 c256_i32_361
  v447
def k0_mult187 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_370 : BitVec 32 := 512#32
  let v455 : BitVec 32 := Scalar.muli v117 c512_i32_370
  let c0_i32_371 : BitVec 32 := 0#32
  let v456 : BitVec 32 := Scalar.addi v455 c0_i32_371
  v456
def k0_mult188 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_383 : BitVec 32 := 512#32
  let v473 : BitVec 32 := Scalar.muli v117 c512_i32_383
  let c256_i32_384 : BitVec 32 := 256#32
  let v474 : BitVec 32 := Scalar.addi v473 c256_i32_384
  v474
def k0_mult189 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_393 : BitVec 32 := 512#32
  let v482 : BitVec 32 := Scalar.muli v117 c512_i32_393
  let c256_i32_394 : BitVec 32 := 256#32
  let v483 : BitVec 32 := Scalar.addi v482 c256_i32_394
  v483
def k0_mult190 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_406 : BitVec 32 := 512#32
  let v500 : BitVec 32 := Scalar.muli v119 c512_i32_406
  let c0_i32_407 : BitVec 32 := 0#32
  let v501 : BitVec 32 := Scalar.addi v500 c0_i32_407
  v501
def k0_mult191 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_416 : BitVec 32 := 512#32
  let v509 : BitVec 32 := Scalar.muli v117 c512_i32_416
  let c256_i32_417 : BitVec 32 := 256#32
  let v510 : BitVec 32 := Scalar.addi v509 c256_i32_417
  v510
def k0_mult192 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_429 : BitVec 32 := 512#32
  let v527 : BitVec 32 := Scalar.muli v119 c512_i32_429
  let c0_i32_430 : BitVec 32 := 0#32
  let v528 : BitVec 32 := Scalar.addi v527 c0_i32_430
  v528
def k0_mult193 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_439 : BitVec 32 := 512#32
  let v536 : BitVec 32 := Scalar.muli v117 c512_i32_439
  let c256_i32_440 : BitVec 32 := 256#32
  let v537 : BitVec 32 := Scalar.addi v536 c256_i32_440
  v537
def k0_mult194 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_452 : BitVec 32 := 512#32
  let v554 : BitVec 32 := Scalar.muli v119 c512_i32_452
  let c0_i32_453 : BitVec 32 := 0#32
  let v555 : BitVec 32 := Scalar.addi v554 c0_i32_453
  v555
def k0_mult195 (i : grid0.Coords) (k0_t1 : Fin (k0_t1_loop i).trips) : BitVec 32 :=
  let c4_i32_73 : BitVec 32 := 4#32
  let c0_i32_38 : BitVec 32 := 0#32
  let c1_i32_40 : BitVec 32 := 1#32
  let arg9 : BitVec 32 := Scf.iv c0_i32_38 c1_i32_40 k0_t1
  let v116 : BitVec 32 := Scalar.muli c4_i32_73 arg9
  let c1_i32_74 : BitVec 32 := 1#32
  let v117 : BitVec 32 := Scalar.addi v116 c1_i32_74
  let c512_i32_462 : BitVec 32 := 512#32
  let v563 : BitVec 32 := Scalar.muli v117 c512_i32_462
  let c256_i32_463 : BitVec 32 := 256#32
  let v564 : BitVec 32 := Scalar.addi v563 c256_i32_463
  v564
def k0_mult196 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_475 : BitVec 32 := 512#32
  let v581 : BitVec 32 := Scalar.muli v119 c512_i32_475
  let c0_i32_476 : BitVec 32 := 0#32
  let v582 : BitVec 32 := Scalar.addi v581 c0_i32_476
  v582
def k0_mult197 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_485 : BitVec 32 := 512#32
  let v590 : BitVec 32 := Scalar.muli v119 c512_i32_485
  let c0_i32_486 : BitVec 32 := 0#32
  let v591 : BitVec 32 := Scalar.addi v590 c0_i32_486
  v591
def k0_mult198 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_498 : BitVec 32 := 512#32
  let v608 : BitVec 32 := Scalar.muli v119 c512_i32_498
  let c256_i32_499 : BitVec 32 := 256#32
  let v609 : BitVec 32 := Scalar.addi v608 c256_i32_499
  v609
def k0_mult199 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_508 : BitVec 32 := 512#32
  let v617 : BitVec 32 := Scalar.muli v119 c512_i32_508
  let c0_i32_509 : BitVec 32 := 0#32
  let v618 : BitVec 32 := Scalar.addi v617 c0_i32_509
  v618
def k0_mult200 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_521 : BitVec 32 := 512#32
  let v635 : BitVec 32 := Scalar.muli v119 c512_i32_521
  let c256_i32_522 : BitVec 32 := 256#32
  let v636 : BitVec 32 := Scalar.addi v635 c256_i32_522
  v636
def k0_mult201 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_531 : BitVec 32 := 512#32
  let v644 : BitVec 32 := Scalar.muli v119 c512_i32_531
  let c0_i32_532 : BitVec 32 := 0#32
  let v645 : BitVec 32 := Scalar.addi v644 c0_i32_532
  v645
def k0_mult202 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_544 : BitVec 32 := 512#32
  let v662 : BitVec 32 := Scalar.muli v119 c512_i32_544
  let c256_i32_545 : BitVec 32 := 256#32
  let v663 : BitVec 32 := Scalar.addi v662 c256_i32_545
  v663
def k0_mult203 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_554 : BitVec 32 := 512#32
  let v671 : BitVec 32 := Scalar.muli v119 c512_i32_554
  let c0_i32_555 : BitVec 32 := 0#32
  let v672 : BitVec 32 := Scalar.addi v671 c0_i32_555
  v672
def k0_mult204 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_567 : BitVec 32 := 512#32
  let v689 : BitVec 32 := Scalar.muli v119 c512_i32_567
  let c256_i32_568 : BitVec 32 := 256#32
  let v690 : BitVec 32 := Scalar.addi v689 c256_i32_568
  v690
def k0_mult205 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_577 : BitVec 32 := 512#32
  let v698 : BitVec 32 := Scalar.muli v119 c512_i32_577
  let c256_i32_578 : BitVec 32 := 256#32
  let v699 : BitVec 32 := Scalar.addi v698 c256_i32_578
  v699
def k0_mult206 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_590 : BitVec 32 := 512#32
  let v716 : BitVec 32 := Scalar.muli v121 c512_i32_590
  let c0_i32_591 : BitVec 32 := 0#32
  let v717 : BitVec 32 := Scalar.addi v716 c0_i32_591
  v717
def k0_mult207 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_600 : BitVec 32 := 512#32
  let v725 : BitVec 32 := Scalar.muli v119 c512_i32_600
  let c256_i32_601 : BitVec 32 := 256#32
  let v726 : BitVec 32 := Scalar.addi v725 c256_i32_601
  v726
def k0_mult208 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_613 : BitVec 32 := 512#32
  let v743 : BitVec 32 := Scalar.muli v121 c512_i32_613
  let c0_i32_614 : BitVec 32 := 0#32
  let v744 : BitVec 32 := Scalar.addi v743 c0_i32_614
  v744
def k0_mult209 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_623 : BitVec 32 := 512#32
  let v752 : BitVec 32 := Scalar.muli v119 c512_i32_623
  let c256_i32_624 : BitVec 32 := 256#32
  let v753 : BitVec 32 := Scalar.addi v752 c256_i32_624
  v753
def k0_mult210 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_636 : BitVec 32 := 512#32
  let v770 : BitVec 32 := Scalar.muli v121 c512_i32_636
  let c0_i32_637 : BitVec 32 := 0#32
  let v771 : BitVec 32 := Scalar.addi v770 c0_i32_637
  v771
def k0_mult211 (i : grid0.Coords) (k0_t1 : Fin (k0_t1_loop i).trips) : BitVec 32 :=
  let c4_i32_75 : BitVec 32 := 4#32
  let c0_i32_38 : BitVec 32 := 0#32
  let c1_i32_40 : BitVec 32 := 1#32
  let arg9 : BitVec 32 := Scf.iv c0_i32_38 c1_i32_40 k0_t1
  let v118 : BitVec 32 := Scalar.muli c4_i32_75 arg9
  let c2_i32_76 : BitVec 32 := 2#32
  let v119 : BitVec 32 := Scalar.addi v118 c2_i32_76
  let c512_i32_646 : BitVec 32 := 512#32
  let v779 : BitVec 32 := Scalar.muli v119 c512_i32_646
  let c256_i32_647 : BitVec 32 := 256#32
  let v780 : BitVec 32 := Scalar.addi v779 c256_i32_647
  v780
def k0_mult212 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_659 : BitVec 32 := 512#32
  let v797 : BitVec 32 := Scalar.muli v121 c512_i32_659
  let c0_i32_660 : BitVec 32 := 0#32
  let v798 : BitVec 32 := Scalar.addi v797 c0_i32_660
  v798
def k0_mult213 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_669 : BitVec 32 := 512#32
  let v806 : BitVec 32 := Scalar.muli v121 c512_i32_669
  let c0_i32_670 : BitVec 32 := 0#32
  let v807 : BitVec 32 := Scalar.addi v806 c0_i32_670
  v807
def k0_mult214 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_682 : BitVec 32 := 512#32
  let v824 : BitVec 32 := Scalar.muli v121 c512_i32_682
  let c256_i32_683 : BitVec 32 := 256#32
  let v825 : BitVec 32 := Scalar.addi v824 c256_i32_683
  v825
def k0_mult215 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_692 : BitVec 32 := 512#32
  let v833 : BitVec 32 := Scalar.muli v121 c512_i32_692
  let c0_i32_693 : BitVec 32 := 0#32
  let v834 : BitVec 32 := Scalar.addi v833 c0_i32_693
  v834
def k0_mult216 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_705 : BitVec 32 := 512#32
  let v851 : BitVec 32 := Scalar.muli v121 c512_i32_705
  let c256_i32_706 : BitVec 32 := 256#32
  let v852 : BitVec 32 := Scalar.addi v851 c256_i32_706
  v852
def k0_mult217 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_715 : BitVec 32 := 512#32
  let v860 : BitVec 32 := Scalar.muli v121 c512_i32_715
  let c0_i32_716 : BitVec 32 := 0#32
  let v861 : BitVec 32 := Scalar.addi v860 c0_i32_716
  v861
def k0_mult218 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_728 : BitVec 32 := 512#32
  let v878 : BitVec 32 := Scalar.muli v121 c512_i32_728
  let c256_i32_729 : BitVec 32 := 256#32
  let v879 : BitVec 32 := Scalar.addi v878 c256_i32_729
  v879
def k0_mult219 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_738 : BitVec 32 := 512#32
  let v887 : BitVec 32 := Scalar.muli v121 c512_i32_738
  let c0_i32_739 : BitVec 32 := 0#32
  let v888 : BitVec 32 := Scalar.addi v887 c0_i32_739
  v888
def k0_mult220 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_751 : BitVec 32 := 512#32
  let v905 : BitVec 32 := Scalar.muli v121 c512_i32_751
  let c256_i32_752 : BitVec 32 := 256#32
  let v906 : BitVec 32 := Scalar.addi v905 c256_i32_752
  v906
def k0_mult221 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_761 : BitVec 32 := 512#32
  let v914 : BitVec 32 := Scalar.muli v121 c512_i32_761
  let c256_i32_762 : BitVec 32 := 256#32
  let v915 : BitVec 32 := Scalar.addi v914 c256_i32_762
  v915
def k0_mult222 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_774 : BitVec 32 := 512#32
  let v932 : BitVec 32 := Scalar.muli v121 c512_i32_774
  let c256_i32_775 : BitVec 32 := 256#32
  let v933 : BitVec 32 := Scalar.addi v932 c256_i32_775
  v933
def k0_mult223 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_787 : BitVec 32 := 512#32
  let v950 : BitVec 32 := Scalar.muli v121 c512_i32_787
  let c256_i32_788 : BitVec 32 := 256#32
  let v951 : BitVec 32 := Scalar.addi v950 c256_i32_788
  v951
def k0_mult224 (i : grid0.Coords) (k0_t1 : Fin (k0_t1_loop i).trips) : BitVec 32 :=
  let c4_i32_77 : BitVec 32 := 4#32
  let c0_i32_38 : BitVec 32 := 0#32
  let c1_i32_40 : BitVec 32 := 1#32
  let arg9 : BitVec 32 := Scf.iv c0_i32_38 c1_i32_40 k0_t1
  let v120 : BitVec 32 := Scalar.muli c4_i32_77 arg9
  let c3_i32_78 : BitVec 32 := 3#32
  let v121 : BitVec 32 := Scalar.addi v120 c3_i32_78
  let c512_i32_800 : BitVec 32 := 512#32
  let v968 : BitVec 32 := Scalar.muli v121 c512_i32_800
  let c256_i32_801 : BitVec 32 := 256#32
  let v969 : BitVec 32 := Scalar.addi v968 c256_i32_801
  v969
@[reducible] def k0_t2_loop (i : grid0.Coords) : Scf.Loop 32 :=
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let v60 : BitVec 32 := Scalar.addi c0_i32_38 v59
  let c1_i32_41 : BitVec 32 := 1#32
  ⟨v63, v60, c1_i32_41⟩
def k0_mult225 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32 : BitVec 32 := 512#32
  let v122 : BitVec 32 := Scalar.muli v115 c512_i32
  let c0_i32_79 : BitVec 32 := 0#32
  let v123 : BitVec 32 := Scalar.addi v122 c0_i32_79
  v123
def k0_off41 (i : grid0.Coords) (k0_t2 : Fin (k0_t2_loop i).trips) (c0_i32_72 : BitVec 32) (c0_i32_79 : BitVec 32) : Fin 4 → Nat :=
  let c0_80 : Index := 0#32
  let c0_81 : Index := 0#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32 : BitVec 32 := 512#32
  let v122 : BitVec 32 := Scalar.muli v115 c512_i32
  let v123 : BitVec 32 := Scalar.addi v122 c0_i32_79
  let v124 : BitVec 32 := v123
  let v125 : Index := Scalar.indexCast v124
  let c0_82 : Index := 0#32
  ![0, 0, v125.toNat, 0]
def k0_mult226 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_88 : BitVec 32 := 512#32
  let v131 : BitVec 32 := Scalar.muli v115 c512_i32_88
  let c0_i32_89 : BitVec 32 := 0#32
  let v132 : BitVec 32 := Scalar.addi v131 c0_i32_89
  v132
def k0_off42 (i : grid0.Coords) (k0_t2 : Fin (k0_t2_loop i).trips) (c0_i32_72 : BitVec 32) (c0_i32_89 : BitVec 32) : Fin 4 → Nat :=
  let c0_90 : Index := 0#32
  let c1_91 : Index := 1#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_88 : BitVec 32 := 512#32
  let v131 : BitVec 32 := Scalar.muli v115 c512_i32_88
  let v132 : BitVec 32 := Scalar.addi v131 c0_i32_89
  let v133 : BitVec 32 := v132
  let v134 : Index := Scalar.indexCast v133
  let c0_92 : Index := 0#32
  ![0, 1, v134.toNat, 0]
def k0_mult227 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_98 : BitVec 32 := 512#32
  let v140 : BitVec 32 := Scalar.muli v115 c512_i32_98
  let c0_i32_99 : BitVec 32 := 0#32
  let v141 : BitVec 32 := Scalar.addi v140 c0_i32_99
  v141
def k0_off43 (i : grid0.Coords) (k0_t2 : Fin (k0_t2_loop i).trips) (c0_i32_72 : BitVec 32) (c0_i32_99 : BitVec 32) : Fin 4 → Nat :=
  let c0_100 : Index := 0#32
  let c2_101 : Index := 2#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_98 : BitVec 32 := 512#32
  let v140 : BitVec 32 := Scalar.muli v115 c512_i32_98
  let v141 : BitVec 32 := Scalar.addi v140 c0_i32_99
  let v142 : BitVec 32 := v141
  let v143 : Index := Scalar.indexCast v142
  let c0_102 : Index := 0#32
  ![0, 2, v143.toNat, 0]
def k0_mult228 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_108 : BitVec 32 := 512#32
  let v149 : BitVec 32 := Scalar.muli v115 c512_i32_108
  let c0_i32_109 : BitVec 32 := 0#32
  let v150 : BitVec 32 := Scalar.addi v149 c0_i32_109
  v150
def k0_off44 (i : grid0.Coords) (k0_t2 : Fin (k0_t2_loop i).trips) (c0_i32_72 : BitVec 32) (c0_i32_109 : BitVec 32) : Fin 4 → Nat :=
  let c0_110 : Index := 0#32
  let c3_111 : Index := 3#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_108 : BitVec 32 := 512#32
  let v149 : BitVec 32 := Scalar.muli v115 c512_i32_108
  let v150 : BitVec 32 := Scalar.addi v149 c0_i32_109
  let v151 : BitVec 32 := v150
  let v152 : Index := Scalar.indexCast v151
  let c0_112 : Index := 0#32
  ![0, 3, v152.toNat, 0]
def k0_mult229 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_118 : BitVec 32 := 512#32
  let v158 : BitVec 32 := Scalar.muli v115 c512_i32_118
  let c0_i32_119 : BitVec 32 := 0#32
  let v159 : BitVec 32 := Scalar.addi v158 c0_i32_119
  v159
def k0_off45 (i : grid0.Coords) (k0_t2 : Fin (k0_t2_loop i).trips) (c0_i32_72 : BitVec 32) (c0_i32_119 : BitVec 32) : Fin 4 → Nat :=
  let c0_120 : Index := 0#32
  let c0_121 : Index := 0#32
  let c0_122 : Index := 0#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_118 : BitVec 32 := 512#32
  let v158 : BitVec 32 := Scalar.muli v115 c512_i32_118
  let v159 : BitVec 32 := Scalar.addi v158 c0_i32_119
  let v160 : BitVec 32 := v159
  let v161 : Index := Scalar.indexCast v160
  ![0, 0, 0, v161.toNat]
def k0_mult230 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_131 : BitVec 32 := 512#32
  let v176 : BitVec 32 := Scalar.muli v115 c512_i32_131
  let c256_i32 : BitVec 32 := 256#32
  let v177 : BitVec 32 := Scalar.addi v176 c256_i32
  v177
def k0_mult231 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_140 : BitVec 32 := 512#32
  let v185 : BitVec 32 := Scalar.muli v115 c512_i32_140
  let c0_i32_141 : BitVec 32 := 0#32
  let v186 : BitVec 32 := Scalar.addi v185 c0_i32_141
  v186
def k0_off46 (i : grid0.Coords) (k0_t2 : Fin (k0_t2_loop i).trips) (c0_i32_72 : BitVec 32) (c0_i32_141 : BitVec 32) : Fin 4 → Nat :=
  let c0_142 : Index := 0#32
  let c1_143 : Index := 1#32
  let c0_144 : Index := 0#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_140 : BitVec 32 := 512#32
  let v185 : BitVec 32 := Scalar.muli v115 c512_i32_140
  let v186 : BitVec 32 := Scalar.addi v185 c0_i32_141
  let v187 : BitVec 32 := v186
  let v188 : Index := Scalar.indexCast v187
  ![0, 1, 0, v188.toNat]
def k0_mult232 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_153 : BitVec 32 := 512#32
  let v203 : BitVec 32 := Scalar.muli v115 c512_i32_153
  let c256_i32_154 : BitVec 32 := 256#32
  let v204 : BitVec 32 := Scalar.addi v203 c256_i32_154
  v204
def k0_mult233 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_163 : BitVec 32 := 512#32
  let v212 : BitVec 32 := Scalar.muli v115 c512_i32_163
  let c0_i32_164 : BitVec 32 := 0#32
  let v213 : BitVec 32 := Scalar.addi v212 c0_i32_164
  v213
def k0_off47 (i : grid0.Coords) (k0_t2 : Fin (k0_t2_loop i).trips) (c0_i32_72 : BitVec 32) (c0_i32_164 : BitVec 32) : Fin 4 → Nat :=
  let c0_165 : Index := 0#32
  let c2_166 : Index := 2#32
  let c0_167 : Index := 0#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_163 : BitVec 32 := 512#32
  let v212 : BitVec 32 := Scalar.muli v115 c512_i32_163
  let v213 : BitVec 32 := Scalar.addi v212 c0_i32_164
  let v214 : BitVec 32 := v213
  let v215 : Index := Scalar.indexCast v214
  ![0, 2, 0, v215.toNat]
def k0_mult234 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_176 : BitVec 32 := 512#32
  let v230 : BitVec 32 := Scalar.muli v115 c512_i32_176
  let c256_i32_177 : BitVec 32 := 256#32
  let v231 : BitVec 32 := Scalar.addi v230 c256_i32_177
  v231
def k0_mult235 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_186 : BitVec 32 := 512#32
  let v239 : BitVec 32 := Scalar.muli v115 c512_i32_186
  let c0_i32_187 : BitVec 32 := 0#32
  let v240 : BitVec 32 := Scalar.addi v239 c0_i32_187
  v240
def k0_off48 (i : grid0.Coords) (k0_t2 : Fin (k0_t2_loop i).trips) (c0_i32_72 : BitVec 32) (c0_i32_187 : BitVec 32) : Fin 4 → Nat :=
  let c0_188 : Index := 0#32
  let c3_189 : Index := 3#32
  let c0_190 : Index := 0#32
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let v115 : BitVec 32 := Scalar.addi v114 c0_i32_72
  let c512_i32_186 : BitVec 32 := 512#32
  let v239 : BitVec 32 := Scalar.muli v115 c512_i32_186
  let v240 : BitVec 32 := Scalar.addi v239 c0_i32_187
  let v241 : BitVec 32 := v240
  let v242 : Index := Scalar.indexCast v241
  ![0, 3, 0, v242.toNat]
def k0_mult236 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_199 : BitVec 32 := 512#32
  let v257 : BitVec 32 := Scalar.muli v115 c512_i32_199
  let c256_i32_200 : BitVec 32 := 256#32
  let v258 : BitVec 32 := Scalar.addi v257 c256_i32_200
  v258
def k0_mult237 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_209 : BitVec 32 := 512#32
  let v266 : BitVec 32 := Scalar.muli v115 c512_i32_209
  let c256_i32_210 : BitVec 32 := 256#32
  let v267 : BitVec 32 := Scalar.addi v266 c256_i32_210
  v267
def k0_mult238 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_222 : BitVec 32 := 512#32
  let v284 : BitVec 32 := Scalar.muli v117 c512_i32_222
  let c0_i32_223 : BitVec 32 := 0#32
  let v285 : BitVec 32 := Scalar.addi v284 c0_i32_223
  v285
def k0_mult239 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_232 : BitVec 32 := 512#32
  let v293 : BitVec 32 := Scalar.muli v115 c512_i32_232
  let c256_i32_233 : BitVec 32 := 256#32
  let v294 : BitVec 32 := Scalar.addi v293 c256_i32_233
  v294
def k0_mult240 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_245 : BitVec 32 := 512#32
  let v311 : BitVec 32 := Scalar.muli v117 c512_i32_245
  let c0_i32_246 : BitVec 32 := 0#32
  let v312 : BitVec 32 := Scalar.addi v311 c0_i32_246
  v312
def k0_mult241 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_255 : BitVec 32 := 512#32
  let v320 : BitVec 32 := Scalar.muli v115 c512_i32_255
  let c256_i32_256 : BitVec 32 := 256#32
  let v321 : BitVec 32 := Scalar.addi v320 c256_i32_256
  v321
def k0_mult242 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_268 : BitVec 32 := 512#32
  let v338 : BitVec 32 := Scalar.muli v117 c512_i32_268
  let c0_i32_269 : BitVec 32 := 0#32
  let v339 : BitVec 32 := Scalar.addi v338 c0_i32_269
  v339
def k0_mult243 (i : grid0.Coords) (k0_t2 : Fin (k0_t2_loop i).trips) : BitVec 32 :=
  let c4_i32_71 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v114 : BitVec 32 := Scalar.muli c4_i32_71 arg9
  let c0_i32_72 : BitVec 32 := 0#32
  let v115 : BitVec 32 := Scalar.addi v114 c0_i32_72
  let c512_i32_278 : BitVec 32 := 512#32
  let v347 : BitVec 32 := Scalar.muli v115 c512_i32_278
  let c256_i32_279 : BitVec 32 := 256#32
  let v348 : BitVec 32 := Scalar.addi v347 c256_i32_279
  v348
def k0_mult244 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_291 : BitVec 32 := 512#32
  let v365 : BitVec 32 := Scalar.muli v117 c512_i32_291
  let c0_i32_292 : BitVec 32 := 0#32
  let v366 : BitVec 32 := Scalar.addi v365 c0_i32_292
  v366
def k0_mult245 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_301 : BitVec 32 := 512#32
  let v374 : BitVec 32 := Scalar.muli v117 c512_i32_301
  let c0_i32_302 : BitVec 32 := 0#32
  let v375 : BitVec 32 := Scalar.addi v374 c0_i32_302
  v375
def k0_mult246 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_314 : BitVec 32 := 512#32
  let v392 : BitVec 32 := Scalar.muli v117 c512_i32_314
  let c256_i32_315 : BitVec 32 := 256#32
  let v393 : BitVec 32 := Scalar.addi v392 c256_i32_315
  v393
def k0_mult247 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_324 : BitVec 32 := 512#32
  let v401 : BitVec 32 := Scalar.muli v117 c512_i32_324
  let c0_i32_325 : BitVec 32 := 0#32
  let v402 : BitVec 32 := Scalar.addi v401 c0_i32_325
  v402
def k0_mult248 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_337 : BitVec 32 := 512#32
  let v419 : BitVec 32 := Scalar.muli v117 c512_i32_337
  let c256_i32_338 : BitVec 32 := 256#32
  let v420 : BitVec 32 := Scalar.addi v419 c256_i32_338
  v420
def k0_mult249 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_347 : BitVec 32 := 512#32
  let v428 : BitVec 32 := Scalar.muli v117 c512_i32_347
  let c0_i32_348 : BitVec 32 := 0#32
  let v429 : BitVec 32 := Scalar.addi v428 c0_i32_348
  v429
def k0_mult250 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_360 : BitVec 32 := 512#32
  let v446 : BitVec 32 := Scalar.muli v117 c512_i32_360
  let c256_i32_361 : BitVec 32 := 256#32
  let v447 : BitVec 32 := Scalar.addi v446 c256_i32_361
  v447
def k0_mult251 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_370 : BitVec 32 := 512#32
  let v455 : BitVec 32 := Scalar.muli v117 c512_i32_370
  let c0_i32_371 : BitVec 32 := 0#32
  let v456 : BitVec 32 := Scalar.addi v455 c0_i32_371
  v456
def k0_mult252 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_383 : BitVec 32 := 512#32
  let v473 : BitVec 32 := Scalar.muli v117 c512_i32_383
  let c256_i32_384 : BitVec 32 := 256#32
  let v474 : BitVec 32 := Scalar.addi v473 c256_i32_384
  v474
def k0_mult253 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_393 : BitVec 32 := 512#32
  let v482 : BitVec 32 := Scalar.muli v117 c512_i32_393
  let c256_i32_394 : BitVec 32 := 256#32
  let v483 : BitVec 32 := Scalar.addi v482 c256_i32_394
  v483
def k0_mult254 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_406 : BitVec 32 := 512#32
  let v500 : BitVec 32 := Scalar.muli v119 c512_i32_406
  let c0_i32_407 : BitVec 32 := 0#32
  let v501 : BitVec 32 := Scalar.addi v500 c0_i32_407
  v501
def k0_mult255 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_416 : BitVec 32 := 512#32
  let v509 : BitVec 32 := Scalar.muli v117 c512_i32_416
  let c256_i32_417 : BitVec 32 := 256#32
  let v510 : BitVec 32 := Scalar.addi v509 c256_i32_417
  v510
def k0_mult256 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_429 : BitVec 32 := 512#32
  let v527 : BitVec 32 := Scalar.muli v119 c512_i32_429
  let c0_i32_430 : BitVec 32 := 0#32
  let v528 : BitVec 32 := Scalar.addi v527 c0_i32_430
  v528
def k0_mult257 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_439 : BitVec 32 := 512#32
  let v536 : BitVec 32 := Scalar.muli v117 c512_i32_439
  let c256_i32_440 : BitVec 32 := 256#32
  let v537 : BitVec 32 := Scalar.addi v536 c256_i32_440
  v537
def k0_mult258 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_452 : BitVec 32 := 512#32
  let v554 : BitVec 32 := Scalar.muli v119 c512_i32_452
  let c0_i32_453 : BitVec 32 := 0#32
  let v555 : BitVec 32 := Scalar.addi v554 c0_i32_453
  v555
def k0_mult259 (i : grid0.Coords) (k0_t2 : Fin (k0_t2_loop i).trips) : BitVec 32 :=
  let c4_i32_73 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v116 : BitVec 32 := Scalar.muli c4_i32_73 arg9
  let c1_i32_74 : BitVec 32 := 1#32
  let v117 : BitVec 32 := Scalar.addi v116 c1_i32_74
  let c512_i32_462 : BitVec 32 := 512#32
  let v563 : BitVec 32 := Scalar.muli v117 c512_i32_462
  let c256_i32_463 : BitVec 32 := 256#32
  let v564 : BitVec 32 := Scalar.addi v563 c256_i32_463
  v564
def k0_mult260 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_475 : BitVec 32 := 512#32
  let v581 : BitVec 32 := Scalar.muli v119 c512_i32_475
  let c0_i32_476 : BitVec 32 := 0#32
  let v582 : BitVec 32 := Scalar.addi v581 c0_i32_476
  v582
def k0_mult261 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_485 : BitVec 32 := 512#32
  let v590 : BitVec 32 := Scalar.muli v119 c512_i32_485
  let c0_i32_486 : BitVec 32 := 0#32
  let v591 : BitVec 32 := Scalar.addi v590 c0_i32_486
  v591
def k0_mult262 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_498 : BitVec 32 := 512#32
  let v608 : BitVec 32 := Scalar.muli v119 c512_i32_498
  let c256_i32_499 : BitVec 32 := 256#32
  let v609 : BitVec 32 := Scalar.addi v608 c256_i32_499
  v609
def k0_mult263 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_508 : BitVec 32 := 512#32
  let v617 : BitVec 32 := Scalar.muli v119 c512_i32_508
  let c0_i32_509 : BitVec 32 := 0#32
  let v618 : BitVec 32 := Scalar.addi v617 c0_i32_509
  v618
def k0_mult264 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_521 : BitVec 32 := 512#32
  let v635 : BitVec 32 := Scalar.muli v119 c512_i32_521
  let c256_i32_522 : BitVec 32 := 256#32
  let v636 : BitVec 32 := Scalar.addi v635 c256_i32_522
  v636
def k0_mult265 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_531 : BitVec 32 := 512#32
  let v644 : BitVec 32 := Scalar.muli v119 c512_i32_531
  let c0_i32_532 : BitVec 32 := 0#32
  let v645 : BitVec 32 := Scalar.addi v644 c0_i32_532
  v645
def k0_mult266 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_544 : BitVec 32 := 512#32
  let v662 : BitVec 32 := Scalar.muli v119 c512_i32_544
  let c256_i32_545 : BitVec 32 := 256#32
  let v663 : BitVec 32 := Scalar.addi v662 c256_i32_545
  v663
def k0_mult267 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_554 : BitVec 32 := 512#32
  let v671 : BitVec 32 := Scalar.muli v119 c512_i32_554
  let c0_i32_555 : BitVec 32 := 0#32
  let v672 : BitVec 32 := Scalar.addi v671 c0_i32_555
  v672
def k0_mult268 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_567 : BitVec 32 := 512#32
  let v689 : BitVec 32 := Scalar.muli v119 c512_i32_567
  let c256_i32_568 : BitVec 32 := 256#32
  let v690 : BitVec 32 := Scalar.addi v689 c256_i32_568
  v690
def k0_mult269 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_577 : BitVec 32 := 512#32
  let v698 : BitVec 32 := Scalar.muli v119 c512_i32_577
  let c256_i32_578 : BitVec 32 := 256#32
  let v699 : BitVec 32 := Scalar.addi v698 c256_i32_578
  v699
def k0_mult270 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_590 : BitVec 32 := 512#32
  let v716 : BitVec 32 := Scalar.muli v121 c512_i32_590
  let c0_i32_591 : BitVec 32 := 0#32
  let v717 : BitVec 32 := Scalar.addi v716 c0_i32_591
  v717
def k0_mult271 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_600 : BitVec 32 := 512#32
  let v725 : BitVec 32 := Scalar.muli v119 c512_i32_600
  let c256_i32_601 : BitVec 32 := 256#32
  let v726 : BitVec 32 := Scalar.addi v725 c256_i32_601
  v726
def k0_mult272 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_613 : BitVec 32 := 512#32
  let v743 : BitVec 32 := Scalar.muli v121 c512_i32_613
  let c0_i32_614 : BitVec 32 := 0#32
  let v744 : BitVec 32 := Scalar.addi v743 c0_i32_614
  v744
def k0_mult273 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_623 : BitVec 32 := 512#32
  let v752 : BitVec 32 := Scalar.muli v119 c512_i32_623
  let c256_i32_624 : BitVec 32 := 256#32
  let v753 : BitVec 32 := Scalar.addi v752 c256_i32_624
  v753
def k0_mult274 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_636 : BitVec 32 := 512#32
  let v770 : BitVec 32 := Scalar.muli v121 c512_i32_636
  let c0_i32_637 : BitVec 32 := 0#32
  let v771 : BitVec 32 := Scalar.addi v770 c0_i32_637
  v771
def k0_mult275 (i : grid0.Coords) (k0_t2 : Fin (k0_t2_loop i).trips) : BitVec 32 :=
  let c4_i32_75 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v118 : BitVec 32 := Scalar.muli c4_i32_75 arg9
  let c2_i32_76 : BitVec 32 := 2#32
  let v119 : BitVec 32 := Scalar.addi v118 c2_i32_76
  let c512_i32_646 : BitVec 32 := 512#32
  let v779 : BitVec 32 := Scalar.muli v119 c512_i32_646
  let c256_i32_647 : BitVec 32 := 256#32
  let v780 : BitVec 32 := Scalar.addi v779 c256_i32_647
  v780
def k0_mult276 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_659 : BitVec 32 := 512#32
  let v797 : BitVec 32 := Scalar.muli v121 c512_i32_659
  let c0_i32_660 : BitVec 32 := 0#32
  let v798 : BitVec 32 := Scalar.addi v797 c0_i32_660
  v798
def k0_mult277 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_669 : BitVec 32 := 512#32
  let v806 : BitVec 32 := Scalar.muli v121 c512_i32_669
  let c0_i32_670 : BitVec 32 := 0#32
  let v807 : BitVec 32 := Scalar.addi v806 c0_i32_670
  v807
def k0_mult278 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_682 : BitVec 32 := 512#32
  let v824 : BitVec 32 := Scalar.muli v121 c512_i32_682
  let c256_i32_683 : BitVec 32 := 256#32
  let v825 : BitVec 32 := Scalar.addi v824 c256_i32_683
  v825
def k0_mult279 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_692 : BitVec 32 := 512#32
  let v833 : BitVec 32 := Scalar.muli v121 c512_i32_692
  let c0_i32_693 : BitVec 32 := 0#32
  let v834 : BitVec 32 := Scalar.addi v833 c0_i32_693
  v834
def k0_mult280 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_705 : BitVec 32 := 512#32
  let v851 : BitVec 32 := Scalar.muli v121 c512_i32_705
  let c256_i32_706 : BitVec 32 := 256#32
  let v852 : BitVec 32 := Scalar.addi v851 c256_i32_706
  v852
def k0_mult281 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_715 : BitVec 32 := 512#32
  let v860 : BitVec 32 := Scalar.muli v121 c512_i32_715
  let c0_i32_716 : BitVec 32 := 0#32
  let v861 : BitVec 32 := Scalar.addi v860 c0_i32_716
  v861
def k0_mult282 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_728 : BitVec 32 := 512#32
  let v878 : BitVec 32 := Scalar.muli v121 c512_i32_728
  let c256_i32_729 : BitVec 32 := 256#32
  let v879 : BitVec 32 := Scalar.addi v878 c256_i32_729
  v879
def k0_mult283 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_738 : BitVec 32 := 512#32
  let v887 : BitVec 32 := Scalar.muli v121 c512_i32_738
  let c0_i32_739 : BitVec 32 := 0#32
  let v888 : BitVec 32 := Scalar.addi v887 c0_i32_739
  v888
def k0_mult284 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_751 : BitVec 32 := 512#32
  let v905 : BitVec 32 := Scalar.muli v121 c512_i32_751
  let c256_i32_752 : BitVec 32 := 256#32
  let v906 : BitVec 32 := Scalar.addi v905 c256_i32_752
  v906
def k0_mult285 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_761 : BitVec 32 := 512#32
  let v914 : BitVec 32 := Scalar.muli v121 c512_i32_761
  let c256_i32_762 : BitVec 32 := 256#32
  let v915 : BitVec 32 := Scalar.addi v914 c256_i32_762
  v915
def k0_mult286 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_774 : BitVec 32 := 512#32
  let v932 : BitVec 32 := Scalar.muli v121 c512_i32_774
  let c256_i32_775 : BitVec 32 := 256#32
  let v933 : BitVec 32 := Scalar.addi v932 c256_i32_775
  v933
def k0_mult287 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_787 : BitVec 32 := 512#32
  let v950 : BitVec 32 := Scalar.muli v121 c512_i32_787
  let c256_i32_788 : BitVec 32 := 256#32
  let v951 : BitVec 32 := Scalar.addi v950 c256_i32_788
  v951
def k0_mult288 (i : grid0.Coords) (k0_t2 : Fin (k0_t2_loop i).trips) : BitVec 32 :=
  let c4_i32_77 : BitVec 32 := 4#32
  let c0_i32_38 : BitVec 32 := 0#32
  let arg2 : BitVec 32 := BitVec.ofNat 32 (i 2).val
  let c0_i32_32 : BitVec 32 := 0#32
  let v43 : BitVec 1 := Scalar.cmpi .sgt arg2 c0_i32_32
  let v44 : BitVec 32 := Scalar.extui v43
  let c0_i32_33 : BitVec 32 := 0#32
  let v45 : BitVec 1 := Scalar.cmpi .slt arg2 c0_i32_33
  let v46 : BitVec 32 := Scalar.extui v45
  let v47 : BitVec 32 := Scalar.subi v44 v46
  let c4_i32_31 : BitVec 32 := 4#32
  let c0_i32_34 : BitVec 32 := 0#32
  let v48 : BitVec 1 := Scalar.cmpi .sgt c4_i32_31 c0_i32_34
  let v49 : BitVec 32 := Scalar.extui v48
  let c0_i32_35 : BitVec 32 := 0#32
  let v50 : BitVec 1 := Scalar.cmpi .slt c4_i32_31 c0_i32_35
  let v51 : BitVec 32 := Scalar.extui v50
  let v52 : BitVec 32 := Scalar.subi v49 v51
  let v53 : BitVec 1 := Scalar.cmpi .ne v47 v52
  let v54 : BitVec 32 := Scalar.remsi arg2 c4_i32_31
  let c0_i32_36 : BitVec 32 := 0#32
  let v55 : BitVec 1 := Scalar.cmpi .ne v54 c0_i32_36
  let v56 : BitVec 1 := Scalar.andi v53 v55
  let v42 : BitVec 32 := Scalar.divsi arg2 c4_i32_31
  let c1_i32_37 : BitVec 32 := 1#32
  let v57 : BitVec 32 := Scalar.subi v42 c1_i32_37
  let v58 : BitVec 32 := Scalar.select v56 v57 v42
  let v59 : BitVec 32 := Scalar.subi v58 c0_i32_38
  let c1_i32_39 : BitVec 32 := 1#32
  let v61 : BitVec 32 := Scalar.divsi v59 c1_i32_39
  let v62 : BitVec 32 := Scalar.muli v61 c1_i32_39
  let v63 : BitVec 32 := Scalar.addi c0_i32_38 v62
  let c1_i32_41 : BitVec 32 := 1#32
  let arg9 : BitVec 32 := Scf.iv v63 c1_i32_41 k0_t2
  let v120 : BitVec 32 := Scalar.muli c4_i32_77 arg9
  let c3_i32_78 : BitVec 32 := 3#32
  let v121 : BitVec 32 := Scalar.addi v120 c3_i32_78
  let c512_i32_800 : BitVec 32 := 512#32
  let v968 : BitVec 32 := Scalar.muli v121 c512_i32_800
  let c256_i32_801 : BitVec 32 := 256#32
  let v969 : BitVec 32 := Scalar.addi v968 c256_i32_801
  v969
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x8x256x4096 : Shape := ⟨4, ![4, 8, 256, 4096]⟩
abbrev S4x8x4096x256 : Shape := ⟨4, ![4, 8, 4096, 256]⟩
abbrev S4x8x128x4096 : Shape := ⟨4, ![4, 8, 128, 4096]⟩
abbrev S4x1024x4096 : Shape := ⟨3, ![4, 1024, 4096]⟩
abbrev S4x8x4096x4096 : Shape := ⟨4, ![4, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x4096 : Shape := ⟨3, ![4, 8, 4096]⟩
abbrev S4x8x4096x1 : Shape := ⟨4, ![4, 8, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x8x256x4096, .bf16⟩
  | .hbm, ⟨1, _⟩ => ⟨S4x8x4096x256, .bf16⟩
  | .hbm, ⟨2, _⟩ => ⟨S4x8x128x4096, .bf16⟩
  | .hbm, ⟨3, _⟩ => ⟨S4x1024x4096, .bf16⟩
  | .hbm, ⟨4, _⟩ => ⟨S4x8x256x4096, .f32⟩
  | .hbm, ⟨5, _⟩ => ⟨S4x8x4096x256, .f32⟩
  | .hbm, ⟨6, _⟩ => ⟨S4x8x128x4096, .f32⟩
  | .hbm, ⟨7, _⟩ => ⟨S4x1024x4096, .f32⟩
  | .hbm, ⟨8, _⟩ => ⟨S4x8x4096x4096, .f32⟩
  | .hbm, ⟨9, _⟩ => ⟨S_, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S4096, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x8x4096x4096, .i1⟩
  | .hbm, ⟨22, _⟩ => ⟨S4x8x4096x4096, .f32⟩
  | .hbm, ⟨23, _⟩ => ⟨S4x8x4096x4096, .f32⟩
  | .hbm, ⟨24, _⟩ => ⟨S_, .f32⟩
  | .hbm, ⟨25, _⟩ => ⟨S4x8x4096, .f32⟩
  | .hbm, ⟨26, _⟩ => ⟨S_, .f32⟩
  | .hbm, ⟨27, _⟩ => ⟨S4x8x4096, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x8x128x4096, .f32⟩
  | .hbm, ⟨39, _⟩ => ⟨S4x1024x4096, .f32⟩
  | .hbm, ⟨40, _⟩ => ⟨S4x1024x4096, .f32⟩
  | .hbm, ⟨41, _⟩ => ⟨S4x1024x4096, .bf16⟩
  | _, _ => ⟨S4x8x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x4096x1024 : Shape := ⟨3, ![4, 4096, 1024]⟩
abbrev S4x1024x4096 : Shape := ⟨3, ![4, 1024, 4096]⟩
abbrev S4x6144 : Shape := ⟨2, ![4, 6144]⟩
abbrev S1x2048x2048 : Shape := ⟨3, ![1, 2048, 2048]⟩
abbrev S2048x2048 : Shape := ⟨2, ![2048, 2048]⟩
abbrev S4x3x2048 : Shape := ⟨3, ![4, 3, 2048]⟩
abbrev S1x512x2048 : Shape := ⟨3, ![1, 512, 2048]⟩
abbrev S1x512x1024 : Shape := ⟨3, ![1, 512, 1024]⟩
abbrev S1x1024x512 : Shape := ⟨3, ![1, 1024, 512]⟩
abbrev S1x3x2048 : Shape := ⟨3, ![1, 3, 2048]⟩
abbrev S512x1024 : Shape := ⟨2, ![512, 1024]⟩
abbrev S1024x2048 : Shape := ⟨2, ![1024, 2048]⟩
abbrev S512x2048 : Shape := ⟨2, ![512, 2048]⟩
abbrev S1024x512 : Shape := ⟨2, ![1024, 512]⟩
abbrev S1x1x2048 : Shape := ⟨3, ![1, 1, 2048]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x1024x4096, .bf16⟩
  | .hbm, ⟨3, _⟩ => ⟨S4x6144, .f32⟩
  | .hbm, ⟨4, _⟩ => ⟨S1x2048x2048, .f32⟩
  | .hbm, ⟨5, _⟩ => ⟨S2048x2048, .f32⟩
  | .hbm, ⟨6, _⟩ => ⟨S4x3x2048, .f32⟩
  | .hbm, ⟨7, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x2048, .f32⟩
  | .local _ .vmem, ⟨7, _⟩ => ⟨S1x3x2048, .f32⟩
  | .local _ .vmem, ⟨8, _⟩ => ⟨S1x3x2048, .f32⟩
  | .local _ .vmem, ⟨9, _⟩ => ⟨S1x512x2048, .f32⟩
  | .local _ .vmem, ⟨10, _⟩ => ⟨S1x512x2048, .f32⟩
  | .local _ .vmem, ⟨11, _⟩ => ⟨S2048x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x2048 : Shape := ⟨3, ![4, 4096, 2048]⟩
abbrev S4x4096x1024 : Shape := ⟨3, ![4, 4096, 1024]⟩
abbrev S4x1024x4096 : Shape := ⟨3, ![4, 1024, 4096]⟩
abbrev S4x6144 : Shape := ⟨2, ![4, 6144]⟩
abbrev S1x2048x2048 : Shape := ⟨3, ![1, 2048, 2048]⟩
abbrev S4x2048 : Shape := ⟨2, ![4, 2048]⟩
abbrev S2048x2048 : Shape := ⟨2, ![2048, 2048]⟩
abbrev S4x1x2048 : Shape := ⟨3, ![4, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x1024x4096, .bf16⟩
  | .hbm, ⟨3, _⟩ => ⟨S4x6144, .f32⟩
  | .hbm, ⟨4, _⟩ => ⟨S1x2048x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x4096x1024, .f32⟩
  | .hbm, ⟨9, _⟩ => ⟨S4x1024x4096, .f32⟩
  | .hbm, ⟨10, _⟩ => ⟨S4x4096x1024, .f32⟩
  | .hbm, ⟨11, _⟩ => ⟨S4x4096x2048, .f32⟩
  | .hbm, ⟨12, _⟩ => ⟨S2048x2048, .f32⟩
  | .hbm, ⟨13, _⟩ => ⟨S4x4096x2048, .f32⟩
  | .hbm, ⟨14, _⟩ => ⟨S4x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x6144 : Shape := ⟨2, ![4, 6144]⟩
abbrev S4x4096 : Shape := ⟨2, ![4, 4096]⟩
abbrev S1x2048x4160 : Shape := ⟨3, ![1, 2048, 4160]⟩
abbrev S1x512 : Shape := ⟨2, ![1, 512]⟩
abbrev S1x512x1536 : Shape := ⟨3, ![1, 512, 1536]⟩
abbrev S1x512x2048 : Shape := ⟨3, ![1, 512, 2048]⟩
abbrev S1x128 : Shape := ⟨2, ![1, 128]⟩
abbrev S1x64 : Shape := ⟨2, ![1, 64]⟩
abbrev S32 : Shape := ⟨1, ![32]⟩
abbrev S_ : Shape := ⟨0, ![]⟩
abbrev S4x1x4096 : Shape := ⟨3, ![4, 1, 4096]⟩
abbrev S32x1 : Shape := ⟨2, ![32, 1]⟩
abbrev S512x2048 : Shape := ⟨2, ![512, 2048]⟩
abbrev S512x8x256 : Shape := ⟨3, ![512, 8, 256]⟩
abbrev S2048x4160 : Shape := ⟨2, ![2048, 4160]⟩
abbrev S4160x2048 : Shape := ⟨2, ![4160, 2048]⟩
abbrev S512 : Shape := ⟨1, ![512]⟩
abbrev S512x1536 : Shape := ⟨2, ![512, 1536]⟩
abbrev S1536x512 : Shape := ⟨2, ![1536, 512]⟩
abbrev S512x8x128 : Shape := ⟨3, ![512, 8, 128]⟩
abbrev S512x1024 : Shape := ⟨2, ![512, 1024]⟩
abbrev S1024x512 : Shape := ⟨2, ![1024, 512]⟩
abbrev S128 : Shape := ⟨1, ![128]⟩
abbrev S128x1 : Shape := ⟨2, ![128, 1]⟩
abbrev S64 : Shape := ⟨1, ![64]⟩
abbrev S64x1 : Shape := ⟨2, ![64, 1]⟩
abbrev S4x3x2048 : Shape := ⟨3, ![4, 3, 2048]⟩
abbrev S4x4096x1024 : Shape := ⟨3, ![4, 4096, 1024]⟩
abbrev S4x1024x4096 : Shape := ⟨3, ![4, 1024, 4096]⟩
abbrev S4x8x256x4096 : Shape := ⟨4, ![4, 8, 256, 4096]⟩
abbrev S4x8x4096x256 : Shape := ⟨4, ![4, 8, 4096, 256]⟩
abbrev S4x8x128x4096 : Shape := ⟨4, ![4, 8, 128, 4096]⟩
abbrev S1x3x2048 : Shape := ⟨3, ![1, 3, 2048]⟩
abbrev S1x1x512 : Shape := ⟨3, ![1, 1, 512]⟩
abbrev S1x512x1024 : Shape := ⟨3, ![1, 512, 1024]⟩
abbrev S1x1024x512 : Shape := ⟨3, ![1, 1024, 512]⟩
abbrev S1x8x256x512 : Shape := ⟨4, ![1, 8, 256, 512]⟩
abbrev S1x8x512x256 : Shape := ⟨4, ![1, 8, 512, 256]⟩
abbrev S1x8x128x512 : Shape := ⟨4, ![1, 8, 128, 512]⟩
abbrev S1x1x2048 : Shape := ⟨3, ![1, 1, 2048]⟩
abbrev S1x2048 : Shape := ⟨2, ![1, 2048]⟩
abbrev S1 : Shape := ⟨1, ![1]⟩
abbrev S1x1 : Shape := ⟨2, ![1, 1]⟩
abbrev S64x256 : Shape := ⟨2, ![64, 256]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S256x1024 : Shape := ⟨2, ![256, 1024]⟩
abbrev S256x512 : Shape := ⟨2, ![256, 512]⟩
abbrev S576x2048 : Shape := ⟨2, ![576, 2048]⟩
abbrev S576x256 : Shape := ⟨2, ![576, 256]⟩
abbrev S512x256 : Shape := ⟨2, ![512, 256]⟩
abbrev S1x512x256 : Shape := ⟨3, ![1, 512, 256]⟩
abbrev S1536x256 : Shape := ⟨2, ![1536, 256]⟩
abbrev S1024x256 : Shape := ⟨2, ![1024, 256]⟩
abbrev S1x1x256 : Shape := ⟨3, ![1, 1, 256]⟩
abbrev S1x256 : Shape := ⟨2, ![1, 256]⟩
abbrev S32x256 : Shape := ⟨2, ![32, 256]⟩
abbrev S128x256 : Shape := ⟨2, ![128, 256]⟩
abbrev S1x1x128x256 : Shape := ⟨4, ![1, 1, 128, 256]⟩
abbrev S1x1x32x256 : Shape := ⟨4, ![1, 1, 32, 256]⟩
abbrev S1x1x64x256 : Shape := ⟨4, ![1, 1, 64, 256]⟩
abbrev S256x128 : Shape := ⟨2, ![256, 128]⟩
abbrev S1x1x256x128 : Shape := ⟨4, ![1, 1, 256, 128]⟩
abbrev S1x256x1024 : Shape := ⟨3, ![1, 256, 1024]⟩
abbrev S4x8x192x4096 : Shape := ⟨4, ![4, 8, 192, 4096]⟩
abbrev S4x8x4096x192 : Shape := ⟨4, ![4, 8, 4096, 192]⟩

abbrev nBuf : Space → Nat
  | .hbm => 68
  | .vmem => 31
  | .smem => 0
  | _ => 0

abbrev bufTy : (tb : Table) → Fin (tcTables nBuf tb) → BufTy
  | .hbm, ⟨0, _⟩ => ⟨S4x4096x2048, .f32⟩
  | .hbm, ⟨1, _⟩ => ⟨S4x6144, .f32⟩
  | .hbm, ⟨2, _⟩ => ⟨S4x4096, .i32⟩
  | .hbm, ⟨3, _⟩ => ⟨S1x2048x4160, .f32⟩
  | .hbm, ⟨4, _⟩ => ⟨S1x512, .f32⟩
  | .hbm, ⟨5, _⟩ => ⟨S1x512x1536, .f32⟩
  | .hbm, ⟨6, _⟩ => ⟨S1x512, .f32⟩
  | .hbm, ⟨7, _⟩ => ⟨S1x512x2048, .f32⟩
  | .hbm, ⟨8, _⟩ => ⟨S1x128, .f32⟩
  | .hbm, ⟨9, _⟩ => ⟨S1x64, .f32⟩
  | .hbm, ⟨10, _⟩ => ⟨S1x128, .f32⟩
  | .hbm, ⟨11, _⟩ => ⟨S1x64, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4x4096, .f32⟩
  | .hbm, ⟨29, _⟩ => ⟨S4x1x4096, .f32⟩
  | .hbm, ⟨30, _⟩ => ⟨S32x1, .f32⟩
  | .hbm, ⟨31, _⟩ => ⟨S512x2048, .f32⟩
  | .hbm, ⟨32, _⟩ => ⟨S512x8x256, .f32⟩
  | .hbm, ⟨33, _⟩ => ⟨S2048x4160, .f32⟩
  | .hbm, ⟨34, _⟩ => ⟨S4160x2048, .f32⟩
  | .hbm, ⟨35, _⟩ => ⟨S4160x2048, .bf16⟩
  | .hbm, ⟨36, _⟩ => ⟨S512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S512x1536, .f32⟩
  | .hbm, ⟨41, _⟩ => ⟨S1536x512, .f32⟩
  | .hbm, ⟨42, _⟩ => ⟨S1536x512, .bf16⟩
  | .hbm, ⟨43, _⟩ => ⟨S512x8x128, .f32⟩
  | .hbm, ⟨44, _⟩ => ⟨S512x1024, .f32⟩
  | .hbm, ⟨45, _⟩ => ⟨S512x1024, .bf16⟩
  | .hbm, ⟨46, _⟩ => ⟨S512x8x128, .f32⟩
  | .hbm, ⟨47, _⟩ => ⟨S512x1024, .f32⟩
  | .hbm, ⟨48, _⟩ => ⟨S1024x512, .f32⟩
  | .hbm, ⟨49, _⟩ => ⟨S1024x512, .bf16⟩
  | .hbm, ⟨50, _⟩ => ⟨S128, .f32⟩
  | .hbm, ⟨51, _⟩ => ⟨S128x1, .f32⟩
  | .hbm, ⟨52, _⟩ => ⟨S64, .f32⟩
  | .hbm, ⟨53, _⟩ => ⟨S64x1, .f32⟩
  | .hbm, ⟨54, _⟩ => ⟨S128, .f32⟩
  | .hbm, ⟨55, _⟩ => ⟨S1x128, .f32⟩
  | .hbm, ⟨56, _⟩ => ⟨S64, .f32⟩
  | .hbm, ⟨57, _⟩ => ⟨S64x1, .f32⟩
  | .hbm, ⟨58, _⟩ => ⟨S4x3x2048, .f32⟩
  | .hbm, ⟨59, _⟩ => ⟨S4x4096x1024, .bf16⟩
  | .hbm, ⟨60, _⟩ => ⟨S4x4096x1024, .bf16⟩
  | .hbm, ⟨61, _⟩ => ⟨S4x1024x4096, .bf16⟩
  | .hbm, ⟨62, _⟩ => ⟨S4x8x256x4096, .bf16⟩
  | .hbm, ⟨63, _⟩ => ⟨S4x8x4096x256, .bf16⟩
  | .hbm, ⟨64, _⟩ => ⟨S4x8x128x4096, .bf16⟩
  | .hbm, ⟨65, _⟩ => ⟨S4x1x4096, .f32⟩
  | .hbm, ⟨66, _⟩ => ⟨S4x8x192x4096, .bf16⟩
  | .hbm, ⟨67, _⟩ => ⟨S4x8x4096x192, .bf16⟩
  | .local _ .vmem, ⟨0, _⟩ => ⟨S1x512x2048, .f32⟩
  | .local _ .vmem, ⟨1, _⟩ => ⟨S1x512x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x1x512, .f32⟩
  | .local _ .vmem, ⟨5, _⟩ => ⟨S1x1x512, .f32⟩
  | .local _ .vmem, ⟨6, _⟩ => ⟨S32x1, .f32⟩
  | .local _ .vmem, ⟨7, _⟩ => ⟨S4160x2048, .bf16⟩
  | .local _ .vmem, ⟨8, _⟩ => ⟨S1x512, .f32⟩
  | .local _ .vmem, ⟨9, _⟩ => ⟨S1x512, .f32⟩
  | .local _ .vmem, ⟨10, _⟩ => ⟨S1536x512, .bf16⟩
  | .local _ .vmem, ⟨11, _⟩ => ⟨S512x1024, .bf16⟩
  | .local _ .vmem, ⟨12, _⟩ => ⟨S1024x512, .bf16⟩
  | .local _ .vmem, ⟨13, _⟩ => ⟨S128x1, .f32⟩
  | .local _ .vmem, ⟨14, _⟩ => ⟨S64x1, .f32⟩
  | .local _ .vmem, ⟨15, _⟩ => ⟨S1x128, .f32⟩
  | .local _ .vmem, ⟨16, _⟩ => ⟨S64x1, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x8x256x512, .bf16⟩
  | .local _ .vmem, ⟨24, _⟩ => ⟨S1x8x256x512, .bf16⟩
  | .local _ .vmem, ⟨25, _⟩ => ⟨S1x8x512x256, .bf16⟩
  | .local _ .vmem, ⟨26, _⟩ => ⟨S1x8x512x256, .bf16⟩
  | .local _ .vmem, ⟨27, _⟩ => ⟨S1x8x128x512, .bf16⟩
  | .local _ .vmem, ⟨28, _⟩ => ⟨S1x8x128x512, .bf16⟩
  | .local _ .vmem, ⟨29, _⟩ => ⟨S1x1x512, .f32⟩
  | .local _ .vmem, ⟨30, _⟩ => ⟨S1x1x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_v42_3 : Ref sig .tc := ⟨.hbm, 62, rfl⟩
abbrev main_v42_4 : Ref sig .tc := ⟨.hbm, 63, rfl⟩
abbrev main_v42_5 : Ref sig .tc := ⟨.hbm, 64, rfl⟩
abbrev main_v42_6 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4160x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1536x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S4x4096x2048 : Shape := ⟨3, ![4, 4096, 2048]⟩
abbrev S4x6144 : Shape := ⟨2, ![4, 6144]⟩
abbrev S4x4096 : Shape := ⟨2, ![4, 4096]⟩
abbrev S1x2048x4160 : Shape := ⟨3, ![1, 2048, 4160]⟩
abbrev S1x512 : Shape := ⟨2, ![1, 512]⟩
abbrev S1x512x1536 : Shape := ⟨3, ![1, 512, 1536]⟩
abbrev S1x512x2048 : Shape := ⟨3, ![1, 512, 2048]⟩
abbrev S1x128 : Shape := ⟨2, ![1, 128]⟩
abbrev S1x64 : Shape := ⟨2, ![1, 64]⟩
abbrev S4x2048 : Shape := ⟨2, ![4, 2048]⟩
abbrev S_ : Shape := ⟨0, ![]⟩
abbrev S4x4096x1 : Shape := ⟨3, ![4, 4096, 1]⟩
abbrev S4x1x2048 : Shape := ⟨3, ![4, 1, 2048]⟩
abbrev S2048x4160 : Shape := ⟨2, ![2048, 4160]⟩
abbrev S4x4096x4160 : Shape := ⟨3, ![4, 4096, 4160]⟩
abbrev S4x4096x1024 : Shape := ⟨3, ![4, 4096, 1024]⟩
abbrev S4x4096x512 : Shape := ⟨3, ![4, 4096, 512]⟩
abbrev S4x4096x64 : Shape := ⟨3, ![4, 4096, 64]⟩
abbrev S512 : Shape := ⟨1, ![512]⟩
abbrev S1x1x512 : Shape := ⟨3, ![1, 1, 512]⟩
abbrev S512x1536 : Shape := ⟨2, ![512, 1536]⟩
abbrev S4x4096x1536 : Shape := ⟨3, ![4, 4096, 1536]⟩
abbrev S4x4096x8x192 : Shape := ⟨4, ![4, 4096, 8, 192]⟩
abbrev S512x2048 : Shape := ⟨2, ![512, 2048]⟩
abbrev S4x4096x8x256 : Shape := ⟨4, ![4, 4096, 8, 256]⟩
abbrev S4x4096x8x128 : Shape := ⟨4, ![4, 4096, 8, 128]⟩
abbrev S4x4096x8x64 : Shape := ⟨4, ![4, 4096, 8, 64]⟩
abbrev S32 : Shape := ⟨1, ![32]⟩
abbrev S1x1x32 : Shape := ⟨3, ![1, 1, 32]⟩
abbrev S4x4096x32 : Shape := ⟨3, ![4, 4096, 32]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S64 : Shape := ⟨1, ![64]⟩
abbrev S1x1x1x64 : Shape := ⟨4, ![1, 1, 1, 64]⟩
abbrev S4x4096x1x32 : Shape := ⟨4, ![4, 4096, 1, 32]⟩
abbrev S4x4096x8x32 : Shape := ⟨4, ![4, 4096, 8, 32]⟩
abbrev S1x1x64 : Shape := ⟨3, ![1, 1, 64]⟩
abbrev S4x4096x1x64 : Shape := ⟨4, ![4, 4096, 1, 64]⟩
abbrev S4x1024x4096 : Shape := ⟨3, ![4, 1024, 4096]⟩
abbrev S4x8x192x4096 : Shape := ⟨4, ![4, 8, 192, 4096]⟩
abbrev S4x8x4096x192 : Shape := ⟨4, ![4, 8, 4096, 192]⟩
abbrev S4x8x128x4096 : Shape := ⟨4, ![4, 8, 128, 4096]⟩

abbrev nBuf : Space → Nat
  | .hbm => 240
  | .vmem => 0
  | .smem => 0
  | _ => 0

abbrev hbmTy0_0 (i : Nat) : BufTy := match i % 128 with
  | 0 => ⟨S4x4096x2048, .f32⟩
  | 1 => ⟨S4x6144, .f32⟩
  | 2 => ⟨S4x4096, .i32⟩
  | 3 => ⟨S1x2048x4160, .f32⟩
  | 4 => ⟨S1x512, .f32⟩
  | 5 => ⟨S1x512x1536, .f32⟩
  | 6 => ⟨S1x512, .f32⟩
  | 7 => ⟨S1x512x2048, .f32⟩
  | 8 => ⟨S1x128, .f32⟩
  | 9 => ⟨S1x64, .f32⟩
  | 10 => ⟨S1x128, .f32⟩
  | 11 => ⟨S1x64, .f32⟩
  | 12 => ⟨S4x2048, .f32⟩
  | 13 => ⟨S4x2048, .f32⟩
  | 14 => ⟨S4x2048, .f32⟩
  | 15 => ⟨S4x4096x2048, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S_, .f32⟩
  | 23 => ⟨S4x4096x1, .f32⟩
  | 24 => ⟨S4x4096x1, .f32⟩
  | 25 => ⟨S4x4096x1, .f32⟩
  | 26 => ⟨S4x4096x2048, .f32⟩
  | 27 => ⟨S4x4096x2048, .f32⟩
  | 28 => ⟨S4x1x2048, .f32⟩
  | 29 => ⟨S_, .f32⟩
  | 30 => ⟨S4x1x2048, .f32⟩
  | 31 => ⟨S4x1x2048, .f32⟩
  | 32 => ⟨S4x4096x2048, .f32⟩
  | 33 => ⟨S4x4096x2048, .f32⟩
  | 34 => ⟨S4x1x2048, .f32⟩
  | 35 => ⟨S4x4096x2048, .f32⟩
  | 36 => ⟨S4x4096x2048, .f32⟩
  | 37 => ⟨S2048x4160, .f32⟩
  | 38 => ⟨S4x4096x4160, .f32⟩
  | 39 => ⟨S4x4096x1024, .f32⟩
  | 40 => ⟨S4x4096x1024, .f32⟩
  | 41 => ⟨S4x4096x512, .f32⟩
  | 42 => ⟨S4x4096x512, .f32⟩
  | 43 => ⟨S4x4096x64, .f32⟩
  | 44 => ⟨S4x4096x1024, .f32⟩
  | 45 => ⟨S512, .f32⟩
  | 46 => ⟨S4x4096x512, .f32⟩
  | 47 => ⟨S_, .f32⟩
  | 48 => ⟨S4x4096, .f32⟩
  | 49 => ⟨S4x4096x1, .f32⟩
  | 50 => ⟨S_, .f32⟩
  | 51 => ⟨S4x4096x1, .f32⟩
  | 52 => ⟨S4x4096x1, .f32⟩
  | 53 => ⟨S_, .f32⟩
  | 54 => ⟨S4x4096x1, .f32⟩
  | 55 => ⟨S4x4096x1, .f32⟩
  | 56 => ⟨S4x4096x1, .f32⟩
  | 57 => ⟨S4x4096x512, .f32⟩
  | 58 => ⟨S4x4096x512, .f32⟩
  | 59 => ⟨S1x1x512, .f32⟩
  | 60 => ⟨S4x4096x512, .f32⟩
  | 61 => ⟨S4x4096x512, .f32⟩
  | 62 => ⟨S512x1536, .f32⟩
  | 63 => ⟨S4x4096x1536, .f32⟩
  | 64 => ⟨S4x4096x8x192, .f32⟩
  | 65 => ⟨S512, .f32⟩
  | 66 => ⟨S4x4096x512, .f32⟩
  | 67 => ⟨S_, .f32⟩
  | 68 => ⟨S4x4096, .f32⟩
  | 69 => ⟨S4x4096x1, .f32⟩
  | 70 => ⟨S_, .f32⟩
  | 71 => ⟨S4x4096x1, .f32⟩
  | 72 => ⟨S4x4096x1, .f32⟩
  | 73 => ⟨S_, .f32⟩
  | 74 => ⟨S4x4096x1, .f32⟩
  | 75 => ⟨S4x4096x1, .f32⟩
  | 76 => ⟨S4x4096x1, .f32⟩
  | 77 => ⟨S4x4096x512, .f32⟩
  | 78 => ⟨S4x4096x512, .f32⟩
  | 79 => ⟨S1x1x512, .f32⟩
  | 80 => ⟨S4x4096x512, .f32⟩
  | 81 => ⟨S4x4096x512, .f32⟩
  | 82 => ⟨S512x2048, .f32⟩
  | 83 => ⟨S4x4096x2048, .f32⟩
  | 84 => ⟨S4x4096x8x256, .f32⟩
  | 85 => ⟨S4x4096x8x128, .f32⟩
  | 86 => ⟨S4x4096x8x64, .f32⟩
  | 87 => ⟨S4x4096x8x128, .f32⟩
  | 88 => ⟨S4x4096x8x128, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S4x4096, .f32⟩
  | 106 => ⟨S4x4096x1, .f32⟩
  | 107 => ⟨S1x1x32, .f32⟩
  | 108 => ⟨S4x4096x32, .f32⟩
  | 109 => ⟨S4x4096x32, .f32⟩
  | 110 => ⟨S4x4096x32, .f32⟩
  | 111 => ⟨S4x4096x32, .f32⟩
  | 112 => ⟨S4x4096x32, .f32⟩
  | 113 => ⟨S128, .f32⟩
  | 114 => ⟨S4x4096x8x128, .f32⟩
  | 115 => ⟨S_, .f32⟩
  | 116 => ⟨S4x4096x8, .f32⟩
  | 117 => ⟨S4x4096x8x1, .f32⟩
  | 118 => ⟨S_, .f32⟩
  | 119 => ⟨S4x4096x8x1, .f32⟩
  | 120 => ⟨S4x4096x8x1, .f32⟩
  | 121 => ⟨S_, .f32⟩
  | 122 => ⟨S4x4096x8x1, .f32⟩
  | 123 => ⟨S4x4096x8x1, .f32⟩
  | 124 => ⟨S4x4096x8x1, .f32⟩
  | 125 => ⟨S4x4096x8x128, .f32⟩
  | 126 => ⟨S4x4096x8x128, .f32⟩
  | 127 => ⟨S1x1x1x128, .f32⟩
  | _ => ⟨S4x4096x2048, .f32⟩

abbrev hbmTy0_1 (i : Nat) : BufTy := match i % 128 with
  | 0 => ⟨S4x4096x8x128, .f32⟩
  | 1 => ⟨S4x4096x8x128, .f32⟩
  | 2 => ⟨S64, .f32⟩
  | 3 => ⟨S4x4096x8x64, .f32⟩
  | 4 => ⟨S_, .f32⟩
  | 5 => ⟨S4x4096x8, .f32⟩
  | 6 => ⟨S4x4096x8x1, .f32⟩
  | 7 => ⟨S_, .f32⟩
  | 8 => ⟨S4x4096x8x1, .f32⟩
  | 9 => ⟨S4x4096x8x1, .f32⟩
  | 10 => ⟨S_, .f32⟩
  | 11 => ⟨S4x4096x8x1, .f32⟩
  | 12 => ⟨S4x4096x8x1, .f32⟩
  | 13 => ⟨S4x4096x8x1, .f32⟩
  | 14 => ⟨S4x4096x8x64, .f32⟩
  | 15 => ⟨S4x4096x8x64, .f32⟩
  | 16 => ⟨S1x1x1x64, .f32⟩
  | 17 => ⟨S4x4096x8x64, .f32⟩
  | 18 => ⟨S4x4096x8x64, .f32⟩
  | 19 => ⟨S4x4096x1x32, .f32⟩
  | 20 => ⟨S4x4096x1x32, .f32⟩
  | 21 => ⟨S4x4096x8x32, .f32⟩
  | 22 => ⟨S4x4096x8x32, .f32⟩
  | 23 => ⟨S4x4096x8x32, .f32⟩
  | 24 => ⟨S4x4096x8x32, .f32⟩
  | 25 => ⟨S4x4096x8x32, .f32⟩
  | 26 => ⟨S4x4096x8x32, .f32⟩
  | 27 => ⟨S4x4096x8x32, .f32⟩
  | 28 => ⟨S4x4096x8x32, .f32⟩
  | 29 => ⟨S4x4096x8x32, .f32⟩
  | 30 => ⟨S4x4096x8x32, .f32⟩
  | 31 => ⟨S4x4096x8x32, .f32⟩
  | 32 => ⟨S4x4096x8x32, .f32⟩
  | 33 => ⟨S4x4096x8x64, .f32⟩
  | 34 => ⟨S128, .f32⟩
  | 35 => ⟨S4x4096x8x128, .f32⟩
  | 36 => ⟨S_, .f32⟩
  | 37 => ⟨S4x4096x8, .f32⟩
  | 38 => ⟨S4x4096x8x1, .f32⟩
  | 39 => ⟨S_, .f32⟩
  | 40 => ⟨S4x4096x8x1, .f32⟩
  | 41 => ⟨S4x4096x8x1, .f32⟩
  | 42 => ⟨S_, .f32⟩
  | 43 => ⟨S4x4096x8x1, .f32⟩
  | 44 => ⟨S4x4096x8x1, .f32⟩
  | 45 => ⟨S4x4096x8x1, .f32⟩
  | 46 => ⟨S4x4096x8x128, .f32⟩
  | 47 => ⟨S4x4096x8x128, .f32⟩
  | 48 => ⟨S1x1x1x128, .f32⟩
  | 49 => ⟨S4x4096x8x128, .f32⟩
  | 50 => ⟨S4x4096x8x128, .f32⟩
  | 51 => ⟨S64, .f32⟩
  | 52 => ⟨S4x4096x64, .f32⟩
  | 53 => ⟨S_, .f32⟩
  | 54 => ⟨S4x4096, .f32⟩
  | 55 => ⟨S4x4096x1, .f32⟩
  | 56 => ⟨S_, .f32⟩
  | 57 => ⟨S4x4096x1, .f32⟩
  | 58 => ⟨S4x4096x1, .f32⟩
  | 59 => ⟨S_, .f32⟩
  | 60 => ⟨S4x4096x1, .f32⟩
  | 61 => ⟨S4x4096x1, .f32⟩
  | 62 => ⟨S4x4096x1, .f32⟩
  | 63 => ⟨S4x4096x64, .f32⟩
  | 64 => ⟨S4x4096x64, .f32⟩
  | 65 => ⟨S1x1x64, .f32⟩
  | 66 => ⟨S4x4096x64, .f32⟩
  | 67 => ⟨S4x4096x64, .f32⟩
  | 68 => ⟨S4x4096x32, .f32⟩
  | 69 => ⟨S4x4096x32, .f32⟩
  | 70 => ⟨S4x4096x32, .f32⟩
  | 71 => ⟨S4x4096x32, .f32⟩
  | 72 => ⟨S4x4096x32, .f32⟩
  | 73 => ⟨S4x4096x32, .f32⟩
  | 74 => ⟨S4x4096x32, .f32⟩
  | 75 => ⟨S4x4096x32, .f32⟩
  | 76 => ⟨S4x4096x64, .f32⟩
  | 77 => ⟨S4x4096x8x192, .f32⟩
  | 78 => ⟨S_, .f32⟩
  | 79 => ⟨S4x4096x8x192, .f32⟩
  | 80 => ⟨S4x4096x8x192, .f32⟩
  | 81 => ⟨S4x4096x1x64, .f32⟩
  | 82 => ⟨S4x4096x8x64, .f32⟩
  | 83 => ⟨S4x4096x8x192, .f32⟩
  | 84 => ⟨S4x4096x1024, .f32⟩
  | 85 => ⟨S4x4096x1024, .f32⟩
  | 86 => ⟨S_, .f32⟩
  | 87 => ⟨S4x4096x1024, .f32⟩
  | 88 => ⟨S4x4096x1024, .f32⟩
  | 89 => ⟨S_, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S_, .f32⟩
  | 96 => ⟨S4x4096x1024, .f32⟩
  | 97 => ⟨S4x4096x1024, .f32⟩
  | 98 => ⟨S_, .f32⟩
  | 99 => ⟨S4x4096x1024, .f32⟩
  | 100 => ⟨S4x4096x1024, .f32⟩
  | 101 => ⟨S4x4096x1024, .f32⟩
  | 102 => ⟨S4x1024x4096, .f32⟩
  | 103 => ⟨S4x8x192x4096, .f32⟩
  | 104 => ⟨S4x8x4096x192, .f32⟩
  | 105 => ⟨S4x8x128x4096, .f32⟩
  | 106 => ⟨S4x4096x1024, .bf16⟩
  | 107 => ⟨S4x4096x1024, .bf16⟩
  | 108 => ⟨S4x1024x4096, .bf16⟩
  | 109 => ⟨S4x8x192x4096, .bf16⟩
  | 110 => ⟨S4x8x4096x192, .bf16⟩
  | 111 => ⟨S4x8x128x4096, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_cst_16 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_17 : Ref sig .tc := ⟨.hbm, 132, rfl⟩
abbrev main_v102 : Ref sig .tc := ⟨.hbm, 133, rfl⟩
abbrev main_v103 : Ref sig .tc := ⟨.hbm, 134, rfl⟩
abbrev main_cst_18 : Ref sig .tc := ⟨.hbm, 135, rfl⟩
abbrev main_v104 : Ref sig .tc := ⟨.hbm, 136, rfl⟩
abbrev main_v105 : Ref sig .tc := ⟨.hbm, 137, rfl⟩
abbrev main_cst_19 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_20 : Ref sig .tc := ⟨.hbm, 164, rfl⟩
abbrev main_v131 : Ref sig .tc := ⟨.hbm, 165, rfl⟩
abbrev main_v132 : Ref sig .tc := ⟨.hbm, 166, rfl⟩
abbrev main_cst_21 : Ref sig .tc := ⟨.hbm, 167, rfl⟩
abbrev main_v133 : Ref sig .tc := ⟨.hbm, 168, rfl⟩
abbrev main_v134 : Ref sig .tc := ⟨.hbm, 169, rfl⟩
abbrev main_cst_22 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_23 : Ref sig .tc := ⟨.hbm, 181, rfl⟩
abbrev main_v145 : Ref sig .tc := ⟨.hbm, 182, rfl⟩
abbrev main_v146 : Ref sig .tc := ⟨.hbm, 183, rfl⟩
abbrev main_cst_24 : Ref sig .tc := ⟨.hbm, 184, rfl⟩
abbrev main_v147 : Ref sig .tc := ⟨.hbm, 185, rfl⟩
abbrev main_v148 : Ref sig .tc := ⟨.hbm, 186, rfl⟩
abbrev main_cst_25 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_26 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_call0_v0 : Ref sig .tc := ⟨.hbm, 212, rfl⟩
abbrev main_call0_v1 : Ref sig .tc := ⟨.hbm, 213, rfl⟩
abbrev main_call0_cst : Ref sig .tc := ⟨.hbm, 214, rfl⟩
abbrev main_call0_v2 : Ref sig .tc := ⟨.hbm, 215, rfl⟩
abbrev main_call0_v3 : Ref sig .tc := ⟨.hbm, 216, rfl⟩
abbrev main_call0_cst_0 : Ref sig .tc := ⟨.hbm, 217, rfl⟩
abbrev main_call0_v4 : Ref sig .tc := ⟨.hbm, 218, rfl⟩
abbrev main_call0_v5 : Ref sig .tc := ⟨.hbm, 219, rfl⟩
abbrev main_v172 : Ref sig .tc := ⟨.hbm, 220, rfl⟩
abbrev main_call1_v0 : Ref sig .tc := ⟨.hbm, 221, rfl⟩
abbrev main_call1_v1 : Ref sig .tc := ⟨.hbm, 222, rfl⟩
abbrev main_call1_cst : Ref sig .tc := ⟨.hbm, 223, rfl⟩
abbrev main_call1_v2 : Ref sig .tc := ⟨.hbm, 224, rfl⟩
abbrev main_call1_v3 : Ref sig .tc := ⟨.hbm, 225, rfl⟩
abbrev main_call1_cst_0 : Ref sig .tc := ⟨.hbm, 226, rfl⟩
abbrev main_call1_v4 : Ref sig .tc := ⟨.hbm, 227, rfl⟩
abbrev main_call1_v5 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩

abbrev nD : Nat := 1
abbrev τ : Topo := Topo.v7x

variable {F : FTy → Type} [FloatOps F]
-- ==== Kernel4.lean ====
abbrev S4x2048 : Shape := ⟨2, ![4, 2048]⟩
abbrev S1x2048x6144 : Shape := ⟨3, ![1, 2048, 6144]⟩
abbrev S1x6144 : Shape := ⟨2, ![1, 6144]⟩
abbrev S_ : Shape := ⟨0, ![]⟩
abbrev S8x2048 : Shape := ⟨2, ![8, 2048]⟩
abbrev S1 : Shape := ⟨1, ![1]⟩
abbrev S2048x6144 : Shape := ⟨2, ![2048, 6144]⟩
abbrev S6144 : Shape := ⟨1, ![6144]⟩
abbrev S8x6144 : Shape := ⟨2, ![8, 6144]⟩
abbrev S2048x768 : Shape := ⟨2, ![2048, 768]⟩
abbrev S1x768 : Shape := ⟨2, ![1, 768]⟩
abbrev S8x768 : Shape := ⟨2, ![8, 768]⟩
abbrev S4x6144 : Shape := ⟨2, ![4, 6144]⟩

abbrev nBuf : Space → Nat
  | .hbm => 13
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x6144, .f32⟩
  | .hbm, ⟨2, _⟩ => ⟨S1x6144, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2048x6144, .f32⟩
  | .hbm, ⟨9, _⟩ => ⟨S6144, .f32⟩
  | .hbm, ⟨10, _⟩ => ⟨S1x6144, .f32⟩
  | .hbm, ⟨11, _⟩ => ⟨S8x6144, .f32⟩
  | .hbm, ⟨12, _⟩ => ⟨S4x6144, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048 : Shape := ⟨2, ![4, 2048]⟩
abbrev S1x2048x6144 : Shape := ⟨3, ![1, 2048, 6144]⟩
abbrev S1x6144 : Shape := ⟨2, ![1, 6144]⟩
abbrev S_ : Shape := ⟨0, ![]⟩
abbrev S2048x6144 : Shape := ⟨2, ![2048, 6144]⟩
abbrev S4x6144 : Shape := ⟨2, ![4, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x6144, .f32⟩
  | .hbm, ⟨2, _⟩ => ⟨S1x6144, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S2048x6144, .f32⟩
  | .hbm, ⟨13, _⟩ => ⟨S4x6144, .f32⟩
  | .hbm, ⟨14, _⟩ => ⟨S6144, .f32⟩
  | .hbm, ⟨15, _⟩ => ⟨S1x6144, .f32⟩
  | .hbm, ⟨16, _⟩ => ⟨S4x6144, .f32⟩
  | .hbm, ⟨17, _⟩ => ⟨S4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Att.Struct.lean ====
/- The attention kernel's body written over its units of work: one unit is one head's product of a chunk of 256 keys
   with the query tile, and its use (mask, exponential, row sums, product with the values, accumulation). -/
module

public import proofs.«01_k».proof.Proof.Gen.KernelIdeal
public import Idealize.ShloMosaic.Lib.Pipeline.Regions

@[expose] public section

set_option maxRecDepth 16384

noncomputable section

namespace Cert.KernelIdeal.Att

open Idealize.ShloMosaic Idealize.ShloMosaic.TcCoe
open Idealize.SL Idealize.SL.Sem
open Facts₀ Facts

variable {F : FTy → Type} [FloatOps F]

/-- The first key of half `c` of the 512-key block numbered `j`, as the kernel computes it. -/
def kw (j : BitVec 32) (c : Nat) : BitVec 32 :=
  Scalar.indexCast (Scalar.addi (Scalar.muli j 512#32) (BitVec.ofNat 32 (256 * c)))

/-- A chunk of 256 keys: its block's number, the half, and that it lies inside the 4096 keys. -/
structure Chunk where
  /-- the 512-key block -/
  j : BitVec 32
  /-- which half of it -/
  c : Nat
  /-- the chunk is in range -/
  hj : (kw j c).toNat + 256 ≤ 4096

/-- How a unit treats its query tile. -/
inductive Kind
  /-- all 512 queries, no mask -/
  | plain
  /-- all 512 queries, no mask, the accumulator started here -/
  | plain0
  /-- all 512 queries, masked -/
  | diag
  /-- all 512 queries, masked, the accumulator started here -/
  | diag0
  /-- the last 256 queries, masked -/
  | late

/-- One unit: a chunk of keys, a head and the treatment. -/
structure Unt where
  /-- the keys -/
  ch : Chunk
  /-- the head -/
  hh : Fin 4
  /-- the treatment -/
  kd : Kind

/-- A unit's scores. -/
inductive Sc (F : FTy → Type)
  /-- over all 512 queries -/
  | full (s : FVec F S256x512 .f32)
  /-- over the last 256 queries -/
  | half (s : FVec F S256x256 .f32)

/-- A row of 512 values for each of the four heads. -/
abbrev Row4 (F : FTy → Type) : Type := FVec F S1x512 .f32 × FVec F S1x512 .f32 × FVec F S1x512 .f32 × FVec F S1x512 .f32

/-- Head `hh`'s row. -/
def Row4.get (l : Row4 F) (hh : Fin 4) : FVec F S1x512 .f32 :=
  match hh with
  | 0 => l.1 | 1 => l.2.1 | 2 => l.2.2.1 | 3 => l.2.2.2

/-- Head `hh`'s row replaced. -/
def Row4.set (l : Row4 F) (hh : Fin 4) (v : FVec F S1x512 .f32) : Row4 F :=
  match hh with
  | 0 => (v, l.2.1, l.2.2.1, l.2.2.2) | 1 => (l.1, v, l.2.2.1, l.2.2.2)
  | 2 => (l.1, l.2.1, v, l.2.2.2) | 3 => (l.1, l.2.1, l.2.2.1, v)

theorem inbK (ch : Chunk) (hh : Fin 4) :
    ∀ a, (![0, hh.val, (kw ch.j ch.c).toNat, 0] : Fin 4 → Nat) a + S1x1x256x256.size a ≤ S1x4x4096x256.size a := by
  have := ch.hj; have := hh.isLt
  intro a; fin_cases a <;> simp <;> omega
theorem inbV (ch : Chunk) (hh : Fin 4) :
    ∀ a, (![0, hh.val, 0, (kw ch.j ch.c).toNat] : Fin 4 → Nat) a + S1x1x128x256.size a ≤ S1x4x128x4096.size a := by
  have := ch.hj; have := hh.isLt
  intro a; fin_cases a <;> simp <;> omega
theorem inbQ (hh : Fin 4) : ∀ a, (![0, hh.val, 0, 0] : Fin 4 → Nat) a + S1x1x256x512.size a ≤ S1x4x256x512.size a := by
  have := hh.isLt
  intro a; fin_cases a <;> simp <;> omega
theorem inbQ' (hh : Fin 4) : ∀ a, (![0, hh.val, 0, 256] : Fin 4 → Nat) a + S1x1x256x256.size a ≤ S1x4x256x512.size a := by
  have := hh.isLt
  intro a; fin_cases a <;> simp <;> omega
theorem inbA (hh : Fin 4) : ∀ a, (![hh.val, 0, 0] : Fin 3 → Nat) a + S1x128x512.size a ≤ S4x128x512.size a := by
  have := hh.isLt
  intro a; fin_cases a <;> simp <;> omega
theorem inbA' (hh : Fin 4) : ∀ a, (![hh.val, 0, 256] : Fin 3 → Nat) a + S1x128x256.size a ≤ S4x128x512.size a := by
  have := hh.isLt
  intro a; fin_cases a <;> simp <;> omega

/-- The keys of chunk `ch` for head `hh`. -/
abbrev rK (ch : Chunk) (hh : Fin 4) : Rect S1x4x4096x256 := Rect.unit ![0, hh.val, (kw ch.j ch.c).toNat, 0] S1x1x256x256.size (inbK ch hh)
/-- The values of chunk `ch` for head `hh`. -/
abbrev rV (ch : Chunk) (hh : Fin 4) : Rect S1x4x128x4096 := Rect.unit ![0, hh.val, 0, (kw ch.j ch.c).toNat] S1x1x128x256.size (inbV ch hh)
/-- Head `hh`'s queries. -/
abbrev rQ (hh : Fin 4) : Rect S1x4x256x512 := Rect.unit ![0, hh.val, 0, 0] S1x1x256x512.size (inbQ hh)
/-- Head `hh`'s last 256 queries. -/
abbrev rQ' (hh : Fin 4) : Rect S1x4x256x512 := Rect.unit ![0, hh.val, 0, 256] S1x1x256x256.size (inbQ' hh)
/-- Head `hh`'s accumulator. -/
abbrev rA (hh : Fin 4) : Rect S4x128x512 := Rect.unit ![hh.val, 0, 0] S1x128x512.size (inbA hh)
/-- Head `hh`'s accumulator, the last 256 queries. -/
abbrev rA' (hh : Fin 4) : Rect S4x128x512 := Rect.unit ![hh.val, 0, 256] S1x128x256.size (inbA' hh)

/-! ## The values a unit computes -/

/-- Scores over all the queries. -/
def scF (k : Vec F S1x1x256x256 .bf16) (q : Vec F S1x1x256x512 .bf16) : FVec F S256x512 .f32 :=
  matmul dot_S256x256_S256x512_S256x512_1_0_0_1_n_n none (shapeCast S256x256 k shapeCasts_S1x1x256x256_S256x256)
    (shapeCast S256x512 q shapeCasts_S1x1x256x512_S256x512) (constant S256x512 .f32 0x00000000#32)
/-- Scores over the last 256 queries. -/
def scH (k : Vec F S1x1x256x256 .bf16) (q : Vec F S1x1x256x256 .bf16) : FVec F S256x256 .f32 :=
  matmul dot_S256x256_S256x256_S256x256_1_0_0_1_n_n none (shapeCast S256x256 k shapeCasts_S1x1x256x256_S256x256)
    (shapeCast S256x256 q shapeCasts_S1x1x256x256_S256x256) (constant S256x256 .f32 0x00000000#32)
/-- Masked scores, the first half of a diagonal block. -/
def mkF (s : FVec F S256x512 .f32) : FVec F S256x512 .f32 :=
  select (cmpi .sle (addi (iota .tc S256x512 32 [0] iota_S256x512_d0_w32) (broadcast S256x512 (0#32 : BitVec 32)))
    (addi (iota .tc S256x512 32 [1] iota_S256x512_d1_w32) (broadcast S256x512 (0#32 : BitVec 32)))) s
    (broadcast S256x512 (Scalar.ofBits .f32 0xFF800000#32 : F .f32))
/-- Masked scores, the second half of a diagonal block. -/
def mkH (s : FVec F S256x256 .f32) : FVec F S256x256 .f32 :=
  select (cmpi .sle (addi (iota .tc S256x256 32 [0] iota_S256x256_d0_w32) (broadcast S256x256 (256#32 : BitVec 32)))
    (addi (iota .tc S256x256 32 [1] iota_S256x256_d1_w32) (broadcast S256x256 (256#32 : BitVec 32)))) s
    (broadcast S256x256 (Scalar.ofBits .f32 0xFF800000#32 : F .f32))
/-- The row sums with a chunk's added. -/
def lF (l : FVec F S1x512 .f32) (p : FVec F S256x512 .f32) : FVec F S1x512 .f32 :=
  addf l (shapeCast S1x512 (multiReduction .add [0] S512 p 0x00000000#32 reduces_S256x512_S512 (.inl rfl) rfl) shapeCasts_S512_S1x512)
/-- The row sums with a chunk's added over the last 256 queries. -/
def lH (l : FVec F S1x512 .f32) (p : FVec F S256x256 .f32) : FVec F S1x512 .f32 :=
  concatenate S1x512 1 [⟨S1x256, extractStridedSlice S1x256 ![0, 0] l slices_S1x512_o0_0_S1x256⟩,
    ⟨S1x256, addf (extractStridedSlice S1x256 ![0, 256] l slices_S1x512_o0_256_S1x256)
      (shapeCast S1x256 (multiReduction .add [0] S256 p 0x00000000#32 reduces_S256x256_S256 (.inl rfl) rfl) shapeCasts_S256_S1x256)⟩]
    concatenates_S1x256_S1x256_S1x512_d1
/-- The values times the weights. -/
def pvF (v : Vec F S1x1x128x256 .bf16) (p : FVec F S256x512 .f32) : FVec F S128x512 .f32 :=
  matmul dot_S128x256_S256x512_S128x512_1_0_0_1_n_n none (shapeCast S128x256 v shapeCasts_S1x1x128x256_S128x256)
    (truncf .bf16 p bitsLt_bf16_f32) (constant S128x512 .f32 0x00000000#32)
/-- The values times the weights over the last 256 queries. -/
def pvH (v : Vec F S1x1x128x256 .bf16) (p : FVec F S256x256 .f32) : FVec F S128x256 .f32 :=
  matmul dot_S128x256_S256x256_S128x256_1_0_0_1_n_n none (shapeCast S128x256 v shapeCasts_S1x1x128x256_S128x256)
    (truncf .bf16 p bitsLt_bf16_f32) (constant S128x256 .f32 0x00000000#32)
/-- A started accumulator. -/
def aS (o : FVec F S128x512 .f32) : FVec F S1x128x512 .f32 := shapeCast S1x128x512 o shapeCasts_S128x512_S1x128x512
/-- The accumulator with a product added. -/
def aF (a : Vec F S1x128x512 .f32) (o : FVec F S128x512 .f32) : FVec F S1x128x512 .f32 :=
  shapeCast S1x128x512 (addf (shapeCast S128x512 a shapeCasts_S1x128x512_S128x512) o) shapeCasts_S128x512_S1x128x512
/-- The accumulator with a product added over the last 256 queries. -/
def aH (a : Vec F S1x128x256 .f32) (o : FVec F S128x256 .f32) : FVec F S1x128x256 .f32 :=
  shapeCast S1x128x256 (addf (shapeCast S128x256 a shapeCasts_S1x128x256_S128x256) o) shapeCasts_S128x256_S1x128x256
/-- The result of a head: accumulator over row sums, times the gate. -/
def outV (a : Vec F S1x128x512 .f32) (l : FVec F S1x512 .f32) (g : Vec F S1x128x512 .bf16) : FVec F S1x128x512 .bf16 :=
  shapeCast S1x128x512 (truncf .bf16 (mulf (divf (shapeCast S128x512 a shapeCasts_S1x128x512_S128x512)
      (broadcastTo S128x512 l broadcasts_S1x512_S128x512))
    (extf .f32 (shapeCast S128x512 g shapeCasts_S1x128x512_S128x512) bitsLt_bf16_f32)) bitsLt_bf16_f32) shapeCasts_S128x512_S1x128x512

/-! ## The programs -/

/-- A body program. -/
abbrev Pr (F : FTy → Type) [FloatOps F] := Prog (TpuEff nD τ sig (Elt F) Λ₀ .tc)

section
variable (arg3 : Memref sig .tc .vmem S1x4x256x512 .bf16) (arg4 : Memref sig .tc .vmem S1x4x4096x256 .bf16)
  (arg5 : Memref sig .tc .vmem S1x4x128x4096 .bf16) (arg8 : Memref sig .tc .vmem S4x128x512 .f32)

/-- Compute a unit's scores. -/
def scoreP (u : Unt) : Pr F (Sc F) := do
  let k : Vec F S1x1x256x256 .bf16 ← Prog.lift (.load arg4 (rK u.ch u.hh).toLoadRect (View.loadsAt_vmem h_S1x1x256x256))
  match u.kd with
  | .late => do
    let q : Vec F S1x1x256x256 .bf16 ← Prog.lift (.load arg3 (rQ' u.hh).toLoadRect (View.loadsAt_vmem h_S1x1x256x256))
    pure (.half (scH k q))
  | _ => do
    let q : Vec F S1x1x256x512 .bf16 ← Prog.lift (.load arg3 (rQ u.hh).toLoadRect (View.loadsAt_vmem h_S1x1x256x512))
    pure (.full (scF k q))

/-- Use weights `p` over all the queries, adding to the accumulator. -/
def addP (hh : Fin 4) (p : FVec F S256x512 .f32) (v : Vec F S1x1x128x256 .bf16) (l : Row4 F) : Pr F (Row4 F) := do
  let a : Vec F S1x128x512 .f32 ← Prog.lift (.load arg8 (rA hh).toLoadRect (View.loadsAt_vmem h_S1x128x512))
  let _a : Vec F S1x128x512 .f32 ← Prog.lift (.load arg8 (rA hh).toLoadRect (View.loadsAt_vmem h_S1x128x512))
  Prog.lift (.store arg8 (rA hh) (aF a (pvF v p)) Finset.univ (View.stores_vmem_bits_univ h_S1x128x512 rfl) (.inl rfl))
  pure (l.set hh (lF (l.get hh) p))

/-- Use weights `p` over all the queries, starting the accumulator. -/
def startP (hh : Fin 4) (p : FVec F S256x512 .f32) (v : Vec F S1x1x128x256 .bf16) (l : Row4 F) : Pr F (Row4 F) := do
  let _a : Vec F S1x128x512 .f32 ← Prog.lift (.load arg8 (rA hh).toLoadRect (View.loadsAt_vmem h_S1x128x512))
  Prog.lift (.store arg8 (rA hh) (aS (pvF v p)) Finset.univ (View.stores_vmem_bits_univ h_S1x128x512 rfl) (.inl rfl))
  pure (l.set hh (lF (l.get hh) p))

/-- Use weights `p` over the last 256 queries. -/
def lateP (hh : Fin 4) (p : FVec F S256x256 .f32) (v : Vec F S1x1x128x256 .bf16) (l : Row4 F) : Pr F (Row4 F) := do
  let a : Vec F S1x128x256 .f32 ← Prog.lift (.load arg8 (rA' hh).toLoadRect (View.loadsAt_vmem h_S1x128x256))
  let _a : Vec F S1x128x256 .f32 ← Prog.lift (.load arg8 (rA' hh).toLoadRect (View.loadsAt_vmem h_S1x128x256))
  Prog.lift (.store arg8 (rA' hh) (aH a (pvH v p)) Finset.univ (View.stores_vmem_bits_univ h_S1x128x256 rfl) (.inl rfl))
  pure (l.set hh (lH (l.get hh) p))

/-- Use a unit's scores. -/
def accP (u : Unt) (s : Sc F) (l : Row4 F) : Pr F (Row4 F) := do
  let v : Vec F S1x1x128x256 .bf16 ← Prog.lift (.load arg5 (rV u.ch u.hh).toLoadRect (View.loadsAt_vmem h_S1x1x128x256))
  match s with
  | .half s => lateP arg8 u.hh (exp2 (mkH s)) v l
  | .full s => match u.kd with
    | .plain => addP arg8 u.hh (exp2 s) v l
    | .plain0 => startP arg8 u.hh (exp2 s) v l
    | .diag => addP arg8 u.hh (exp2 (mkF s)) v l
    | .diag0 => startP arg8 u.hh (exp2 (mkF s)) v l
    | .late => pure l

/-- Use the scores waiting in the queue, in order. -/
def drainP : List (Unt × Sc F) → Row4 F → Pr F (Row4 F)
  | [], l => pure l
  | (u, s) :: q, l => do
    let l' ← accP arg5 arg8 u s l
    drainP q l'

/-- Compute the scores of `us`, each before the oldest waiting ones are used. -/
def runP : List Unt → List (Unt × Sc F) → Row4 F → Pr F (Row4 F)
  | [], q, l => drainP arg5 arg8 q l
  | u :: us, q, l => match q with
    | [] => pure l
    | (v, t) :: q' => do
      let s ← scoreP arg3 arg4 u
      let l' ← accP arg5 arg8 v t l
      runP us (q' ++ [(u, s)]) l'

/-- Run a list of units with the scores three units ahead. -/
def unitsP (us : List Unt) (l : Row4 F) : Pr F (Row4 F) :=
  match us with
  | u0 :: u1 :: u2 :: us => do
    let s0 ← scoreP arg3 arg4 u0
    let s1 ← scoreP arg3 arg4 u1
    let s2 ← scoreP arg3 arg4 u2
    runP arg3 arg4 arg5 arg8 us [(u0, s0), (u1, s1), (u2, s2)] l
  | _ => pure l

end

/-- One chunk for the four heads. -/
def heads (ch : Chunk) (kd : Kind) : List Unt := [⟨ch, 0, kd⟩, ⟨ch, 1, kd⟩, ⟨ch, 2, kd⟩, ⟨ch, 3, kd⟩]

/-- The halves of block `j`. -/
def blk (j : BitVec 32) (h : ∀ c < 2, (kw j c).toNat + 256 ≤ 4096) (k0 k1 : Kind) : List Unt :=
  heads ⟨j, 0, h 0 (by decide)⟩ k0 ++ heads ⟨j, 1, h 1 (by decide)⟩ k1

/-- The number of the block `t` places after the `r`-th block before the diagonal one. -/
def wj (i : grid0.Coords) (r t : Nat) : BitVec 32 := Scalar.addi (Scalar.subi (BitVec.ofNat 32 (i 2).val) (BitVec.ofNat 32 r)) (BitVec.ofNat 32 t)

/-- The tail's blocks are in range. -/
def Ok (i : grid0.Coords) (r : Nat) : Prop := ∀ t ≤ r, ∀ c < 2, (kw (wj i r t) c).toNat + 256 ≤ 4096

/-- The units of the blocks up to the diagonal one when none precede it. -/
def tail0 (i : grid0.Coords) (h : Ok i 0) : List Unt := blk (wj i 0 0) (h 0 (by decide)) .diag0 .late
/-- The units when one block precedes it. -/
def tail1 (i : grid0.Coords) (h : Ok i 1) : List Unt :=
  blk (wj i 1 0) (h 0 (by decide)) .plain0 .plain ++ blk (wj i 1 1) (h 1 (by decide)) .diag .late
/-- The units when two blocks precede it. -/
def tail2 (i : grid0.Coords) (h : Ok i 2) : List Unt :=
  blk (wj i 2 0) (h 0 (by decide)) .plain0 .plain ++ (blk (wj i 2 1) (h 1 (by decide)) .plain .plain
    ++ blk (wj i 2 2) (h 2 (by decide)) .diag .late)
/-- The units when three blocks precede it. -/
def tail3 (i : grid0.Coords) (h : Ok i 3) : List Unt :=
  blk (wj i 3 0) (h 0 (by decide)) .plain0 .plain ++ (blk (wj i 3 1) (h 1 (by decide)) .plain .plain
    ++ (blk (wj i 3 2) (h 2 (by decide)) .plain .plain ++ blk (wj i 3 3) (h 3 (by decide)) .diag .late))

/-- The number of block `a` of a trip at counter `iv`. -/
def wl (iv : BitVec 32) (a : Nat) : BitVec 32 := Scalar.addi (Scalar.muli 4#32 iv) (BitVec.ofNat 32 a)

/-- The trip's blocks are in range. -/
def OkL (iv : BitVec 32) : Prop := ∀ a < 4, ∀ c < 2, (kw (wl iv a) c).toNat + 256 ≤ 4096

/-- The units of a trip of the loop: four blocks below the diagonal. -/
def trip (iv : BitVec 32) (h : OkL iv) : List Unt :=
  blk (wl iv 0) (h 0 (by decide)) .plain .plain ++ (blk (wl iv 1) (h 1 (by decide)) .plain .plain
    ++ (blk (wl iv 2) (h 2 (by decide)) .plain .plain ++ blk (wl iv 3) (h 3 (by decide)) .plain .plain))

/-! ## The body -/

theorem okTail0 (i : grid0.Coords) : Ok i 0 := by
  have h : ∀ x : Fin 8, ∀ t ≤ 0, ∀ c < 2, (kw (Scalar.addi (Scalar.subi (BitVec.ofNat 32 x.val) (BitVec.ofNat 32 0)) (BitVec.ofNat 32 t)) c).toNat + 256 ≤ 4096 := by decide +kernel
  exact h (i 2)
theorem okTail1 (i : grid0.Coords) (h : 1 ≤ (i 2).val) : Ok i 1 := by
  have h' : ∀ x : Fin 8, 1 ≤ x.val → ∀ t ≤ 1, ∀ c < 2, (kw (Scalar.addi (Scalar.subi (BitVec.ofNat 32 x.val) (BitVec.ofNat 32 1)) (BitVec.ofNat 32 t)) c).toNat + 256 ≤ 4096 := by decide +kernel
  exact h' (i 2) h
theorem okTail2 (i : grid0.Coords) (h : 2 ≤ (i 2).val) : Ok i 2 := by
  have h' : ∀ x : Fin 8, 2 ≤ x.val → ∀ t ≤ 2, ∀ c < 2, (kw (Scalar.addi (Scalar.subi (BitVec.ofNat 32 x.val) (BitVec.ofNat 32 2)) (BitVec.ofNat 32 t)) c).toNat + 256 ≤ 4096 := by decide +kernel
  exact h' (i 2) h
theorem okTail3 (i : grid0.Coords) (h : 3 ≤ (i 2).val) : Ok i 3 := by
  have h' : ∀ x : Fin 8, 3 ≤ x.val → ∀ t ≤ 3, ∀ c < 2, (kw (Scalar.addi (Scalar.subi (BitVec.ofNat 32 x.val) (BitVec.ofNat 32 3)) (BitVec.ofNat 32 t)) c).toNat + 256 ≤ 4096 := by decide +kernel
  exact h' (i 2) h

/-- The first condition fails exactly when the tile's number is a multiple of four, and so on: the conditions of
    the three nested branches in terms of the tile's number. -/
theorem cond1_iff : ∀ i : grid0.Coords, k0_cond1 i = 1#1 ↔ (i 2).val % 4 ≠ 0 := by decide +kernel
theorem cond2_iff : ∀ i : grid0.Coords, k0_cond1 i = 1#1 → (k0_cond2 i = 1#1 ↔ (i 2).val % 4 ≠ 1) := by decide +kernel
theorem cond3_iff : ∀ i : grid0.Coords, k0_cond1 i = 1#1 → k0_cond2 i = 1#1 → (k0_cond3 i = 1#1 ↔ (i 2).val % 4 = 3) := by decide +kernel

/-- The first loop runs once per four tiles before this one, from zero. -/
theorem trips1 : ∀ i : grid0.Coords, (k0_t1_loop i).trips = (i 2).val / 4 := by decide +kernel
/-- The second loop never runs. -/
theorem trips2 : ∀ i : grid0.Coords, (k0_t2_loop i).trips = 0 := by decide +kernel

theorem okLoop1 : ∀ i : grid0.Coords, ∀ t : Fin (k0_t1_loop i).trips, OkL (Scf.iv 0#32 1#32 t) := by
  have h : ∀ x : Fin 2, x.val < 1 → OkL (Scf.iv 0#32 1#32 x) := by unfold OkL; decide +kernel
  intro i t
  have ht : t.val < (i 2).val / 4 := lt_of_lt_of_eq t.isLt (trips1 i)
  have h8 : (i 2).val < 8 := (i 2).isLt
  have := h ⟨t.val, by omega⟩ (by show t.val < 1; omega)
  exact this
theorem okLoop2 (i : grid0.Coords) (t : Fin (k0_t2_loop i).trips) (w : BitVec 32) : OkL w := by
  exact absurd (lt_of_lt_of_eq t.isLt (trips2 i)) (Nat.not_lt_zero _)

section
variable (i : grid0.Coords)
  (arg3 : Memref sig .tc .vmem S1x4x256x512 .bf16) (harg3 : arg3.IsWhole) (arg4 : Memref sig .tc .vmem S1x4x4096x256 .bf16) (harg4 : arg4.IsWhole)
  (arg5 : Memref sig .tc .vmem S1x4x128x4096 .bf16) (harg5 : arg5.IsWhole) (arg6 : Memref sig .tc .vmem S1x512x512 .bf16) (harg6 : arg6.IsWhole)
  (arg7 : Memref sig .tc .vmem S1x512x512 .bf16) (harg7 : arg7.IsWhole) (arg8 : Memref sig .tc .vmem S4x128x512 .f32) (harg8 : arg8.IsWhole)

/-- The diagonal block and the blocks since the last multiple of four, then `K`. -/
def tailP {β : Type} (l : Row4 F) (K : Row4 F → Pr F β) : Pr F β :=
  if h1 : k0_cond1 i = 1#1 then
    if h2 : k0_cond2 i = 1#1 then
      if h3 : k0_cond3 i = 1#1 then unitsP arg3 arg4 arg5 arg8 (tail3 i (okTail3 i (by have := (cond3_iff i h1 h2).1 h3; omega))) l >>= K
      else unitsP arg3 arg4 arg5 arg8 (tail2 i (okTail2 i (by have := (cond1_iff i).1 h1; have := (cond2_iff i h1).1 h2; omega))) l >>= K
    else unitsP arg3 arg4 arg5 arg8 (tail1 i (okTail1 i (by have := (cond1_iff i).1 h1; omega))) l >>= K
  else unitsP arg3 arg4 arg5 arg8 (tail0 i (okTail0 i)) l >>= K

/-- The four-block trips. -/
def loop1P (l : Row4 F) : Pr F (Row4 F) :=
  Scf.Loop.for (k0_t1_loop i) (k0_t1_ok i) l fun t l => unitsP arg3 arg4 arg5 arg8 (trip (Scf.iv 0#32 1#32 t) (okLoop1 i t)) l
/-- The trips left over. -/
def loop2P (l : Row4 F) : Pr F (Row4 F) :=
  Scf.Loop.for (k0_t2_loop i) (k0_t2_ok i) l fun t l => unitsP arg3 arg4 arg5 arg8 (trip (Scf.iv (k0_t2_loop i).lb 1#32 t) (okLoop2 i t _)) l

/-- No row sums yet. -/
def zero4 : Row4 F :=
  (broadcast S1x512 (Scalar.ofBits .f32 0x00000000#32 : F .f32), broadcast S1x512 (Scalar.ofBits .f32 0x00000000#32 : F .f32),
   broadcast S1x512 (Scalar.ofBits .f32 0x00000000#32 : F .f32), broadcast S1x512 (Scalar.ofBits .f32 0x00000000#32 : F .f32))

/-- The rectangle of a head's rows in a result or gate block. -/
theorem inbO (hh : Fin 4) : ∀ a, (![0, 128 * hh.val, 0] : Fin 3 → Nat) a + S1x128x512.size a ≤ S1x512x512.size a := by
  have := hh.isLt
  intro a; fin_cases a <;> simp <;> omega
/-- Head `hh`'s rows of a result or gate block. -/
abbrev rO (hh : Fin 4) : Rect S1x512x512 := Rect.unit ![0, 128 * hh.val, 0] S1x128x512.size (inbO hh)

/-- Write head `hh`'s result. -/
def outP (hh : Fin 4) (hs : (arg7.access (rO hh)).Stores Finset.univ) (l : FVec F S1x512 .f32) : Pr F PUnit := do
  let a : Vec F S1x128x512 .f32 ← Prog.lift (.load arg8 (rA hh).toLoadRect (View.loadsAt_vmem h_S1x128x512))
  let g : Vec F S1x128x512 .bf16 ← Prog.lift (.load arg6 (rO hh).toLoadRect (View.loadsAt_vmem h_S1x128x512))
  let _o : Vec F S1x128x512 .bf16 ← Prog.lift (.load arg7 (rO hh).toLoadRect (View.loadsAt_vmem h_S1x128x512))
  Prog.lift (.store arg7 (rO hh) (outV a l g) Finset.univ hs (.inl rfl))

/-- The four heads' results. -/
def outsP (hs : ∀ hh, (arg7.access (rO hh)).Stores Finset.univ) (l : Row4 F) : Pr F PUnit := do
  outP arg6 arg7 arg8 0 (hs 0) l.1
  outP arg6 arg7 arg8 1 (hs 1) l.2.1
  outP arg6 arg7 arg8 2 (hs 2) l.2.2.1
  outP arg6 arg7 arg8 3 (hs 3) l.2.2.2

/-- The whole body. -/
def bodyP (hs : ∀ hh, (arg7.access (rO hh)).Stores Finset.univ) : Pr F PUnit :=
  tailP i arg3 arg4 arg5 arg8 zero4 fun l1 => do
    let l2 ← loop1P i arg3 arg4 arg5 arg8 l1
    let l3 ← loop2P i arg3 arg4 arg5 arg8 l2
    outsP arg6 arg7 arg8 hs l3

/-- The printed middle of the body is the structured one. -/
theorem part130_eq (l : Row4 F) :
   k0_part130 i arg3 harg3 arg4 harg4 arg5 harg5 arg6 harg6 arg7 harg7 arg8 harg8 (BitVec.ofNat 32 (i 2).val) l.1 l.2.1 l.2.2.1 l.2.2.2
     (wj i 0 0) (wj i 1 0) (wj i 1 1) (wj i 2 0) (wj i 2 1) (wj i 2 2) (wj i 3 0) (wj i 3 1) (wj i 3 2) (wj i 3 3) 4#32
   = tailP i arg3 arg4 arg5 arg8 l (fun l1 => (do
      let l2 ← loop1P i arg3 arg4 arg5 arg8 l1
      let l3 ← loop2P i arg3 arg4 arg5 arg8 l2
      pure ⟨l3.1, l3.2.1, l3.2.2.1, l3.2.2.2⟩)) := by
  chain_rfl

theorem tailP_bind {β γ : Type} (l : Row4 F) (K : Row4 F → Pr F β) (G : β → Pr F γ) :
    tailP i arg3 arg4 arg5 arg8 l K >>= G = tailP i arg3 arg4 arg5 arg8 l fun l1 => K l1 >>= G := by
  unfold tailP
  split
  · split
    · split <;> exact bind_assoc _ _ _
    · exact bind_assoc _ _ _
  · exact bind_assoc _ _ _

include harg7 in
theorem storesO (hh : Fin 4) : (arg7.access (rO hh)).Stores Finset.univ := by
  have e : hh = 0 ∨ hh = 1 ∨ hh = 2 ∨ hh = 3 := by omega
  rcases e with rfl | rfl | rfl | rfl
  · exact View.stores_vmem h_S1x128x512 (harg7.storeExact_slice rfl _ packedbf16_S1x512x512_S1x128x512_0_0_0) (fun _ => rfl)
  · exact View.stores_vmem h_S1x128x512 (harg7.storeExact_slice rfl _ packedbf16_S1x512x512_S1x128x512_0_128_0) (fun _ => rfl)
  · exact View.stores_vmem h_S1x128x512 (harg7.storeExact_slice rfl _ packedbf16_S1x512x512_S1x128x512_0_256_0) (fun _ => rfl)
  · exact View.stores_vmem h_S1x128x512 (harg7.storeExact_slice rfl _ packedbf16_S1x512x512_S1x128x512_0_384_0) (fun _ => rfl)

/-- The printed body is the structured one. -/
theorem body_eq :
   cc0_mla_attention (F := F) i arg3 harg3 arg4 harg4 arg5 harg5 arg6 harg6 arg7 harg7 arg8 harg8
   = bodyP i arg3 arg4 arg5 arg6 arg7 arg8 (storesO arg7 harg7) := by
  unfold bodyP
  have h := part130_eq (F := F) i arg3 harg3 arg4 harg4 arg5 harg5 arg6 harg6 arg7 harg7 arg8 harg8 zero4
  refine Eq.trans (b := k0_part130 i arg3 harg3 arg4 harg4 arg5 harg5 arg6 harg6 arg7 harg7 arg8 harg8 (BitVec.ofNat 32 (i 2).val) zero4.1 zero4.2.1 zero4.2.2.1 zero4.2.2.2
     (wj i 0 0) (wj i 1 0) (wj i 1 1) (wj i 2 0) (wj i 2 1) (wj i 2 2) (wj i 3 0) (wj i 3 1) (wj i 3 2) (wj i 3 3) 4#32 >>= fun x =>
       outsP arg6 arg7 arg8 (storesO arg7 harg7) (x.1, x.2.1, x.2.2.1, x.2.2.2)) ?_ ?_
  · chain_rfl
  · rw [h, tailP_bind]
    refine congrArg (tailP i arg3 arg4 arg5 arg8 zero4) (funext fun l1 => ?_)
    rw [bind_assoc]
    refine congrArg (loop1P i arg3 arg4 arg5 arg8 l1 >>= ·) (funext fun l2 => ?_)
    rw [bind_assoc]
    refine congrArg (loop2P i arg3 arg4 arg5 arg8 l2 >>= ·) (funext fun l3 => ?_)
    exact pure_bind _ _
end

end Cert.KernelIdeal.Att

end
-- ==== Proof.Att.Units.lean ====
/- What running a list of units does: the carried row sums and the accumulator's contents as functions of the blocks
   of queries, keys and values read. -/
module

public import proofs.«01_k».proof.Proof.Att.Struct
public import Idealize.ShloMosaic.Lib.Tactic
public import Idealize.ShloMosaic.Lib.Pipeline.Kit
public import Idealize.ShloMosaic.Lib.Pipeline.FrameBody
public import Idealize.ShloMosaic.Lib.Ring

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The values -/

/-- The accumulators of the four heads. -/
abbrev Acc4 (F : FTy → Type) : Type := Fin 4 → FVec F S1x128x512 .f32

/-- The carried row sums and the accumulators. -/
abbrev St (F : FTy → Type) : Type := Row4 F × Acc4 F

/-- The last 256 queries of an accumulator. -/
def hi (a : FVec F S1x128x512 .f32) : FVec F S1x128x256 .f32 :=
  fun j => a fun | ⟨0, _⟩ => j 0 | ⟨1, _⟩ => j 1 | ⟨2, _⟩ => ⟨256 + (j 2).val, by have : (j 2).val < 256 := (j 2).isLt; show _ < 512; omega⟩

/-- A position among the last 256 queries. -/
def loI (j : S1x128x512.Idx) (h : 256 ≤ (j 2).val) : S1x128x256.Idx :=
  fun | ⟨0, _⟩ => j 0 | ⟨1, _⟩ => j 1 | ⟨2, _⟩ => ⟨(j 2).val - 256, by have : (j 2).val < 512 := (j 2).isLt; show _ < 256; omega⟩

/-- An accumulator with its last 256 queries replaced. -/
def ovl (a : FVec F S1x128x512 .f32) (w : FVec F S1x128x256 .f32) : FVec F S1x128x512 .f32 :=
  fun j => if h : 256 ≤ (j 2).val then w (loI j h) else a j

section
variable (X3 : Vec F S1x4x256x512 .bf16) (X4 : Vec F S1x4x4096x256 .bf16) (X5 : Vec F S1x4x128x4096 .bf16)

/-- A unit's scores, from the blocks. -/
def scV (u : Unt) : Sc F :=
  match u.kd with
  | .late => .half (scH (View.ld X4 (rK u.ch u.hh)) (View.ld X3 (rQ' u.hh)))
  | _ => .full (scF (View.ld X4 (rK u.ch u.hh)) (View.ld X3 (rQ u.hh)))

/-- Weights over all the queries added in. -/
def addV (hh : Fin 4) (p : FVec F S256x512 .f32) (v : Vec F S1x1x128x256 .bf16) (st : St F) : St F :=
  (st.1.set hh (lF (st.1.get hh) p), Function.update st.2 hh (aF (st.2 hh) (pvF v p)))
/-- Weights over all the queries, the accumulator started. -/
def startV (hh : Fin 4) (p : FVec F S256x512 .f32) (v : Vec F S1x1x128x256 .bf16) (st : St F) : St F :=
  (st.1.set hh (lF (st.1.get hh) p), Function.update st.2 hh (aS (pvF v p)))
/-- Weights over the last 256 queries added in. -/
def lateV (hh : Fin 4) (p : FVec F S256x256 .f32) (v : Vec F S1x1x128x256 .bf16) (st : St F) : St F :=
  (st.1.set hh (lH (st.1.get hh) p), Function.update st.2 hh (ovl (st.2 hh) (aH (hi (st.2 hh)) (pvH v p))))

/-- A unit's scores used. -/
def accV (u : Unt) (s : Sc F) (st : St F) : St F :=
  match s with
  | .half s => lateV u.hh (exp2 (mkH s)) (View.ld X5 (rV u.ch u.hh)) st
  | .full s => match u.kd with
    | .plain => addV u.hh (exp2 s) (View.ld X5 (rV u.ch u.hh)) st
    | .plain0 => startV u.hh (exp2 s) (View.ld X5 (rV u.ch u.hh)) st
    | .diag => addV u.hh (exp2 (mkF s)) (View.ld X5 (rV u.ch u.hh)) st
    | .diag0 => startV u.hh (exp2 (mkF s)) (View.ld X5 (rV u.ch u.hh)) st
    | .late => st

/-- One unit. -/
def stepV (st : St F) (u : Unt) : St F := accV X5 u (scV X3 X4 u) st

/-- A list of units. -/
def runV (us : List Unt) (st : St F) : St F := us.foldl (stepV X3 X4 X5) st
end

/-! ## Loads and stores of the accumulator -/

/-- The scratch's contents are the accumulators. -/
def AccIs (X : Vec F S4x128x512 .f32) (A : Acc4 F) : Prop := ∀ hh, View.ld X (rA hh) = A hh

theorem ld_late {X : Vec F S4x128x512 .f32} {A : Acc4 F} (h : AccIs X A) (hh : Fin 4) : View.ld X (rA' hh) = hi (A hh) := by
  rw [← h hh]
  funext j
  unfold hi
  show X _ = X _
  congr 1
  funext a
  apply Fin.ext
  match a with
  | ⟨0, _⟩ => rfl
  | ⟨1, _⟩ => rfl
  | ⟨2, _⟩ => show 256 + 1 * (j 2).val = 0 + 1 * (256 + (j 2).val); omega

section
variable (m : Memref sig .tc .vmem S4x128x512 .f32)

theorem accIs_set (f : m.view.ty.Contents (Elt F)) (A : Acc4 F) (h : AccIs (m.view.read (Elt F) f) A) (hh : Fin 4)
    (w : FVec F S1x128x512 .f32) :
    AccIs (m.view.read (Elt F) ((m.access (rA hh)).write (Elt F) f w Finset.univ)) (Function.update A hh w) := by
  intro h'
  by_cases e : h' = hh
  · subst e
    rw [Function.update_self]
    funext j
    exact View.read_slice_write_emb _ _ _ (Finset.mem_univ _)
  · rw [Function.update_of_ne e, ← h h']
    funext j
    refine View.read_slice_write_of_not_mem _ _ _ _ ?_
    rw [Rect.map_emb_univ]
    intro hm
    have h0 := (Rect.mem_set_unit.mp hm) (0 : Fin 3)
    have hj : (j 0).val < 1 := (j 0).isLt
    have e1 : h'.val + 1 * (j 0).val < hh.val + 1 := h0.2
    have e2 : hh.val ≤ h'.val + 1 * (j 0).val := h0.1
    exact e (Fin.ext (by omega))

theorem accIs_late (f : m.view.ty.Contents (Elt F)) (A : Acc4 F) (h : AccIs (m.view.read (Elt F) f) A) (hh : Fin 4)
    (w : FVec F S1x128x256 .f32) :
    AccIs (m.view.read (Elt F) ((m.access (rA' hh)).write (Elt F) f w Finset.univ)) (Function.update A hh (ovl (A hh) w)) := by
  intro h'
  have old : ∀ j : S1x128x512.Idx, (h' ≠ hh ∨ (j 2).val < 256) →
      m.view.read (Elt F) ((m.access (rA' hh)).write (Elt F) f w Finset.univ) ((rA h').idx j) = A h' j := by
    intro j hj
    rw [← h h']
    refine View.read_slice_write_of_not_mem _ _ _ _ ?_
    rw [Rect.map_emb_univ]
    intro hm
    have hu := Rect.mem_set_unit.mp hm
    have h0 := hu (0 : Fin 3)
    have h2 := hu (2 : Fin 3)
    have hj0 : (j 0).val < 1 := (j 0).isLt
    have e1 : h'.val + 1 * (j 0).val < hh.val + 1 := h0.2
    have e2 : hh.val ≤ h'.val + 1 * (j 0).val := h0.1
    have e3 : 256 ≤ 0 + 1 * (j 2).val := h2.1
    rcases hj with hj | hj
    · exact hj (Fin.ext (by omega))
    · omega
  have key : ∀ x : S1x128x256.Idx,
      m.view.read (Elt F) ((m.access (rA' hh)).write (Elt F) f w Finset.univ) ((rA' hh).emb x) = w x :=
    fun x => View.read_slice_write_emb _ _ _ (Finset.mem_univ _)
  by_cases e : h' = hh
  · subst e
    rw [Function.update_self]
    funext j
    unfold ovl
    split
    · rename_i hj
      have hx : (rA h').idx j = (rA' h').emb (loI j hj) := by
        funext a
        apply Fin.ext
        match a with
        | ⟨0, _⟩ => rfl
        | ⟨1, _⟩ => rfl
        | ⟨2, _⟩ => show 0 + 1 * (j 2).val = 256 + 1 * ((j 2).val - 256); omega
      show m.view.read (Elt F) _ ((rA h').idx j) = _
      rw [hx]
      exact key _
    · rename_i hj
      exact old j (.inr (by omega))
  · rw [Function.update_of_ne e]
    funext j
    exact old j (.inl e)
end

/-! ## The programs -/

section
variable (c : Dev nD)

/-- The weakest precondition of a piece of the body. -/
abbrev W {α : Type} (p : Pr F α) (Q : α → sProp 𝕄) : sProp 𝕄 :=
  wp frame (wpE (defs₀ (F := F)) Variants.none (c : Thread nD τ) none) Set.univ p Q

/-- A whole buffer at the contents `f`. -/
abbrev pw {S : Shape} {e : EltTy} (m : Memref sig .tc .vmem S e) (f : m.view.ty.Contents (Elt F)) : sProp 𝕄 :=
  m.view.loc (c : Thread nD τ) ↦{fullShare} f

variable (arg3 : Memref sig .tc .vmem S1x4x256x512 .bf16) (arg4 : Memref sig .tc .vmem S1x4x4096x256 .bf16)
  (arg5 : Memref sig .tc .vmem S1x4x128x4096 .bf16) (arg8 : Memref sig .tc .vmem S4x128x512 .f32)
  (f3 : arg3.view.ty.Contents (Elt F)) (f4 : arg4.view.ty.Contents (Elt F)) (f5 : arg5.view.ty.Contents (Elt F))

/-- The accumulators' part of the invariant. -/
def InvA (A : Acc4 F) : sProp 𝕄 := iprop(∃ f8, ⌜AccIs (arg8.view.read (Elt F) f8) A⌝ ∗ pw c arg8 f8)

/-- The three operand blocks, and the scratch holding the accumulators. -/
def Inv (A : Acc4 F) : sProp 𝕄 :=
  iprop(pw c arg3 f3 ∗ pw c arg4 f4 ∗ pw c arg5 f5 ∗ InvA c arg8 A)

theorem W_seq {α β : Type} {p : Pr F α} {K : α → Pr F β} {v : α} {P P' : sProp 𝕄} {Q : β → sProp 𝕄}
    (h : P ⊢ W c p (fun x => iprop(⌜x = v⌝ ∗ P'))) (hK : P' ⊢ W c (K v) Q) : P ⊢ W c (p >>= K) Q := by
  unfold W
  rw [wp_bind]
  refine h.trans (wp_mono _ _ _ fun x => ?_)
  iintro ⟨%hx, H⟩
  subst hx
  iapply hK
  iexact H

theorem ret_bind' {α β : Type} (a : α) (k : α → Pr F β) : (Prog.ret a).bind k = k a := rfl

theorem pure_ret {α : Type} (a : α) : (Pure.pure a : Pr F α) = .ret a := rfl

theorem scoreP_wp (u : Unt) (A : Acc4 F) :
    Inv c arg3 arg4 arg5 arg8 f3 f4 f5 A ⊢ W c (scoreP arg3 arg4 u)
      (fun s => iprop(⌜s = scV (arg3.view.read (Elt F) f3) (arg4.view.read (Elt F) f4) u⌝ ∗ Inv c arg3 arg4 arg5 arg8 f3 f4 f5 A)) := by
  obtain ⟨ch, hh, kd⟩ := u
  unfold Inv
  iintro ⟨H3, H4, H5, H8⟩
  cases kd
  all_goals
    iapply (wp_load Variants.none (c : Thread nD τ) none Set.univ (m := arg4) (Finset.subset_univ _)) $$ H4; iintro H4
    iapply (wp_load Variants.none (c : Thread nD τ) none Set.univ (m := arg3) (Finset.subset_univ _)) $$ H3; iintro H3
    rw [ret_bind', pure_ret, wp_ret]; imodintro
    isplitr; · (ipureintro; rfl)
    isplitl [H3]; · iexact H3
    isplitl [H4]; · iexact H4
    isplitl [H5]; · iexact H5
    iexact H8

theorem addP_wp (hh : Fin 4) (p : FVec F S256x512 .f32) (v : Vec F S1x1x128x256 .bf16) (l : Row4 F) (A : Acc4 F) :
    InvA c arg8 A ⊢ W c (addP arg8 hh p v l)
      (fun x => iprop(⌜x = (addV hh p v (l, A)).1⌝ ∗ InvA c arg8 (addV hh p v (l, A)).2)) := by
  unfold InvA
  iintro ⟨%f8, %h, H8⟩
  iapply (wp_load Variants.none (c : Thread nD τ) none Set.univ (m := arg8) (Finset.subset_univ _)) $$ H8; iintro H8
  iapply (wp_load Variants.none (c : Thread nD τ) none Set.univ (m := arg8) (Finset.subset_univ _)) $$ H8; iintro H8
  iapply (wp_store Variants.none (c : Thread nD τ) none Set.univ (m := arg8) (r := rA hh) (Mk := Finset.univ) (Finset.subset_univ _)) $$ H8; iintro H8
  rw [ret_bind', pure_ret, wp_ret]; imodintro
  isplitr; · (ipureintro; rfl)
  iexists _
  isplitr; swap; (· iexact H8)
  ipureintro
  have e : arg8.view.readAt (Elt F) (rA hh).toLoadRect f8 = A hh := h hh
  rw [e]
  exact accIs_set arg8 f8 A h hh _

theorem startP_wp (hh : Fin 4) (p : FVec F S256x512 .f32) (v : Vec F S1x1x128x256 .bf16) (l : Row4 F) (A : Acc4 F) :
    InvA c arg8 A ⊢ W c (startP arg8 hh p v l)
      (fun x => iprop(⌜x = (startV hh p v (l, A)).1⌝ ∗ InvA c arg8 (startV hh p v (l, A)).2)) := by
  unfold InvA
  iintro ⟨%f8, %h, H8⟩
  iapply (wp_load Variants.none (c : Thread nD τ) none Set.univ (m := arg8) (Finset.subset_univ _)) $$ H8; iintro H8
  iapply (wp_store Variants.none (c : Thread nD τ) none Set.univ (m := arg8) (r := rA hh) (Mk := Finset.univ) (Finset.subset_univ _)) $$ H8; iintro H8
  rw [ret_bind', pure_ret, wp_ret]; imodintro
  isplitr; · (ipureintro; rfl)
  iexists _
  isplitr; swap; (· iexact H8)
  ipureintro
  exact accIs_set arg8 f8 A h hh _

theorem lateP_wp (hh : Fin 4) (p : FVec F S256x256 .f32) (v : Vec F S1x1x128x256 .bf16) (l : Row4 F) (A : Acc4 F) :
    InvA c arg8 A ⊢ W c (lateP arg8 hh p v l)
      (fun x => iprop(⌜x = (lateV hh p v (l, A)).1⌝ ∗ InvA c arg8 (lateV hh p v (l, A)).2)) := by
  unfold InvA
  iintro ⟨%f8, %h, H8⟩
  iapply (wp_load Variants.none (c : Thread nD τ) none Set.univ (m := arg8) (Finset.subset_univ _)) $$ H8; iintro H8
  iapply (wp_load Variants.none (c : Thread nD τ) none Set.univ (m := arg8) (Finset.subset_univ _)) $$ H8; iintro H8
  iapply (wp_store Variants.none (c : Thread nD τ) none Set.univ (m := arg8) (r := rA' hh) (Mk := Finset.univ) (Finset.subset_univ _)) $$ H8; iintro H8
  rw [ret_bind', pure_ret, wp_ret]; imodintro
  isplitr; · (ipureintro; rfl)
  iexists _
  isplitr; swap; (· iexact H8)
  ipureintro
  have e : arg8.view.readAt (Elt F) (rA' hh).toLoadRect f8 = hi (A hh) := ld_late h hh
  rw [e]
  exact accIs_late arg8 f8 A h hh _

theorem accP_wp (u : Unt) (s : Sc F) (l : Row4 F) (A : Acc4 F) :
    Inv c arg3 arg4 arg5 arg8 f3 f4 f5 A ⊢ W c (accP arg5 arg8 u s l)
      (fun x => iprop(⌜x = (accV (arg5.view.read (Elt F) f5) u s (l, A)).1⌝
        ∗ Inv c arg3 arg4 arg5 arg8 f3 f4 f5 (accV (arg5.view.read (Elt F) f5) u s (l, A)).2)) := by
  obtain ⟨ch, hh, kd⟩ := u
  unfold Inv
  iintro ⟨H3, H4, H5, H8⟩
  unfold accP
  iapply (wp_load Variants.none (c : Thread nD τ) none Set.univ (m := arg5) (Finset.subset_univ _)) $$ H5; iintro H5
  have fin : ∀ (p : Pr F (Row4 F)) (st : St F),
      (InvA c arg8 A ⊢ W c p (fun x => iprop(⌜x = st.1⌝ ∗ InvA c arg8 st.2))) →
      iprop(pw c arg3 f3 ∗ pw c arg4 f4 ∗ pw c arg5 f5 ∗ InvA c arg8 A) ⊢ W c p (fun x => iprop(⌜x = st.1⌝ ∗
        (pw c arg3 f3 ∗ pw c arg4 f4 ∗ pw c arg5 f5 ∗ InvA c arg8 st.2))) := by
    intro p st h
    refine (show iprop(pw c arg3 f3 ∗ pw c arg4 f4 ∗ pw c arg5 f5 ∗ InvA c arg8 A) ⊢ iprop(W c p (fun x => iprop(⌜x = st.1⌝ ∗ InvA c arg8 st.2)) ∗
      (∀ a, (⌜a = st.1⌝ ∗ InvA c arg8 st.2) -∗ (⌜a = st.1⌝ ∗ (pw c arg3 f3 ∗ pw c arg4 f4 ∗ pw c arg5 f5 ∗ InvA c arg8 st.2)))) from ?_).trans (wp_wand_r _ _ _)
    iintro ⟨H3, H4, H5, H8⟩
    isplitl [H8]
    · iapply h; iexact H8
    iintro %x ⟨%hx, H8⟩
    isplitr; · (ipureintro; exact hx)
    isplitl [H3]; · iexact H3
    isplitl [H4]; · iexact H4
    isplitl [H5]; · iexact H5
    iexact H8
  rw [ret_bind']
  cases s with
  | half s =>
    iapply (fin _ _ (lateP_wp c arg8 hh (exp2 (mkH s)) (View.ld (arg5.view.read (Elt F) f5) (rV ch hh)) l A))
    isplitl [H3]; · iexact H3
    isplitl [H4]; · iexact H4
    isplitl [H5]; · iexact H5
    iexact H8
  | full s =>
    cases kd
    case late =>
      rw [pure_ret, wp_ret]; imodintro
      isplitr; · (ipureintro; rfl)
      isplitl [H3]; · iexact H3
      isplitl [H4]; · iexact H4
      isplitl [H5]; · iexact H5
      iexact H8
    case plain =>
      iapply (fin _ _ (addP_wp c arg8 hh (exp2 s) (View.ld (arg5.view.read (Elt F) f5) (rV ch hh)) l A))
      isplitl [H3]; · iexact H3
      isplitl [H4]; · iexact H4
      isplitl [H5]; · iexact H5
      iexact H8
    case plain0 =>
      iapply (fin _ _ (startP_wp c arg8 hh (exp2 s) (View.ld (arg5.view.read (Elt F) f5) (rV ch hh)) l A))
      isplitl [H3]; · iexact H3
      isplitl [H4]; · iexact H4
      isplitl [H5]; · iexact H5
      iexact H8
    case diag =>
      iapply (fin _ _ (addP_wp c arg8 hh (exp2 (mkF s)) (View.ld (arg5.view.read (Elt F) f5) (rV ch hh)) l A))
      isplitl [H3]; · iexact H3
      isplitl [H4]; · iexact H4
      isplitl [H5]; · iexact H5
      iexact H8
    case diag0 =>
      iapply (fin _ _ (startP_wp c arg8 hh (exp2 (mkF s)) (View.ld (arg5.view.read (Elt F) f5) (rV ch hh)) l A))
      isplitl [H3]; · iexact H3
      isplitl [H4]; · iexact H4
      isplitl [H5]; · iexact H5
      iexact H8

/-- Draining a queue whose scores are the units' runs its units. -/
theorem drainP_wp (us : List Unt) (l : Row4 F) (A : Acc4 F) :
    Inv c arg3 arg4 arg5 arg8 f3 f4 f5 A ⊢
      W c (drainP arg5 arg8 (us.map fun u => (u, scV (arg3.view.read (Elt F) f3) (arg4.view.read (Elt F) f4) u)) l)
      (fun x => iprop(⌜x = (runV (arg3.view.read (Elt F) f3) (arg4.view.read (Elt F) f4) (arg5.view.read (Elt F) f5) us (l, A)).1⌝
        ∗ Inv c arg3 arg4 arg5 arg8 f3 f4 f5 (runV (arg3.view.read (Elt F) f3) (arg4.view.read (Elt F) f4) (arg5.view.read (Elt F) f5) us (l, A)).2)) := by
  induction us generalizing l A with
  | nil =>
    show _ ⊢ wp _ _ _ (Prog.ret _) _
    iintro H
    rw [wp_ret]; imodintro
    isplitr; · (ipureintro; rfl)
    iexact H
  | cons u us ih =>
    exact W_seq c (accP_wp c arg3 arg4 arg5 arg8 f3 f4 f5 u _ l A) (ih _ _)

/-- Running units behind a queue runs the queue's units and then them. -/
theorem runP_wp (us : List Unt) (v : Unt) (q : List Unt) (l : Row4 F) (A : Acc4 F) :
    Inv c arg3 arg4 arg5 arg8 f3 f4 f5 A ⊢
      W c (runP arg3 arg4 arg5 arg8 us ((v :: q).map fun u => (u, scV (arg3.view.read (Elt F) f3) (arg4.view.read (Elt F) f4) u)) l)
      (fun x => iprop(⌜x = (runV (arg3.view.read (Elt F) f3) (arg4.view.read (Elt F) f4) (arg5.view.read (Elt F) f5) (v :: q ++ us) (l, A)).1⌝
        ∗ Inv c arg3 arg4 arg5 arg8 f3 f4 f5 (runV (arg3.view.read (Elt F) f3) (arg4.view.read (Elt F) f4) (arg5.view.read (Elt F) f5) (v :: q ++ us) (l, A)).2)) := by
  induction us generalizing v q l A with
  | nil =>
    rw [List.append_nil]
    exact drainP_wp c arg3 arg4 arg5 arg8 f3 f4 f5 (v :: q) l A
  | cons u us ih =>
    refine W_seq c (scoreP_wp c arg3 arg4 arg5 arg8 f3 f4 f5 u A) ?_
    refine W_seq c (accP_wp c arg3 arg4 arg5 arg8 f3 f4 f5 v _ l A) ?_
    have e : v :: q ++ u :: us = v :: ((q ++ [u]) ++ us) := by simp
    rw [e]
    have e2 : ∀ x, (q.map fun u => (u, scV (arg3.view.read (Elt F) f3) (arg4.view.read (Elt F) f4) u)) ++ [(u, scV (arg3.view.read (Elt F) f3) (arg4.view.read (Elt F) f4) u)]
      = x → x = (q ++ [u]).map fun u => (u, scV (arg3.view.read (Elt F) f3) (arg4.view.read (Elt F) f4) u) := by
      intro x hx; rw [← hx]; simp
    rw [e2 _ rfl]
    cases q with
    | nil => exact ih u [] _ _
    | cons w q => exact ih w (q ++ [u]) _ _

/-- Running a list of units. -/
theorem unitsP_wp (u0 u1 u2 : Unt) (us : List Unt) (l : Row4 F) (A : Acc4 F) :
    Inv c arg3 arg4 arg5 arg8 f3 f4 f5 A ⊢ W c (unitsP arg3 arg4 arg5 arg8 (u0 :: u1 :: u2 :: us) l)
      (fun x => iprop(⌜x = (runV (arg3.view.read (Elt F) f3) (arg4.view.read (Elt F) f4) (arg5.view.read (Elt F) f5) (u0 :: u1 :: u2 :: us) (l, A)).1⌝
        ∗ Inv c arg3 arg4 arg5 arg8 f3 f4 f5 (runV (arg3.view.read (Elt F) f3) (arg4.view.read (Elt F) f4) (arg5.view.read (Elt F) f5) (u0 :: u1 :: u2 :: us) (l, A)).2)) := by
  refine W_seq c (scoreP_wp c arg3 arg4 arg5 arg8 f3 f4 f5 u0 A) ?_
  refine W_seq c (scoreP_wp c arg3 arg4 arg5 arg8 f3 f4 f5 u1 A) ?_
  refine W_seq c (scoreP_wp c arg3 arg4 arg5 arg8 f3 f4 f5 u2 A) ?_
  exact runP_wp c arg3 arg4 arg5 arg8 f3 f4 f5 us u0 [u1, u2] l A
end

end Cert.KernelIdeal.Att

end
-- ==== Proof.Att.Run.lean ====
/- The body's run at a grid point, and the run of the whole call: every execution ends, with the result array at the
   blocks `outB` names and the arguments untouched. -/
module

public import proofs.«01_k».proof.Proof.Att.Units
public import proofs.«01_k».proof.Proof.Gen.KernelIdeal.Frame
public import Idealize.ShloMosaic.Lib.Tactic
public import Idealize.ShloMosaic.Lib.Pipeline.Kit
public import Idealize.ShloMosaic.Lib.Pipeline.FrameBody
public import Idealize.ShloMosaic.Lib.Ring

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## What the body computes -/

/-- The units of the tail at a grid point. -/
def tailU (i : grid0.Coords) : List Unt :=
  if h1 : k0_cond1 i = 1#1 then
    if h2 : k0_cond2 i = 1#1 then
      if h3 : k0_cond3 i = 1#1 then tail3 i (okTail3 i (by have := (cond3_iff i h1 h2).1 h3; omega))
      else tail2 i (okTail2 i (by have := (cond1_iff i).1 h1; have := (cond2_iff i h1).1 h2; omega))
    else tail1 i (okTail1 i (by have := (cond1_iff i).1 h1; omega))
  else tail0 i (okTail0 i)

section
variable (i : grid0.Coords) (X3 : Vec F S1x4x256x512 .bf16) (X4 : Vec F S1x4x4096x256 .bf16) (X5 : Vec F S1x4x128x4096 .bf16)
  (X6 : Vec F S1x512x512 .bf16)

/-- The state after `k` trips of the loop. -/
def loopV (st : St F) : Nat → St F
  | 0 => st
  | k + 1 => if h : k < (k0_t1_loop i).trips then
      runV X3 X4 X5 (trip (Scf.iv 0#32 1#32 (⟨k, h⟩ : Fin (k0_t1_loop i).trips)) (okLoop1 i ⟨k, h⟩)) (loopV st k) else loopV st k

/-- The state at the end, the accumulators at `A` before. -/
def finV (A : Acc4 F) : St F := loopV i X3 X4 X5 (runV X3 X4 X5 (tailU i) (zero4, A)) (k0_t1_loop i).trips

/-- The accumulators of no unit. -/
def acc0 : Acc4 F := fun _ => broadcast S1x128x512 (Scalar.ofBits .f32 0x00000000#32 : F .f32)

/-- Four units that start the four accumulators leave nothing of what they held. -/
theorem start_indep (ch : Chunk) (kd : Kind) (hk : kd = .plain0 ∨ kd = .diag0) (us : List Unt) (l : Row4 F) (A A' : Acc4 F) :
    runV X3 X4 X5 (heads ch kd ++ us) (l, A) = runV X3 X4 X5 (heads ch kd ++ us) (l, A') := by
  rcases hk with rfl | rfl
  · refine congrArg (fun st => us.foldl (stepV X3 X4 X5) st) ?_
    refine Prod.ext rfl (funext fun hh => ?_)
    match hh with
    | 0 => rfl
    | 1 => rfl
    | 2 => rfl
    | 3 => rfl
  · refine congrArg (fun st => us.foldl (stepV X3 X4 X5) st) ?_
    refine Prod.ext rfl (funext fun hh => ?_)
    match hh with
    | 0 => rfl
    | 1 => rfl
    | 2 => rfl
    | 3 => rfl

theorem tail_indep (l : Row4 F) (A A' : Acc4 F) : runV X3 X4 X5 (tailU i) (l, A) = runV X3 X4 X5 (tailU i) (l, A') := by
  unfold tailU
  split
  · split
    · split
      · unfold tail3 blk; simp only [List.append_assoc]; exact start_indep X3 X4 X5 _ _ (.inl rfl) _ l A A'
      · unfold tail2 blk; simp only [List.append_assoc]; exact start_indep X3 X4 X5 _ _ (.inl rfl) _ l A A'
    · unfold tail1 blk; simp only [List.append_assoc]; exact start_indep X3 X4 X5 _ _ (.inl rfl) _ l A A'
  · unfold tail0 blk; exact start_indep X3 X4 X5 _ _ (.inr rfl) _ l A A'

theorem fin_indep (A A' : Acc4 F) : finV i X3 X4 X5 A = finV i X3 X4 X5 A' := by
  unfold finV; rw [tail_indep i X3 X4 X5 zero4 A A']

/-- Head `hh`'s rows of the result block. -/
def rowB (hh : Fin 4) : FVec F S1x128x512 .bf16 :=
  outV ((finV i X3 X4 X5 acc0).2 hh) ((finV i X3 X4 X5 acc0).1.get hh) (View.ld X6 (rO hh))

/-- The result block: four heads' rows. -/
def outB : Vec F S1x512x512 .bf16 := fun y =>
  rowB i X3 X4 X5 X6 ⟨(y 1).val / 128, by have : (y 1).val < 512 := (y 1).isLt; omega⟩
    (fun | ⟨0, _⟩ => y 0 | ⟨1, _⟩ => ⟨(y 1).val % 128, Nat.mod_lt _ (by decide)⟩ | ⟨2, _⟩ => y 2)
end

/-! ## The body's run -/

section
variable (c : Dev nD) (i : grid0.Coords)
  (arg3 : Memref sig .tc .vmem S1x4x256x512 .bf16) (harg3 : arg3.IsWhole) (arg4 : Memref sig .tc .vmem S1x4x4096x256 .bf16) (harg4 : arg4.IsWhole)
  (arg5 : Memref sig .tc .vmem S1x4x128x4096 .bf16) (harg5 : arg5.IsWhole) (arg6 : Memref sig .tc .vmem S1x512x512 .bf16) (harg6 : arg6.IsWhole)
  (arg7 : Memref sig .tc .vmem S1x512x512 .bf16) (harg7 : arg7.IsWhole) (arg8 : Memref sig .tc .vmem S4x128x512 .f32) (harg8 : arg8.IsWhole)
  (f3 : arg3.view.ty.Contents (Elt F)) (f4 : arg4.view.ty.Contents (Elt F)) (f5 : arg5.view.ty.Contents (Elt F))
  (f6 : arg6.view.ty.Contents (Elt F))

theorem W_seqG {α β : Type} {p : Pr F α} {K : α → Pr F β} {v : α} {P P' G : sProp 𝕄} {Q : β → sProp 𝕄}
    (h : P ⊢ W c p (fun x => iprop(⌜x = v⌝ ∗ P'))) (hK : iprop(P' ∗ G) ⊢ W c (K v) Q) : iprop(P ∗ G) ⊢ W c (p >>= K) Q := by
  refine W_seq c (v := v) (P' := iprop(P' ∗ G)) ?_ hK
  refine (show iprop(P ∗ G) ⊢ iprop(W c p (fun x => iprop(⌜x = v⌝ ∗ P')) ∗ (∀ a, (⌜a = v⌝ ∗ P') -∗ (⌜a = v⌝ ∗ (P' ∗ G)))) from ?_).trans (wp_wand_r _ _ _)
  iintro ⟨HP, HG⟩
  isplitl [HP]
  · iapply h; iexact HP
  iintro %x ⟨%hx, HP⟩
  isplitr; · (ipureintro; exact hx)
  isplitl [HP]; · iexact HP
  iexact HG

theorem tailP_wp {β : Type} (G : sProp 𝕄) (l : Row4 F) (A : Acc4 F) (K : Row4 F → Pr F β) (Q : β → sProp 𝕄)
    (hK : iprop(Inv c arg3 arg4 arg5 arg8 f3 f4 f5 (runV (arg3.view.read (Elt F) f3) (arg4.view.read (Elt F) f4) (arg5.view.read (Elt F) f5) (tailU i) (l, A)).2 ∗ G) ⊢ W c (K (runV (arg3.view.read (Elt F) f3) (arg4.view.read (Elt F) f4) (arg5.view.read (Elt F) f5) (tailU i) (l, A)).1) Q) :
    iprop(Inv c arg3 arg4 arg5 arg8 f3 f4 f5 A ∗ G) ⊢ W c (tailP i arg3 arg4 arg5 arg8 l K) Q := by
  unfold tailP
  unfold tailU at hK
  split
  · rename_i h1; rw [dif_pos h1] at hK
    split
    · rename_i h2; rw [dif_pos h2] at hK
      split
      · rename_i h3; rw [dif_pos h3] at hK
        exact W_seqG c (unitsP_wp c arg3 arg4 arg5 arg8 f3 f4 f5 _ _ _ _ l A) hK
      · rename_i h3; rw [dif_neg h3] at hK
        exact W_seqG c (unitsP_wp c arg3 arg4 arg5 arg8 f3 f4 f5 _ _ _ _ l A) hK
    · rename_i h2; rw [dif_neg h2] at hK
      exact W_seqG c (unitsP_wp c arg3 arg4 arg5 arg8 f3 f4 f5 _ _ _ _ l A) hK
  · rename_i h1; rw [dif_neg h1] at hK
    exact W_seqG c (unitsP_wp c arg3 arg4 arg5 arg8 f3 f4 f5 _ _ _ _ l A) hK

theorem loop1P_wp {β : Type} (G : sProp 𝕄) (st : St F) (K : Row4 F → Pr F β) (Q : β → sProp 𝕄)
    (hK : iprop(Inv c arg3 arg4 arg5 arg8 f3 f4 f5 (loopV i (arg3.view.read (Elt F) f3) (arg4.view.read (Elt F) f4) (arg5.view.read (Elt F) f5) st (k0_t1_loop i).trips).2 ∗ G)
      ⊢ W c (K (loopV i (arg3.view.read (Elt F) f3) (arg4.view.read (Elt F) f4) (arg5.view.read (Elt F) f5) st (k0_t1_loop i).trips).1) Q) :
    iprop(Inv c arg3 arg4 arg5 arg8 f3 f4 f5 st.2 ∗ G) ⊢ W c (loop1P i arg3 arg4 arg5 arg8 st.1 >>= K) Q := by
  have hb := Scf.wp_for_bind frame (wpE (defs₀ (F := F)) Variants.none (c : Thread nD τ) none) Set.univ
    (k0_t1_loop i).lb (k0_t1_loop i).ub (k0_t1_loop i).st (k0_t1_ok i) st.1
    (fun t l => unitsP arg3 arg4 arg5 arg8 (trip (Scf.iv 0#32 1#32 t) (okLoop1 i t)) l)
    (fun k l => iprop(⌜l = (loopV i (arg3.view.read (Elt F) f3) (arg4.view.read (Elt F) f4) (arg5.view.read (Elt F) f5) st k).1⌝ ∗ Inv c arg3 arg4 arg5 arg8 f3 f4 f5 (loopV i (arg3.view.read (Elt F) f3) (arg4.view.read (Elt F) f4) (arg5.view.read (Elt F) f5) st k).2))
    (fun k l => by
      iintro ⟨%hl, H⟩
      subst hl
      have e : loopV i (arg3.view.read (Elt F) f3) (arg4.view.read (Elt F) f4) (arg5.view.read (Elt F) f5) st (k.val + 1) = runV (arg3.view.read (Elt F) f3) (arg4.view.read (Elt F) f4) (arg5.view.read (Elt F) f5) (trip (Scf.iv 0#32 1#32 k) (okLoop1 i k)) (loopV i (arg3.view.read (Elt F) f3) (arg4.view.read (Elt F) f4) (arg5.view.read (Elt F) f5) st k.val) :=
        dif_pos k.isLt
      rw [e]
      iapply (unitsP_wp c arg3 arg4 arg5 arg8 f3 f4 f5 _ _ _ _ (loopV i (arg3.view.read (Elt F) f3) (arg4.view.read (Elt F) f4) (arg5.view.read (Elt F) f5) st k.val).1 (loopV i (arg3.view.read (Elt F) f3) (arg4.view.read (Elt F) f4) (arg5.view.read (Elt F) f5) st k.val).2)
      iexact H) (kk := K) (Q := Q)
  refine (show _ ⊢ iprop((⌜st.1 = (loopV i (arg3.view.read (Elt F) f3) (arg4.view.read (Elt F) f4) (arg5.view.read (Elt F) f5) st 0).1⌝ ∗ Inv c arg3 arg4 arg5 arg8 f3 f4 f5 (loopV i (arg3.view.read (Elt F) f3) (arg4.view.read (Elt F) f4) (arg5.view.read (Elt F) f5) st 0).2)
    ∗ ∀ acc, (⌜acc = (loopV i (arg3.view.read (Elt F) f3) (arg4.view.read (Elt F) f4) (arg5.view.read (Elt F) f5) st (k0_t1_loop i).trips).1⌝ ∗ Inv c arg3 arg4 arg5 arg8 f3 f4 f5 (loopV i (arg3.view.read (Elt F) f3) (arg4.view.read (Elt F) f4) (arg5.view.read (Elt F) f5) st (k0_t1_loop i).trips).2) -∗ W c (K acc) Q) from ?_).trans (BI.wand_elim hb)
  iintro ⟨H, HG⟩
  isplitl [H]
  · isplitr; · (ipureintro; rfl)
    iexact H
  iintro %acc ⟨%ha, H⟩
  subst ha
  iapply hK
  isplitl [H]; · iexact H
  iexact HG

theorem loop2P_wp {β : Type} (G : sProp 𝕄) (st : St F) (K : Row4 F → Pr F β) (Q : β → sProp 𝕄)
    (hK : iprop(Inv c arg3 arg4 arg5 arg8 f3 f4 f5 st.2 ∗ G) ⊢ W c (K st.1) Q) :
    iprop(Inv c arg3 arg4 arg5 arg8 f3 f4 f5 st.2 ∗ G) ⊢ W c (loop2P i arg3 arg4 arg5 arg8 st.1 >>= K) Q := by
  have hb := Scf.wp_for_bind frame (wpE (defs₀ (F := F)) Variants.none (c : Thread nD τ) none) Set.univ
    (k0_t2_loop i).lb (k0_t2_loop i).ub (k0_t2_loop i).st (k0_t2_ok i) st.1
    (fun t l => unitsP arg3 arg4 arg5 arg8 (trip (Scf.iv (k0_t2_loop i).lb 1#32 t) (okLoop2 i t _)) l)
    (fun k l => iprop(⌜l = st.1⌝ ∗ Inv c arg3 arg4 arg5 arg8 f3 f4 f5 st.2))
    (fun k l => absurd (lt_of_lt_of_eq k.isLt (trips2 i)) (Nat.not_lt_zero _)) (kk := K) (Q := Q)
  refine (show _ ⊢ iprop((⌜st.1 = st.1⌝ ∗ Inv c arg3 arg4 arg5 arg8 f3 f4 f5 st.2)
    ∗ ∀ acc, (⌜acc = st.1⌝ ∗ Inv c arg3 arg4 arg5 arg8 f3 f4 f5 st.2) -∗ W c (K acc) Q) from ?_).trans (BI.wand_elim hb)
  iintro ⟨H, HG⟩
  isplitl [H]
  · isplitr; · (ipureintro; rfl)
    iexact H
  iintro %acc ⟨%ha, H⟩
  subst ha
  iapply hK
  isplitl [H]; · iexact H
  iexact HG

/-- The first `k` heads' rows of the result block are written. -/
def OutIs (O : Fin 4 → FVec F S1x128x512 .bf16) (k : Nat) (X : Vec F S1x512x512 .bf16) : Prop :=
  ∀ hh : Fin 4, hh.val < k → View.ld X (rO hh) = O hh

theorem outIs_set (O : Fin 4 → FVec F S1x128x512 .bf16) (hh : Fin 4) (f : arg7.view.ty.Contents (Elt F))
    (h : OutIs O hh.val (arg7.view.read (Elt F) f)) :
    OutIs O (hh.val + 1) (arg7.view.read (Elt F) ((arg7.access (rO hh)).write (Elt F) f (O hh) Finset.univ)) := by
  intro h' hlt
  by_cases e : h' = hh
  · subst e
    funext j
    exact View.read_slice_write_emb _ _ _ (Finset.mem_univ _)
  · have hlt' : h'.val < hh.val := by
      have : h'.val ≠ hh.val := fun e' => e (Fin.ext e')
      omega
    rw [← h h' hlt']
    funext j
    refine View.read_slice_write_of_not_mem _ _ _ _ ?_
    rw [Rect.map_emb_univ]
    intro hm
    have h0 := (Rect.mem_set_unit.mp hm) (1 : Fin 3)
    have hj : (j 1).val < 128 := (j 1).isLt
    have e2 : 128 * hh.val ≤ 128 * h'.val + 1 * (j 1).val := h0.1
    omega

theorem outP_wp (O : Fin 4 → FVec F S1x128x512 .bf16) (hh : Fin 4) (k : Nat) (hk : hh.val = k) (hs : (arg7.access (rO hh)).Stores Finset.univ) (l : FVec F S1x512 .f32) (A : Acc4 F)
    (hO : O hh = outV (A hh) l (View.ld (arg6.view.read (Elt F) f6) (rO hh))) :
    iprop(InvA c arg8 A ∗ pw c arg6 f6 ∗ ∃ f7, ⌜OutIs O k (arg7.view.read (Elt F) f7)⌝ ∗ pw c arg7 f7)
      ⊢ W c (outP arg6 arg7 arg8 hh hs l) (fun x => iprop(⌜x = ⟨⟩⌝ ∗ (InvA c arg8 A ∗ pw c arg6 f6 ∗ ∃ f7, ⌜OutIs O (k + 1) (arg7.view.read (Elt F) f7)⌝ ∗ pw c arg7 f7))) := by
  subst hk
  unfold InvA
  iintro ⟨⟨%f8, %h8, H8⟩, H6, ⟨%f7, %h7, H7⟩⟩
  iapply (wp_load Variants.none (c : Thread nD τ) none Set.univ (m := arg8) (Finset.subset_univ _)) $$ H8; iintro H8
  iapply (wp_load Variants.none (c : Thread nD τ) none Set.univ (m := arg6) (Finset.subset_univ _)) $$ H6; iintro H6
  iapply (wp_load Variants.none (c : Thread nD τ) none Set.univ (m := arg7) (Finset.subset_univ _)) $$ H7; iintro H7
  iapply (wp_store Variants.none (c : Thread nD τ) none Set.univ (m := arg7) (r := rO hh) (Mk := Finset.univ) (Finset.subset_univ _)) $$ H7; iintro H7
  rw [wp_ret]; imodintro
  isplitr; · (ipureintro; rfl)
  isplitl [H8]
  · iexists f8
    isplitr; · (ipureintro; exact h8)
    iexact H8
  isplitl [H6]; · iexact H6
  iexists _
  isplitr; swap; (· iexact H7)
  ipureintro
  have e : arg8.view.readAt (Elt F) (rA hh).toLoadRect f8 = A hh := h8 hh
  have e6 : arg6.view.readAt (Elt F) (rO hh).toLoadRect f6 = View.ld (arg6.view.read (Elt F) f6) (rO hh) := rfl
  rw [e, e6, ← hO]
  exact outIs_set arg7 O hh f7 h7

theorem outsP_wp (O : Fin 4 → FVec F S1x128x512 .bf16) (hs : ∀ hh, (arg7.access (rO hh)).Stores Finset.univ) (st : St F)
    (hO : ∀ hh, O hh = outV (st.2 hh) (st.1.get hh) (View.ld (arg6.view.read (Elt F) f6) (rO hh))) (f7 : arg7.view.ty.Contents (Elt F)) :
    iprop(InvA c arg8 st.2 ∗ pw c arg6 f6 ∗ pw c arg7 f7)
      ⊢ W c (outsP arg6 arg7 arg8 hs st.1) (fun x => iprop(⌜x = ⟨⟩⌝ ∗ (InvA c arg8 st.2 ∗ pw c arg6 f6 ∗ ∃ f7, ⌜OutIs O 4 (arg7.view.read (Elt F) f7)⌝ ∗ pw c arg7 f7))) := by
  refine (show _ ⊢ iprop(InvA c arg8 st.2 ∗ pw c arg6 f6 ∗ ∃ f7, ⌜OutIs O 0 (arg7.view.read (Elt F) f7)⌝ ∗ pw c arg7 f7) from ?_).trans ?_
  · iintro ⟨H8, H6, H7⟩
    isplitl [H8]; · iexact H8
    isplitl [H6]; · iexact H6
    iexists f7
    isplitr; · (ipureintro; exact fun hh h => absurd h (Nat.not_lt_zero _))
    iexact H7
  refine W_seq c (outP_wp c arg6 arg7 arg8 f6 O 0 0 rfl (hs 0) _ st.2 (hO 0)) ?_
  refine W_seq c (outP_wp c arg6 arg7 arg8 f6 O 1 1 rfl (hs 1) _ st.2 (hO 1)) ?_
  refine W_seq c (outP_wp c arg6 arg7 arg8 f6 O 2 2 rfl (hs 2) _ st.2 (hO 2)) ?_
  exact outP_wp c arg6 arg7 arg8 f6 O 3 3 rfl (hs 3) _ st.2 (hO 3)

theorem outB_of (O : Fin 4 → FVec F S1x128x512 .bf16) (X : Vec F S1x512x512 .bf16) (h : OutIs O 4 X) (y : S1x512x512.Idx) :
    X y = O ⟨(y 1).val / 128, by have : (y 1).val < 512 := (y 1).isLt; omega⟩
      (fun | ⟨0, _⟩ => y 0 | ⟨1, _⟩ => ⟨(y 1).val % 128, Nat.mod_lt _ (by decide)⟩ | ⟨2, _⟩ => y 2) := by
  have hy : (y 1).val < 512 := (y 1).isLt
  rw [← h ⟨(y 1).val / 128, by omega⟩ (show (y 1).val / 128 < 4 by omega)]
  show X y = X _
  congr 1
  funext a
  apply Fin.ext
  match a with
  | ⟨0, _⟩ => show (y 0).val = 0 + 1 * (y 0).val; omega
  | ⟨1, _⟩ => show (y 1).val = 128 * ((y 1).val / 128) + 1 * ((y 1).val % 128); omega
  | ⟨2, _⟩ => show (y 2).val = 0 + 1 * (y 2).val; omega

/-- The body, from its blocks: the operand blocks kept, the result block at `outB`. -/
theorem body_wp (f7 : arg7.view.ty.Contents (Elt F)) (f8 : arg8.view.ty.Contents (Elt F)) :
    iprop(pw c arg3 f3 ∗ pw c arg4 f4 ∗ pw c arg5 f5 ∗ pw c arg6 f6 ∗ pw c arg7 f7 ∗ pw c arg8 f8)
      ⊢ W c (cc0_mla_attention (F := F) i arg3 harg3 arg4 harg4 arg5 harg5 arg6 harg6 arg7 harg7 arg8 harg8)
        (fun _ => iprop(pw c arg3 f3 ∗ pw c arg4 f4 ∗ pw c arg5 f5 ∗ pw c arg6 f6
          ∗ (∃ f7, ⌜arg7.view.read (Elt F) f7 = outB i (arg3.view.read (Elt F) f3) (arg4.view.read (Elt F) f4) (arg5.view.read (Elt F) f5) (arg6.view.read (Elt F) f6)⌝ ∗ pw c arg7 f7) ∗ ∃ f8, pw c arg8 f8)) := by
  rw [body_eq]
  unfold bodyP
  have hA : AccIs (arg8.view.read (Elt F) f8) (fun hh => View.ld (arg8.view.read (Elt F) f8) (rA hh)) := fun _ => rfl
  generalize (fun hh => View.ld (arg8.view.read (Elt F) f8) (rA hh) : Acc4 F) = A at hA
  have hfin : finV i (arg3.view.read (Elt F) f3) (arg4.view.read (Elt F) f4) (arg5.view.read (Elt F) f5) A = finV i (arg3.view.read (Elt F) f3) (arg4.view.read (Elt F) f4) (arg5.view.read (Elt F) f5) acc0 := fin_indep i (arg3.view.read (Elt F) f3) (arg4.view.read (Elt F) f4) (arg5.view.read (Elt F) f5) A acc0
  have hO : ∀ hh, rowB i (arg3.view.read (Elt F) f3) (arg4.view.read (Elt F) f4) (arg5.view.read (Elt F) f5) (arg6.view.read (Elt F) f6) hh = outV ((finV i (arg3.view.read (Elt F) f3) (arg4.view.read (Elt F) f4) (arg5.view.read (Elt F) f5) A).2 hh) ((finV i (arg3.view.read (Elt F) f3) (arg4.view.read (Elt F) f4) (arg5.view.read (Elt F) f5) A).1.get hh) (View.ld (arg6.view.read (Elt F) f6) (rO hh)) := by
    intro hh; rw [hfin]; rfl
  have main := tailP_wp c i arg3 arg4 arg5 arg8 f3 f4 f5 iprop(pw c arg6 f6 ∗ pw c arg7 f7) zero4 A
    (fun l1 => (do
      let l2 ← loop1P i arg3 arg4 arg5 arg8 l1
      let l3 ← loop2P i arg3 arg4 arg5 arg8 l2
      outsP arg6 arg7 arg8 (storesO arg7 harg7) l3 : Pr F PUnit))
    (fun _ => iprop(pw c arg3 f3 ∗ pw c arg4 f4 ∗ pw c arg5 f5 ∗ pw c arg6 f6
          ∗ (∃ f7, ⌜arg7.view.read (Elt F) f7 = outB i (arg3.view.read (Elt F) f3) (arg4.view.read (Elt F) f4) (arg5.view.read (Elt F) f5) (arg6.view.read (Elt F) f6)⌝ ∗ pw c arg7 f7) ∗ ∃ f8, pw c arg8 f8))
    (loop1P_wp c i arg3 arg4 arg5 arg8 f3 f4 f5 _ _ _ _
      (loop2P_wp c i arg3 arg4 arg5 arg8 f3 f4 f5 _ (finV i (arg3.view.read (Elt F) f3) (arg4.view.read (Elt F) f4) (arg5.view.read (Elt F) f5) A) _ _ (by
        refine (show _ ⊢ iprop(W c (outsP arg6 arg7 arg8 (storesO arg7 harg7) (finV i (arg3.view.read (Elt F) f3) (arg4.view.read (Elt F) f4) (arg5.view.read (Elt F) f5) A).1)
          (fun x => iprop(⌜x = ⟨⟩⌝ ∗ (InvA c arg8 (finV i (arg3.view.read (Elt F) f3) (arg4.view.read (Elt F) f4) (arg5.view.read (Elt F) f5) A).2 ∗ pw c arg6 f6 ∗ ∃ f7, ⌜OutIs (rowB i (arg3.view.read (Elt F) f3) (arg4.view.read (Elt F) f4) (arg5.view.read (Elt F) f5) (arg6.view.read (Elt F) f6)) 4 (arg7.view.read (Elt F) f7)⌝ ∗ pw c arg7 f7)))
          ∗ _) from ?_).trans (wp_wand_r _ _ _)
        unfold Inv
        iintro ⟨⟨H3, H4, H5, H8⟩, H6, H7⟩
        isplitl [H6 H7 H8]
        · iapply (outsP_wp c arg6 arg7 arg8 f6 (rowB i (arg3.view.read (Elt F) f3) (arg4.view.read (Elt F) f4) (arg5.view.read (Elt F) f5) (arg6.view.read (Elt F) f6)) (storesO arg7 harg7) (finV i (arg3.view.read (Elt F) f3) (arg4.view.read (Elt F) f4) (arg5.view.read (Elt F) f5) A) hO f7)
          isplitl [H8]; · iexact H8
          isplitl [H6]; · iexact H6
          iexact H7
        iintro %x ⟨-, H8, H6, ⟨%g7, %h7, H7⟩⟩
        isplitl [H3]; · iexact H3
        isplitl [H4]; · iexact H4
        isplitl [H5]; · iexact H5
        isplitl [H6]; · iexact H6
        isplitl [H7]
        · iexists g7
          isplitr
          · ipureintro
            funext y
            exact outB_of _ _ h7 y
          iexact H7
        unfold InvA
        icases H8 with ⟨%g8, -, H8⟩
        iexists g8
        iexact H8)))
  refine (show _ ⊢ iprop(Inv c arg3 arg4 arg5 arg8 f3 f4 f5 A ∗ (pw c arg6 f6 ∗ pw c arg7 f7)) from ?_).trans main
  unfold Inv InvA
  iintro ⟨H3, H4, H5, H6, H7, H8⟩
  isplitl [H3 H4 H5 H8]
  · isplitl [H3]; · iexact H3
    isplitl [H4]; · iexact H4
    isplitl [H5]; · iexact H5
    iexists f8
    isplitr; · (ipureintro; exact hA)
    iexact H8
  isplitl [H6]; · iexact H6
  iexact H7
end

end Cert.KernelIdeal.Att

end
-- ==== Proof.Att.Launch.lean ====
/- The whole call: its proof data and its run, for any reading of the floats. -/
module

public import proofs.«01_k».proof.Proof.Att.Run
public import proofs.«01_k».proof.Proof.Gen.KernelIdeal.Frame
public import Idealize.ShloMosaic.Lib.Tactic
public import Idealize.ShloMosaic.Lib.Pipeline.Kit
public import Idealize.ShloMosaic.Lib.Pipeline.FrameBody
public import Idealize.ShloMosaic.Lib.Ring

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block at a grid point. -/
def oblk (c : Dev nD) (t : Fin cfg0.N) : Vec F S1x512x512 .bf16 :=
  outB (grid0.coords t) (iblk m c 0 t) (iblk m c 1 t) (iblk m c 2 t) (iblk m c 3 t)

/-- The proof data: the arrays at launch, each operand's block kept, the result's block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = oblk m c t := rfl

/-- A buffer held whole at what it reads. -/
theorem owns_pw (c : Dev nD) {S : Shape} {e : EltTy} (M : Memref sig .tc .vmem S e) (hM : M.IsWhole) (X : S.Idx → Elt F e) :
    (owns (c : Thread nD τ) M fullShare X : sProp 𝕄) = iprop(∃ f, ⌜M.view.read (Elt F) f = X⌝ ∗ pw c M f) := by
  unfold owns; rw [hM.set_eq_univ]

/-- The body on owned blocks. -/
theorem body_owns (c : Dev nD) (i : grid0.Coords)
    (arg3 : Memref sig .tc .vmem S1x4x256x512 .bf16) (harg3 : arg3.IsWhole) (arg4 : Memref sig .tc .vmem S1x4x4096x256 .bf16) (harg4 : arg4.IsWhole)
    (arg5 : Memref sig .tc .vmem S1x4x128x4096 .bf16) (harg5 : arg5.IsWhole) (arg6 : Memref sig .tc .vmem S1x512x512 .bf16) (harg6 : arg6.IsWhole)
    (arg7 : Memref sig .tc .vmem S1x512x512 .bf16) (harg7 : arg7.IsWhole) (arg8 : Memref sig .tc .vmem S4x128x512 .f32) (harg8 : arg8.IsWhole)
    (B0 : Vec F S1x4x256x512 .bf16) (B1 : Vec F S1x4x4096x256 .bf16) (B2 : Vec F S1x4x128x4096 .bf16) (B3 B4 : Vec F S1x512x512 .bf16) :
    iprop(owns (c : Thread nD τ) arg3 fullShare B0 ∗ owns (c : Thread nD τ) arg4 fullShare B1 ∗ owns (c : Thread nD τ) arg5 fullShare B2
        ∗ owns (c : Thread nD τ) arg6 fullShare B3 ∗ owns (c : Thread nD τ) arg7 fullShare B4 ∗ ∃ f8, pw c arg8 f8)
      ⊢ W c (cc0_mla_attention (F := F) i arg3 harg3 arg4 harg4 arg5 harg5 arg6 harg6 arg7 harg7 arg8 harg8)
        (fun _ => iprop(owns (c : Thread nD τ) arg3 fullShare B0 ∗ owns (c : Thread nD τ) arg4 fullShare B1 ∗ owns (c : Thread nD τ) arg5 fullShare B2
        ∗ owns (c : Thread nD τ) arg6 fullShare B3 ∗ owns (c : Thread nD τ) arg7 fullShare (outB i B0 B1 B2 B3) ∗ ∃ f8, pw c arg8 f8)) := by
  rw [owns_pw c arg3 harg3, owns_pw c arg4 harg4, owns_pw c arg5 harg5, owns_pw c arg6 harg6, owns_pw c arg7 harg7, owns_pw c arg7 harg7]
  iintro ⟨⟨%f3, %e3, H3⟩, ⟨%f4, %e4, H4⟩, ⟨%f5, %e5, H5⟩, ⟨%f6, %e6, H6⟩, ⟨%f7, %e7, H7⟩, ⟨%f8, H8⟩⟩
  subst e3 e4 e5 e6
  iapply (wp_wand_r _ _ _)
  isplitl [H3 H4 H5 H6 H7 H8]
  · iapply (body_wp c i arg3 harg3 arg4 harg4 arg5 harg5 arg6 harg6 arg7 harg7 arg8 harg8 f3 f4 f5 f6 f7 f8)
    isplitl [H3]; · iexact H3
    isplitl [H4]; · iexact H4
    isplitl [H5]; · iexact H5
    isplitl [H6]; · iexact H6
    isplitl [H7]; · iexact H7
    iexact H8
  iintro %x ⟨H3, H4, H5, H6, H7, H8⟩
  isplitl [H3]
  · iexists f3; isplitr; · (ipureintro; rfl)
    iexact H3
  isplitl [H4]
  · iexists f4; isplitr; · (ipureintro; rfl)
    iexact H4
  isplitl [H5]
  · iexists f5; isplitr; · (ipureintro; rfl)
    iexact H5
  isplitl [H6]
  · iexists f6; isplitr; · (ipureintro; rfl)
    iexact H6
  isplitl [H7]; · iexact H7
  iexact H8

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl), before0_2_of m (dats m 0 c) rfl (fun _ => rfl),
    before0_3_of m (dats m 0 c) rfl (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4]
  unfold Pipeline.ΦA oblk
  rw [scopedRest0_eq]
  generalize iblk m c 0 t = B0
  generalize iblk m c 1 t = B1
  generalize iblk m c 2 t = B2
  generalize iblk m c 3 t = B3
  iintro ⟨⟨⟨%f8, H8⟩, Hg⟩, HO, ⟨%d0, H0⟩, ⟨%d1, H1⟩, ⟨%d2, H2⟩, ⟨%d3, H3⟩, ⟨%d4, H4⟩⟩
  iapply (wp_wand_r _ _ _)
  isplitl [H0 H1 H2 H3 H4 H8]
  · iapply (body_owns c (grid0.coords t) _ _ _ _ _ _ _ _ _ _ _ _ B0 B1 B2 B3 _)
    isplitl [H0]; · iexact H0
    isplitl [H1]; · iexact H1
    isplitl [H2]; · iexact H2
    isplitl [H3]; · iexact H3
    isplitl [H4]; · iexact H4
    iexists f8; iexact H8
  iintro %x ⟨H0, H1, H2, H3, H4, H8⟩
  isplitl [H8 Hg]
  · isplitl [H8]; · iexact H8
    iexact Hg
  isplitl [HO]; · iexact HO
  isplitl [H0]; · iexact H0
  isplitl [H1]; · iexact H1
  isplitl [H2]; · iexact H2
  isplitl [H3]; · iexact H3
  iexact H4

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- At any reading of the floats, from any memory with zero counters: every weakly fair execution ends, every final
    state has the arrays the proof data names and every counter at zero. -/
theorem run_main :
    θ_run defs (onTc (τ := τ) (main (F := F))) ⟨m, fun _ => 0, ρ⟩
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m}

/-- The arguments are kept. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (A_eq m c 0)),
   ((h c).1 1).trans (((dats m 0 c).arrAt_in 1 rfl _).trans (A_eq m c 1)),
   ((h c).1 2).trans (((dats m 0 c).arrAt_in 2 rfl _).trans (A_eq m c 2)),
   ((h c).1 3).trans (((dats m 0 c).arrAt_in 3 rfl _).trans (A_eq m c 3))⟩

end Cert.KernelIdeal.Att

end
-- ==== Proof.Att.Ideal.lean ====
/- The operations of one unit read over the extended reals, element by element. -/
module

public import proofs.«01_k».proof.Proof.Att.Run
public import Idealize.ShloMosaic.Lib.Pointwise
public import Idealize.ShloMosaic.Lib.ValueIdx

@[expose] public section

set_option maxRecDepth 16384

noncomputable section

namespace Cert.KernelIdeal.Att

open Idealize.ShloMosaic Idealize.ShloMosaic.TcCoe Idealize.SL.Sem
open Facts₀ Facts

/-- Comparing two small numbers as signed words compares them. -/
theorem sle_small (a b : Nat) (ha : a < 2 ^ 31) (hb : b < 2 ^ 31) :
    IntOp.cmpi CmpIPredicate.sle (BitVec.ofNat 32 a) (BitVec.ofNat 32 b) = if a ≤ b then 1#1 else 0#1 := by
  unfold IntOp.cmpi
  simp only [BitVec.sle, BitVec.toInt_eq_toNat_cond, BitVec.toNat_ofNat]
  have h1 : a % 2 ^ 32 = a := Nat.mod_eq_of_lt (by omega)
  have h2 : b % 2 ^ 32 = b := Nat.mod_eq_of_lt (by omega)
  rw [h1, h2, if_pos (by omega), if_pos (by omega)]
  by_cases h : a ≤ b
  · simp [h]
  · simp [h]

theorem addi_small (a b : Nat) : IntOp.addi (BitVec.ofNat 32 a) (BitVec.ofNat 32 b) = BitVec.ofNat 32 (a + b) := by
  unfold IntOp.addi
  rw [BitVec.ofNat_add]

theorem sel_if {α : Type} (P : Prop) [Decidable P] (x y : α) :
    Scalar.select (if P then 1#1 else 0#1 : BitVec 1) x y = if P then x else y := by
  by_cases h : P
  · simp [h, Scalar.select]
  · simp [h, Scalar.select]

theorem ninf : Ideal.ofBits FTy.f32 4286578688#32 = (⊥ : EReal) := by simp [Ideal.ofBits, Ideal.ieee]

/-- A score: a key's row times a query's column. -/
theorem scF_at (k : Vec Ideal S1x1x256x256 .bf16) (q : Vec Ideal S1x1x256x512 .bf16) (a : Fin 256) (b : Fin 512) :
    scF k q (ix2 a b) = ∑ d : Fin 256, (k (ix4 0 0 a d) : EReal) * q (ix4 0 0 d b) := by
  unfold scF
  pointwise
theorem scH_at (k : Vec Ideal S1x1x256x256 .bf16) (q : Vec Ideal S1x1x256x256 .bf16) (a b : Fin 256) :
    scH k q (ix2 a b) = ∑ d : Fin 256, (k (ix4 0 0 a d) : EReal) * q (ix4 0 0 d b) := by
  unfold scH
  pointwise
theorem mkF_at (s : FVec Ideal S256x512 .f32) (a : Fin 256) (b : Fin 512) :
    mkF s (ix2 a b) = if a.val ≤ b.val then s (ix2 a b) else ⊥ := by
  unfold mkF
  pointwise
  rw [addi_small, addi_small, sle_small _ _ (by have := a.isLt; omega) (by have := b.isLt; omega), sel_if, ninf]
  simp
theorem mkH_at (s : FVec Ideal S256x256 .f32) (a : Fin 256) (b : Fin 256) :
    mkH s (ix2 a b) = if a.val ≤ b.val then s (ix2 a b) else ⊥ := by
  unfold mkH
  pointwise
  rw [addi_small, addi_small, sle_small _ _ (by have := a.isLt; omega) (by have := b.isLt; omega), sel_if, ninf]
  simp
theorem lF_at (l : FVec Ideal S1x512 .f32) (p : FVec Ideal S256x512 .f32) (b : Fin 512) :
    lF l p (ix2 0 b) = (l (ix2 0 b) : EReal) + ∑ a : Fin 256, p (ix2 a b) := by
  unfold lF
  pointwise
theorem lH_at (l : FVec Ideal S1x512 .f32) (p : FVec Ideal S256x256 .f32) (b : Fin 512) :
    lH l p (ix2 0 b) = if h : 256 ≤ b.val then (l (ix2 0 b) : EReal) + ∑ a : Fin 256, p (ix2 a ⟨b.val - 256, by omega⟩) else l (ix2 0 b) := by
  unfold lH
  pointwise
  by_cases h : 256 ≤ b.val
  · rw [dif_neg (by omega), dif_pos h]
    congr 2
    congr 1
    exact Fin.ext (by show 256 + (b.val - 256) = b.val; omega)
  · rw [dif_pos (by omega), dif_neg h]
theorem pvF_at (v : Vec Ideal S1x1x128x256 .bf16) (p : FVec Ideal S256x512 .f32) (d : Fin 128) (b : Fin 512) :
    pvF v p (ix2 d b) = ∑ a : Fin 256, (v (ix4 0 0 d a) : EReal) * p (ix2 a b) := by
  unfold pvF
  pointwise
theorem pvH_at (v : Vec Ideal S1x1x128x256 .bf16) (p : FVec Ideal S256x256 .f32) (d : Fin 128) (b : Fin 256) :
    pvH v p (ix2 d b) = ∑ a : Fin 256, (v (ix4 0 0 d a) : EReal) * p (ix2 a b) := by
  unfold pvH
  pointwise
theorem aF_at (x : Vec Ideal S1x128x512 .f32) (o : FVec Ideal S128x512 .f32) (d : Fin 128) (b : Fin 512) :
    aF x o (ix3 0 d b) = (x (ix3 0 d b) : EReal) + o (ix2 d b) := by
  unfold aF
  pointwise
theorem aH_at (x : Vec Ideal S1x128x256 .f32) (o : FVec Ideal S128x256 .f32) (d : Fin 128) (b : Fin 256) :
    aH x o (ix3 0 d b) = (x (ix3 0 d b) : EReal) + o (ix2 d b) := by
  unfold aH
  pointwise
theorem aS_at (o : FVec Ideal S128x512 .f32) (d : Fin 128) (b : Fin 512) : aS o (ix3 0 d b) = o (ix2 d b) := by
  unfold aS
  pointwise
theorem outV_at (x : Vec Ideal S1x128x512 .f32) (l : FVec Ideal S1x512 .f32) (g : Vec Ideal S1x128x512 .bf16) (d : Fin 128) (b : Fin 512) :
    outV x l g (ix3 0 d b) = Ideal.div (x (ix3 0 d b)) (l (ix2 0 b)) * (g (ix3 0 d b) : EReal) := by
  unfold outV
  pointwise

end Cert.KernelIdeal.Att

end
-- ==== Proof.Att.Step.lean ====
/- What a unit, and a list of units, adds to the row sums and to the accumulators over the extended reals. -/
module

public import proofs.«01_k».proof.Proof.Att.Ideal

@[expose] public section

set_option maxRecDepth 16384

noncomputable section

namespace Cert.KernelIdeal.Att

open Idealize.ShloMosaic Idealize.ShloMosaic.TcCoe Idealize.SL.Sem
open Facts₀ Facts

section
variable (X3 : Vec Ideal S1x4x256x512 .bf16) (X4 : Vec Ideal S1x4x4096x256 .bf16) (X5 : Vec Ideal S1x4x128x4096 .bf16)
  (n : Nat) (hh : Fin 4) (q : Fin 512) (d : Fin 128)

/-- The score of query `q` of the tile and key `k`. -/
def sc (k : Nat) : EReal := if h : k < 4096 then ∑ e : Fin 256, (X4 (ix4 0 hh ⟨k, h⟩ e) : EReal) * X3 (ix4 0 hh e q) else 0

/-- The weight of key `k` for query `q` of tile `n`: nothing for a later key. -/
def wt (k : Nat) : EReal := Ideal.exp2 (if k ≤ 512 * n + q.val then sc X3 X4 hh q k else ⊥)

/-- Entry `d` of the value of key `k`. -/
def vl (k : Nat) : EReal := if h : k < 4096 then X5 (ix4 0 hh d ⟨k, h⟩) else 0

theorem wt_late (k : Nat) (h : 512 * n + q.val < k) : wt X3 X4 n hh q k = 0 := by
  unfold wt
  rw [if_neg (by omega)]
  rfl

/-- The first key of a unit. -/
def Unt.base (u : Unt) : Nat := (kw u.ch.j u.ch.c).toNat

/-- The unit's treatment is the one its keys call for in tile `n`, and it starts no accumulator. -/
def Unt.Good (n : Nat) (u : Unt) : Prop :=
  match u.kd with
  | .plain => u.base + 256 ≤ 512 * n
  | .diag => u.base = 512 * n
  | .late => u.base = 512 * n + 256
  | _ => False

theorem get_set {F : FTy → Type} [FloatOps F] (l : Row4 F) (a b : Fin 4) (v : FVec F S1x512 .f32) :
    (l.set a v).get b = if a = b then v else l.get b := by
  match a, b with
  | 0, 0 => rfl | 0, 1 => rfl | 0, 2 => rfl | 0, 3 => rfl
  | 1, 0 => rfl | 1, 1 => rfl | 1, 2 => rfl | 1, 3 => rfl
  | 2, 0 => rfl | 2, 1 => rfl | 2, 2 => rfl | 2, 3 => rfl
  | 3, 0 => rfl | 3, 1 => rfl | 3, 2 => rfl | 3, 3 => rfl

theorem ldK (ch : Chunk) (a e : Fin 256) (h : (kw ch.j ch.c).toNat + a.val < 4096) :
    View.ld X4 (rK ch hh) (ix4 0 0 a e) = X4 (ix4 0 hh ⟨(kw ch.j ch.c).toNat + a.val, h⟩ e) := by
  show X4 _ = X4 _
  congr 1
  funext i
  apply Fin.ext
  match i with
  | ⟨0, _⟩ => rfl
  | ⟨1, _⟩ => show hh.val + 1 * 0 = hh.val; omega
  | ⟨2, _⟩ => show (kw ch.j ch.c).toNat + 1 * a.val = (kw ch.j ch.c).toNat + a.val; omega
  | ⟨3, _⟩ => show 0 + 1 * e.val = e.val; omega

theorem ldV (ch : Chunk) (a : Fin 256) (h : (kw ch.j ch.c).toNat + a.val < 4096) :
    View.ld X5 (rV ch hh) (ix4 0 0 d a) = X5 (ix4 0 hh d ⟨(kw ch.j ch.c).toNat + a.val, h⟩) := by
  show X5 _ = X5 _
  congr 1
  funext i
  apply Fin.ext
  match i with
  | ⟨0, _⟩ => rfl
  | ⟨1, _⟩ => show hh.val + 1 * 0 = hh.val; omega
  | ⟨2, _⟩ => show 0 + 1 * d.val = d.val; omega
  | ⟨3, _⟩ => show (kw ch.j ch.c).toNat + 1 * a.val = (kw ch.j ch.c).toNat + a.val; omega

theorem ldQ (e : Fin 256) : View.ld X3 (rQ hh) (ix4 0 0 e q) = X3 (ix4 0 hh e q) := by
  show X3 _ = X3 _
  congr 1
  funext i
  apply Fin.ext
  match i with
  | ⟨0, _⟩ => rfl
  | ⟨1, _⟩ => show hh.val + 1 * 0 = hh.val; omega
  | ⟨2, _⟩ => show 0 + 1 * e.val = e.val; omega
  | ⟨3, _⟩ => show 0 + 1 * q.val = q.val; omega

theorem ldQ' (e b : Fin 256) (h : 256 + b.val < 512) : View.ld X3 (rQ' hh) (ix4 0 0 e b) = X3 (ix4 0 hh e ⟨256 + b.val, h⟩) := by
  show X3 _ = X3 _
  congr 1
  funext i
  apply Fin.ext
  match i with
  | ⟨0, _⟩ => rfl
  | ⟨1, _⟩ => show hh.val + 1 * 0 = hh.val; omega
  | ⟨2, _⟩ => show 0 + 1 * e.val = e.val; omega
  | ⟨3, _⟩ => show 256 + 1 * b.val = 256 + b.val; omega

theorem scF_sc (ch : Chunk) (a : Fin 256) :
    scF (View.ld X4 (rK ch hh)) (View.ld X3 (rQ hh)) (ix2 a q) = sc X3 X4 hh q ((kw ch.j ch.c).toNat + a.val) := by
  have h : (kw ch.j ch.c).toNat + a.val < 4096 := by have := ch.hj; have := a.isLt; omega
  rw [scF_at]
  unfold sc
  rw [dif_pos h]
  refine Finset.sum_congr rfl fun e _ => ?_
  rw [ldK X4 hh ch a e h, ldQ]

theorem scH_sc (ch : Chunk) (a b : Fin 256) (h' : 256 + b.val < 512) :
    scH (View.ld X4 (rK ch hh)) (View.ld X3 (rQ' hh)) (ix2 a b) = sc X3 X4 hh ⟨256 + b.val, h'⟩ ((kw ch.j ch.c).toNat + a.val) := by
  have h : (kw ch.j ch.c).toNat + a.val < 4096 := by have := ch.hj; have := a.isLt; omega
  rw [scH_at]
  unfold sc
  rw [dif_pos h]
  refine Finset.sum_congr rfl fun e _ => ?_
  rw [ldK X4 hh ch a e h, ldQ' X3 hh e b h']

/-- The row sum of query `q` of head `hh`. -/
def oL (st : St Ideal) : EReal := st.1.get hh (ix2 0 q)
/-- Entry `d` of the accumulator of query `q` of head `hh`. -/
def oA (st : St Ideal) : EReal := st.2 hh (ix3 0 d q)

/-- What the keys from `b` on to `b + 256` add. -/
def gain (f : Nat → EReal) (b : Nat) : EReal := ∑ a : Fin 256, f (b + a.val)

/-- The weights a unit over all the queries uses. -/
theorem oL_add (hu : Fin 4) (p : FVec Ideal S256x512 .f32) (v : Vec Ideal S1x1x128x256 .bf16) (st : St Ideal) :
    oL hh q (addV hu p v st) = oL hh q st + if hu = hh then ∑ a : Fin 256, p (ix2 a q) else 0 := by
  unfold oL addV
  rw [get_set]
  by_cases h : hu = hh
  · subst h; rw [if_pos rfl, if_pos rfl, lF_at]
  · rw [if_neg h, if_neg h, add_zero]

theorem oA_add (hu : Fin 4) (p : FVec Ideal S256x512 .f32) (v : Vec Ideal S1x1x128x256 .bf16) (st : St Ideal) :
    oA hh q d (addV hu p v st) = oA hh q d st + if hu = hh then ∑ a : Fin 256, (v (ix4 0 0 d a) : EReal) * p (ix2 a q) else 0 := by
  unfold oA addV
  by_cases h : hu = hh
  · subst h; rw [if_pos rfl]; dsimp only; rw [Function.update_self, aF_at, pvF_at]
  · rw [if_neg h, add_zero]; dsimp only; rw [Function.update_of_ne (Ne.symm h)]

theorem oL_late (hu : Fin 4) (p : FVec Ideal S256x256 .f32) (v : Vec Ideal S1x1x128x256 .bf16) (st : St Ideal) :
    oL hh q (lateV hu p v st) = oL hh q st
      + if hu = hh then (if h : 256 ≤ q.val then ∑ a : Fin 256, p (ix2 a ⟨q.val - 256, by omega⟩) else 0) else 0 := by
  unfold oL lateV
  rw [get_set]
  by_cases h : hu = hh
  · subst h
    rw [if_pos rfl, if_pos rfl, lH_at]
    by_cases h2 : 256 ≤ q.val
    · rw [dif_pos h2, dif_pos h2]
    · rw [dif_neg h2, dif_neg h2, add_zero]
  · rw [if_neg h, if_neg h, add_zero]

theorem oA_late (hu : Fin 4) (p : FVec Ideal S256x256 .f32) (v : Vec Ideal S1x1x128x256 .bf16) (st : St Ideal) :
    oA hh q d (lateV hu p v st) = oA hh q d st
      + if hu = hh then (if h : 256 ≤ q.val then ∑ a : Fin 256, (v (ix4 0 0 d a) : EReal) * p (ix2 a ⟨q.val - 256, by omega⟩) else 0) else 0 := by
  unfold oA lateV
  by_cases h : hu = hh
  · subst h
    rw [if_pos rfl]
    dsimp only
    rw [Function.update_self]
    unfold ovl
    by_cases h2 : 256 ≤ q.val
    · have e1 : loI (ix3 0 d q) h2 = ix3 0 d ⟨q.val - 256, by omega⟩ := by
        funext i; match i with
        | ⟨0, _⟩ => rfl
        | ⟨1, _⟩ => rfl
        | ⟨2, _⟩ => rfl
      have e2 : hi (st.2 hu) (ix3 0 d ⟨q.val - 256, by omega⟩) = st.2 hu (ix3 0 d q) := by
        unfold hi
        refine congrArg (st.2 hu) ?_
        funext i; match i with
        | ⟨0, _⟩ => rfl
        | ⟨1, _⟩ => rfl
        | ⟨2, _⟩ => exact Fin.ext (by show 256 + (q.val - 256) = q.val; omega)
      rw [dif_pos h2]
      rw [dif_pos (show 256 ≤ (ix3 (0 : Fin 1) d q 2).val from h2), e1, aH_at, pvH_at, e2]
    · rw [dif_neg h2, dif_neg (show ¬ 256 ≤ (ix3 (0 : Fin 1) d q 2).val from h2), add_zero]
  · rw [if_neg h, add_zero]; dsimp only; rw [Function.update_of_ne (Ne.symm h)]

/-- The product a key adds to an accumulator. -/
def pr (k : Nat) : EReal := vl X5 hh d k * wt X3 X4 n hh q k

theorem pF_plain (ch : Chunk) (hb : (kw ch.j ch.c).toNat + 256 ≤ 512 * n) (a : Fin 256) :
    (exp2 (scF (View.ld X4 (rK ch hh)) (View.ld X3 (rQ hh))) : FVec Ideal S256x512 .f32) (ix2 a q)
      = wt X3 X4 n hh q ((kw ch.j ch.c).toNat + a.val) := by
  show Ideal.exp2 (scF (View.ld X4 (rK ch hh)) (View.ld X3 (rQ hh)) (ix2 a q)) = _
  rw [scF_sc]
  unfold wt
  rw [if_pos (by have := a.isLt; omega)]

theorem pF_diag (ch : Chunk) (hb : (kw ch.j ch.c).toNat = 512 * n) (a : Fin 256) :
    (exp2 (mkF (scF (View.ld X4 (rK ch hh)) (View.ld X3 (rQ hh)))) : FVec Ideal S256x512 .f32) (ix2 a q)
      = wt X3 X4 n hh q ((kw ch.j ch.c).toNat + a.val) := by
  show Ideal.exp2 (mkF (scF (View.ld X4 (rK ch hh)) (View.ld X3 (rQ hh))) (ix2 a q)) = _
  rw [mkF_at, scF_sc]
  unfold wt
  by_cases h : a.val ≤ q.val
  · rw [if_pos h, if_pos (by omega)]
  · rw [if_neg h, if_neg (by omega)]

theorem pH_late' (ch : Chunk) (hb : (kw ch.j ch.c).toNat = 512 * n + 256) (a b : Fin 256) (h : 256 + b.val < 512) :
    (exp2 (mkH (scH (View.ld X4 (rK ch hh)) (View.ld X3 (rQ' hh)))) : FVec Ideal S256x256 .f32) (ix2 a b)
      = wt X3 X4 n hh ⟨256 + b.val, h⟩ ((kw ch.j ch.c).toNat + a.val) := by
  show Ideal.exp2 (mkH (scH (View.ld X4 (rK ch hh)) (View.ld X3 (rQ' hh))) (ix2 a b)) = _
  rw [mkH_at, scH_sc X3 X4 hh ch a b h]
  unfold wt
  by_cases h' : a.val ≤ b.val
  · rw [if_pos h', if_pos (by show _ ≤ 512 * n + (256 + b.val); omega)]
  · rw [if_neg h', if_neg (by show ¬ _ ≤ 512 * n + (256 + b.val); omega)]

theorem pH_late (ch : Chunk) (hb : (kw ch.j ch.c).toNat = 512 * n + 256) (a : Fin 256) (h : 256 ≤ q.val) :
    (exp2 (mkH (scH (View.ld X4 (rK ch hh)) (View.ld X3 (rQ' hh)))) : FVec Ideal S256x256 .f32) (ix2 a ⟨q.val - 256, by omega⟩)
      = wt X3 X4 n hh q ((kw ch.j ch.c).toNat + a.val) := by
  refine (pH_late' X3 X4 n hh ch hb a _ (by show 256 + (q.val - 256) < 512; omega)).trans ?_
  refine congrArg (fun x => wt X3 X4 n hh x ((kw ch.j ch.c).toNat + a.val)) (Fin.ext ?_)
  show 256 + (q.val - 256) = q.val
  omega

theorem vl_at (ch : Chunk) (a : Fin 256) :
    View.ld X5 (rV ch hh) (ix4 0 0 d a) = vl X5 hh d ((kw ch.j ch.c).toNat + a.val) := by
  have h : (kw ch.j ch.c).toNat + a.val < 4096 := by have := ch.hj; have := a.isLt; omega
  rw [ldV X5 hh d ch a h]
  unfold vl
  rw [dif_pos h]

theorem gain_late (f : Nat → EReal) (b : Nat) (h : ∀ a : Fin 256, f (b + a.val) = 0) : gain f b = 0 :=
  Finset.sum_eq_zero fun a _ => h a

theorem oL_step (u : Unt) (hg : u.Good n) (st : St Ideal) :
    oL hh q (stepV X3 X4 X5 st u) = oL hh q st + if u.hh = hh then gain (wt X3 X4 n hh q) u.base else 0 := by
  obtain ⟨ch, hu, kd⟩ := u
  cases kd with
  | plain =>
    refine (oL_add hh q hu _ _ st).trans ?_
    by_cases h : hu = hh
    · subst h; rw [if_pos rfl, if_pos rfl]; exact congrArg _ (Finset.sum_congr rfl fun a _ => pF_plain X3 X4 n hu q ch hg a)
    · rw [if_neg h, if_neg h]
  | diag =>
    refine (oL_add hh q hu _ _ st).trans ?_
    by_cases h : hu = hh
    · subst h; rw [if_pos rfl, if_pos rfl]; exact congrArg _ (Finset.sum_congr rfl fun a _ => pF_diag X3 X4 n hu q ch hg a)
    · rw [if_neg h, if_neg h]
  | late =>
    refine (oL_late hh q hu _ _ st).trans ?_
    by_cases h : hu = hh
    · subst h
      rw [if_pos rfl, if_pos rfl]
      by_cases h2 : 256 ≤ q.val
      · rw [dif_pos h2]; exact congrArg _ (Finset.sum_congr rfl fun a _ => pH_late X3 X4 n hu q ch hg a h2)
      · rw [dif_neg h2]
        refine congrArg _ (gain_late _ _ fun a => wt_late X3 X4 n hu q _ ?_).symm
        have : (⟨ch, hu, .late⟩ : Unt).base = 512 * n + 256 := hg
        omega
    · rw [if_neg h, if_neg h]
  | plain0 => exact absurd hg id
  | diag0 => exact absurd hg id

theorem oA_step (u : Unt) (hg : u.Good n) (st : St Ideal) :
    oA hh q d (stepV X3 X4 X5 st u) = oA hh q d st + if u.hh = hh then gain (pr X3 X4 X5 n hh q d) u.base else 0 := by
  obtain ⟨ch, hu, kd⟩ := u
  cases kd with
  | plain =>
    refine (oA_add hh q d hu _ _ st).trans ?_
    by_cases h : hu = hh
    · subst h; rw [if_pos rfl, if_pos rfl]
      refine congrArg _ (Finset.sum_congr rfl fun a _ => ?_)
      rw [vl_at, pF_plain X3 X4 n hu q ch hg a]; rfl
    · rw [if_neg h, if_neg h]
  | diag =>
    refine (oA_add hh q d hu _ _ st).trans ?_
    by_cases h : hu = hh
    · subst h; rw [if_pos rfl, if_pos rfl]
      refine congrArg _ (Finset.sum_congr rfl fun a _ => ?_)
      rw [vl_at, pF_diag X3 X4 n hu q ch hg a]; rfl
    · rw [if_neg h, if_neg h]
  | late =>
    refine (oA_late hh q d hu _ _ st).trans ?_
    by_cases h : hu = hh
    · subst h
      rw [if_pos rfl, if_pos rfl]
      by_cases h2 : 256 ≤ q.val
      · rw [dif_pos h2]
        refine congrArg _ (Finset.sum_congr rfl fun a _ => ?_)
        rw [vl_at, pH_late X3 X4 n hu q ch hg a h2]; rfl
      · rw [dif_neg h2]
        refine congrArg _ (gain_late _ _ fun a => ?_).symm
        unfold pr
        rw [wt_late X3 X4 n hu q _ (by have : (⟨ch, hu, .late⟩ : Unt).base = 512 * n + 256 := hg; omega), mul_zero]
    · rw [if_neg h, if_neg h]
  | plain0 => exact absurd hg id
  | diag0 => exact absurd hg id

end

/-! ## Lists of units -/

/-- What a list of units adds for head `hh`. -/
def tot (hh : Fin 4) (f : Nat → EReal) : List Unt → EReal
  | [] => 0
  | u :: us => (if u.hh = hh then gain f u.base else 0) + tot hh f us

theorem tot_append (hh : Fin 4) (f : Nat → EReal) (us vs : List Unt) : tot hh f (us ++ vs) = tot hh f us + tot hh f vs := by
  induction us with
  | nil => exact (zero_add _).symm
  | cons u us ih => show _ + tot hh f (us ++ vs) = _ + tot hh f us + _; rw [ih, add_assoc]

/-- A reading that grows unit by unit has grown by the list's total. -/
theorem run_tot (X3 : Vec Ideal S1x4x256x512 .bf16) (X4 : Vec Ideal S1x4x4096x256 .bf16) (X5 : Vec Ideal S1x4x128x4096 .bf16)
    (hh : Fin 4) (f : Nat → EReal) (o : St Ideal → EReal) (G : Unt → Prop)
    (hs : ∀ u, G u → ∀ st, o (stepV X3 X4 X5 st u) = o st + if u.hh = hh then gain f u.base else 0)
    (us : List Unt) (h : ∀ u ∈ us, G u) (st : St Ideal) : o (runV X3 X4 X5 us st) = o st + tot hh f us := by
  induction us generalizing st with
  | nil => exact (add_zero _).symm
  | cons u us ih =>
    show o (runV X3 X4 X5 us (stepV X3 X4 X5 st u)) = o st + (_ + tot hh f us)
    rw [ih (fun v hv => h v (List.mem_cons_of_mem _ hv)), hs u (h u List.mem_cons_self), add_assoc]

/-- The sum over the first `b` keys. -/
def upto (f : Nat → EReal) (b : Nat) : EReal := ∑ k ∈ Finset.range b, f k

theorem upto_gain (f : Nat → EReal) (b : Nat) : upto f b + gain f b = upto f (b + 256) := by
  unfold upto gain
  rw [Finset.sum_range_add, Finset.sum_range (fun x => f (b + x))]

theorem tot_heads (hh : Fin 4) (f : Nat → EReal) (ch : Chunk) (kd : Kind) :
    tot hh f (heads ch kd) = gain f (kw ch.j ch.c).toNat := by
  have : ∀ g : EReal, (if (0 : Fin 4) = hh then g else 0) + ((if (1 : Fin 4) = hh then g else 0)
      + ((if (2 : Fin 4) = hh then g else 0) + ((if (3 : Fin 4) = hh then g else 0) + 0))) = g := by
    intro g
    match hh with
    | 0 => simp
    | 1 => simp
    | 2 => simp
    | 3 => simp
  exact this _

/-- A block's two halves, after the keys before it. -/
theorem upto_blk (hh : Fin 4) (f : Nat → EReal) (j : BitVec 32) (h : ∀ c < 2, (kw j c).toNat + 256 ≤ 4096) (k0 k1 : Kind) (b : Nat)
    (h0 : (kw j 0).toNat = 512 * b) (h1 : (kw j 1).toNat = 512 * b + 256) :
    upto f (512 * b) + tot hh f (blk j h k0 k1) = upto f (512 * (b + 1)) := by
  unfold blk
  rw [tot_append, tot_heads, tot_heads, ← add_assoc]
  show upto f (512 * b) + gain f (kw j 0).toNat + gain f (kw j 1).toNat = _
  rw [h0, h1, upto_gain, upto_gain]
  exact congrArg _ (by omega)

/-! ## The units of a tile -/

theorem acc0_at (hh : Fin 4) (i) : (acc0 (F := Ideal)) hh i = (0 : EReal) := by
  show Ideal.ofBits .f32 0x00000000#32 = 0
  simp [Ideal.ofBits, Ideal.ieee]

/-- Starting an accumulator is adding to an empty one. -/
theorem aS_aF (hh : Fin 4) (o : FVec Ideal S128x512 .f32) : aS o = aF (acc0 hh) o := by
  funext i
  idx_vars i
  obtain rfl : i0 = 0 := Subsingleton.elim _ _
  rw [aS_at, aF_at, acc0_at, zero_add]

/-- Four units that start empty accumulators are four units that add to them. -/
theorem start_heads (X3 : Vec Ideal S1x4x256x512 .bf16) (X4 : Vec Ideal S1x4x4096x256 .bf16) (X5 : Vec Ideal S1x4x128x4096 .bf16)
    (ch : Chunk) (k0 k1 : Kind) (hk : k0 = .plain0 ∧ k1 = .plain ∨ k0 = .diag0 ∧ k1 = .diag) (us : List Unt) (l : Row4 Ideal) :
    runV X3 X4 X5 (heads ch k0 ++ us) (l, acc0) = runV X3 X4 X5 (heads ch k1 ++ us) (l, acc0) := by
  refine congrArg (fun st => us.foldl (stepV X3 X4 X5) st) ?_
  have hs : ∀ hh p v (st : St Ideal), st.2 hh = acc0 hh → startV hh p v st = addV hh p v st := by
    intro hh p v st h
    unfold startV addV
    rw [h, aS_aF hh]
  rcases hk with ⟨rfl, rfl⟩ | ⟨rfl, rfl⟩
  · have e : ∀ hh (st : St Ideal), st.2 hh = acc0 hh → stepV X3 X4 X5 st ⟨ch, hh, .plain0⟩ = stepV X3 X4 X5 st ⟨ch, hh, .plain⟩ :=
      fun hh st h => hs hh _ _ st h
    show stepV X3 X4 X5 (stepV X3 X4 X5 (stepV X3 X4 X5 (stepV X3 X4 X5 _ _) _) _) _ = _
    rw [e 0 _ rfl, e 1 _ rfl, e 2 _ rfl, e 3 _ rfl]
  · have e : ∀ hh (st : St Ideal), st.2 hh = acc0 hh → stepV X3 X4 X5 st ⟨ch, hh, .diag0⟩ = stepV X3 X4 X5 st ⟨ch, hh, .diag⟩ :=
      fun hh st h => hs hh _ _ st h
    show stepV X3 X4 X5 (stepV X3 X4 X5 (stepV X3 X4 X5 (stepV X3 X4 X5 _ _) _) _) _ = _
    rw [e 0 _ rfl, e 1 _ rfl, e 2 _ rfl, e 3 _ rfl]

theorem start_blk (X3 : Vec Ideal S1x4x256x512 .bf16) (X4 : Vec Ideal S1x4x4096x256 .bf16) (X5 : Vec Ideal S1x4x128x4096 .bf16)
    (j : BitVec 32) (h) (k0 k1 k' : Kind) (hk : k0 = .plain0 ∧ k1 = .plain ∨ k0 = .diag0 ∧ k1 = .diag) (us : List Unt) (l : Row4 Ideal) :
    runV X3 X4 X5 (blk j h k0 k' ++ us) (l, acc0) = runV X3 X4 X5 (blk j h k1 k' ++ us) (l, acc0) := by
  unfold blk
  rw [List.append_assoc, List.append_assoc]
  exact start_heads X3 X4 X5 _ k0 k1 hk _ l

theorem wj_at (i : grid0.Coords) (r t : Nat) (hr : r ≤ 3) (ht : t ≤ r) (hi : r ≤ (i 2).val) (c : Nat) (hc : c < 2) :
    (kw (wj i r t) c).toNat = 512 * ((i 2).val - r + t) + 256 * c := by
  have h : ∀ x : Fin 8, ∀ r < 4, r ≤ x.val → ∀ t < 4, t ≤ r → ∀ c < 2,
      (kw (Scalar.addi (Scalar.subi (BitVec.ofNat 32 x.val) (BitVec.ofNat 32 r)) (BitVec.ofNat 32 t)) c).toNat = 512 * (x.val - r + t) + 256 * c := by
    decide +kernel
  exact h (i 2) r (by omega) hi t (by omega) ht c hc

theorem wl_at (a c : Nat) (ha : a < 4) (hc : c < 2) : (kw (wl 0#32 a) c).toNat = 512 * a + 256 * c := by
  have h : ∀ a < 4, ∀ c < 2, (kw (wl 0#32 a) c).toNat = 512 * a + 256 * c := by decide +kernel
  exact h a ha c hc

theorem good_heads (n : Nat) (ch : Chunk) (kd : Kind) (h : (⟨ch, 0, kd⟩ : Unt).Good n) : ∀ u ∈ heads ch kd, u.Good n := by
  intro u hu
  have : u.ch = ch ∧ u.kd = kd := by
    simp only [heads, List.mem_cons, List.not_mem_nil, or_false] at hu
    rcases hu with rfl | rfl | rfl | rfl <;> exact ⟨rfl, rfl⟩
  obtain ⟨ch', hh', kd'⟩ := u
  obtain ⟨rfl, rfl⟩ := this
  exact h

theorem good_append (n : Nat) (us vs : List Unt) (hu : ∀ u ∈ us, u.Good n) (hv : ∀ u ∈ vs, u.Good n) : ∀ u ∈ us ++ vs, u.Good n :=
  fun u h => (List.mem_append.1 h).elim (hu u) (hv u)

theorem good_plain (n : Nat) (j : BitVec 32) (h) (b : Nat) (hb : b < n) (h0 : (kw j 0).toNat = 512 * b) (h1 : (kw j 1).toNat = 512 * b + 256) :
    ∀ u ∈ blk j h .plain .plain, u.Good n :=
  good_append n _ _ (good_heads n _ _ (show (kw j 0).toNat + 256 ≤ 512 * n by omega)) (good_heads n _ _ (show (kw j 1).toNat + 256 ≤ 512 * n by omega))

theorem good_diag (n : Nat) (j : BitVec 32) (h) (h0 : (kw j 0).toNat = 512 * n) (h1 : (kw j 1).toNat = 512 * n + 256) :
    ∀ u ∈ blk j h .diag .late, u.Good n :=
  good_append n _ _ (good_heads n _ _ h0) (good_heads n _ _ h1)

section
variable (X3 : Vec Ideal S1x4x256x512 .bf16) (X4 : Vec Ideal S1x4x4096x256 .bf16) (X5 : Vec Ideal S1x4x128x4096 .bf16)
  (hh : Fin 4) (f : Nat → EReal) (o : St Ideal → EReal)

/-- The tail adds the keys from its first block's to the diagonal block's. -/
theorem tail_tot (i : grid0.Coords)
    (hs : ∀ u : Unt, u.Good (i 2).val → ∀ st, o (stepV X3 X4 X5 st u) = o st + if u.hh = hh then gain f u.base else 0) :
    ∃ x, o (runV X3 X4 X5 (tailU i) (zero4, acc0)) = o (zero4, acc0) + x
      ∧ upto f (512 * (4 * ((i 2).val / 4))) + x = upto f (512 * ((i 2).val + 1)) := by
  have b0 : ∀ r t, r ≤ 3 → t ≤ r → r ≤ (i 2).val → (kw (wj i r t) 0).toNat = 512 * ((i 2).val - r + t) := fun r t hr ht hi =>
    (wj_at i r t hr ht hi 0 (by decide)).trans (by omega)
  have b1 : ∀ r t, r ≤ 3 → t ≤ r → r ≤ (i 2).val → (kw (wj i r t) 1).toNat = 512 * ((i 2).val - r + t) + 256 := fun r t hr ht hi =>
    (wj_at i r t hr ht hi 1 (by decide)).trans (by omega)
  have P : ∀ r t, r ≤ 3 → t < r → r ≤ (i 2).val → ∀ h, ∀ u ∈ blk (wj i r t) h .plain .plain, u.Good (i 2).val := fun r t hr ht hi h =>
    good_plain _ _ h ((i 2).val - r + t) (by omega) (b0 r t hr (by omega) hi) (b1 r t hr (by omega) hi)
  have D : ∀ r, r ≤ 3 → r ≤ (i 2).val → ∀ h, ∀ u ∈ blk (wj i r r) h .diag .late, u.Good (i 2).val := fun r hr hi h =>
    good_diag _ _ h ((b0 r r hr le_rfl hi).trans (by omega)) ((b1 r r hr le_rfl hi).trans (by omega))
  have U : ∀ r t, r ≤ 3 → t ≤ r → r ≤ (i 2).val → ∀ h k0 k1, ∀ b b', b = (i 2).val - r + t → b' = b + 1 →
      upto f (512 * b) + tot hh f (blk (wj i r t) h k0 k1) = upto f (512 * b') := by
    intro r t hr ht hi h k0 k1 b b' hb hb'
    subst hb hb'
    exact upto_blk hh f _ h k0 k1 _ (b0 r t hr ht hi) (b1 r t hr ht hi)
  have R : ∀ us : List Unt, (∀ u ∈ us, u.Good (i 2).val) → o (runV X3 X4 X5 us (zero4, acc0)) = o (zero4, acc0) + tot hh f us := fun us h =>
    run_tot X3 X4 X5 hh f o (fun u => u.Good (i 2).val) hs us h _
  unfold tailU
  split
  · next h1 =>
    split
    · next h2 =>
      split
      · next h3 =>
        have hn := (cond3_iff i h1 h2).1 h3
        unfold tail3
        rw [start_blk X3 X4 X5 _ _ .plain0 .plain .plain (Or.inl ⟨rfl, rfl⟩)]
        refine ⟨_, R _ (good_append _ _ _ (P 3 0 (by omega) (by omega) (by omega) _)
          (good_append _ _ _ (P 3 1 (by omega) (by omega) (by omega) _) (good_append _ _ _ (P 3 2 (by omega) (by omega) (by omega) _) (D 3 (by omega) (by omega) _)))), ?_⟩
        rw [tot_append, tot_append, tot_append, ← add_assoc, ← add_assoc, ← add_assoc,
          U 3 0 (by omega) (by omega) (by omega) _ .plain .plain _ (4 * ((i 2).val / 4) + 1) (by omega) (by omega),
          U 3 1 (by omega) (by omega) (by omega) _ .plain .plain _ (4 * ((i 2).val / 4) + 2) (by omega) (by omega),
          U 3 2 (by omega) (by omega) (by omega) _ .plain .plain _ (4 * ((i 2).val / 4) + 3) (by omega) (by omega),
          U 3 3 (by omega) (by omega) (by omega) _ .diag .late _ ((i 2).val + 1) (by omega) (by omega)]
      · next h3 =>
        have hn : (i 2).val % 4 = 2 := by
          have := (cond1_iff i).1 h1; have := (cond2_iff i h1).1 h2
          have : ¬ (i 2).val % 4 = 3 := fun h => h3 ((cond3_iff i h1 h2).2 h)
          omega
        unfold tail2
        rw [start_blk X3 X4 X5 _ _ .plain0 .plain .plain (Or.inl ⟨rfl, rfl⟩)]
        refine ⟨_, R _ (good_append _ _ _ (P 2 0 (by omega) (by omega) (by omega) _)
          (good_append _ _ _ (P 2 1 (by omega) (by omega) (by omega) _) (D 2 (by omega) (by omega) _))), ?_⟩
        rw [tot_append, tot_append, ← add_assoc, ← add_assoc,
          U 2 0 (by omega) (by omega) (by omega) _ .plain .plain _ (4 * ((i 2).val / 4) + 1) (by omega) (by omega),
          U 2 1 (by omega) (by omega) (by omega) _ .plain .plain _ (4 * ((i 2).val / 4) + 2) (by omega) (by omega),
          U 2 2 (by omega) (by omega) (by omega) _ .diag .late _ ((i 2).val + 1) (by omega) (by omega)]
    · next h2 =>
      have hn : (i 2).val % 4 = 1 := by
        by_contra h; exact h2 ((cond2_iff i h1).2 h)
      unfold tail1
      rw [start_blk X3 X4 X5 _ _ .plain0 .plain .plain (Or.inl ⟨rfl, rfl⟩)]
      refine ⟨_, R _ (good_append _ _ _ (P 1 0 (by omega) (by omega) (by omega) _) (D 1 (by omega) (by omega) _)), ?_⟩
      rw [tot_append, ← add_assoc,
        U 1 0 (by omega) (by omega) (by omega) _ .plain .plain _ (4 * ((i 2).val / 4) + 1) (by omega) (by omega),
        U 1 1 (by omega) (by omega) (by omega) _ .diag .late _ ((i 2).val + 1) (by omega) (by omega)]
  · next h1 =>
    have hn : (i 2).val % 4 = 0 := by
      by_contra h; exact h1 ((cond1_iff i).2 h)
    unfold tail0
    have e := start_blk X3 X4 X5 (wj i 0 0) (okTail0 i 0 (by decide)) .diag0 .diag .late (Or.inr ⟨rfl, rfl⟩) [] zero4
    rw [List.append_nil, List.append_nil] at e
    rw [e]
    refine ⟨_, R _ (D 0 (by omega) (by omega) _), ?_⟩
    rw [U 0 0 (by omega) (by omega) (by omega) _ .diag .late _ ((i 2).val + 1) (by omega) (by omega)]

/-- A tile's units add all the keys up to its last query's. -/
theorem fin_tot (i : grid0.Coords)
    (hs : ∀ u : Unt, u.Good (i 2).val → ∀ st, o (stepV X3 X4 X5 st u) = o st + if u.hh = hh then gain f u.base else 0) :
    o (finV i X3 X4 X5 acc0) = o (zero4, acc0) + upto f (512 * ((i 2).val + 1)) := by
  obtain ⟨x, hx, hsum⟩ := tail_tot X3 X4 X5 hh f o i hs
  have h8 : (i 2).val < 8 := (i 2).isLt
  unfold finV
  have ht := trips1 i
  rcases Nat.lt_or_ge (i 2).val 4 with h4 | h4
  · have e0 : (k0_t1_loop i).trips = 0 := by omega
    rw [e0]
    show o (runV X3 X4 X5 (tailU i) (zero4, acc0)) = _
    rw [hx, ← hsum]
    have : (i 2).val / 4 = 0 := by omega
    rw [this]
    unfold upto
    simp
  · have e1 : (k0_t1_loop i).trips = 1 := by omega
    rw [e1]
    have hk : 0 < (k0_t1_loop i).trips := by omega
    have e : loopV i X3 X4 X5 (runV X3 X4 X5 (tailU i) (zero4, acc0)) 1
        = runV X3 X4 X5 (trip (Scf.iv 0#32 1#32 (⟨0, hk⟩ : Fin (k0_t1_loop i).trips)) (okLoop1 i ⟨0, hk⟩)) (runV X3 X4 X5 (tailU i) (zero4, acc0)) :=
      dif_pos hk
    rw [e]
    have hiv : Scf.iv 0#32 1#32 (⟨0, hk⟩ : Fin (k0_t1_loop i).trips) = 0#32 := by rfl
    generalize okLoop1 i ⟨0, hk⟩ = hO
    revert hO
    rw [hiv]
    intro hO
    have g : ∀ a < 4, ∀ h, ∀ u ∈ blk (wl 0#32 a) h .plain .plain, u.Good (i 2).val := fun a ha h =>
      good_plain _ _ h a (by omega) (wl_at a 0 ha (by decide)) (wl_at a 1 ha (by decide))
    have U : ∀ a < 4, ∀ h k0 k1, upto f (512 * a) + tot hh f (blk (wl 0#32 a) h k0 k1) = upto f (512 * (a + 1)) := fun a ha h k0 k1 =>
      upto_blk hh f _ h k0 k1 a (wl_at a 0 ha (by decide)) (wl_at a 1 ha (by decide))
    unfold trip
    rw [run_tot X3 X4 X5 hh f o (fun u => u.Good (i 2).val) hs _ (good_append _ _ _ (g 0 (by decide) _) (good_append _ _ _ (g 1 (by decide) _)
      (good_append _ _ _ (g 2 (by decide) _) (g 3 (by decide) _)))), hx, ← hsum]
    have e4 : (i 2).val / 4 = 1 := by omega
    rw [e4, ← U 3 (by decide) (hO 3 (by decide)) .plain .plain, ← U 2 (by decide) (hO 2 (by decide)) .plain .plain,
      ← U 1 (by decide) (hO 1 (by decide)) .plain .plain, ← U 0 (by decide) (hO 0 (by decide)) .plain .plain,
      tot_append, tot_append, tot_append]
    have hz : upto f (512 * 0) = 0 := by unfold upto; simp
    rw [hz]
    abel

end

end Cert.KernelIdeal.Att
-- ==== Proof.Att.Final.lean ====
/- The kernel's result array, entry by entry, over the extended reals. -/
module

public import proofs.«01_k».proof.Proof.Att.Step
public import proofs.«01_k».proof.Proof.Att.Launch
public import proofs.«01_k».proof.Proof.Gen.KernelIdeal.Points
public import Idealize.ShloMosaic.Lib.Pipeline.Value

@[expose] public section

set_option maxRecDepth 16384

noncomputable section

namespace Cert.KernelIdeal.Att

open Idealize.ShloMosaic Idealize.ShloMosaic.TcCoe Idealize.SL.Sem
open Idealize.ShloMosaic.Pipeline (Dat Window)
open Facts₀ Facts Cert.KernelIdeal.Gen

/-! ## A block of the result -/

/-- The keys up to the tile's last are all the keys when the later ones add nothing. -/
theorem upto_all (f : Nat → EReal) (b : Nat) (hb : b ≤ 4096) (h0 : ∀ k, b ≤ k → f k = 0) : upto f b = ∑ k : Fin 4096, f k.val := by
  unfold upto
  rw [← Finset.sum_range (fun k => f k)]
  refine Finset.sum_subset (fun k hk => Finset.mem_range.2 ((Finset.mem_range.1 hk).trans_le hb)) fun k _ hk => ?_
  exact h0 k (Nat.le_of_not_lt fun h => hk (Finset.mem_range.2 h))

section
variable (i : grid0.Coords) (X3 : Vec Ideal S1x4x256x512 .bf16) (X4 : Vec Ideal S1x4x4096x256 .bf16) (X5 : Vec Ideal S1x4x128x4096 .bf16)
  (X6 : Vec Ideal S1x512x512 .bf16)

theorem fin_oL (hh : Fin 4) (q : Fin 512) :
    oL hh q (finV i X3 X4 X5 acc0) = ∑ k : Fin 4096, wt X3 X4 (i 2).val hh q k.val := by
  have h8 : (i 2).val < 8 := (i 2).isLt
  rw [fin_tot X3 X4 X5 hh (wt X3 X4 (i 2).val hh q) (oL hh q) i (fun u hu st => oL_step X3 X4 X5 (i 2).val hh q u hu st)]
  have hz : oL hh q (zero4, acc0) = 0 := by
    unfold oL
    match hh with
    | 0 => exact (acc0_at 0 (ix3 0 0 q))
    | 1 => exact (acc0_at 0 (ix3 0 0 q))
    | 2 => exact (acc0_at 0 (ix3 0 0 q))
    | 3 => exact (acc0_at 0 (ix3 0 0 q))
  rw [hz, zero_add]
  exact upto_all _ _ (by omega) fun k hk => wt_late X3 X4 _ hh q k (by have := q.isLt; omega)

theorem fin_oA (hh : Fin 4) (q : Fin 512) (d : Fin 128) :
    oA hh q d (finV i X3 X4 X5 acc0) = ∑ k : Fin 4096, pr X3 X4 X5 (i 2).val hh q d k.val := by
  have h8 : (i 2).val < 8 := (i 2).isLt
  rw [fin_tot X3 X4 X5 hh (pr X3 X4 X5 (i 2).val hh q d) (oA hh q d) i (fun u hu st => oA_step X3 X4 X5 (i 2).val hh q d u hu st)]
  have hz : oA hh q d (zero4, acc0) = 0 := acc0_at hh (ix3 0 d q)
  rw [hz, zero_add]
  refine upto_all _ _ (by omega) fun k hk => ?_
  unfold pr
  rw [wt_late X3 X4 _ hh q k (by have := q.isLt; omega), mul_zero]

/-- An entry of the result block. -/
theorem outB_at (r q : Fin 512) (hh : Fin 4) (d : Fin 128) (hr : r.val = 128 * hh.val + d.val) :
    outB i X3 X4 X5 X6 (ix3 0 r q) = Ideal.div (∑ k : Fin 4096, pr X3 X4 X5 (i 2).val hh q d k.val) (∑ k : Fin 4096, wt X3 X4 (i 2).val hh q k.val)
      * (X6 (ix3 0 r q) : EReal) := by
  have e1 : (⟨r.val / 128, by have := r.isLt; omega⟩ : Fin 4) = hh := Fin.ext (by show r.val / 128 = hh.val; omega)
  have e2 : (⟨r.val % 128, Nat.mod_lt _ (by decide)⟩ : Fin 128) = d := Fin.ext (by show r.val % 128 = d.val; omega)
  have e : outB i X3 X4 X5 X6 (ix3 0 r q) = rowB i X3 X4 X5 X6 hh (ix3 0 d q) := by
    show rowB i X3 X4 X5 X6 ⟨r.val / 128, _⟩ _ = _
    rw [e1]
    refine congrArg _ ?_
    funext a
    match a with
    | ⟨0, _⟩ => rfl
    | ⟨1, _⟩ => exact e2
    | ⟨2, _⟩ => rfl
  rw [e]
  unfold rowB
  rw [outV_at]
  have eo : View.ld X6 (rO hh) (ix3 0 d q) = X6 (ix3 0 r q) := by
    show X6 _ = X6 _
    refine congrArg X6 ?_
    funext a
    apply Fin.ext
    match a with
    | ⟨0, _⟩ => rfl
    | ⟨1, _⟩ => show 128 * hh.val + 1 * d.val = r.val; omega
    | ⟨2, _⟩ => show 0 + 1 * q.val = q.val; omega
  rw [eo]
  have e3 := fin_oL i X3 X4 X5 hh q
  have e4 := fin_oA i X3 X4 X5 hh q d
  unfold oL at e3
  unfold oA at e4
  rw [e3, e4]
end

/-! ## The whole result -/

section
variable (Q : FVec Ideal S4x8x256x4096 .bf16) (K : FVec Ideal S4x8x4096x256 .bf16) (Vv : FVec Ideal S4x8x128x4096 .bf16)
  (G : FVec Ideal S4x1024x4096 .bf16)

/-- The score of a query and a key. -/
def score (b : Fin 4) (h : Fin 8) (q k : Fin 4096) : EReal := ∑ e : Fin 256, (K (ix4 b h k e) : EReal) * Q (ix4 b h e q)

/-- The weight a query gives a key: nothing to a later one. -/
def weight (b : Fin 4) (h : Fin 8) (q k : Fin 4096) : EReal := Ideal.exp2 (if k.val ≤ q.val then score Q K b h q k else ⊥)

/-- Entry `d` of a head's result for a query. -/
def mix (b : Fin 4) (h : Fin 8) (d : Fin 128) (q : Fin 4096) : EReal :=
  Ideal.div (∑ k : Fin 4096, (Vv (ix4 b h d k) : EReal) * weight Q K b h q k) (∑ k : Fin 4096, weight Q K b h q k)

/-- The gated result, heads stacked. -/
def att : FVec Ideal S4x1024x4096 .bf16 := fun y =>
  mix Q K Vv (y 0) ⟨(y 1).val / 128, by have : (y 1).val < 1024 := (y 1).isLt; omega⟩ ⟨(y 1).val % 128, Nat.mod_lt _ (by decide)⟩ (y 2) * (G y : EReal)
end

variable (m : (ℓ : Loc nD τ sig) → Buf (Elt Ideal) ℓ)

/-- The gated result of device `c`'s arguments. -/
abbrev attOf (c : Dev nD) : Buf (Elt Ideal) ((c : Thread nD τ).loc main_v0) :=
  att (m ((c : Thread nD τ).loc main_arg0)) (m ((c : Thread nD τ).loc main_arg1)) (m ((c : Thread nD τ).loc main_arg2)) (m ((c : Thread nD τ).loc main_arg3))

/-- Where the blocks of a grid point lie. -/
theorem idx0 : ∀ t : Fin grid0.N, win0_0.index t 0 = (grid0.coords t 0).val ∧ win0_0.index t 1 = (grid0.coords t 1).val ∧ win0_0.index t 2 = 0 ∧ win0_0.index t 3 = (grid0.coords t 2).val := by decide +kernel
theorem idx1 : ∀ t : Fin grid0.N, win0_1.index t 0 = (grid0.coords t 0).val ∧ win0_1.index t 1 = (grid0.coords t 1).val ∧ win0_1.index t 2 = 0 ∧ win0_1.index t 3 = 0 := by decide +kernel
theorem idx2 : ∀ t : Fin grid0.N, win0_2.index t 0 = (grid0.coords t 0).val ∧ win0_2.index t 1 = (grid0.coords t 1).val ∧ win0_2.index t 2 = 0 ∧ win0_2.index t 3 = 0 := by decide +kernel
theorem idx3 : ∀ t : Fin grid0.N, win0_3.index t 0 = (grid0.coords t 0).val ∧ win0_3.index t 1 = (grid0.coords t 1).val ∧ win0_3.index t 2 = (grid0.coords t 2).val := by decide +kernel
theorem idx4 : ∀ t : Fin grid0.N, win0_4.index t 0 = (grid0.coords t 0).val ∧ win0_4.index t 1 = (grid0.coords t 1).val ∧ win0_4.index t 2 = (grid0.coords t 2).val := by decide +kernel

theorem coords_t : ∀ t : Fin grid0.N, t.val = 16 * (grid0.coords t 0).val + 8 * (grid0.coords t 1).val + (grid0.coords t 2).val := by decide +kernel

section
variable (c : Dev nD) (t : Fin cfg0.N)

theorem blkQ (hh : Fin 4) (e : Fin 256) (q : Fin 512) (b : Fin 4) (h : Fin 8) (p : Fin 4096) (hb : b.val = (grid0.coords t 0).val)
    (hh' : h.val = 4 * (grid0.coords t 1).val + hh.val) (hp : p.val = 512 * (grid0.coords t 2).val + q.val) :
    iblk m c 0 t (ix4 0 hh e q) = m ((c : Thread nD τ).loc main_arg0) (ix4 b h e p) := by
  obtain ⟨e0, e1, e2, e3⟩ := idx0 t
  show m ((c : Thread nD τ).loc main_arg0) _ = m ((c : Thread nD τ).loc main_arg0) _
  refine congrArg _ ?_
  funext a
  apply Fin.ext
  match a with
  | ⟨0, _⟩ => show win0_0.index t 0 * 1 + 1 * 0 = b.val; omega
  | ⟨1, _⟩ => show win0_0.index t 1 * 4 + 1 * hh.val = h.val; omega
  | ⟨2, _⟩ => show win0_0.index t 2 * 256 + 1 * e.val = e.val; omega
  | ⟨3, _⟩ => show win0_0.index t 3 * 512 + 1 * q.val = p.val; omega

theorem blkK (hh : Fin 4) (k : Fin 4096) (e : Fin 256) (b : Fin 4) (h : Fin 8) (hb : b.val = (grid0.coords t 0).val)
    (hh' : h.val = 4 * (grid0.coords t 1).val + hh.val) :
    iblk m c 1 t (ix4 0 hh k e) = m ((c : Thread nD τ).loc main_arg1) (ix4 b h k e) := by
  obtain ⟨e0, e1, e2, e3⟩ := idx1 t
  show m ((c : Thread nD τ).loc main_arg1) _ = m ((c : Thread nD τ).loc main_arg1) _
  refine congrArg _ ?_
  funext a
  apply Fin.ext
  match a with
  | ⟨0, _⟩ => show win0_1.index t 0 * 1 + 1 * 0 = b.val; omega
  | ⟨1, _⟩ => show win0_1.index t 1 * 4 + 1 * hh.val = h.val; omega
  | ⟨2, _⟩ => show win0_1.index t 2 * 4096 + 1 * k.val = k.val; omega
  | ⟨3, _⟩ => show win0_1.index t 3 * 256 + 1 * e.val = e.val; omega

theorem blkV (hh : Fin 4) (d : Fin 128) (k : Fin 4096) (b : Fin 4) (h : Fin 8) (hb : b.val = (grid0.coords t 0).val)
    (hh' : h.val = 4 * (grid0.coords t 1).val + hh.val) :
    iblk m c 2 t (ix4 0 hh d k) = m ((c : Thread nD τ).loc main_arg2) (ix4 b h d k) := by
  obtain ⟨e0, e1, e2, e3⟩ := idx2 t
  show m ((c : Thread nD τ).loc main_arg2) _ = m ((c : Thread nD τ).loc main_arg2) _
  refine congrArg _ ?_
  funext a
  apply Fin.ext
  match a with
  | ⟨0, _⟩ => show win0_2.index t 0 * 1 + 1 * 0 = b.val; omega
  | ⟨1, _⟩ => show win0_2.index t 1 * 4 + 1 * hh.val = h.val; omega
  | ⟨2, _⟩ => show win0_2.index t 2 * 128 + 1 * d.val = d.val; omega
  | ⟨3, _⟩ => show win0_2.index t 3 * 4096 + 1 * k.val = k.val; omega

theorem blkG (r q : Fin 512) (b : Fin 4) (s : Fin 1024) (p : Fin 4096) (hb : b.val = (grid0.coords t 0).val)
    (hs : s.val = 512 * (grid0.coords t 1).val + r.val) (hp : p.val = 512 * (grid0.coords t 2).val + q.val) :
    iblk m c 3 t (ix3 0 r q) = m ((c : Thread nD τ).loc main_arg3) (ix3 b s p) := by
  obtain ⟨e0, e1, e2⟩ := idx3 t
  show m ((c : Thread nD τ).loc main_arg3) _ = m ((c : Thread nD τ).loc main_arg3) _
  refine congrArg _ ?_
  funext a
  apply Fin.ext
  match a with
  | ⟨0, _⟩ => show win0_3.index t 0 * 1 + 1 * 0 = b.val; omega
  | ⟨1, _⟩ => show win0_3.index t 1 * 512 + 1 * r.val = s.val; omega
  | ⟨2, _⟩ => show win0_3.index t 2 * 512 + 1 * q.val = p.val; omega

theorem sc_score (hh : Fin 4) (q : Fin 512) (k : Fin 4096) (b : Fin 4) (h : Fin 8) (p : Fin 4096) (hb : b.val = (grid0.coords t 0).val)
    (hh' : h.val = 4 * (grid0.coords t 1).val + hh.val) (hp : p.val = 512 * (grid0.coords t 2).val + q.val) :
    sc (iblk m c 0 t) (iblk m c 1 t) hh q k.val
      = score (m ((c : Thread nD τ).loc main_arg0)) (m ((c : Thread nD τ).loc main_arg1)) b h p k := by
  unfold sc score
  rw [dif_pos k.isLt]
  refine Finset.sum_congr rfl fun e _ => ?_
  rw [blkK m c t hh _ e b h hb hh', blkQ m c t hh e q b h p hb hh' hp]

theorem wt_weight (hh : Fin 4) (q : Fin 512) (k : Fin 4096) (b : Fin 4) (h : Fin 8) (p : Fin 4096) (hb : b.val = (grid0.coords t 0).val)
    (hh' : h.val = 4 * (grid0.coords t 1).val + hh.val) (hp : p.val = 512 * (grid0.coords t 2).val + q.val) :
    wt (iblk m c 0 t) (iblk m c 1 t) (grid0.coords t 2).val hh q k.val
      = weight (m ((c : Thread nD τ).loc main_arg0)) (m ((c : Thread nD τ).loc main_arg1)) b h p k := by
  unfold wt weight
  rw [sc_score m c t hh q k b h p hb hh' hp, hp]

/-- A grid point writes its block of the gated result. -/
theorem oblk_at (r q : Fin 512) (b : Fin 4) (s : Fin 1024) (p : Fin 4096) (hb : b.val = (grid0.coords t 0).val)
    (hs : s.val = 512 * (grid0.coords t 1).val + r.val) (hp : p.val = 512 * (grid0.coords t 2).val + q.val) :
    oblk m c t (ix3 0 r q) = attOf m c (ix3 b s p) := by
  have h2 : (grid0.coords t 1).val < 2 := (grid0.coords t 1).isLt
  have hr := r.isLt
  unfold oblk
  rw [outB_at (grid0.coords t) (iblk m c 0 t) (iblk m c 1 t) (iblk m c 2 t) (iblk m c 3 t) r q ⟨r.val / 128, by omega⟩
    ⟨r.val % 128, Nat.mod_lt _ (by decide)⟩ (by show r.val = 128 * (r.val / 128) + r.val % 128; omega), blkG m c t r q b s p hb hs hp]
  show _ = mix _ _ _ b ⟨s.val / 128, _⟩ ⟨s.val % 128, _⟩ p * _
  unfold mix
  have hh' : s.val / 128 = 4 * (grid0.coords t 1).val + r.val / 128 := by omega
  have hd : s.val % 128 = r.val % 128 := by omega
  refine congrArg₂ (· * ·) ?_ rfl
  refine congrArg₂ Ideal.div (Finset.sum_congr rfl fun k _ => ?_) (Finset.sum_congr rfl fun k _ => ?_)
  · unfold pr vl
    rw [dif_pos k.isLt, blkV m c t _ _ _ b ⟨s.val / 128, by omega⟩ hb hh', wt_weight m c t _ q k b ⟨s.val / 128, by omega⟩ p hb hh' hp]
    refine congrArg₂ (· * ·) (congrArg _ ?_) rfl
    exact congrArg (fun x => ix4 b _ x k) (Fin.ext hd.symm)
  · exact wt_weight m c t _ q k b ⟨s.val / 128, by omega⟩ p hb hh' hp

theorem flushed_eq : (dats m 0 c).flushed 4 t = (win0_4.blk t).view.read (Elt Ideal) (attOf m c) := by
  show (cfg0.win 4).cut (grid0.coords t) ((dats m 0 c).after 4 t) = _
  rw [after0_4]
  obtain ⟨e0, e1, e2⟩ := idx4 t
  have h0 : (grid0.coords t 0).val < 4 := (grid0.coords t 0).isLt
  have h1 : (grid0.coords t 1).val < 2 := (grid0.coords t 1).isLt
  have h2 : (grid0.coords t 2).val < 8 := (grid0.coords t 2).isLt
  funext j
  idx_vars j
  have := j1.isLt
  have := j2.isLt
  obtain rfl : j0 = 0 := Subsingleton.elim _ _
  refine (oblk_at m c t j1 j2 ⟨(grid0.coords t 0).val, h0⟩ ⟨512 * (grid0.coords t 1).val + j1.val, by omega⟩ ⟨512 * (grid0.coords t 2).val + j2.val, by omega⟩ rfl rfl rfl).trans ?_
  show attOf m c _ = attOf m c _
  refine congrArg _ ?_
  funext a
  apply Fin.ext
  match a with
  | ⟨0, _⟩ => show (grid0.coords t 0).val = win0_4.index t 0 * 1 + 1 * 0; omega
  | ⟨1, _⟩ => show 512 * (grid0.coords t 1).val + j1.val = win0_4.index t 1 * 512 + 1 * j1.val; omega
  | ⟨2, _⟩ => show 512 * (grid0.coords t 2).val + j2.val = win0_4.index t 2 * 512 + 1 * j2.val; omega
end

/-- An entry is in a grid point's block when the coordinates say so. -/
theorem mem_blk (t : Fin cfg0.N) (y : S4x1024x4096.Idx) (h0 : (y 0).val = (grid0.coords t 0).val) (h1 : (y 1).val / 512 = (grid0.coords t 1).val)
    (h2 : (y 2).val / 512 = (grid0.coords t 2).val) : y ∈ ((cfg0.win 4).blk t).view.set := by
  show y ∈ ((View.whole main_v0).slice (win0_4.rect t)).set
  rw [View.set_slice_whole, Rect.mem_set_unit]
  obtain ⟨e0, e1, e2⟩ := idx4 t
  intro a
  match a with
  | ⟨0, _⟩ => show win0_4.index t 0 * 1 ≤ (y 0).val ∧ (y 0).val < win0_4.index t 0 * 1 + 1; omega
  | ⟨1, _⟩ => show win0_4.index t 1 * 512 ≤ (y 1).val ∧ (y 1).val < win0_4.index t 1 * 512 + 512; omega
  | ⟨2, _⟩ => show win0_4.index t 2 * 512 ≤ (y 2).val ∧ (y 2).val < win0_4.index t 2 * 512 + 512; omega

/-- The blocks tile the result. -/
theorem cover (y : S4x1024x4096.Idx) : ∃ t : Fin cfg0.N, (cfg0.win 4).flush t = true ∧ y ∈ ((cfg0.win 4).blk t).view.set := by
  have h0 : (y 0).val < 4 := (y 0).isLt
  have h1 : (y 1).val < 1024 := (y 1).isLt
  have h2 : (y 2).val < 4096 := (y 2).isLt
  have hN : cfg0.N = 64 := N_0
  have hc : 16 * (y 0).val + 8 * ((y 1).val / 512) + (y 2).val / 512 < cfg0.N := by omega
  refine ⟨⟨_, hc⟩, flush0_4 _, ?_⟩
  have e := coords_t ⟨_, hc⟩
  have a0 : (grid0.coords ⟨_, hc⟩ 0).val < 4 := (grid0.coords ⟨_, hc⟩ 0).isLt
  have a1 : (grid0.coords ⟨_, hc⟩ 1).val < 2 := (grid0.coords ⟨_, hc⟩ 1).isLt
  have a2 : (grid0.coords ⟨_, hc⟩ 2).val < 8 := (grid0.coords ⟨_, hc⟩ 2).isLt
  have e' : 16 * (y 0).val + 8 * ((y 1).val / 512) + (y 2).val / 512 = 16 * (grid0.coords ⟨_, hc⟩ 0).val + 8 * (grid0.coords ⟨_, hc⟩ 1).val + (grid0.coords ⟨_, hc⟩ 2).val := e
  exact mem_blk _ y (by omega) (by omega) (by omega)

/-- The result array ends at the gated result of the arguments. -/
theorem final_o (c : Dev nD) : (dats m 0 c).arrAt 4 cfg0.N = attOf m c :=
  (dats m 0 c).arrAt_eq_of_cover 4 (attOf m c) (fun t _ => flushed_eq m c t) cover

end Cert.KernelIdeal.Att
-- ==== Proof.Att.Ref.lean ====
/- The reference's result, entry by entry, over the extended reals. -/
module

public import proofs.«01_k».proof.Proof.Gen.ReferenceIdeal
public import proofs.«01_k».proof.Proof.Gen.ReferenceIdeal.Run
public import Idealize.ShloMosaic.Lib.Pointwise
public import Idealize.ShloMosaic.PureOps.Ideal.Laws

@[expose] public section

set_option maxRecDepth 16384

noncomputable section

namespace Cert.ReferenceIdeal.Att

open Idealize.ShloMosaic Idealize.ShloMosaic.TcCoe Idealize.SL.Sem
open Facts₀ Facts

section
variable (Q : FVec Ideal S4x8x256x4096 .bf16) (K : FVec Ideal S4x8x4096x256 .bf16) (Vv : FVec Ideal S4x8x128x4096 .bf16)
  (G : FVec Ideal S4x1024x4096 .bf16)

/-- The masked scores. -/
def rS : FVec Ideal S4x8x4096x4096 .f32 :=
  select (broadcastInDim S4x8x4096x4096 ![2, 3] bcast_S4096x4096_S4x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))
    (mulf (Host.dotGeneral dot_S4x8x256x4096_S4x8x4096x256_S4x8x4096x4096_2_3_3_2_01_01 none (extf .f32 Q bitsLt_bf16_f32) (extf .f32 K bitsLt_bf16_f32)) (broadcastInDim S4x8x4096x4096 ![] bcast_S_S4x8x4096x4096 (Host.log (constant (F := Ideal) S_ .f32 0x40000000#32))))
    (broadcastInDim S4x8x4096x4096 ![] bcast_S_S4x8x4096x4096 (id (constant (F := Ideal) S_ .f32 0xFF800000#32)))

/-- A row's maximum. -/
def rM (s : FVec Ideal S4x8x4096x4096 .f32) : FVec Ideal S4x8x4096 .f32 :=
  maximumf (broadcastInDim S4x8x4096 ![] bcast_S_S4x8x4096 (constant (F := Ideal) S_ .f32 0xFF800000#32))
    (Host.reduce FloatOps.maximumf s (constant S_ .f32 0xFF800000#32) reducesTo_S4x8x4096x4096_S4x8x4096_d3 h_S_)

/-- A value per row, along the row. -/
def rB (x : FVec Ideal S4x8x4096 .f32) : FVec Ideal S4x8x4096x4096 .f32 :=
  broadcastInDim S4x8x4096x4096 ![0, 1, 2, 3] bcast_S4x8x4096x1_S4x8x4096x4096_0_1_2_3 (broadcastInDim S4x8x4096x1 ![0, 1, 2] bcast_S4x8x4096_S4x8x4096x1_0_1_2 x)

/-- The unnormalized weights. -/
def rE (s : FVec Ideal S4x8x4096x4096 .f32) : FVec Ideal S4x8x4096x4096 .f32 := Host.exp (subf s (rB (rM s)))

/-- A row's sum. -/
def rL (e : FVec Ideal S4x8x4096x4096 .f32) : FVec Ideal S4x8x4096 .f32 :=
  Host.reduceAdd e (constant S_ .f32 0x00000000#32) reducesTo_S4x8x4096x4096_S4x8x4096_d3 h_S_

/-- The weighted values. -/
def rO (e : FVec Ideal S4x8x4096x4096 .f32) : FVec Ideal S4x8x128x4096 .f32 :=
  Host.dotGeneral dot_S4x8x128x4096_S4x8x4096x4096_S4x8x128x4096_3_3_2_2_01_01 none (extf .f32 Vv bitsLt_bf16_f32) (Host.divf e (rB (rL e)))

/-- The gated result. -/
def rR (o : FVec Ideal S4x8x128x4096 .f32) : FVec Ideal S4x1024x4096 .bf16 :=
  truncf .bf16 (mulf (shapeCast _ o shapeCasts_S4x8x128x4096_S4x1024x4096) (extf .f32 G bitsLt_bf16_f32)) bitsLt_bf16_f32

theorem rB_at (x : FVec Ideal S4x8x4096 .f32) (b : Fin 4) (h : Fin 8) (q k : Fin 4096) : rB x (ix4 b h q k) = x (ix3 b h q) := by
  unfold rB
  pointwise

theorem rL_at (e : FVec Ideal S4x8x4096x4096 .f32) (b : Fin 4) (h : Fin 8) (q : Fin 4096) :
    rL e (ix3 b h q) = ∑ k : Fin 4096, (e (ix4 b h q k) : EReal) := by
  unfold rL
  pointwise

theorem rO_at (e : FVec Ideal S4x8x4096x4096 .f32) (b : Fin 4) (h : Fin 8) (d : Fin 128) (q : Fin 4096) :
    rO Vv e (ix4 b h d q) = ∑ k : Fin 4096, (Vv (ix4 b h d k) : EReal) * Ideal.div (e (ix4 b h q k)) (rL e (ix3 b h q)) := by
  unfold rO
  pointwise
  simp only [rB_at]

theorem rE_at (s : FVec Ideal S4x8x4096x4096 .f32) (b : Fin 4) (h : Fin 8) (q k : Fin 4096) :
    rE s (ix4 b h q k) = Ideal.exp (s (ix4 b h q k) - rM s (ix3 b h q)) := by
  unfold rE
  pointwise
  rw [rB_at]

theorem rR_at (o : FVec Ideal S4x8x128x4096 .f32) (b : Fin 4) (s : Fin 1024) (q : Fin 4096) (h : Fin 8) (d : Fin 128) (hs : s.val = 128 * h.val + d.val) :
    rR G o (ix3 b s q) = (o (ix4 b h d q) : EReal) * G (ix3 b s q) := by
  unfold rR
  pointwise
  have e1 : (⟨s.val / 128, by have := s.isLt; omega⟩ : Fin 8) = h := Fin.ext (by show s.val / 128 = h.val; omega)
  have e2 : (⟨s.val % 128, Nat.mod_lt _ (by decide)⟩ : Fin 128) = d := Fin.ext (by show s.val % 128 = d.val; omega)
  rw [e1, e2]

theorem ninf : Ideal.ofBits .f32 0xFF800000#32 = (⊥ : EReal) := by
  simp [Ideal.ofBits, Ideal.ieee]

theorem two : Ideal.ofBits .f32 0x40000000#32 = ((2 : ℝ) : EReal) := by
  simp [Ideal.ofBits, Ideal.ieee]
  rw [← EReal.coe_mul]
  norm_num

/-- The larger of a bottom splat and a vector is the vector. -/
theorem max_bot (x : FVec Ideal S4x8x4096 .f32) (b : Fin 4) (h : Fin 8) (q : Fin 4096) :
    maximumf (broadcastInDim S4x8x4096 ![] bcast_S_S4x8x4096 (constant (F := Ideal) S_ .f32 0xFF800000#32)) x (ix3 b h q) = x (ix3 b h q) := by
  pointwise
  rw [ninf]
  exact max_eq_right bot_le

theorem red : Shape.Reduces S4x8x4096x4096 [3] S4x8x4096 := by decide

theorem rM_at (s : FVec Ideal S4x8x4096x4096 .f32) (b : Fin 4) (h : Fin 8) (q : Fin 4096) :
    rM s (ix3 b h q) = (Finset.univ : Finset (Fin 4096)).fold max (⊥ : EReal) (fun k => s (ix4 b h q k)) := by
  unfold rM
  rw [max_bot, Host.reduce_eq_fold_single FloatOps.maximumf s _ _ red h_S_]
  have e1 : constant (F := Ideal) S_ .f32 0xFF800000#32 (Shape.Idx.first h_S_) = (⊥ : EReal) := ninf
  rw [e1]
  refine congrArg (fun f => Finset.fold max (⊥ : EReal) f Finset.univ) ?_
  funext k
  refine congrArg s ?_
  funext a
  match a with
  | ⟨0, _⟩ => rfl
  | ⟨1, _⟩ => rfl
  | ⟨2, _⟩ => rfl
  | ⟨3, _⟩ => rfl

/-- The causal mask's bit. -/
theorem sge_small (q k : Fin 4096) : IntOp.cmpi CmpIPredicate.sge (BitVec.ofNat 32 q.val) (BitVec.ofNat 32 k.val) = if k.val ≤ q.val then 1#1 else 0#1 := by
  have hq := q.isLt
  have hk := k.isLt
  have e : ∀ x : Nat, x < 4096 → (BitVec.ofNat 32 x).toInt = x := by
    intro x hx
    rw [BitVec.toInt_eq_toNat_of_lt (by rw [BitVec.toNat_ofNat]; omega), BitVec.toNat_ofNat]
    omega
  show BitVec.ofBool (BitVec.sle (BitVec.ofNat 32 k.val) (BitVec.ofNat 32 q.val)) = _
  unfold BitVec.sle
  rw [e _ hq, e _ hk]
  by_cases h : k.val ≤ q.val
  · rw [if_pos h, decide_eq_true (by exact_mod_cast h)]; rfl
  · rw [if_neg h, decide_eq_false (by exact_mod_cast h)]; rfl

theorem rS_at (b : Fin 4) (h : Fin 8) (q k : Fin 4096) :
    rS Q K (ix4 b h q k) = if k.val ≤ q.val then (∑ e : Fin 256, (Q (ix4 b h e q) : EReal) * K (ix4 b h k e)) * ((Real.log 2 : ℝ) : EReal) else ⊥ := by
  unfold rS
  pointwise
  rw [sge_small, two, show Ideal.log ((2 : ℝ) : EReal) = ((Real.log 2 : ℝ) : EReal) from (Ideal.log_coe 2).trans (if_neg (by norm_num))]
  by_cases h : k.val ≤ q.val
  · rw [if_pos h, if_pos h]; rfl
  · rw [if_neg h, if_neg h]; exact ninf

theorem res_eq (m : (ℓ : Loc nD τ sig) → Buf (Elt Ideal) ℓ) (c : Dev nD) :
    Value.res_main_v29 m c = rR (m ((c.tc : Thread nD τ).loc main_arg3)) (rO (m ((c.tc : Thread nD τ).loc main_arg2)) (rE (rS (m ((c.tc : Thread nD τ).loc main_arg0)) (m ((c.tc : Thread nD τ).loc main_arg1))))) := rfl

end
end Cert.ReferenceIdeal.Att
-- ==== Proof.Att.Soft.lean ====
/- A softmax taken with base two and no maximum is the softmax taken with base e after the maximum. -/
module

public import Idealize.ShloMosaic.PureOps.Ideal.Laws
public import Mathlib.Analysis.SpecialFunctions.Pow.Real

@[expose] public section

noncomputable section

namespace Cert.Soft

open Idealize.ShloMosaic

/-- A product by a nonnegative real distributes over a sum. -/
theorem sum_mul {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A quotient by a real other than zero. -/
theorem div_coe (x : EReal) (r : ℝ) (hr : r ≠ 0) : Ideal.div x (r : EReal) = x * ((r⁻¹ : ℝ) : EReal) := by
  unfold Ideal.div
  rw [if_neg (by exact_mod_cast hr), EReal.coe_inv]

section
variable {n : Nat} (a : Fin n → ℝ) (p : Fin n → Prop) [DecidablePred p] (q : Fin n) (hq : p q) (v : Fin n → EReal)

/-- The masked scores times the logarithm of two. -/
def ms (k : Fin n) : EReal := if p k then (a k : EReal) * ((Real.log 2 : ℝ) : EReal) else ⊥

/-- Their maximum is a real number. -/
theorem max_real (hq : p q) : ∃ μ : ℝ, Finset.univ.fold max (⊥ : EReal) (ms a p) = (μ : EReal) := by
  have h1 : Finset.univ.fold max (⊥ : EReal) (ms a p) ≠ ⊤ := by
    refine ne_of_lt ?_
    rw [Finset.fold_max_lt]
    refine ⟨bot_lt_top, fun k _ => ?_⟩
    unfold ms
    split
    · rw [← EReal.coe_mul]; exact EReal.coe_lt_top _
    · exact bot_lt_top
  have h2 : Finset.univ.fold max (⊥ : EReal) (ms a p) ≠ ⊥ := by
    refine ne_of_gt ?_
    rw [Finset.lt_fold_max]
    refine Or.inr ⟨q, Finset.mem_univ q, ?_⟩
    unfold ms
    rw [if_pos hq, ← EReal.coe_mul]
    exact EReal.bot_lt_coe _
  exact ⟨_, (EReal.coe_toReal h1 h2).symm⟩

/-- The weight in base two. -/
def rw2 (k : Fin n) : ℝ := if p k then Real.rpow 2 (a k) else 0

theorem w_eq (k : Fin n) : Ideal.exp2 (if p k then (a k : EReal) else ⊥) = (rw2 a p k : EReal) := by
  unfold rw2
  split
  · exact Ideal.exp2_coe _
  · exact EReal.coe_zero.symm

theorem e_eq (μ : ℝ) (k : Fin n) : Ideal.exp (ms a p k - (μ : EReal)) = ((rw2 a p k * Real.exp (-μ) : ℝ) : EReal) := by
  unfold ms rw2
  split
  · rw [← EReal.coe_mul, ← EReal.coe_sub, Ideal.exp_coe]
    congr 1
    show Real.exp _ = (2 : ℝ) ^ (a k) * _
    rw [Real.rpow_def_of_pos (by norm_num), ← Real.exp_add]
    congr 1
    ring
  · rw [EReal.bot_sub, zero_mul]
    exact EReal.coe_zero.symm

/-- The normalized mixture of the values is the same either way. -/
theorem softmax_eq (hq : p q) :
    ∑ k, v k * Ideal.div (Ideal.exp (ms a p k - Finset.univ.fold max (⊥ : EReal) (ms a p)))
        (∑ j, Ideal.exp (ms a p j - Finset.univ.fold max (⊥ : EReal) (ms a p)))
      = Ideal.div (∑ k, v k * Ideal.exp2 (if p k then (a k : EReal) else ⊥)) (∑ k, Ideal.exp2 (if p k then (a k : EReal) else ⊥)) := by
  obtain ⟨μ, hμ⟩ := max_real a p q hq
  rw [hμ]
  simp only [e_eq, w_eq]
  rw [← coe_sum, ← coe_sum, ← Finset.sum_mul]
  have hE : 0 < Real.exp (-μ) := Real.exp_pos _
  have hn : ∀ k, 0 ≤ rw2 a p k := by
    intro k
    unfold rw2
    split
    · exact Real.rpow_nonneg (by norm_num) _
    · exact le_rfl
  have hL : 0 < ∑ k, rw2 a p k := by
    refine Finset.sum_pos' (fun k _ => hn k) ⟨q, Finset.mem_univ q, ?_⟩
    unfold rw2
    rw [if_pos hq]
    exact Real.rpow_pos_of_pos (by norm_num) _
  rw [div_coe _ _ hL.ne', sum_mul _ _ _ (inv_nonneg.2 hL.le)]
  refine Finset.sum_congr rfl fun k _ => ?_
  rw [div_coe _ _ (mul_pos hL hE).ne', ← EReal.coe_mul, mul_assoc (v k), ← EReal.coe_mul]
  congr 2
  field_simp
end

end Cert.Soft
-- ==== Proof.Att.Bridge.lean ====
/- The kernel's result is the reference's. -/
module

public import proofs.«01_k».proof.Defs
public import proofs.«01_k».proof.Proof.Att.Final
public import proofs.«01_k».proof.Proof.Att.Ref
public import proofs.«01_k».proof.Proof.Att.Soft
public import proofs.«01_k».proof.Proof.Gen.Pre_finite

@[expose] public section

set_option maxRecDepth 16384

noncomputable section

namespace Cert.Bridge

open Idealize.ShloMosaic Idealize.SL.Sem

section
variable (Q : FVec Ideal Cert.KernelIdeal.S4x8x256x4096 .bf16) (K : FVec Ideal Cert.KernelIdeal.S4x8x4096x256 .bf16) (Vv : FVec Ideal Cert.KernelIdeal.S4x8x128x4096 .bf16)
  (G : FVec Ideal Cert.KernelIdeal.S4x1024x4096 .bf16)

/-- A value whose magnitude is below infinity is a real number. -/
theorem real_of (x : EReal) (h : BitVec.ofBool (decide ((FloatOps.absf (F := Ideal) (φ := .f32) x : EReal) < Ideal.ofBits .f32 0x7F800000#32)) = 1#1) : ∃ r : ℝ, x = r := by
  have hi : Ideal.ofBits .f32 0x7F800000#32 = (⊤ : EReal) := by simp [Ideal.ofBits, Ideal.ieee]
  rw [hi] at h
  induction x using EReal.rec with
  | coe r => exact ⟨r, rfl⟩
  | top =>
    have : ¬ ((FloatOps.absf (F := Ideal) (φ := .f32) (⊤ : EReal) : EReal) < ⊤) := by
      show ¬ (max (⊤ : EReal) (-⊤) < ⊤)
      simp
    rw [decide_eq_false this] at h
    exact absurd h (by decide)
  | bot =>
    have : ¬ ((FloatOps.absf (F := Ideal) (φ := .f32) (⊥ : EReal) : EReal) < ⊤) := by
      show ¬ (max (⊥ : EReal) (-⊥) < ⊤)
      simp
    rw [decide_eq_false this] at h
    exact absurd h (by decide)

theorem fin_Q (h : ∀ j, (Cert.Pre_finite.fn (F := Ideal) Q K Vv G).1 j = 1#1) (b : Fin 4) (hd : Fin 8) (e : Fin 256) (q : Fin 4096) :
    ∃ r : ℝ, (Q (ix4 b hd e q) : EReal) = r := by
  have h' := h (ix4 b hd e q)
  unfold Cert.Pre_finite.fn at h'
  pointwise at h'
  exact real_of _ h'

theorem fin_K (h : ∀ j, (Cert.Pre_finite.fn (F := Ideal) Q K Vv G).2 j = 1#1) (b : Fin 4) (hd : Fin 8) (k : Fin 4096) (e : Fin 256) :
    ∃ r : ℝ, (K (ix4 b hd k e) : EReal) = r := by
  have h' := h (ix4 b hd k e)
  unfold Cert.Pre_finite.fn at h'
  pointwise at h'
  exact real_of _ h'

open Cert.KernelIdeal.Att (att mix weight score)
open Cert.ReferenceIdeal.Att

theorem bridge (hQ : ∀ b h e q, ∃ r : ℝ, (Q (ix4 b h e q) : EReal) = r) (hK : ∀ b h k e, ∃ r : ℝ, (K (ix4 b h k e) : EReal) = r) :
    rR G (rO Vv (rE (rS Q K))) = att Q K Vv G := by
  funext y
  idx_vars y
  have hy := y1.isLt
  rw [rR_at G _ y0 y1 y2 ⟨y1.val / 128, by omega⟩ ⟨y1.val % 128, Nat.mod_lt _ (by decide)⟩ (by show y1.val = 128 * (y1.val / 128) + y1.val % 128; omega)]
  show _ = mix Q K Vv y0 ⟨y1.val / 128, _⟩ ⟨y1.val % 128, _⟩ y2 * _
  refine congrArg₂ (· * ·) ?_ rfl
  generalize (⟨y1.val / 128, _⟩ : Fin 8) = h
  generalize (⟨y1.val % 128, _⟩ : Fin 128) = d
  choose fQ hfQ using hQ
  choose fK hfK using hK
  have hs : ∀ q k, ∑ e : Fin 256, (Q (ix4 y0 h e q) : EReal) * K (ix4 y0 h k e) = ((∑ e : Fin 256, fQ y0 h e q * fK y0 h k e : ℝ) : EReal) := by
    intro q k
    rw [Cert.Soft.coe_sum]
    refine Finset.sum_congr rfl fun e _ => ?_
    rw [hfQ, hfK, ← EReal.coe_mul]
  have hsc : ∀ k, score Q K y0 h y2 k = ((∑ e : Fin 256, fQ y0 h e y2 * fK y0 h k e : ℝ) : EReal) := by
    intro k
    rw [← hs]
    exact Finset.sum_congr rfl fun e _ => mul_comm _ _
  have hS : ∀ k, rS Q K (ix4 y0 h y2 k) = Cert.Soft.ms (fun k => ∑ e : Fin 256, fQ y0 h e y2 * fK y0 h k e) (fun k : Fin 4096 => k.val ≤ y2.val) k := by
    intro k
    rw [rS_at, hs]
    rfl
  rw [rO_at]
  have hM : rM (rS Q K) (ix3 y0 h y2) = Finset.univ.fold max (⊥ : EReal)
      (Cert.Soft.ms (fun k => ∑ e : Fin 256, fQ y0 h e y2 * fK y0 h k e) (fun k : Fin 4096 => k.val ≤ y2.val)) := by
    rw [rM_at]
    exact congrArg (fun f => Finset.fold max (⊥ : EReal) f Finset.univ) (funext hS)
  have hE : ∀ k, rE (rS Q K) (ix4 y0 h y2 k) = Ideal.exp (Cert.Soft.ms (fun k => ∑ e : Fin 256, fQ y0 h e y2 * fK y0 h k e) (fun k : Fin 4096 => k.val ≤ y2.val) k
      - Finset.univ.fold max (⊥ : EReal) (Cert.Soft.ms (fun k => ∑ e : Fin 256, fQ y0 h e y2 * fK y0 h k e) (fun k : Fin 4096 => k.val ≤ y2.val))) := by
    intro k
    rw [rE_at, hS, hM]
  rw [rL_at]
  simp only [hE]
  refine (Cert.Soft.softmax_eq (fun k => ∑ e : Fin 256, fQ y0 h e y2 * fK y0 h k e) (fun k : Fin 4096 => k.val ≤ y2.val) y2
    (fun k => Vv (ix4 y0 h d k)) le_rfl).trans ?_
  unfold mix weight
  simp only [hsc]
end

/-- Where the arguments agree and the queries and keys are finite, the reference's result is the kernel's. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v29 m' c = (Cert.KernelIdeal.Att.dats m 0 c).arrAt 4 Cert.KernelIdeal.cfg0.N := by
  rw [Cert.KernelIdeal.Att.final_o m c, Cert.ReferenceIdeal.Att.res_eq, h0, h1, h2, h3]
  exact bridge _ _ _ _ (fin_Q _ _ _ _ (congrFun (hpre c).1)) (fin_K _ _ _ _ (congrFun (hpre c).2))

end Cert.Bridge
-- ==== Proof.Out.Value.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Out

open Cert.Kernel2Ideal Cert.Kernel2Ideal.Gen Idealize.ShloMosaic Idealize.ShloMosaic.TcCoe Idealize.ShloMosaic.Tactic Idealize.SL.Sem

variable (m : (ℓ : Loc nD τ sig) → Buf (Elt Ideal) ℓ)

/-- Where each window's block lies at a point. -/
theorem idx : ∀ t : Fin cfg0.N, win0_0.index t = ![t.val / 8, t.val % 8, 0] ∧ win0_1.index t = ![t.val / 8, t.val % 8, 0]
    ∧ win0_2.index t = ![t.val / 8, 0, t.val % 8] ∧ win0_3.index t = ![0, 0] ∧ win0_4.index t = ![t.val / 8, 0, 0]
    ∧ win0_5.index t = ![t.val / 8, t.val % 8, 0] ∧ t.val / 8 < 4 :=
  (by decide +kernel : ∀ t : Fin grid0.N, _)

/-- The weight as the scratch keeps it. -/
def wS (c : Dev nD) : Vec Ideal S2048x2048 .bf16 := k0_pay1 (F := Ideal) (V m c main_v0)

theorem iblk3 (c : Dev nD) (t : Fin cfg0.N) : iblk m c 3 t = V m c main_v0 := by
  blk_ext! [iblk, idx t]

theorem sout_A (c : Dev nD) (t : Fin cfg0.N) (h0 : t.val % 32 = 0) : (outsAt0 m c t.val t.isLt).2 = wS m c := by
  rw [outsAt0_A m c t h0]
  frame_out
  rw [iblk3]; rfl

/-- The scratch holds the weight after every point. -/
theorem sout (c : Dev nD) : ∀ (n : ℕ) (hn : n < cfg0.N), (outsAt0 m c n hn).2 = wS m c
  | 0, hn => sout_A m c ⟨0, hn⟩ (Nat.zero_mod _)
  | n + 1, hn => by
    by_cases h0 : (n + 1) % 32 = 0
    · exact sout_A m c ⟨n + 1, hn⟩ h0
    · rw [outsAt0_B m c ⟨n + 1, hn⟩ h0]
      exact sout c n (Nat.lt_of_succ_lt hn)

/-- What one point stores, over its blocks and the weight in the scratch. -/
theorem out (c : Dev nD) (t : Fin cfg0.N) : (outsAt0 m c t.val t.isLt).1
    = k0_pay2 (iblk m c 1 t) (View.ld (wS m c) (Rect.unit ![0, 0] ![1024, 2048] inb_S2048x2048_S1024x2048_0_0)) (iblk m c 2 t)
      (View.ld (wS m c) (Rect.unit ![1024, 0] ![1024, 2048] inb_S2048x2048_S1024x2048_1024_0))
      (iblk m c 0 t) (View.ld (iblk m c 4 t) (Rect.unit ![0, 2, 0] ![1, 1, 2048] inb_S1x3x2048_S1x1x2048_0_2_0)) := by
  by_cases h0 : t.val % 32 = 0
  · rw [outsAt0_A m c t h0]
    frame_out
    rw [show (View.whole cc0_scratch0).readCov
        [⟨Rect.unit ![0, 0] ![2048, 2048] inb_S2048x2048_S2048x2048_0_0, k0_pay1 (iblk m c 3 t)⟩]
        (Rect.unit ![0, 0] ![1024, 2048] inb_S2048x2048_S1024x2048_0_0).toLoadRect
        = View.ld (wS m c) (Rect.unit ![0, 0] ![1024, 2048] inb_S2048x2048_S1024x2048_0_0) from ?_,
      show (View.whole cc0_scratch0).readCov
        [⟨Rect.unit ![0, 0] ![2048, 2048] inb_S2048x2048_S2048x2048_0_0, k0_pay1 (iblk m c 3 t)⟩]
        (Rect.unit ![1024, 0] ![1024, 2048] inb_S2048x2048_S1024x2048_1024_0).toLoadRect
        = View.ld (wS m c) (Rect.unit ![1024, 0] ![1024, 2048] inb_S2048x2048_S1024x2048_1024_0) from ?_]
    · rfl
    · rw [iblk3]
      exact View.readCov_fill _ _ _ _ _ (by decide)
    · rw [iblk3]
      exact View.readCov_fill _ _ _ _ _ (by decide)
  · rw [outsAt0_B m c t h0]
    frame_out
    rw [sout, (Memref.isWhole_whole _).read_unread]
    rfl

/-- The reference's result over the kernel's arguments. -/
abbrev REF (X : FVec Ideal S4x4096x2048 .f32) (Yr : FVec Ideal S4x4096x1024 .bf16) (Ya : FVec Ideal S4x1024x4096 .bf16)
    (M : FVec Ideal S4x6144 .f32) (W : FVec Ideal S1x2048x2048 .f32) : FVec Ideal S4x4096x2048 .f32 :=
  addf X (mulf (broadcastInDim Cert.Reference2Ideal.S4x4096x2048 ![0, 1, 2] Cert.Reference2Ideal.Gen.bcast_S4x1x2048_S4x4096x2048_0_1_2 (broadcastInDim Cert.Reference2Ideal.S4x1x2048 ![0, 2] Cert.Reference2Ideal.Gen.bcast_S4x2048_S4x1x2048_0_2 (extractStridedSlice Cert.Reference2Ideal.S4x2048 ![0, 4096] M Cert.Reference2Ideal.Gen.slices_S4x6144_S4x2048_0_4096))) (Host.dotGeneral Cert.Reference2Ideal.dot_S4x4096x2048_S2048x2048_S4x4096x2048_2_0_01_1_n_n none (concatenate Cert.Reference2Ideal.S4x4096x2048 2 [⟨Cert.Reference2Ideal.S4x4096x1024, (extf .f32 Yr Cert.Reference2Ideal.Gen.bitsLt_bf16_f32)⟩, ⟨Cert.Reference2Ideal.S4x4096x1024, (transpose Cert.Reference2Ideal.S4x4096x1024 [0, 2, 1] (extf .f32 Ya Cert.Reference2Ideal.Gen.bitsLt_bf16_f32) Cert.Reference2Ideal.Gen.transposes_S4x1024x4096_S4x4096x1024_0_2_1)⟩] Cert.Reference2Ideal.Gen.concatenates_S4x4096x1024_S4x4096x1024_S4x4096x2048_d2) (shapeCast _ W Cert.Reference2Ideal.Gen.shapeCasts_S1x2048x2048_S2048x2048)))

theorem point (c : Dev nD) (t : Fin cfg0.N) (y) : k0_pay2 (iblk m c 1 t) (View.ld (wS m c) (Rect.unit ![0, 0] ![1024, 2048] inb_S2048x2048_S1024x2048_0_0)) (iblk m c 2 t)
      (View.ld (wS m c) (Rect.unit ![1024, 0] ![1024, 2048] inb_S2048x2048_S1024x2048_1024_0))
      (iblk m c 0 t) (View.ld (iblk m c 4 t) (Rect.unit ![0, 2, 0] ![1, 1, 2048] inb_S1x3x2048_S1x1x2048_0_2_0)) y
    = REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  pointwise [k0_pay2, wS, k0_pay1, REF]
  blk_point [iblk, V, idx t]

theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5, out]
  exact point m c t y

end Cert.Kernel2Ideal.Out

end
-- ==== Proof.Inp.Ref.lean ====
module

public import proofs.«01_k».proof.Proof.Gen.Reference3Ideal
public import Idealize.ShloMosaic.Lib.Pointwise

@[expose] public section

set_option maxRecDepth 16384

noncomputable section

namespace Cert.Reference3Ideal.Ref

open Cert.Reference3Ideal Cert.Reference3Ideal.Gen Idealize.ShloMosaic Idealize.ShloMosaic.TcCoe Idealize.SL.Sem

/-- The modulated, normalised input. -/
def H (A0 : FVec Ideal S4x4096x2048 .f32) (A1 : FVec Ideal S4x6144 .f32) : FVec Ideal S4x4096x2048 .f32 :=
  addf (mulf (mulf A0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf A0 A0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] A1 slices_S4x6144_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] A1 slices_S4x6144_S4x2048_0_0)))

/-- The input projection. -/
def P (h : FVec Ideal S4x4096x2048 .f32) (A3 : FVec Ideal S1x2048x4160 .f32) : FVec Ideal S4x4096x4160 .f32 :=
  Host.dotGeneral dot_S4x4096x2048_S2048x4160_S4x4096x4160_2_0_01_1_n_n none h (shapeCast _ A3 shapeCasts_S1x2048x4160_S2048x4160)

/-- The normalised query latent. -/
def QC (p : FVec Ideal S4x4096x4160 .f32) (A4 : FVec Ideal S1x512 .f32) : FVec Ideal S4x4096x512 .f32 :=
  mulf (mulf (extractStridedSlice S4x4096x512 ![0, 0, 2048] p slices_S4x4096x4160_S4x4096x512_0_0_2048) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (extractStridedSlice S4x4096x512 ![0, 0, 2048] p slices_S4x4096x4160_S4x4096x512_0_0_2048) (extractStridedSlice S4x4096x512 ![0, 0, 2048] p slices_S4x4096x4160_S4x4096x512_0_0_2048)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ A4 shapeCasts_S1x512_S512)))

/-- The query heads. -/
def Q (g : FVec Ideal S4x4096x512 .f32) (A5 : FVec Ideal S1x512x1536 .f32) : FVec Ideal S4x4096x8x192 .f32 :=
  shapeCast _ (Host.dotGeneral dot_S4x4096x512_S512x1536_S4x4096x1536_2_0_01_1_n_n none g (shapeCast _ A5 shapeCasts_S1x512x1536_S512x1536)) shapeCasts_S4x4096x1536_S4x4096x8x192

/-- The normalised key and value latent. -/
def KVC (p : FVec Ideal S4x4096x4160 .f32) (A6 : FVec Ideal S1x512 .f32) : FVec Ideal S4x4096x512 .f32 :=
  mulf (mulf (extractStridedSlice S4x4096x512 ![0, 0, 2560] p slices_S4x4096x4160_S4x4096x512_0_0_2560) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (extractStridedSlice S4x4096x512 ![0, 0, 2560] p slices_S4x4096x4160_S4x4096x512_0_0_2560) (extractStridedSlice S4x4096x512 ![0, 0, 2560] p slices_S4x4096x4160_S4x4096x512_0_0_2560)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ A6 shapeCasts_S1x512_S512)))

/-- The key and value heads. -/
def KV (g : FVec Ideal S4x4096x512 .f32) (A7 : FVec Ideal S1x512x2048 .f32) : FVec Ideal S4x4096x8x256 .f32 :=
  shapeCast _ (Host.dotGeneral dot_S4x4096x512_S512x2048_S4x4096x2048_2_0_01_1_n_n none g (shapeCast _ A7 shapeCasts_S1x512x2048_S512x2048)) shapeCasts_S4x4096x2048_S4x4096x8x256

/-- The normalised query head, its part without rotation. -/
def QN (q : FVec Ideal S4x4096x8x192 .f32) (A8 : FVec Ideal S1x128 .f32) : FVec Ideal S4x4096x8x128 .f32 :=
  mulf (mulf (extractStridedSlice S4x4096x8x128 ![0, 0, 0, 0] q slices_S4x4096x8x192_S4x4096x8x128_0_0_0_0) (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf (extractStridedSlice S4x4096x8x128 ![0, 0, 0, 0] q slices_S4x4096x8x192_S4x4096x8x128_0_0_0_0) (extractStridedSlice S4x4096x8x128 ![0, 0, 0, 0] q slices_S4x4096x8x192_S4x4096x8x128_0_0_0_0)) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 (shapeCast _ A8 shapeCasts_S1x128_S128)))

/-- The normalised query head, its part to rotate. -/
def QR (q : FVec Ideal S4x4096x8x192 .f32) (A9 : FVec Ideal S1x64 .f32) : FVec Ideal S4x4096x8x64 .f32 :=
  mulf (mulf (extractStridedSlice S4x4096x8x64 ![0, 0, 0, 128] q slices_S4x4096x8x192_S4x4096x8x64_0_0_0_128) (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf (extractStridedSlice S4x4096x8x64 ![0, 0, 0, 128] q slices_S4x4096x8x192_S4x4096x8x64_0_0_0_128) (extractStridedSlice S4x4096x8x64 ![0, 0, 0, 128] q slices_S4x4096x8x192_S4x4096x8x64_0_0_0_128)) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast _ A9 shapeCasts_S1x64_S64)))

/-- The normalised key head, its part without rotation. -/
def KN (kv : FVec Ideal S4x4096x8x256 .f32) (A10 : FVec Ideal S1x128 .f32) : FVec Ideal S4x4096x8x128 .f32 :=
  mulf (mulf (extractStridedSlice S4x4096x8x128 ![0, 0, 0, 0] kv slices_S4x4096x8x256_S4x4096x8x128_0_0_0_0) (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf (extractStridedSlice S4x4096x8x128 ![0, 0, 0, 0] kv slices_S4x4096x8x256_S4x4096x8x128_0_0_0_0) (extractStridedSlice S4x4096x8x128 ![0, 0, 0, 0] kv slices_S4x4096x8x256_S4x4096x8x128_0_0_0_0)) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 (shapeCast _ A10 shapeCasts_S1x128_S128)))

/-- The normalised shared key, its part to rotate. -/
def KR (p : FVec Ideal S4x4096x4160 .f32) (A11 : FVec Ideal S1x64 .f32) : FVec Ideal S4x4096x64 .f32 :=
  mulf (mulf (extractStridedSlice S4x4096x64 ![0, 0, 3072] p slices_S4x4096x4160_S4x4096x64_0_0_3072) (broadcastInDim S4x4096x64 ![0, 1, 2] bcast_S4x4096x1_S4x4096x64_0_1_2 (Host.rsqrt (addf (Host.divf (broadcastInDim S4x4096x1 ![0, 1] bcast_S4x4096_S4x4096x1_0_1 (Host.reduceAdd (mulf (extractStridedSlice S4x4096x64 ![0, 0, 3072] p slices_S4x4096x4160_S4x4096x64_0_0_3072) (extractStridedSlice S4x4096x64 ![0, 0, 3072] p slices_S4x4096x4160_S4x4096x64_0_0_3072)) (constant S_ .f32 0x00000000#32) reducesTo_S4x4096x64_S4x4096_d2 h_S_)) (broadcastInDim S4x4096x1 ![] bcast_S_S4x4096x1 (constant S_ .f32 0x42800000#32))) (broadcastInDim S4x4096x1 ![] bcast_S_S4x4096x1 (constant S_ .f32 0x358637BD#32)))))) (broadcastInDim S4x4096x64 ![0, 1, 2] bcast_S1x1x64_S4x4096x64_0_1_2 (broadcastInDim S1x1x64 ![2] bcast_S64_S1x1x64_2 (shapeCast _ A11 shapeCasts_S1x64_S64)))

/-- The rotation angles. -/
def ANG (A2 : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 A2))) (broadcastInDim S4x4096x32 ![0, 1, 2] bcast_S1x1x32_S4x4096x32_0_1_2 (broadcastInDim S1x1x32 ![2] bcast_S32_S1x1x32_2 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The recurrent input. -/
def O0 (p : FVec Ideal S4x4096x4160 .f32) : FVec Ideal S4x4096x1024 .bf16 :=
  truncf .bf16 (extractStridedSlice S4x4096x1024 ![0, 0, 0] p slices_S4x4096x4160_S4x4096x1024_0_0_0) bitsLt_bf16_f32

/-- The recurrent gate. -/
def O1 (p : FVec Ideal S4x4096x4160 .f32) : FVec Ideal S4x4096x1024 .bf16 :=
  truncf .bf16 (mulf (extractStridedSlice S4x4096x1024 ![0, 0, 1024] p slices_S4x4096x4160_S4x4096x1024_0_0_1024) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] p slices_S4x4096x4160_S4x4096x1024_0_0_1024)))))) bitsLt_bf16_f32

/-- The attention gate. -/
def O2 (p : FVec Ideal S4x4096x4160 .f32) : FVec Ideal S4x1024x4096 .bf16 :=
  truncf .bf16 (transpose S4x1024x4096 [0, 2, 1] (mulf (extractStridedSlice S4x4096x1024 ![0, 0, 3136] p slices_S4x4096x4160_S4x4096x1024_0_0_3136) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3136] p slices_S4x4096x4160_S4x4096x1024_0_0_3136)))))) transposes_S4x4096x1024_S4x1024x4096_0_2_1) bitsLt_bf16_f32

/-- The queries. -/
def O3 (qn : FVec Ideal S4x4096x8x128 .f32) (qr : FVec Ideal S4x4096x8x64 .f32) (a : FVec Ideal S4x4096x32 .f32) : FVec Ideal S4x8x192x4096 .bf16 :=
  truncf .bf16 (transpose S4x8x192x4096 [0, 2, 3, 1] (mulf (concatenate S4x4096x8x192 3 [⟨S4x4096x8x128, qn⟩, ⟨S4x4096x8x64, (concatenate S4x4096x8x64 3 [⟨S4x4096x8x32, (subf (mulf (extractStridedSlice S4x4096x8x32 ![0, 0, 0, 0] qr slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 (Host.cos a)))) (mulf (extractStridedSlice S4x4096x8x32 ![0, 0, 0, 32] qr slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 (Host.sin a)))))⟩, ⟨S4x4096x8x32, (addf (mulf (extractStridedSlice S4x4096x8x32 ![0, 0, 0, 0] qr slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 (Host.sin a)))) (mulf (extractStridedSlice S4x4096x8x32 ![0, 0, 0, 32] qr slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 (Host.cos a)))))⟩] concatenates_S4x4096x8x32_S4x4096x8x32_S4x4096x8x64_d3)⟩] concatenates_S4x4096x8x128_S4x4096x8x64_S4x4096x8x192_d3) (broadcastInDim S4x4096x8x192 ![] bcast_S_S4x4096x8x192 (constant S_ .f32 0x3DD53B95#32))) transposes_S4x4096x8x192_S4x8x192x4096_0_2_3_1) bitsLt_bf16_f32

/-- The keys. -/
def O4 (kn : FVec Ideal S4x4096x8x128 .f32) (kr : FVec Ideal S4x4096x64 .f32) (a : FVec Ideal S4x4096x32 .f32) : FVec Ideal S4x8x4096x192 .bf16 :=
  truncf .bf16 (transpose S4x8x4096x192 [0, 2, 1, 3] (concatenate S4x4096x8x192 3 [⟨S4x4096x8x128, kn⟩, ⟨S4x4096x8x64, (broadcastInDim S4x4096x8x64 ![0, 1, 2, 3] bcast_S4x4096x1x64_S4x4096x8x64_0_1_2_3 (broadcastInDim S4x4096x1x64 ![0, 1, 3] bcast_S4x4096x64_S4x4096x1x64_0_1_3 (concatenate S4x4096x64 2 [⟨S4x4096x32, (subf (mulf (extractStridedSlice S4x4096x32 ![0, 0, 0] kr slices_S4x4096x64_S4x4096x32_0_0_0) (Host.cos a)) (mulf (extractStridedSlice S4x4096x32 ![0, 0, 32] kr slices_S4x4096x64_S4x4096x32_0_0_32) (Host.sin a)))⟩, ⟨S4x4096x32, (addf (mulf (extractStridedSlice S4x4096x32 ![0, 0, 0] kr slices_S4x4096x64_S4x4096x32_0_0_0) (Host.sin a)) (mulf (extractStridedSlice S4x4096x32 ![0, 0, 32] kr slices_S4x4096x64_S4x4096x32_0_0_32) (Host.cos a)))⟩] concatenates_S4x4096x32_S4x4096x32_S4x4096x64_d2)))⟩] concatenates_S4x4096x8x128_S4x4096x8x64_S4x4096x8x192_d3) transposes_S4x4096x8x192_S4x8x4096x192_0_2_1_3) bitsLt_bf16_f32

/-- The values. -/
def O5 (kv : FVec Ideal S4x4096x8x256 .f32) : FVec Ideal S4x8x128x4096 .bf16 :=
  truncf .bf16 (transpose S4x8x128x4096 [0, 2, 3, 1] (extractStridedSlice S4x4096x8x128 ![0, 0, 0, 128] kv slices_S4x4096x8x256_S4x4096x8x128_0_0_0_128) transposes_S4x4096x8x128_S4x8x128x4096_0_2_3_1) bitsLt_bf16_f32

end Cert.Reference3Ideal.Ref

end
-- ==== Proof.Inp.RefRun.lean ====
module

public import proofs.«01_k».proof.Proof.Inp.Ref
public import proofs.«01_k».proof.Proof.Gen.Reference3Ideal.Run

@[expose] public section

set_option maxRecDepth 16384

noncomputable section

namespace Cert.Reference3Ideal.Ref

open Cert.Reference3Ideal Cert.Reference3Ideal.Gen Cert.Reference3Ideal.Value Idealize.ShloMosaic Idealize.ShloMosaic.TcCoe Idealize.SL.Sem Idealize.ShloMosaic.StableHlo

/-- The projection. -/
theorem v22_eq (V : Valuation τ sig (Elt Ideal)) :
    res_main_v22 V = P (H (V (Proc.devRef .tc main_arg0)) (V (Proc.devRef .tc main_arg1))) (V (Proc.devRef .tc main_arg3)) := by
  unfold res_main_v22 P H
  rfl

/-- The queries before their norms. -/
theorem v45_eq (V : Valuation τ sig (Elt Ideal)) :
    res_main_v45 V = Q (QC (P (H (V (Proc.devRef .tc main_arg0)) (V (Proc.devRef .tc main_arg1))) (V (Proc.devRef .tc main_arg3))) (V (Proc.devRef .tc main_arg4))) (V (Proc.devRef .tc main_arg5)) := by
  rw [← v22_eq V]
  unfold res_main_v45 res_main_v25 Q QC
  rfl

/-- The keys and values before the norm. -/
theorem v62_eq (V : Valuation τ sig (Elt Ideal)) :
    res_main_v62 V = KV (KVC (P (H (V (Proc.devRef .tc main_arg0)) (V (Proc.devRef .tc main_arg1))) (V (Proc.devRef .tc main_arg3))) (V (Proc.devRef .tc main_arg6))) (V (Proc.devRef .tc main_arg7)) := by
  rw [← v22_eq V]
  unfold res_main_v62 res_main_v26 KV KVC
  rfl

/-- The angles. -/
theorem v83_eq (V : Valuation τ sig (Elt Ideal)) :
    res_main_v83 V = ANG (V (Proc.devRef .tc main_arg2)) := by
  unfold res_main_v83 ANG
  rfl

/-- The rotated part of the queries, before the rotation. -/
theorem v113_eq (V : Valuation τ sig (Elt Ideal)) :
    res_main_v113 V = QR (Q (QC (P (H (V (Proc.devRef .tc main_arg0)) (V (Proc.devRef .tc main_arg1))) (V (Proc.devRef .tc main_arg3))) (V (Proc.devRef .tc main_arg4))) (V (Proc.devRef .tc main_arg5))) (V (Proc.devRef .tc main_arg9)) := by
  rw [← v45_eq V]
  unfold res_main_v113 res_main_v64 QR
  rfl

/-- The shared key, before the rotation. -/
theorem v156_eq (V : Valuation τ sig (Elt Ideal)) :
    res_main_v156 V = KR (P (H (V (Proc.devRef .tc main_arg0)) (V (Proc.devRef .tc main_arg1))) (V (Proc.devRef .tc main_arg3))) (V (Proc.devRef .tc main_arg11)) := by
  rw [← v22_eq V]
  unfold res_main_v156 res_main_v27 KR
  rfl

/-- The recurrent input as the reference leaves them. -/
theorem o0_eq (V : Valuation τ sig (Elt Ideal)) :
    truncf .bf16 (extractStridedSlice S4x4096x1024 ![0, 0, 0] (res_main_v22 V) slices_S4x4096x4160_S4x4096x1024_0_0_0) bitsLt_bf16_f32 = O0 (P (H (V (Proc.devRef .tc main_arg0)) (V (Proc.devRef .tc main_arg1))) (V (Proc.devRef .tc main_arg3))) := by
  rw [← v22_eq V]
  unfold O0
  rfl

/-- The recurrent gate as the reference leaves them. -/
theorem o1_eq (V : Valuation τ sig (Elt Ideal)) :
    truncf .bf16 (mulf (res_main_v24 V) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (res_main_v24 V)))))) bitsLt_bf16_f32 = O1 (P (H (V (Proc.devRef .tc main_arg0)) (V (Proc.devRef .tc main_arg1))) (V (Proc.devRef .tc main_arg3))) := by
  rw [← v22_eq V]
  unfold res_main_v24 O1
  rfl

/-- The attention gate as the reference leaves them. -/
theorem o2_eq (V : Valuation τ sig (Elt Ideal)) :
    truncf .bf16 (transpose S4x1024x4096 [0, 2, 1] (mulf (res_main_v28 V) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (res_main_v28 V)))))) transposes_S4x4096x1024_S4x1024x4096_0_2_1) bitsLt_bf16_f32 = O2 (P (H (V (Proc.devRef .tc main_arg0)) (V (Proc.devRef .tc main_arg1))) (V (Proc.devRef .tc main_arg3))) := by
  rw [← v22_eq V]
  unfold res_main_v28 O2
  rfl

/-- The queries as the reference leaves them. -/
theorem o3_eq (V : Valuation τ sig (Elt Ideal)) :
    truncf .bf16 (transpose S4x8x192x4096 [0, 2, 3, 1] (mulf (concatenate S4x4096x8x192 3 [⟨S4x4096x8x128, (mulf (mulf (res_main_v63 V) (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf (res_main_v63 V) (res_main_v63 V)) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 (shapeCast _ (V (Proc.devRef .tc main_arg8)) shapeCasts_S1x128_S128))))⟩, ⟨S4x4096x8x64, (concatenate S4x4096x8x64 3 [⟨S4x4096x8x32, (subf (mulf (res_main_v116 V) (broadcastInDim S4x4096x8x32 ![0, 1, 2, 3] bcast_S4x4096x1x32_S4x4096x8x32_0_1_2_3 (res_main_v114 V))) (mulf (res_main_v117 V) (broadcastInDim S4x4096x8x32 ![0, 1, 2, 3] bcast_S4x4096x1x32_S4x4096x8x32_0_1_2_3 (res_main_v115 V))))⟩, ⟨S4x4096x8x32, (addf (mulf (res_main_v116 V) (broadcastInDim S4x4096x8x32 ![0, 1, 2, 3] bcast_S4x4096x1x32_S4x4096x8x32_0_1_2_3 (res_main_v115 V))) (mulf (res_main_v117 V) (broadcastInDim S4x4096x8x32 ![0, 1, 2, 3] bcast_S4x4096x1x32_S4x4096x8x32_0_1_2_3 (res_main_v114 V))))⟩] concatenates_S4x4096x8x32_S4x4096x8x32_S4x4096x8x64_d3)⟩] concatenates_S4x4096x8x128_S4x4096x8x64_S4x4096x8x192_d3) (broadcastInDim S4x4096x8x192 ![] bcast_S_S4x4096x8x192 (constant S_ .f32 0x3DD53B95#32))) transposes_S4x4096x8x192_S4x8x192x4096_0_2_3_1) bitsLt_bf16_f32 = O3 (QN (Q (QC (P (H (V (Proc.devRef .tc main_arg0)) (V (Proc.devRef .tc main_arg1))) (V (Proc.devRef .tc main_arg3))) (V (Proc.devRef .tc main_arg4))) (V (Proc.devRef .tc main_arg5))) (V (Proc.devRef .tc main_arg8))) (QR (Q (QC (P (H (V (Proc.devRef .tc main_arg0)) (V (Proc.devRef .tc main_arg1))) (V (Proc.devRef .tc main_arg3))) (V (Proc.devRef .tc main_arg4))) (V (Proc.devRef .tc main_arg5))) (V (Proc.devRef .tc main_arg9))) (ANG (V (Proc.devRef .tc main_arg2))) := by
  rw [← v113_eq V, ← v83_eq V, ← v45_eq V]
  unfold res_main_v63 res_main_v116 res_main_v117 res_main_v114 res_main_v115 res_main_v84 res_main_v85 O3 QN
  rfl

/-- The keys as the reference leaves them. -/
theorem o4_eq (V : Valuation τ sig (Elt Ideal)) :
    truncf .bf16 (transpose S4x8x4096x192 [0, 2, 1, 3] (concatenate S4x4096x8x192 3 [⟨S4x4096x8x128, (mulf (mulf (res_main_v65 V) (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf (res_main_v65 V) (res_main_v65 V)) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 (shapeCast _ (V (Proc.devRef .tc main_arg10)) shapeCasts_S1x128_S128))))⟩, ⟨S4x4096x8x64, (broadcastInDim S4x4096x8x64 ![0, 1, 2, 3] bcast_S4x4096x1x64_S4x4096x8x64_0_1_2_3 (broadcastInDim S4x4096x1x64 ![0, 1, 3] bcast_S4x4096x64_S4x4096x1x64_0_1_3 (concatenate S4x4096x64 2 [⟨S4x4096x32, (subf (mulf (res_main_v157 V) (res_main_v84 V)) (mulf (res_main_v158 V) (res_main_v85 V)))⟩, ⟨S4x4096x32, (addf (mulf (res_main_v157 V) (res_main_v85 V)) (mulf (res_main_v158 V) (res_main_v84 V)))⟩] concatenates_S4x4096x32_S4x4096x32_S4x4096x64_d2)))⟩] concatenates_S4x4096x8x128_S4x4096x8x64_S4x4096x8x192_d3) transposes_S4x4096x8x192_S4x8x4096x192_0_2_1_3) bitsLt_bf16_f32 = O4 (KN (KV (KVC (P (H (V (Proc.devRef .tc main_arg0)) (V (Proc.devRef .tc main_arg1))) (V (Proc.devRef .tc main_arg3))) (V (Proc.devRef .tc main_arg6))) (V (Proc.devRef .tc main_arg7))) (V (Proc.devRef .tc main_arg10))) (KR (P (H (V (Proc.devRef .tc main_arg0)) (V (Proc.devRef .tc main_arg1))) (V (Proc.devRef .tc main_arg3))) (V (Proc.devRef .tc main_arg11))) (ANG (V (Proc.devRef .tc main_arg2))) := by
  rw [← v156_eq V, ← v83_eq V, ← v62_eq V]
  unfold res_main_v65 res_main_v157 res_main_v158 res_main_v84 res_main_v85 O4 KN
  rfl

/-- The values as the reference leaves them. -/
theorem o5_eq (V : Valuation τ sig (Elt Ideal)) :
    truncf .bf16 (transpose S4x8x128x4096 [0, 2, 3, 1] (extractStridedSlice S4x4096x8x128 ![0, 0, 0, 128] (res_main_v62 V) slices_S4x4096x8x256_S4x4096x8x128_0_0_0_128) transposes_S4x4096x8x128_S4x8x128x4096_0_2_3_1) bitsLt_bf16_f32 = O5 (KV (KVC (P (H (V (Proc.devRef .tc main_arg0)) (V (Proc.devRef .tc main_arg1))) (V (Proc.devRef .tc main_arg3))) (V (Proc.devRef .tc main_arg6))) (V (Proc.devRef .tc main_arg7))) := by
  rw [← v62_eq V]
  unfold O5
  rfl

end Cert.Reference3Ideal.Ref

end
-- ==== Proof.Inp.Base.lean ====
module

public import proofs.«01_k».proof.Proof.Gen.Kernel3Ideal.Frame
public import proofs.«01_k».proof.Proof.Inp.Ref
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- The argument arrays. -/
abbrev A (c : Dev nD) (r : Ref sig .tc) := m ((c : Thread nD τ).loc r)

theorem idx : ∀ t : Fin cfg0.N, win0_0.index t = ![t.val / 8, t.val % 8, 0] ∧ win0_1.index t = ![t.val / 8, 0, 0]
    ∧ win0_2.index t = ![t.val / 8, 0, t.val % 8] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0]
    ∧ win0_14.index t = ![t.val / 8, t.val % 8, 0] ∧ win0_15.index t = ![t.val / 8, t.val % 8, 0]
    ∧ win0_16.index t = ![t.val / 8, 0, t.val % 8] ∧ win0_17.index t = ![t.val / 8, 0, 0, t.val % 8]
    ∧ win0_18.index t = ![t.val / 8, 0, t.val % 8, 0] ∧ win0_19.index t = ![t.val / 8, 0, 0, t.val % 8] ∧ t.val < 32 :=
  (by decide +kernel : ∀ t : Fin grid0.N, _)

/-- What the host puts into each prepared operand. -/
theorem V_v41 (c : Dev nD) : V m c main_v41 = (shapeCast S4x3x2048 (m ((c : Thread nD τ).loc main_arg1)) shapeCasts_S4x6144_S4x3x2048) := by
  simp only [V, V0, hostOps0, List.flatten_cons, List.flatten_nil, List.append_nil, List.cons_append, List.nil_append]
  after_results
  try rfl

theorem V_v12 (c : Dev nD) : V m c main_v12 = (shapeCast S4x1x4096 (sitofp (F := Ideal) .f32 (m ((c : Thread nD τ).loc main_arg2))) shapeCasts_S4x4096_S4x1x4096) := by
  simp only [V, V0, hostOps0, List.flatten_cons, List.flatten_nil, List.append_nil, List.cons_append, List.nil_append]
  after_results
  try rfl

theorem V_v18 (c : Dev nD) : V m c main_v18 = (truncf (F := Ideal) .bf16 (transpose S4160x2048 [1, 0] (shapeCast S2048x4160 (m ((c : Thread nD τ).loc main_arg3)) shapeCasts_S1x2048x4160_S2048x4160) transposes_S2048x4160_S4160x2048_1_0) bitsLt_bf16_f32) := by
  simp only [V, V0, hostOps0, List.flatten_cons, List.flatten_nil, List.append_nil, List.cons_append, List.nil_append]
  after_results
  try rfl

theorem V_v20 (c : Dev nD) : V m c main_v20 = (shapeCast S1x512 (shapeCast S512 (m ((c : Thread nD τ).loc main_arg4)) shapeCasts_S1x512_S512) shapeCasts_S512_S1x512) := by
  simp only [V, V0, hostOps0, List.flatten_cons, List.flatten_nil, List.append_nil, List.cons_append, List.nil_append]
  after_results
  try rfl

theorem V_v22 (c : Dev nD) : V m c main_v22 = (shapeCast S1x512 (shapeCast S512 (m ((c : Thread nD τ).loc main_arg6)) shapeCasts_S1x512_S512) shapeCasts_S512_S1x512) := by
  simp only [V, V0, hostOps0, List.flatten_cons, List.flatten_nil, List.append_nil, List.cons_append, List.nil_append]
  after_results
  try rfl

theorem V_v25 (c : Dev nD) : V m c main_v25 = (truncf (F := Ideal) .bf16 (transpose S1536x512 [1, 0] (shapeCast S512x1536 (m ((c : Thread nD τ).loc main_arg5)) shapeCasts_S1x512x1536_S512x1536) transposes_S512x1536_S1536x512_1_0) bitsLt_bf16_f32) := by
  simp only [V, V0, hostOps0, List.flatten_cons, List.flatten_nil, List.append_nil, List.cons_append, List.nil_append]
  after_results
  try rfl

theorem V_v28 (c : Dev nD) : V m c main_v28 = (truncf (F := Ideal) .bf16 (shapeCast S512x1024 (extractStridedSlice S512x8x128 ![0, 0, 0] (shapeCast S512x8x256 (shapeCast S512x2048 (m ((c : Thread nD τ).loc main_arg7)) shapeCasts_S1x512x2048_S512x2048) shapeCasts_S512x2048_S512x8x256) slices_S512x8x256_S512x8x128_0_0_0) shapeCasts_S512x8x128_S512x1024) bitsLt_bf16_f32) := by
  simp only [V, V0, hostOps0, List.flatten_cons, List.flatten_nil, List.append_nil, List.cons_append, List.nil_append]
  after_results
  try rfl

theorem V_v32 (c : Dev nD) : V m c main_v32 = (truncf (F := Ideal) .bf16 (transpose S1024x512 [1, 0] (shapeCast S512x1024 (extractStridedSlice S512x8x128 ![0, 0, 128] (shapeCast S512x8x256 (shapeCast S512x2048 (m ((c : Thread nD τ).loc main_arg7)) shapeCasts_S1x512x2048_S512x2048) shapeCasts_S512x2048_S512x8x256) slices_S512x8x256_S512x8x128_0_0_128) shapeCasts_S512x8x128_S512x1024) transposes_S512x1024_S1024x512_1_0) bitsLt_bf16_f32) := by
  simp only [V, V0, hostOps0, List.flatten_cons, List.flatten_nil, List.append_nil, List.cons_append, List.nil_append]
  after_results
  try rfl

theorem V_v34 (c : Dev nD) : V m c main_v34 = (shapeCast S128x1 (shapeCast S128 (m ((c : Thread nD τ).loc main_arg8)) shapeCasts_S1x128_S128) shapeCasts_S128_S128x1) := by
  simp only [V, V0, hostOps0, List.flatten_cons, List.flatten_nil, List.append_nil, List.cons_append, List.nil_append]
  after_results
  try rfl

theorem V_v36 (c : Dev nD) : V m c main_v36 = (shapeCast S64x1 (shapeCast S64 (m ((c : Thread nD τ).loc main_arg9)) shapeCasts_S1x64_S64) shapeCasts_S64_S64x1) := by
  simp only [V, V0, hostOps0, List.flatten_cons, List.flatten_nil, List.append_nil, List.cons_append, List.nil_append]
  after_results
  try rfl

theorem V_v38 (c : Dev nD) : V m c main_v38 = (shapeCast S1x128 (shapeCast S128 (m ((c : Thread nD τ).loc main_arg10)) shapeCasts_S1x128_S128) shapeCasts_S128_S1x128) := by
  simp only [V, V0, hostOps0, List.flatten_cons, List.flatten_nil, List.append_nil, List.cons_append, List.nil_append]
  after_results
  try rfl

theorem V_v40 (c : Dev nD) : V m c main_v40 = (shapeCast S64x1 (shapeCast S64 (m ((c : Thread nD τ).loc main_arg11)) shapeCasts_S1x64_S64) shapeCasts_S64_S64x1) := by
  simp only [V, V0, hostOps0, List.flatten_cons, List.flatten_nil, List.append_nil, List.cons_append, List.nil_append]
  after_results
  try rfl

theorem V_v13 (c : Dev nD) : V m c main_v13 = (shapeCast S32x1 (Host.divf (broadcastInDim S32 ![] bcast_S_S32 (constant (F := Ideal) S_ .f32 0x3F800000#32)) (Host.powf (broadcastInDim S32 ![] bcast_S_S32 (constant (F := Ideal) S_ .f32 0x461C4000#32)) (Host.divf (addf (broadcastInDim S32 ![] bcast_S_S32 (constant (F := Ideal) S_ .f32 0x00000000#32)) (mulf (broadcastInDim S32 ![] bcast_S_S32 (constant (F := Ideal) S_ .f32 0x40000000#32)) (sitofp (F := Ideal) .f32 (iotaInDim S32 32 0)))) (broadcastInDim S32 ![] bcast_S_S32 (constant (F := Ideal) S_ .f32 0x42800000#32))))) shapeCasts_S32_S32x1) := by
  simp only [V, V0, hostOps0, List.flatten_cons, List.flatten_nil, List.append_nil, List.cons_append, List.nil_append]
  after_results
  try rfl

/-- The prepared operands read at an index. -/
theorem W41 (X : FVec Ideal S4x6144 .f32) (j : S4x3x2048.Idx) : (shapeCast S4x3x2048 X shapeCasts_S4x6144_S4x3x2048) j = X (ix2 (⟨j 0, (j 0).isLt⟩ : Fin 4) (⟨(j 1 : ℕ) * 2048 + j 2, by have B0 : (j 0 : ℕ) < 4 := (j 0).isLt; have B1 : (j 1 : ℕ) < 3 := (j 1).isLt; have B2 : (j 2 : ℕ) < 2048 := (j 2).isLt; omega⟩ : Fin 6144)) := by
  have B0 : (j 0 : ℕ) < 4 := (j 0).isLt
  have B1 : (j 1 : ℕ) < 3 := (j 1).isLt
  have B2 : (j 2 : ℕ) < 2048 := (j 2).isLt
  pointwise
  blk_ext []

theorem W12 (X : IVec S4x4096 32) (j : S4x1x4096.Idx) : (shapeCast S4x1x4096 (sitofp (F := Ideal) .f32 X) shapeCasts_S4x4096_S4x1x4096) j = FloatOps.sitofp (F := Ideal) .f32 (X (ix2 (⟨j 0, (j 0).isLt⟩ : Fin 4) (⟨j 2, (j 2).isLt⟩ : Fin 4096))) := by
  have B0 : (j 0 : ℕ) < 4 := (j 0).isLt
  have B1 : (j 1 : ℕ) < 1 := (j 1).isLt
  have B2 : (j 2 : ℕ) < 4096 := (j 2).isLt
  pointwise
  blk_ext []

theorem W18 (X : FVec Ideal S1x2048x4160 .f32) (j : S4160x2048.Idx) : (truncf (F := Ideal) .bf16 (transpose S4160x2048 [1, 0] (shapeCast S2048x4160 X shapeCasts_S1x2048x4160_S2048x4160) transposes_S2048x4160_S4160x2048_1_0) bitsLt_bf16_f32) j = X (ix3 (0 : Fin 1) (⟨j 1, (j 1).isLt⟩ : Fin 2048) (⟨j 0, (j 0).isLt⟩ : Fin 4160)) := by
  have B0 : (j 0 : ℕ) < 4160 := (j 0).isLt
  have B1 : (j 1 : ℕ) < 2048 := (j 1).isLt
  pointwise
  blk_ext []

theorem W25 (X : FVec Ideal S1x512x1536 .f32) (j : S1536x512.Idx) : (truncf (F := Ideal) .bf16 (transpose S1536x512 [1, 0] (shapeCast S512x1536 X shapeCasts_S1x512x1536_S512x1536) transposes_S512x1536_S1536x512_1_0) bitsLt_bf16_f32) j = X (ix3 (0 : Fin 1) (⟨j 1, (j 1).isLt⟩ : Fin 512) (⟨j 0, (j 0).isLt⟩ : Fin 1536)) := by
  have B0 : (j 0 : ℕ) < 1536 := (j 0).isLt
  have B1 : (j 1 : ℕ) < 512 := (j 1).isLt
  pointwise
  blk_ext []

theorem W28 (X : FVec Ideal S1x512x2048 .f32) (j : S512x1024.Idx) : (truncf (F := Ideal) .bf16 (shapeCast S512x1024 (extractStridedSlice S512x8x128 ![0, 0, 0] (shapeCast S512x8x256 (shapeCast S512x2048 X shapeCasts_S1x512x2048_S512x2048) shapeCasts_S512x2048_S512x8x256) slices_S512x8x256_S512x8x128_0_0_0) shapeCasts_S512x8x128_S512x1024) bitsLt_bf16_f32) j = X (ix3 (0 : Fin 1) (⟨j 0, (j 0).isLt⟩ : Fin 512) (⟨(j 1 : ℕ) / 128 * 256 + (j 1 : ℕ) % 128, by have B0 : (j 0 : ℕ) < 512 := (j 0).isLt; have B1 : (j 1 : ℕ) < 1024 := (j 1).isLt; omega⟩ : Fin 2048)) := by
  have B0 : (j 0 : ℕ) < 512 := (j 0).isLt
  have B1 : (j 1 : ℕ) < 1024 := (j 1).isLt
  pointwise
  blk_ext []

theorem W32 (X : FVec Ideal S1x512x2048 .f32) (j : S1024x512.Idx) : (truncf (F := Ideal) .bf16 (transpose S1024x512 [1, 0] (shapeCast S512x1024 (extractStridedSlice S512x8x128 ![0, 0, 128] (shapeCast S512x8x256 (shapeCast S512x2048 X shapeCasts_S1x512x2048_S512x2048) shapeCasts_S512x2048_S512x8x256) slices_S512x8x256_S512x8x128_0_0_128) shapeCasts_S512x8x128_S512x1024) transposes_S512x1024_S1024x512_1_0) bitsLt_bf16_f32) j = X (ix3 (0 : Fin 1) (⟨j 1, (j 1).isLt⟩ : Fin 512) (⟨(j 0 : ℕ) / 128 * 256 + (128 + (j 0 : ℕ) % 128), by have B0 : (j 0 : ℕ) < 1024 := (j 0).isLt; have B1 : (j 1 : ℕ) < 512 := (j 1).isLt; omega⟩ : Fin 2048)) := by
  have B0 : (j 0 : ℕ) < 1024 := (j 0).isLt
  have B1 : (j 1 : ℕ) < 512 := (j 1).isLt
  pointwise
  blk_ext []

/-- What each input window's block holds, over the arguments. -/
theorem in1 (c : Dev nD) (t : Fin cfg0.N) (i : S1x3x2048.Idx) : iblk m c 1 t i = m ((c : Thread nD τ).loc main_arg1)
    (ix2 (⟨t.val / 8, by have := idx t; omega⟩ : Fin 4) (⟨(i 1 : ℕ) * 2048 + i 2, by have h1 : (i 1 : ℕ) < 3 := (i 1).isLt; have h2 : (i 2 : ℕ) < 2048 := (i 2).isLt; have := idx t; omega⟩ : Fin 6144)) := by
  refine (show iblk m c 1 t i = V m c main_v41 (((cfg0.win 1).blk t).view.emb i) from rfl).trans ?_
  rw [V_v41]
  refine (W41 _ _).trans ?_
  blk_ext [idx t]

theorem in2 (c : Dev nD) (t : Fin cfg0.N) (i : S1x1x512.Idx) : iblk m c 2 t i = FloatOps.sitofp (F := Ideal) .f32 (m ((c : Thread nD τ).loc main_arg2)
    (ix2 (⟨t.val / 8, by have := idx t; omega⟩ : Fin 4) (⟨t.val % 8 * 512 + i 2, by have h2 : (i 2 : ℕ) < 512 := (i 2).isLt; have := idx t; omega⟩ : Fin 4096))) := by
  refine (show iblk m c 2 t i = V m c main_v12 (((cfg0.win 2).blk t).view.emb i) from rfl).trans ?_
  rw [V_v12]
  refine (W12 _ _).trans ?_
  blk_ext [idx t]

theorem in4 (c : Dev nD) (t : Fin cfg0.N) (i : S4160x2048.Idx) : iblk m c 4 t i = m ((c : Thread nD τ).loc main_arg3)
    (ix3 (0 : Fin 1) (⟨i 1, by have h1 : (i 1 : ℕ) < 2048 := (i 1).isLt; have := idx t; omega⟩ : Fin 2048) (⟨i 0, by have h0 : (i 0 : ℕ) < 4160 := (i 0).isLt; have := idx t; omega⟩ : Fin 4160)) := by
  refine (show iblk m c 4 t i = V m c main_v18 (((cfg0.win 4).blk t).view.emb i) from rfl).trans ?_
  rw [V_v18]
  refine (W18 _ _).trans ?_
  blk_ext [idx t]

theorem in5 (c : Dev nD) (t : Fin cfg0.N) (i : S1x512.Idx) : iblk m c 5 t i = m ((c : Thread nD τ).loc main_arg4)
    i := by
  refine (show iblk m c 5 t i = V m c main_v20 (((cfg0.win 5).blk t).view.emb i) from rfl).trans ?_
  rw [V_v20]
  pointwise
  blk_ext [idx t]

theorem in6 (c : Dev nD) (t : Fin cfg0.N) (i : S1x512.Idx) : iblk m c 6 t i = m ((c : Thread nD τ).loc main_arg6)
    i := by
  refine (show iblk m c 6 t i = V m c main_v22 (((cfg0.win 6).blk t).view.emb i) from rfl).trans ?_
  rw [V_v22]
  pointwise
  blk_ext [idx t]

theorem in7 (c : Dev nD) (t : Fin cfg0.N) (i : S1536x512.Idx) : iblk m c 7 t i = m ((c : Thread nD τ).loc main_arg5)
    (ix3 (0 : Fin 1) (⟨i 1, by have h1 : (i 1 : ℕ) < 512 := (i 1).isLt; have := idx t; omega⟩ : Fin 512) (⟨i 0, by have h0 : (i 0 : ℕ) < 1536 := (i 0).isLt; have := idx t; omega⟩ : Fin 1536)) := by
  refine (show iblk m c 7 t i = V m c main_v25 (((cfg0.win 7).blk t).view.emb i) from rfl).trans ?_
  rw [V_v25]
  refine (W25 _ _).trans ?_
  blk_ext [idx t]

theorem in8 (c : Dev nD) (t : Fin cfg0.N) (i : S512x1024.Idx) : iblk m c 8 t i = m ((c : Thread nD τ).loc main_arg7)
    (ix3 (0 : Fin 1) (⟨i 0, by have h0 : (i 0 : ℕ) < 512 := (i 0).isLt; have := idx t; omega⟩ : Fin 512) (⟨(i 1 : ℕ) / 128 * 256 + (i 1 : ℕ) % 128, by have h1 : (i 1 : ℕ) < 1024 := (i 1).isLt; have := idx t; omega⟩ : Fin 2048)) := by
  refine (show iblk m c 8 t i = V m c main_v28 (((cfg0.win 8).blk t).view.emb i) from rfl).trans ?_
  rw [V_v28]
  refine (W28 _ _).trans ?_
  blk_ext [idx t]

theorem in9 (c : Dev nD) (t : Fin cfg0.N) (i : S1024x512.Idx) : iblk m c 9 t i = m ((c : Thread nD τ).loc main_arg7)
    (ix3 (0 : Fin 1) (⟨i 1, by have h1 : (i 1 : ℕ) < 512 := (i 1).isLt; have := idx t; omega⟩ : Fin 512) (⟨(i 0 : ℕ) / 128 * 256 + (128 + (i 0 : ℕ) % 128), by have h0 : (i 0 : ℕ) < 1024 := (i 0).isLt; have := idx t; omega⟩ : Fin 2048)) := by
  refine (show iblk m c 9 t i = V m c main_v32 (((cfg0.win 9).blk t).view.emb i) from rfl).trans ?_
  rw [V_v32]
  refine (W32 _ _).trans ?_
  blk_ext [idx t]

theorem in10 (c : Dev nD) (t : Fin cfg0.N) (i : S128x1.Idx) : iblk m c 10 t i = m ((c : Thread nD τ).loc main_arg8)
    (ix2 (0 : Fin 1) (⟨i 0, by have h0 : (i 0 : ℕ) < 128 := (i 0).isLt; have := idx t; omega⟩ : Fin 128)) := by
  refine (show iblk m c 10 t i = V m c main_v34 (((cfg0.win 10).blk t).view.emb i) from rfl).trans ?_
  rw [V_v34]
  pointwise
  blk_ext [idx t]

theorem in11 (c : Dev nD) (t : Fin cfg0.N) (i : S64x1.Idx) : iblk m c 11 t i = m ((c : Thread nD τ).loc main_arg9)
    (ix2 (0 : Fin 1) (⟨i 0, by have h0 : (i 0 : ℕ) < 64 := (i 0).isLt; have := idx t; omega⟩ : Fin 64)) := by
  refine (show iblk m c 11 t i = V m c main_v36 (((cfg0.win 11).blk t).view.emb i) from rfl).trans ?_
  rw [V_v36]
  pointwise
  blk_ext [idx t]

theorem in12 (c : Dev nD) (t : Fin cfg0.N) (i : S1x128.Idx) : iblk m c 12 t i = m ((c : Thread nD τ).loc main_arg10)
    i := by
  refine (show iblk m c 12 t i = V m c main_v38 (((cfg0.win 12).blk t).view.emb i) from rfl).trans ?_
  rw [V_v38]
  pointwise
  blk_ext [idx t]

theorem in13 (c : Dev nD) (t : Fin cfg0.N) (i : S64x1.Idx) : iblk m c 13 t i = m ((c : Thread nD τ).loc main_arg11)
    (ix2 (0 : Fin 1) (⟨i 0, by have h0 : (i 0 : ℕ) < 64 := (i 0).isLt; have := idx t; omega⟩ : Fin 64)) := by
  refine (show iblk m c 13 t i = V m c main_v40 (((cfg0.win 13).blk t).view.emb i) from rfl).trans ?_
  rw [V_v40]
  pointwise
  blk_ext [idx t]

theorem in3 (c : Dev nD) (t : Fin cfg0.N) : iblk m c 3 t = (shapeCast S32x1 (Host.divf (broadcastInDim S32 ![] bcast_S_S32 (constant (F := Ideal) S_ .f32 0x3F800000#32)) (Host.powf (broadcastInDim S32 ![] bcast_S_S32 (constant (F := Ideal) S_ .f32 0x461C4000#32)) (Host.divf (addf (broadcastInDim S32 ![] bcast_S_S32 (constant (F := Ideal) S_ .f32 0x00000000#32)) (mulf (broadcastInDim S32 ![] bcast_S_S32 (constant (F := Ideal) S_ .f32 0x40000000#32)) (sitofp (F := Ideal) .f32 (iotaInDim S32 32 0)))) (broadcastInDim S32 ![] bcast_S_S32 (constant (F := Ideal) S_ .f32 0x42800000#32))))) shapeCasts_S32_S32x1) := by
  rw [← V_v13 m c]
  blk_ext! [iblk, idx t]

end Cert.Kernel3Ideal.Inp

end
-- ==== Proof.Inp.Lat.lean ====
module

public import proofs.«01_k».proof.Proof.Inp.Base

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem tlt (t : Fin cfg0.N) : t.val < 32 := (idx t).2.2.2.2.2.2.2.2.2.2.2.2.2.2.2.2.2.2.2.2

/-- The modulated input at 256 rows of a point. -/
def hrow (T : FVec Ideal S4x4096x2048 .f32) (t : Fin cfg0.N) (r : ℕ) (hr : r ≤ 256) : FVec Ideal S256x2048 .bf16 :=
  fun i => T (ix3 (⟨t.val / 8, by have := tlt t; omega⟩ : Fin 4) (⟨t.val % 8 * 512 + r + (i 0 : ℕ), by have h : (i 0 : ℕ) < 256 := (i 0).isLt; omega⟩ : Fin 4096) (⟨i 1, by have h : (i 1 : ℕ) < 2048 := (i 1).isLt; omega⟩ : Fin 2048))

/-- The latent columns of the projection there. -/
def prow (T : FVec Ideal Cert.Reference3Ideal.S4x4096x4160 .f32) (t : Fin cfg0.N) (r : ℕ) (hr : r ≤ 256) : FVec Ideal S256x1024 .f32 :=
  fun i => T (ix3 (⟨t.val / 8, by have := tlt t; omega⟩ : Fin 4) (⟨t.val % 8 * 512 + r + (i 0 : ℕ), by have h : (i 0 : ℕ) < 256 := (i 0).isLt; omega⟩ : Fin 4096) (⟨2048 + (i 1 : ℕ), by have h : (i 1 : ℕ) < 1024 := (i 1).isLt; omega⟩ : Fin 4160))

/-- A latent there. -/
def crow (T : FVec Ideal Cert.Reference3Ideal.S4x4096x512 .f32) (t : Fin cfg0.N) (r : ℕ) (hr : r ≤ 256) : FVec Ideal S256x512 .bf16 :=
  fun i => T (ix3 (⟨t.val / 8, by have := tlt t; omega⟩ : Fin 4) (⟨t.val % 8 * 512 + r + (i 0 : ℕ), by have h : (i 0 : ℕ) < 256 := (i 0).isLt; omega⟩ : Fin 4096) (⟨i 1, by have h : (i 1 : ℕ) < 512 := (i 1).isLt; omega⟩ : Fin 512))

/-- The query heads there, rows and columns swapped. -/
def qrow (T : FVec Ideal Cert.Reference3Ideal.S4x4096x8x192 .f32) (t : Fin cfg0.N) (r : ℕ) (hr : r ≤ 256) : FVec Ideal S1536x256 .f32 :=
  fun i => T (ix4 (⟨t.val / 8, by have := tlt t; omega⟩ : Fin 4) (⟨t.val % 8 * 512 + r + (i 1 : ℕ), by have h : (i 1 : ℕ) < 256 := (i 1).isLt; omega⟩ : Fin 4096) (⟨(i 0 : ℕ) / 192, by have h : (i 0 : ℕ) < 1536 := (i 0).isLt; omega⟩ : Fin 8) (⟨(i 0 : ℕ) % 192, by have h : (i 0 : ℕ) < 1536 := (i 0).isLt; omega⟩ : Fin 192))

/-- The value heads there, rows and columns swapped. -/
def vrow (T : FVec Ideal Cert.Reference3Ideal.S4x4096x8x256 .f32) (t : Fin cfg0.N) (r : ℕ) (hr : r ≤ 256) : FVec Ideal S1024x256 .f32 :=
  fun i => T (ix4 (⟨t.val / 8, by have := tlt t; omega⟩ : Fin 4) (⟨t.val % 8 * 512 + r + (i 1 : ℕ), by have h : (i 1 : ℕ) < 256 := (i 1).isLt; omega⟩ : Fin 4096) (⟨(i 0 : ℕ) / 128, by have h : (i 0 : ℕ) < 1024 := (i 0).isLt; omega⟩ : Fin 8) (⟨128 + (i 0 : ℕ) % 128, by have h : (i 0 : ℕ) < 1024 := (i 0).isLt; omega⟩ : Fin 256))

/-- The key heads there. -/
def krow (T : FVec Ideal Cert.Reference3Ideal.S4x4096x8x256 .f32) (t : Fin cfg0.N) (r : ℕ) (hr : r ≤ 256) : FVec Ideal S256x1024 .f32 :=
  fun i => T (ix4 (⟨t.val / 8, by have := tlt t; omega⟩ : Fin 4) (⟨t.val % 8 * 512 + r + (i 0 : ℕ), by have h : (i 0 : ℕ) < 256 := (i 0).isLt; omega⟩ : Fin 4096) (⟨(i 1 : ℕ) / 128, by have h : (i 1 : ℕ) < 1024 := (i 1).isLt; omega⟩ : Fin 8) (⟨(i 1 : ℕ) % 128, by have h : (i 1 : ℕ) < 1024 := (i 1).isLt; omega⟩ : Fin 256))

/-- The shared key there, rows and columns swapped. -/
def rrow (T : FVec Ideal Cert.Reference3Ideal.S4x4096x4160 .f32) (t : Fin cfg0.N) (r : ℕ) (hr : r ≤ 256) : FVec Ideal S64x256 .f32 :=
  fun i => T (ix3 (⟨t.val / 8, by have := tlt t; omega⟩ : Fin 4) (⟨t.val % 8 * 512 + r + (i 1 : ℕ), by have h : (i 1 : ℕ) < 256 := (i 1).isLt; omega⟩ : Fin 4096) (⟨3072 + (i 0 : ℕ), by have h : (i 0 : ℕ) < 64 := (i 0).isLt; omega⟩ : Fin 4160))

/-- The angles there, rows and columns swapped. -/
def arow (T : FVec Ideal Cert.Reference3Ideal.S4x4096x32 .f32) (t : Fin cfg0.N) (r : ℕ) (hr : r ≤ 256) : FVec Ideal S32x256 .f32 :=
  fun i => T (ix3 (⟨t.val / 8, by have := tlt t; omega⟩ : Fin 4) (⟨t.val % 8 * 512 + r + (i 1 : ℕ), by have h : (i 1 : ℕ) < 256 := (i 1).isLt; omega⟩ : Fin 4096) (⟨i 0, by have h : (i 0 : ℕ) < 32 := (i 0).isLt; omega⟩ : Fin 32))

theorem h0_at (c : Dev nD) (t : Fin cfg0.N) (i : S256x2048.Idx) (j : S4x4096x2048.Idx) (hj0 : (j 0 : ℕ) = t.val / 8)
    (hj1 : (j 1 : ℕ) = t.val % 8 * 512 + 0 + i 0) (hj2 : (j 2 : ℕ) = i 1) :
    k0_pay13 (F := Ideal) (k0_pay2 (View.ld (Val := Elt Ideal) (S := S1x3x2048) (e' := .f32) (iblk m c 1 t) (Rect.unit ![0, 1, 0] ![1, 1, 2048] inb_S1x3x2048_S1x1x2048_0_1_0)))
      (k0_pay3 (View.ld (Val := Elt Ideal) (S := S1x3x2048) (e' := .f32) (iblk m c 1 t) (Rect.unit ![0, 0, 0] ![1, 1, 2048] inb_S1x3x2048_S1x1x2048_0_0_0))) (View.ld (Val := Elt Ideal) (S := S1x512x2048) (e' := .f32) (iblk m c 0 t) (Rect.unit ![0, 0, 0] ![1, 256, 2048] inb_S1x512x2048_S1x256x2048_0_0_0)) i
    = Cert.Reference3Ideal.Ref.H (m ((c : Thread nD τ).loc main_arg0)) (m ((c : Thread nD τ).loc main_arg1)) j := by
  pointwise [k0_pay13, k0_pay2, k0_pay3, k0_pay14, k0_pay15, k0_pay16, k0_pay17, Cert.Reference3Ideal.Ref.H]
  simp only [in1]
  blk_point [iblk, V, idx t]

theorem h0_eq (c : Dev nD) (t : Fin cfg0.N) :
    k0_pay13 (F := Ideal) (k0_pay2 (View.ld (Val := Elt Ideal) (S := S1x3x2048) (e' := .f32) (iblk m c 1 t) (Rect.unit ![0, 1, 0] ![1, 1, 2048] inb_S1x3x2048_S1x1x2048_0_1_0)))
      (k0_pay3 (View.ld (Val := Elt Ideal) (S := S1x3x2048) (e' := .f32) (iblk m c 1 t) (Rect.unit ![0, 0, 0] ![1, 1, 2048] inb_S1x3x2048_S1x1x2048_0_0_0))) (View.ld (Val := Elt Ideal) (S := S1x512x2048) (e' := .f32) (iblk m c 0 t) (Rect.unit ![0, 0, 0] ![1, 256, 2048] inb_S1x512x2048_S1x256x2048_0_0_0))
    = hrow (Cert.Reference3Ideal.Ref.H (m ((c : Thread nD τ).loc main_arg0)) (m ((c : Thread nD τ).loc main_arg1))) t 0 (by omega) :=
  funext fun i => h0_at m c t i _ rfl rfl rfl

theorem h256_at (c : Dev nD) (t : Fin cfg0.N) (i : S256x2048.Idx) (j : S4x4096x2048.Idx) (hj0 : (j 0 : ℕ) = t.val / 8)
    (hj1 : (j 1 : ℕ) = t.val % 8 * 512 + 256 + i 0) (hj2 : (j 2 : ℕ) = i 1) :
    k0_pay17 (F := Ideal) (k0_pay2 (View.ld (Val := Elt Ideal) (S := S1x3x2048) (e' := .f32) (iblk m c 1 t) (Rect.unit ![0, 1, 0] ![1, 1, 2048] inb_S1x3x2048_S1x1x2048_0_1_0)))
      (k0_pay3 (View.ld (Val := Elt Ideal) (S := S1x3x2048) (e' := .f32) (iblk m c 1 t) (Rect.unit ![0, 0, 0] ![1, 1, 2048] inb_S1x3x2048_S1x1x2048_0_0_0))) (k0_pay14 (View.ld (Val := Elt Ideal) (S := S1x512x2048) (e' := .f32) (iblk m c 0 t) (Rect.unit ![0, 256, 0] ![1, 256, 2048] inb_S1x512x2048_S1x256x2048_0_256_0))) (k0_pay15 (View.ld (Val := Elt Ideal) (S := S1x512x2048) (e' := .f32) (iblk m c 0 t) (Rect.unit ![0, 256, 0] ![1, 256, 2048] inb_S1x512x2048_S1x256x2048_0_256_0))) k0_pay16 i
    = Cert.Reference3Ideal.Ref.H (m ((c : Thread nD τ).loc main_arg0)) (m ((c : Thread nD τ).loc main_arg1)) j := by
  pointwise [k0_pay13, k0_pay2, k0_pay3, k0_pay14, k0_pay15, k0_pay16, k0_pay17, Cert.Reference3Ideal.Ref.H]
  simp only [in1]
  blk_point [iblk, V, idx t]

theorem h256_eq (c : Dev nD) (t : Fin cfg0.N) :
    k0_pay17 (F := Ideal) (k0_pay2 (View.ld (Val := Elt Ideal) (S := S1x3x2048) (e' := .f32) (iblk m c 1 t) (Rect.unit ![0, 1, 0] ![1, 1, 2048] inb_S1x3x2048_S1x1x2048_0_1_0)))
      (k0_pay3 (View.ld (Val := Elt Ideal) (S := S1x3x2048) (e' := .f32) (iblk m c 1 t) (Rect.unit ![0, 0, 0] ![1, 1, 2048] inb_S1x3x2048_S1x1x2048_0_0_0))) (k0_pay14 (View.ld (Val := Elt Ideal) (S := S1x512x2048) (e' := .f32) (iblk m c 0 t) (Rect.unit ![0, 256, 0] ![1, 256, 2048] inb_S1x512x2048_S1x256x2048_0_256_0))) (k0_pay15 (View.ld (Val := Elt Ideal) (S := S1x512x2048) (e' := .f32) (iblk m c 0 t) (Rect.unit ![0, 256, 0] ![1, 256, 2048] inb_S1x512x2048_S1x256x2048_0_256_0))) k0_pay16
    = hrow (Cert.Reference3Ideal.Ref.H (m ((c : Thread nD τ).loc main_arg0)) (m ((c : Thread nD τ).loc main_arg1))) t 256 (by omega) :=
  funext fun i => h256_at m c t i _ rfl rfl rfl

theorem p18_eq (c : Dev nD) (t : Fin cfg0.N) (r : ℕ) (hr : r ≤ 256) (T : FVec Ideal S4x4096x2048 .f32) :
    k0_pay18 (F := Ideal) (hrow T t r hr) (View.ld (Val := Elt Ideal) (S := S4160x2048) (e' := .bf16) (iblk m c 4 t) (Rect.unit ![2048, 0] ![1024, 2048] inb_S4160x2048_S1024x2048_2048_0))
    = prow (Cert.Reference3Ideal.Ref.P T (m ((c : Thread nD τ).loc main_arg3))) t r hr := by
  funext i
  pointwise [k0_pay18, hrow, prow, Cert.Reference3Ideal.Ref.P]
  simp only [in4]
  blk_point [idx t]

theorem p143_eq (c : Dev nD) (t : Fin cfg0.N) (r : ℕ) (hr : r ≤ 256) (T : FVec Ideal S4x4096x2048 .f32) :
    k0_pay143 (F := Ideal) (hrow T t r hr) (View.ld (Val := Elt Ideal) (S := S4160x2048) (e' := .bf16) (iblk m c 4 t) (Rect.unit ![2048, 0] ![1024, 2048] inb_S4160x2048_S1024x2048_2048_0))
    = prow (Cert.Reference3Ideal.Ref.P T (m ((c : Thread nD τ).loc main_arg3))) t r hr := by
  funext i
  pointwise [k0_pay143, hrow, prow, Cert.Reference3Ideal.Ref.P]
  simp only [in4]
  blk_point [idx t]

theorem p19_eq (c : Dev nD) (t : Fin cfg0.N) (r : ℕ) (hr : r ≤ 256) (T : FVec Ideal S4x4096x2048 .f32) :
    k0_pay19 (F := Ideal) (hrow T t r hr) (View.ld (Val := Elt Ideal) (S := S4160x2048) (e' := .bf16) (iblk m c 4 t) (Rect.unit ![2048, 0] ![1024, 2048] inb_S4160x2048_S1024x2048_2048_0)) (iblk m c 5 t)
    = crow (Cert.Reference3Ideal.Ref.QC (Cert.Reference3Ideal.Ref.P T (m ((c : Thread nD τ).loc main_arg3))) (m ((c : Thread nD τ).loc main_arg4))) t r hr := by
  funext i
  simp only [k0_pay19, p18_eq]
  pointwise [prow, crow, Cert.Reference3Ideal.Ref.QC]
  simp only [in5]

theorem p144_eq (c : Dev nD) (t : Fin cfg0.N) (r : ℕ) (hr : r ≤ 256) (T : FVec Ideal S4x4096x2048 .f32) :
    k0_pay144 (F := Ideal) (hrow T t r hr) (View.ld (Val := Elt Ideal) (S := S4160x2048) (e' := .bf16) (iblk m c 4 t) (Rect.unit ![2048, 0] ![1024, 2048] inb_S4160x2048_S1024x2048_2048_0)) (iblk m c 5 t)
    = crow (Cert.Reference3Ideal.Ref.QC (Cert.Reference3Ideal.Ref.P T (m ((c : Thread nD τ).loc main_arg3))) (m ((c : Thread nD τ).loc main_arg4))) t r hr := by
  funext i
  simp only [k0_pay144, p143_eq]
  pointwise [prow, crow, Cert.Reference3Ideal.Ref.QC]
  simp only [in5]

theorem p20_eq (c : Dev nD) (t : Fin cfg0.N) (r : ℕ) (hr : r ≤ 256) (T : FVec Ideal S4x4096x2048 .f32) :
    k0_pay20 (F := Ideal) (hrow T t r hr) (View.ld (Val := Elt Ideal) (S := S4160x2048) (e' := .bf16) (iblk m c 4 t) (Rect.unit ![2048, 0] ![1024, 2048] inb_S4160x2048_S1024x2048_2048_0)) (iblk m c 6 t)
    = crow (Cert.Reference3Ideal.Ref.KVC (Cert.Reference3Ideal.Ref.P T (m ((c : Thread nD τ).loc main_arg3))) (m ((c : Thread nD τ).loc main_arg6))) t r hr := by
  funext i
  simp only [k0_pay20, p18_eq]
  pointwise [prow, crow, Cert.Reference3Ideal.Ref.KVC]
  simp only [in6]
  blk_point [idx t]

theorem p147_eq (c : Dev nD) (t : Fin cfg0.N) (r : ℕ) (hr : r ≤ 256) (T : FVec Ideal S4x4096x2048 .f32) :
    k0_pay147 (F := Ideal) (k0_pay145 (hrow T t r hr) (View.ld (Val := Elt Ideal) (S := S4160x2048) (e' := .bf16) (iblk m c 4 t) (Rect.unit ![2048, 0] ![1024, 2048] inb_S4160x2048_S1024x2048_2048_0))) (k0_pay146 (iblk m c 6 t))
    = crow (Cert.Reference3Ideal.Ref.KVC (Cert.Reference3Ideal.Ref.P T (m ((c : Thread nD τ).loc main_arg3))) (m ((c : Thread nD τ).loc main_arg6))) t r hr := by
  funext i
  simp only [k0_pay147, k0_pay145, k0_pay146, p143_eq]
  pointwise [prow, crow, Cert.Reference3Ideal.Ref.KVC]
  simp only [in6]
  blk_point [idx t]

theorem p24_eq (c : Dev nD) (t : Fin cfg0.N) (r : ℕ) (hr : r ≤ 256) (g : FVec Ideal Cert.Reference3Ideal.S4x4096x512 .f32) :
    k0_pay24 (F := Ideal) (crow g t r hr) (iblk m c 7 t)
    = qrow (Cert.Reference3Ideal.Ref.Q g (m ((c : Thread nD τ).loc main_arg5))) t r hr := by
  funext i
  pointwise [k0_pay24, crow, qrow, Cert.Reference3Ideal.Ref.Q]
  simp only [in7]
  refine Fin.sum_fin_congr fun k => ?_
  rw [mul_comm]
  blk_point [idx t]

theorem p151_eq (c : Dev nD) (t : Fin cfg0.N) (r : ℕ) (hr : r ≤ 256) (g : FVec Ideal Cert.Reference3Ideal.S4x4096x512 .f32) :
    k0_pay151 (F := Ideal) (crow g t r hr) (iblk m c 7 t)
    = qrow (Cert.Reference3Ideal.Ref.Q g (m ((c : Thread nD τ).loc main_arg5))) t r hr := by
  funext i
  pointwise [k0_pay151, crow, qrow, Cert.Reference3Ideal.Ref.Q]
  simp only [in7]
  refine Fin.sum_fin_congr fun k => ?_
  rw [mul_comm]
  blk_point [idx t]

theorem p25_eq (c : Dev nD) (t : Fin cfg0.N) (r : ℕ) (hr : r ≤ 256) (g : FVec Ideal Cert.Reference3Ideal.S4x4096x512 .f32) :
    k0_pay25 (F := Ideal) (crow g t r hr) (iblk m c 9 t)
    = vrow (Cert.Reference3Ideal.Ref.KV g (m ((c : Thread nD τ).loc main_arg7))) t r hr := by
  funext i
  pointwise [k0_pay25, crow, vrow, Cert.Reference3Ideal.Ref.KV]
  simp only [in9]
  refine Fin.sum_fin_congr fun k => ?_
  rw [mul_comm]
  blk_point [idx t]

theorem p26_eq (c : Dev nD) (t : Fin cfg0.N) (r : ℕ) (hr : r ≤ 256) (g : FVec Ideal Cert.Reference3Ideal.S4x4096x512 .f32) :
    k0_pay26 (F := Ideal) (crow g t r hr) (iblk m c 8 t)
    = krow (Cert.Reference3Ideal.Ref.KV g (m ((c : Thread nD τ).loc main_arg7))) t r hr := by
  funext i
  pointwise [k0_pay26, crow, krow, Cert.Reference3Ideal.Ref.KV]
  simp only [in8]
  blk_point [idx t]

theorem p152_eq (c : Dev nD) (t : Fin cfg0.N) (r : ℕ) (hr : r ≤ 256) (T : FVec Ideal S4x4096x2048 .f32) :
    k0_pay152 (F := Ideal) (k0_pay145 (hrow T t r hr) (View.ld (Val := Elt Ideal) (S := S4160x2048) (e' := .bf16) (iblk m c 4 t) (Rect.unit ![2048, 0] ![1024, 2048] inb_S4160x2048_S1024x2048_2048_0))) (k0_pay146 (iblk m c 6 t)) (iblk m c 9 t)
    = vrow (Cert.Reference3Ideal.Ref.KV (Cert.Reference3Ideal.Ref.KVC (Cert.Reference3Ideal.Ref.P T (m ((c : Thread nD τ).loc main_arg3))) (m ((c : Thread nD τ).loc main_arg6))) (m ((c : Thread nD τ).loc main_arg7))) t r hr := by
  funext i
  simp only [k0_pay152, p147_eq]
  pointwise [crow, vrow, Cert.Reference3Ideal.Ref.KV]
  simp only [in9]
  refine Fin.sum_fin_congr fun k => ?_
  rw [mul_comm]
  blk_point [idx t]

theorem p153_eq (c : Dev nD) (t : Fin cfg0.N) (r : ℕ) (hr : r ≤ 256) (T : FVec Ideal S4x4096x2048 .f32) :
    k0_pay153 (F := Ideal) (k0_pay145 (hrow T t r hr) (View.ld (Val := Elt Ideal) (S := S4160x2048) (e' := .bf16) (iblk m c 4 t) (Rect.unit ![2048, 0] ![1024, 2048] inb_S4160x2048_S1024x2048_2048_0))) (k0_pay146 (iblk m c 6 t)) (iblk m c 8 t)
    = krow (Cert.Reference3Ideal.Ref.KV (Cert.Reference3Ideal.Ref.KVC (Cert.Reference3Ideal.Ref.P T (m ((c : Thread nD τ).loc main_arg3))) (m ((c : Thread nD τ).loc main_arg6))) (m ((c : Thread nD τ).loc main_arg7))) t r hr := by
  funext i
  simp only [k0_pay153, p147_eq]
  pointwise [crow, krow, Cert.Reference3Ideal.Ref.KV]
  simp only [in8]
  blk_point [idx t]

theorem p22_eq (c : Dev nD) (t : Fin cfg0.N) (r : ℕ) (hr : r ≤ 256) (T : FVec Ideal S4x4096x2048 .f32) :
    k0_pay22 (F := Ideal) (hrow T t r hr) (View.ld (Val := Elt Ideal) (S := S4160x2048) (e' := .bf16) (iblk m c 4 t) (Rect.unit ![3072, 0] ![576, 2048] inb_S4160x2048_S576x2048_3072_0))
    = rrow (Cert.Reference3Ideal.Ref.P T (m ((c : Thread nD τ).loc main_arg3))) t r hr := by
  funext i
  pointwise [k0_pay22, k0_pay21, hrow, rrow, Cert.Reference3Ideal.Ref.P]
  simp only [in4]
  refine Fin.sum_fin_congr fun k => ?_
  rw [mul_comm]
  blk_point [idx t]

theorem p149_eq (c : Dev nD) (t : Fin cfg0.N) (r : ℕ) (hr : r ≤ 256) (T : FVec Ideal S4x4096x2048 .f32) :
    k0_pay149 (F := Ideal) (hrow T t r hr) (View.ld (Val := Elt Ideal) (S := S4160x2048) (e' := .bf16) (iblk m c 4 t) (Rect.unit ![3072, 0] ![576, 2048] inb_S4160x2048_S576x2048_3072_0))
    = rrow (Cert.Reference3Ideal.Ref.P T (m ((c : Thread nD τ).loc main_arg3))) t r hr := by
  funext i
  pointwise [k0_pay149, k0_pay148, hrow, rrow, Cert.Reference3Ideal.Ref.P]
  simp only [in4]
  refine Fin.sum_fin_congr fun k => ?_
  rw [mul_comm]
  blk_point [idx t]

theorem p27_eq0 (c : Dev nD) (t : Fin cfg0.N) : k0_pay27 (F := Ideal) (iblk m c 3 t) (View.ld (Val := Elt Ideal) (S := S1x1x512) (e' := .f32) (iblk m c 2 t) (Rect.unit ![0, 0, 0] ![1, 1, 256] inb_S1x1x512_S1x1x256_0_0_0))
    = arow (Cert.Reference3Ideal.Ref.ANG (m ((c : Thread nD τ).loc main_arg2))) t 0 (by omega) := by
  funext i
  rw [in3]
  pointwise [k0_pay27, arow, Cert.Reference3Ideal.Ref.ANG]
  simp only [in2]
  blk_point [idx t]

theorem p27_eq256 (c : Dev nD) (t : Fin cfg0.N) : k0_pay27 (F := Ideal) (iblk m c 3 t) (View.ld (Val := Elt Ideal) (S := S1x1x512) (e' := .f32) (iblk m c 2 t) (Rect.unit ![0, 0, 256] ![1, 1, 256] inb_S1x1x512_S1x1x256_0_0_256))
    = arow (Cert.Reference3Ideal.Ref.ANG (m ((c : Thread nD τ).loc main_arg2))) t 256 (by omega) := by
  funext i
  rw [in3]
  pointwise [k0_pay27, arow, Cert.Reference3Ideal.Ref.ANG]
  simp only [in2]
  blk_point [idx t]

theorem p154_eq0 (c : Dev nD) (t : Fin cfg0.N) : k0_pay154 (F := Ideal) (iblk m c 3 t) (View.ld (Val := Elt Ideal) (S := S1x1x512) (e' := .f32) (iblk m c 2 t) (Rect.unit ![0, 0, 0] ![1, 1, 256] inb_S1x1x512_S1x1x256_0_0_0))
    = arow (Cert.Reference3Ideal.Ref.ANG (m ((c : Thread nD τ).loc main_arg2))) t 0 (by omega) := by
  funext i
  rw [in3]
  pointwise [k0_pay154, arow, Cert.Reference3Ideal.Ref.ANG]
  simp only [in2]
  blk_point [idx t]

theorem p154_eq256 (c : Dev nD) (t : Fin cfg0.N) : k0_pay154 (F := Ideal) (iblk m c 3 t) (View.ld (Val := Elt Ideal) (S := S1x1x512) (e' := .f32) (iblk m c 2 t) (Rect.unit ![0, 0, 256] ![1, 1, 256] inb_S1x1x512_S1x1x256_0_0_256))
    = arow (Cert.Reference3Ideal.Ref.ANG (m ((c : Thread nD τ).loc main_arg2))) t 256 (by omega) := by
  funext i
  rw [in3]
  pointwise [k0_pay154, arow, Cert.Reference3Ideal.Ref.ANG]
  simp only [in2]
  blk_point [idx t]

end Cert.Kernel3Ideal.Inp

end
-- ==== Proof.Inp.Spec.lean ====
module

public import proofs.«01_k».proof.Proof.Inp.Lat

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- The scale the queries carry. -/
abbrev qs : EReal := Ideal.ofBits .f32 0x3DD53B95#32

theorem qs_pos : 0 ≤ qs := by
  simp [qs, Ideal.ofBits, Ideal.ieee]
  try positivity

theorem qs_top : qs ≠ ⊤ := by
  simp [qs, Ideal.ofBits, Ideal.ieee]
  rw [← EReal.coe_mul]
  exact EReal.coe_ne_top _

theorem rope_sub (a b g g' x y : EReal) : ((a * g) * x - (b * g') * y) * qs = (a * (g * qs)) * x - (b * (g' * qs)) * y := by
  rw [sub_eq_add_neg, EReal.right_distrib_of_nonneg_of_ne_top qs_pos qs_top, EReal.neg_mul, ← sub_eq_add_neg]
  congr 1 <;> ac_rfl

theorem rope_add (a b g g' x y : EReal) : ((a * g) * y + (b * g') * x) * qs = (a * (g * qs)) * y + (b * (g' * qs)) * x := by
  rw [EReal.right_distrib_of_nonneg_of_ne_top qs_pos qs_top]
  congr 1 <;> ac_rfl

section

variable (qn : FVec Ideal Cert.Reference3Ideal.S4x4096x8x128 .f32) (qr : FVec Ideal Cert.Reference3Ideal.S4x4096x8x64 .f32) (a : FVec Ideal Cert.Reference3Ideal.S4x4096x32 .f32) (j : S4x8x192x4096.Idx)

theorem O3_n (h : (j 2 : ℕ) < 128) : Cert.Reference3Ideal.Ref.O3 qn qr a j = qn (ix4 (⟨j 0, (j 0).isLt⟩ : Fin 4) (⟨j 3, (j 3).isLt⟩ : Fin 4096) (⟨j 1, (j 1).isLt⟩ : Fin 8) (⟨j 2, h⟩ : Fin 128)) * qs := by
  pointwise [Cert.Reference3Ideal.Ref.O3]
  rw [dif_pos h]

theorem O3_l (h : 128 ≤ (j 2 : ℕ)) (h' : (j 2 : ℕ) < 160) : Cert.Reference3Ideal.Ref.O3 qn qr a j
    = (qr (ix4 (⟨j 0, (j 0).isLt⟩ : Fin 4) (⟨j 3, (j 3).isLt⟩ : Fin 4096) (⟨j 1, (j 1).isLt⟩ : Fin 8) (⟨(j 2 : ℕ) - 128, by omega⟩ : Fin 64))
        * Ideal.cos (a (ix3 (⟨j 0, (j 0).isLt⟩ : Fin 4) (⟨j 3, (j 3).isLt⟩ : Fin 4096) (⟨(j 2 : ℕ) - 128, by omega⟩ : Fin 32)))
      - qr (ix4 (⟨j 0, (j 0).isLt⟩ : Fin 4) (⟨j 3, (j 3).isLt⟩ : Fin 4096) (⟨j 1, (j 1).isLt⟩ : Fin 8) (⟨32 + ((j 2 : ℕ) - 128), by omega⟩ : Fin 64))
        * Ideal.sin (a (ix3 (⟨j 0, (j 0).isLt⟩ : Fin 4) (⟨j 3, (j 3).isLt⟩ : Fin 4096) (⟨(j 2 : ℕ) - 128, by omega⟩ : Fin 32)))) * qs := by
  pointwise [Cert.Reference3Ideal.Ref.O3]
  rw [dif_neg (by omega), dif_pos (by omega)]

theorem O3_h (h : 160 ≤ (j 2 : ℕ)) (h' : (j 2 : ℕ) < 192) : Cert.Reference3Ideal.Ref.O3 qn qr a j
    = (qr (ix4 (⟨j 0, (j 0).isLt⟩ : Fin 4) (⟨j 3, (j 3).isLt⟩ : Fin 4096) (⟨j 1, (j 1).isLt⟩ : Fin 8) (⟨(j 2 : ℕ) - 160, by omega⟩ : Fin 64))
        * Ideal.sin (a (ix3 (⟨j 0, (j 0).isLt⟩ : Fin 4) (⟨j 3, (j 3).isLt⟩ : Fin 4096) (⟨(j 2 : ℕ) - 160, by omega⟩ : Fin 32)))
      + qr (ix4 (⟨j 0, (j 0).isLt⟩ : Fin 4) (⟨j 3, (j 3).isLt⟩ : Fin 4096) (⟨j 1, (j 1).isLt⟩ : Fin 8) (⟨32 + ((j 2 : ℕ) - 160), by omega⟩ : Fin 64))
        * Ideal.cos (a (ix3 (⟨j 0, (j 0).isLt⟩ : Fin 4) (⟨j 3, (j 3).isLt⟩ : Fin 4096) (⟨(j 2 : ℕ) - 160, by omega⟩ : Fin 32)))) * qs := by
  pointwise [Cert.Reference3Ideal.Ref.O3]
  rw [dif_neg (by omega), dif_neg (by omega)]
  blk_point []

end

section

variable (kn : FVec Ideal Cert.Reference3Ideal.S4x4096x8x128 .f32) (kr : FVec Ideal Cert.Reference3Ideal.S4x4096x64 .f32) (a : FVec Ideal Cert.Reference3Ideal.S4x4096x32 .f32) (j : S4x8x4096x192.Idx)

theorem O4_n (h : (j 3 : ℕ) < 128) : Cert.Reference3Ideal.Ref.O4 kn kr a j = kn (ix4 (⟨j 0, (j 0).isLt⟩ : Fin 4) (⟨j 2, (j 2).isLt⟩ : Fin 4096) (⟨j 1, (j 1).isLt⟩ : Fin 8) (⟨j 3, h⟩ : Fin 128)) := by
  pointwise [Cert.Reference3Ideal.Ref.O4]
  rw [dif_pos h]

theorem O4_l (h : 128 ≤ (j 3 : ℕ)) (h' : (j 3 : ℕ) < 160) : Cert.Reference3Ideal.Ref.O4 kn kr a j
    = kr (ix3 (⟨j 0, (j 0).isLt⟩ : Fin 4) (⟨j 2, (j 2).isLt⟩ : Fin 4096) (⟨(j 3 : ℕ) - 128, by omega⟩ : Fin 64))
        * Ideal.cos (a (ix3 (⟨j 0, (j 0).isLt⟩ : Fin 4) (⟨j 2, (j 2).isLt⟩ : Fin 4096) (⟨(j 3 : ℕ) - 128, by omega⟩ : Fin 32)))
      - kr (ix3 (⟨j 0, (j 0).isLt⟩ : Fin 4) (⟨j 2, (j 2).isLt⟩ : Fin 4096) (⟨32 + ((j 3 : ℕ) - 128), by omega⟩ : Fin 64))
        * Ideal.sin (a (ix3 (⟨j 0, (j 0).isLt⟩ : Fin 4) (⟨j 2, (j 2).isLt⟩ : Fin 4096) (⟨(j 3 : ℕ) - 128, by omega⟩ : Fin 32))) := by
  pointwise [Cert.Reference3Ideal.Ref.O4]
  rw [dif_neg (by omega), dif_pos (by omega)]

theorem O4_h (h : 160 ≤ (j 3 : ℕ)) : Cert.Reference3Ideal.Ref.O4 kn kr a j
    = kr (ix3 (⟨j 0, (j 0).isLt⟩ : Fin 4) (⟨j 2, (j 2).isLt⟩ : Fin 4096) (⟨(j 3 : ℕ) - 160, by have h' : (j 3 : ℕ) < 192 := (j 3).isLt; omega⟩ : Fin 64))
        * Ideal.sin (a (ix3 (⟨j 0, (j 0).isLt⟩ : Fin 4) (⟨j 2, (j 2).isLt⟩ : Fin 4096) (⟨(j 3 : ℕ) - 160, by have h' : (j 3 : ℕ) < 192 := (j 3).isLt; omega⟩ : Fin 32)))
      + kr (ix3 (⟨j 0, (j 0).isLt⟩ : Fin 4) (⟨j 2, (j 2).isLt⟩ : Fin 4096) (⟨32 + ((j 3 : ℕ) - 160), by have h' : (j 3 : ℕ) < 192 := (j 3).isLt; omega⟩ : Fin 64))
        * Ideal.cos (a (ix3 (⟨j 0, (j 0).isLt⟩ : Fin 4) (⟨j 2, (j 2).isLt⟩ : Fin 4096) (⟨(j 3 : ℕ) - 160, by have h' : (j 3 : ℕ) < 192 := (j 3).isLt; omega⟩ : Fin 32))) := by
  pointwise [Cert.Reference3Ideal.Ref.O4]
  rw [dif_neg (by omega), dif_neg (by omega)]
  blk_point []

end

theorem p28_eq (c : Dev nD) (t : Fin cfg0.N) : k0_pay28 (F := Ideal) (iblk m c 3 t) (View.ld (Val := Elt Ideal) (S := S1x1x512) (e' := .f32) (iblk m c 2 t) (Rect.unit ![0, 0, 0] ![1, 1, 256] inb_S1x1x512_S1x1x256_0_0_0))
    = cos (arow (Cert.Reference3Ideal.Ref.ANG (m ((c : Thread nD τ).loc main_arg2))) t 0 (by omega)) := by
  simp only [k0_pay28, p27_eq0]

theorem p29_eq (c : Dev nD) (t : Fin cfg0.N) : k0_pay29 (F := Ideal) (iblk m c 3 t) (View.ld (Val := Elt Ideal) (S := S1x1x512) (e' := .f32) (iblk m c 2 t) (Rect.unit ![0, 0, 0] ![1, 1, 256] inb_S1x1x512_S1x1x256_0_0_0))
    = sin (arow (Cert.Reference3Ideal.Ref.ANG (m ((c : Thread nD τ).loc main_arg2))) t 0 (by omega)) := by
  simp only [k0_pay29, p27_eq0]

theorem p155_eq (c : Dev nD) (t : Fin cfg0.N) : k0_pay155 (F := Ideal) (iblk m c 3 t) (View.ld (Val := Elt Ideal) (S := S1x1x512) (e' := .f32) (iblk m c 2 t) (Rect.unit ![0, 0, 256] ![1, 1, 256] inb_S1x1x512_S1x1x256_0_0_256))
    = cos (arow (Cert.Reference3Ideal.Ref.ANG (m ((c : Thread nD τ).loc main_arg2))) t 256 (by omega)) := by
  simp only [k0_pay155, p154_eq256]

theorem p156_eq (c : Dev nD) (t : Fin cfg0.N) : k0_pay156 (F := Ideal) (iblk m c 3 t) (View.ld (Val := Elt Ideal) (S := S1x1x512) (e' := .f32) (iblk m c 2 t) (Rect.unit ![0, 0, 256] ![1, 1, 256] inb_S1x1x512_S1x1x256_0_0_256))
    = sin (arow (Cert.Reference3Ideal.Ref.ANG (m ((c : Thread nD τ).loc main_arg2))) t 256 (by omega)) := by
  simp only [k0_pay156, p154_eq256]

end Cert.Kernel3Ideal.Inp

end
-- ==== Proof.Inp.Abbr.lean ====
module

public import proofs.«01_k».proof.Proof.Inp.Spec

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- The projection of the normalised and modulated rows. -/
abbrev PP (c : Dev nD) := Cert.Reference3Ideal.Ref.P (Cert.Reference3Ideal.Ref.H (m ((c : Thread nD τ).loc main_arg0)) (m ((c : Thread nD τ).loc main_arg1))) (m ((c : Thread nD τ).loc main_arg3))
/-- The queries before their norms. -/
abbrev QQ (c : Dev nD) := Cert.Reference3Ideal.Ref.Q (Cert.Reference3Ideal.Ref.QC (PP m c) (m ((c : Thread nD τ).loc main_arg4))) (m ((c : Thread nD τ).loc main_arg5))
/-- The keys and values before the keys' norm. -/
abbrev KK (c : Dev nD) := Cert.Reference3Ideal.Ref.KV (Cert.Reference3Ideal.Ref.KVC (PP m c) (m ((c : Thread nD τ).loc main_arg6))) (m ((c : Thread nD τ).loc main_arg7))

end Cert.Kernel3Ideal.Inp

end
-- ==== Proof.Inp.Gate.lean ====
module

public import proofs.«01_k».proof.Proof.Inp.Abbr

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem half_eq : Ideal.ofBits .f32 0x3F000000#32 = ((1 / 2 : ℝ) : EReal) := by
  have h : Ideal.ofBits .f32 0x3F000000#32 = ((8388608 : ℝ) : EReal) * (((2 ^ 24 : ℝ)⁻¹ : ℝ) : EReal) := by
    simp [Ideal.ofBits, Ideal.ieee]
  rw [h, ← EReal.coe_mul]
  norm_num

theorem silu_real (r : ℝ) : (1 / 2 * r) * Real.tanh (1 / 2 * r) + 1 / 2 * r = r * (1 + Real.exp (-r))⁻¹ := by
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  rw [Real.tanh_eq_sinh_div_cosh, Real.sinh_eq, Real.cosh_eq, e]
  have p1 := Real.exp_pos (1 / 2 * r)
  have p2 := Real.exp_pos (-(1 / 2 * r))
  generalize Real.exp (1 / 2 * r) = a at *
  generalize Real.exp (-(1 / 2 * r)) = b at *
  have ha : a = b⁻¹ := eq_inv_of_mul_eq_one_left e1
  subst ha
  have hb : (1 + b * b) ≠ 0 := by positivity
  have hb' : (b⁻¹ + b) ≠ 0 := by positivity
  field_simp
  ring

theorem silu (v : EReal) (hv : ∃ r : ℝ, v = r) :
    (Ideal.ofBits .f32 0x3F000000#32 * v) * Ideal.tanh (Ideal.ofBits .f32 0x3F000000#32 * v) + Ideal.ofBits .f32 0x3F000000#32 * v
      = v * Ideal.div 1 (1 + Ideal.exp (-v)) := by
  obtain ⟨r, rfl⟩ := hv
  have hp : (1 + Real.exp (-r)) ≠ 0 := by positivity
  rw [half_eq, ← EReal.coe_mul, Ideal.tanh_coe, ← EReal.coe_mul, ← EReal.coe_add, silu_real, ← EReal.coe_neg, Ideal.exp_coe,
    ← EReal.coe_one, ← EReal.coe_add, Ideal.div_coe hp, ← EReal.coe_mul, ← EReal.coe_mul]
  norm_num

theorem x139 (c : Dev nD) (t : Fin cfg0.N) (r : ℕ) (hr : r ≤ 256) (T : FVec Ideal S4x4096x2048 .f32) (i : S1x256x1024.Idx) (j : S4x4096x1024.Idx)
    (h0 : (j 0 : ℕ) = t.val / 8) (h1 : (j 1 : ℕ) = t.val % 8 * 512 + r + (i 1 : ℕ)) (h2 : (j 2 : ℕ) = (i 2 : ℕ)) :
    k0_pay139 (F := Ideal) (hrow T t r hr) (View.ld (Val := Elt Ideal) (S := S4160x2048) (e' := .bf16) (iblk m c 4 t) (Rect.unit ![0, 0] ![1024, 2048] inb_S4160x2048_S1024x2048_0_0)) i = Cert.Reference3Ideal.Ref.O0 (Cert.Reference3Ideal.Ref.P T (m ((c : Thread nD τ).loc main_arg3))) j := by
  pointwise [k0_pay139, hrow, Cert.Reference3Ideal.Ref.O0, Cert.Reference3Ideal.Ref.P]
  simp only [in4]
  blk_point [h0, h1, h2]

theorem x264 (c : Dev nD) (t : Fin cfg0.N) (r : ℕ) (hr : r ≤ 256) (T : FVec Ideal S4x4096x2048 .f32) (i : S1x256x1024.Idx) (j : S4x4096x1024.Idx)
    (h0 : (j 0 : ℕ) = t.val / 8) (h1 : (j 1 : ℕ) = t.val % 8 * 512 + r + (i 1 : ℕ)) (h2 : (j 2 : ℕ) = (i 2 : ℕ)) :
    k0_pay264 (F := Ideal) (hrow T t r hr) (View.ld (Val := Elt Ideal) (S := S4160x2048) (e' := .bf16) (iblk m c 4 t) (Rect.unit ![0, 0] ![1024, 2048] inb_S4160x2048_S1024x2048_0_0)) i = Cert.Reference3Ideal.Ref.O0 (Cert.Reference3Ideal.Ref.P T (m ((c : Thread nD τ).loc main_arg3))) j := by
  pointwise [k0_pay264, hrow, Cert.Reference3Ideal.Ref.O0, Cert.Reference3Ideal.Ref.P]
  simp only [in4]
  blk_point [h0, h1, h2]

theorem x140 (c : Dev nD) (t : Fin cfg0.N) (r : ℕ) (hr : r ≤ 256) (T : FVec Ideal S4x4096x2048 .f32) (hP : ∀ j, ∃ v : ℝ, (Cert.Reference3Ideal.Ref.P T (m ((c : Thread nD τ).loc main_arg3)) j : EReal) = v) (i : S1x256x1024.Idx) (j : S4x4096x1024.Idx)
    (h0 : (j 0 : ℕ) = t.val / 8) (h1 : (j 1 : ℕ) = t.val % 8 * 512 + r + (i 1 : ℕ)) (h2 : (j 2 : ℕ) = (i 2 : ℕ)) :
    k0_pay140 (F := Ideal) (hrow T t r hr) (View.ld (Val := Elt Ideal) (S := S4160x2048) (e' := .bf16) (iblk m c 4 t) (Rect.unit ![1024, 0] ![1024, 2048] inb_S4160x2048_S1024x2048_1024_0)) i = Cert.Reference3Ideal.Ref.O1 (Cert.Reference3Ideal.Ref.P T (m ((c : Thread nD τ).loc main_arg3))) j := by
  pointwise [k0_pay140, hrow, Cert.Reference3Ideal.Ref.O1]
  refine Eq.trans ?_ (silu _ (hP _))
  pointwise [Cert.Reference3Ideal.Ref.P]
  simp only [in4]
  blk_point [h0, h1, h2]

theorem x265 (c : Dev nD) (t : Fin cfg0.N) (r : ℕ) (hr : r ≤ 256) (T : FVec Ideal S4x4096x2048 .f32) (hP : ∀ j, ∃ v : ℝ, (Cert.Reference3Ideal.Ref.P T (m ((c : Thread nD τ).loc main_arg3)) j : EReal) = v) (i : S1x256x1024.Idx) (j : S4x4096x1024.Idx)
    (h0 : (j 0 : ℕ) = t.val / 8) (h1 : (j 1 : ℕ) = t.val % 8 * 512 + r + (i 1 : ℕ)) (h2 : (j 2 : ℕ) = (i 2 : ℕ)) :
    k0_pay265 (F := Ideal) (hrow T t r hr) (View.ld (Val := Elt Ideal) (S := S4160x2048) (e' := .bf16) (iblk m c 4 t) (Rect.unit ![1024, 0] ![1024, 2048] inb_S4160x2048_S1024x2048_1024_0)) i = Cert.Reference3Ideal.Ref.O1 (Cert.Reference3Ideal.Ref.P T (m ((c : Thread nD τ).loc main_arg3))) j := by
  pointwise [k0_pay265, hrow, Cert.Reference3Ideal.Ref.O1]
  refine Eq.trans ?_ (silu _ (hP _))
  pointwise [Cert.Reference3Ideal.Ref.P]
  simp only [in4]
  blk_point [h0, h1, h2]

theorem x1 (c : Dev nD) (t : Fin cfg0.N) (r : ℕ) (hr : r ≤ 256) (T : FVec Ideal S4x4096x2048 .f32) (hP : ∀ j, ∃ v : ℝ, (Cert.Reference3Ideal.Ref.P T (m ((c : Thread nD τ).loc main_arg3)) j : EReal) = v) (i : S1x512x256.Idx) (j : S4x1024x4096.Idx)
    (h0 : (j 0 : ℕ) = t.val / 8) (h1 : (j 1 : ℕ) = 512 + (i 1 : ℕ)) (h2 : (j 2 : ℕ) = t.val % 8 * 512 + r + (i 2 : ℕ)) :
    k0_pay1 (F := Ideal) (hrow T t r hr) (View.ld (Val := Elt Ideal) (S := S4160x2048) (e' := .bf16) (iblk m c 4 t) (Rect.unit ![3648, 0] ![512, 2048] inb_S4160x2048_S512x2048_3648_0)) i = Cert.Reference3Ideal.Ref.O2 (Cert.Reference3Ideal.Ref.P T (m ((c : Thread nD τ).loc main_arg3))) j := by
  pointwise [k0_pay1, hrow, Cert.Reference3Ideal.Ref.O2]
  refine Eq.trans ?_ (silu _ (hP _))
  refine congrArg₂ (· + ·) (congrArg₂ (· * ·) (congrArg₂ (· * ·) rfl ?_) (congrArg Ideal.tanh (congrArg₂ (· * ·) rfl ?_))) (congrArg₂ (· * ·) rfl ?_)
  all_goals
    pointwise [Cert.Reference3Ideal.Ref.P]
    simp only [in4]
    refine Fin.sum_fin_congr fun k => ?_
    rw [mul_comm]
    blk_point [h0, h1, h2]

theorem x150 (c : Dev nD) (t : Fin cfg0.N) (r : ℕ) (hr : r ≤ 256) (T : FVec Ideal S4x4096x2048 .f32) (hP : ∀ j, ∃ v : ℝ, (Cert.Reference3Ideal.Ref.P T (m ((c : Thread nD τ).loc main_arg3)) j : EReal) = v) (i : S1x512x256.Idx) (j : S4x1024x4096.Idx)
    (h0 : (j 0 : ℕ) = t.val / 8) (h1 : (j 1 : ℕ) = 0 + (i 1 : ℕ)) (h2 : (j 2 : ℕ) = t.val % 8 * 512 + r + (i 2 : ℕ)) :
    k0_pay150 (F := Ideal) (hrow T t r hr) (View.ld (Val := Elt Ideal) (S := S4160x2048) (e' := .bf16) (iblk m c 4 t) (Rect.unit ![3072, 0] ![576, 2048] inb_S4160x2048_S576x2048_3072_0)) i = Cert.Reference3Ideal.Ref.O2 (Cert.Reference3Ideal.Ref.P T (m ((c : Thread nD τ).loc main_arg3))) j := by
  pointwise [k0_pay150, k0_pay148, hrow, Cert.Reference3Ideal.Ref.O2]
  refine Eq.trans ?_ (silu _ (hP _))
  refine congrArg₂ (· + ·) (congrArg₂ (· * ·) (congrArg₂ (· * ·) rfl ?_) (congrArg Ideal.tanh (congrArg₂ (· * ·) rfl ?_))) (congrArg₂ (· * ·) rfl ?_)
  all_goals
    pointwise [Cert.Reference3Ideal.Ref.P]
    simp only [in4]
    refine Fin.sum_fin_congr fun k => ?_
    rw [mul_comm]
    blk_point [h0, h1, h2]

theorem x142 (c : Dev nD) (t : Fin cfg0.N) (r : ℕ) (hr : r ≤ 256) (T : FVec Ideal S4x4096x2048 .f32) (hP : ∀ j, ∃ v : ℝ, (Cert.Reference3Ideal.Ref.P T (m ((c : Thread nD τ).loc main_arg3)) j : EReal) = v) (i : S1x512x256.Idx) (j : S4x1024x4096.Idx)
    (h0 : (j 0 : ℕ) = t.val / 8) (h1 : (j 1 : ℕ) = 512 + (i 1 : ℕ)) (h2 : (j 2 : ℕ) = t.val % 8 * 512 + r + (i 2 : ℕ)) :
    k0_pay142 (F := Ideal) (hrow T t r hr) (k0_pay141 (F := Ideal) (View.ld (Val := Elt Ideal) (S := S4160x2048) (e' := .bf16) (iblk m c 4 t) (Rect.unit ![3648, 0] ![512, 2048] inb_S4160x2048_S512x2048_3648_0))) (constant S512x256 FTy.f32 0#32) i = Cert.Reference3Ideal.Ref.O2 (Cert.Reference3Ideal.Ref.P T (m ((c : Thread nD τ).loc main_arg3))) j := by
  pointwise [k0_pay141, k0_pay142, hrow, Cert.Reference3Ideal.Ref.O2]
  refine Eq.trans ?_ (silu _ (hP _))
  refine congrArg₂ (· + ·) (congrArg₂ (· * ·) (congrArg₂ (· * ·) rfl ?_) (congrArg Ideal.tanh (congrArg₂ (· * ·) rfl ?_))) (congrArg₂ (· * ·) rfl ?_)
  all_goals
    pointwise [Cert.Reference3Ideal.Ref.P]
    simp only [in4]
    refine Fin.sum_fin_congr fun k => ?_
    rw [mul_comm]
    blk_point [h0, h1, h2]

theorem x23 (c : Dev nD) (t : Fin cfg0.N) (r : ℕ) (hr : r ≤ 256) (T : FVec Ideal S4x4096x2048 .f32) (hP : ∀ j, ∃ v : ℝ, (Cert.Reference3Ideal.Ref.P T (m ((c : Thread nD τ).loc main_arg3)) j : EReal) = v) (i : S1x512x256.Idx) (j : S4x1024x4096.Idx)
    (h0 : (j 0 : ℕ) = t.val / 8) (h1 : (j 1 : ℕ) = 0 + (i 1 : ℕ)) (h2 : (j 2 : ℕ) = t.val % 8 * 512 + r + (i 2 : ℕ)) :
    k0_pay23 (F := Ideal) (hrow T t r hr) (View.ld (Val := Elt Ideal) (S := S4160x2048) (e' := .bf16) (iblk m c 4 t) (Rect.unit ![3072, 0] ![576, 2048] inb_S4160x2048_S576x2048_3072_0)) i = Cert.Reference3Ideal.Ref.O2 (Cert.Reference3Ideal.Ref.P T (m ((c : Thread nD τ).loc main_arg3))) j := by
  pointwise [k0_pay23, k0_pay21, hrow, Cert.Reference3Ideal.Ref.O2]
  refine Eq.trans ?_ (silu _ (hP _))
  refine congrArg₂ (· + ·) (congrArg₂ (· * ·) (congrArg₂ (· * ·) rfl ?_) (congrArg Ideal.tanh (congrArg₂ (· * ·) rfl ?_))) (congrArg₂ (· * ·) rfl ?_)
  all_goals
    pointwise [Cert.Reference3Ideal.Ref.P]
    simp only [in4]
    refine Fin.sum_fin_congr fun k => ?_
    rw [mul_comm]
    blk_point [h0, h1, h2]

end Cert.Kernel3Ideal.Inp

end
-- ==== Proof.Inp.PtG.lean ====
module

public import proofs.«01_k».proof.Proof.Inp.Gate

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem core14 (c : Dev nD) (t : Fin cfg0.N) (y : S1x512x1024.Idx) (j : S4x4096x1024.Idx)
    (e0 : (j 0 : ℕ) = t.val / 8) (e1 : (j 1 : ℕ) = t.val % 8 * 512 + (y 1 : ℕ)) (e2 : (j 2 : ℕ) = (y 2 : ℕ)) :
    (outsAt0 m c t).1 y = Cert.Reference3Ideal.Ref.O0 (PP m c) j := by
  unfold outsAt0
  frame_out
  simp only [h0_eq, h256_eq]
  canon_tiles x h
  case piece0 => exact x264 m c t 256 (by omega) _ x j (by omega) (by omega) (by omega)
  case piece1 => exact x139 m c t 0 (by omega) _ x j (by omega) (by omega) (by omega)

theorem emb14 (t : Fin cfg0.N) (y : S1x512x1024.Idx) : ((((cfg0.win 14).blk t).view.emb y 0 : Fin 4) : ℕ) = t.val / 8 ∧ ((((cfg0.win 14).blk t).view.emb y 1 : Fin 4096) : ℕ) = t.val % 8 * 512 + (y 1 : ℕ)
    ∧ ((((cfg0.win 14).blk t).view.emb y 2 : Fin 1024) : ℕ) = (y 2 : ℕ) := by
  refine ⟨?_, ?_, ?_⟩ <;> blk_simp [idx t] <;> omega

theorem o14 (c : Dev nD) (t : Fin cfg0.N) (y : S1x512x1024.Idx) :
    (outsAt0 m c t).1 y = Cert.Reference3Ideal.Ref.O0 (PP m c) (((cfg0.win 14).blk t).view.emb y) :=
  core14 m c t y _ (emb14 t y).1 (emb14 t y).2.1 (emb14 t y).2.2

theorem core15 (c : Dev nD) (t : Fin cfg0.N) (hP : ∀ j, ∃ v : ℝ, (PP m c j : EReal) = v) (y : S1x512x1024.Idx) (j : S4x4096x1024.Idx)
    (e0 : (j 0 : ℕ) = t.val / 8) (e1 : (j 1 : ℕ) = t.val % 8 * 512 + (y 1 : ℕ)) (e2 : (j 2 : ℕ) = (y 2 : ℕ)) :
    (outsAt0 m c t).2.1 y = Cert.Reference3Ideal.Ref.O1 (PP m c) j := by
  unfold outsAt0
  frame_out
  simp only [h0_eq, h256_eq]
  canon_tiles x h
  case piece0 => exact x265 m c t 256 (by omega) _ hP x j (by omega) (by omega) (by omega)
  case piece1 => exact x140 m c t 0 (by omega) _ hP x j (by omega) (by omega) (by omega)

theorem emb15 (t : Fin cfg0.N) (y : S1x512x1024.Idx) : ((((cfg0.win 15).blk t).view.emb y 0 : Fin 4) : ℕ) = t.val / 8 ∧ ((((cfg0.win 15).blk t).view.emb y 1 : Fin 4096) : ℕ) = t.val % 8 * 512 + (y 1 : ℕ)
    ∧ ((((cfg0.win 15).blk t).view.emb y 2 : Fin 1024) : ℕ) = (y 2 : ℕ) := by
  refine ⟨?_, ?_, ?_⟩ <;> blk_simp [idx t] <;> omega

theorem o15 (c : Dev nD) (t : Fin cfg0.N) (hP : ∀ j, ∃ v : ℝ, (PP m c j : EReal) = v) (y : S1x512x1024.Idx) :
    (outsAt0 m c t).2.1 y = Cert.Reference3Ideal.Ref.O1 (PP m c) (((cfg0.win 15).blk t).view.emb y) :=
  core15 m c t hP y _ (emb15 t y).1 (emb15 t y).2.1 (emb15 t y).2.2

theorem core16 (c : Dev nD) (t : Fin cfg0.N) (hP : ∀ j, ∃ v : ℝ, (PP m c j : EReal) = v) (y : S1x1024x512.Idx) (j : S4x1024x4096.Idx)
    (e0 : (j 0 : ℕ) = t.val / 8) (e1 : (j 1 : ℕ) = (y 1 : ℕ)) (e2 : (j 2 : ℕ) = t.val % 8 * 512 + (y 2 : ℕ)) :
    (outsAt0 m c t).2.2.1 y = Cert.Reference3Ideal.Ref.O2 (PP m c) j := by
  unfold outsAt0
  frame_out
  simp only [h0_eq, h256_eq]
  canon_tiles x h
  case piece0 => exact x1 m c t 256 (by omega) _ hP x j (by omega) (by omega) (by omega)
  case piece1 => exact x150 m c t 256 (by omega) _ hP x j (by omega) (by omega) (by omega)
  case piece2 => exact x142 m c t 0 (by omega) _ hP x j (by omega) (by omega) (by omega)
  case piece3 => exact x23 m c t 0 (by omega) _ hP x j (by omega) (by omega) (by omega)

theorem emb16 (t : Fin cfg0.N) (y : S1x1024x512.Idx) : ((((cfg0.win 16).blk t).view.emb y 0 : Fin 4) : ℕ) = t.val / 8 ∧ ((((cfg0.win 16).blk t).view.emb y 1 : Fin 1024) : ℕ) = (y 1 : ℕ)
    ∧ ((((cfg0.win 16).blk t).view.emb y 2 : Fin 4096) : ℕ) = t.val % 8 * 512 + (y 2 : ℕ) := by
  refine ⟨?_, ?_, ?_⟩ <;> blk_simp [idx t] <;> omega

theorem o16 (c : Dev nD) (t : Fin cfg0.N) (hP : ∀ j, ∃ v : ℝ, (PP m c j : EReal) = v) (y : S1x1024x512.Idx) :
    (outsAt0 m c t).2.2.1 y = Cert.Reference3Ideal.Ref.O2 (PP m c) (((cfg0.win 16).blk t).view.emb y) :=
  core16 m c t hP y _ (emb16 t y).1 (emb16 t y).2.1 (emb16 t y).2.2

end Cert.Kernel3Ideal.Inp

end
-- ==== Proof.Inp.Query.lean ====
module

public import proofs.«01_k».proof.Proof.Inp.Spec

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem q1 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 7) (h2 : (j 2 : ℕ) = 160 + (i 2 : ℕ)) (h3 : (j 3 : ℕ) = t.val % 8 * 512 + r + (i 3 : ℕ)) :
    k0_pay229 (F := Ideal) (k0_pay7 (F := Ideal) (iblk m c 11 t)) (cos (arow a t r hr)) (sin (arow a t r hr)) (k0_pay222 (F := Ideal) (qrow q t r hr)) (k0_pay223 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay223, k0_pay222, k0_pay7, k0_pay229, k0_pay226, k0_pay224, k0_pay225, qrow, arow, Cert.Reference3Ideal.Ref.QR]
  simp only [in11]
  refine Eq.trans ?_ (rope_add _ _ _ _ _ _).symm
  blk_point [h0, h1, h2, h3]

theorem q2 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 7) (h2 : (j 2 : ℕ) = 128 + (i 2 : ℕ)) (h3 : (j 3 : ℕ) = t.val % 8 * 512 + r + (i 3 : ℕ)) :
    k0_pay228 (F := Ideal) (k0_pay7 (F := Ideal) (iblk m c 11 t)) (cos (arow a t r hr)) (sin (arow a t r hr)) (k0_pay222 (F := Ideal) (qrow q t r hr)) (k0_pay223 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay223, k0_pay222, k0_pay7, k0_pay228, k0_pay226, k0_pay224, k0_pay225, qrow, arow, Cert.Reference3Ideal.Ref.QR]
  simp only [in11]
  refine Eq.trans ?_ (rope_sub _ _ _ _ _ _).symm
  blk_point [h0, h1, h2, h3]

theorem q3 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 7) (h2 : (j 2 : ℕ) = 0 + (i 2 : ℕ)) (h3 : (j 3 : ℕ) = t.val % 8 * 512 + r + (i 3 : ℕ)) :
    k0_pay227 (F := Ideal) (k0_pay221 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay221, k0_pay227, qrow, Cert.Reference3Ideal.Ref.QN]
  simp only [in10]
  rw [← mul_assoc]
  blk_point [h0, h1, h2, h3]

theorem q5 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 6) (h2 : (j 2 : ℕ) = 160 + (i 2 : ℕ)) (h3 : (j 3 : ℕ) = t.val % 8 * 512 + r + (i 3 : ℕ)) :
    k0_pay219 (F := Ideal) (cos (arow a t r hr)) (sin (arow a t r hr)) (k0_pay214 (F := Ideal) (k0_pay7 (F := Ideal) (iblk m c 11 t)) (qrow q t r hr)) (k0_pay215 (F := Ideal) (k0_pay7 (F := Ideal) (iblk m c 11 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay215, k0_pay214, k0_pay219, k0_pay216, qrow, arow, Cert.Reference3Ideal.Ref.QR]
  simp only [in11]
  refine Eq.trans ?_ (rope_add _ _ _ _ _ _).symm
  blk_point [h0, h1, h2, h3]

theorem q6 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 6) (h2 : (j 2 : ℕ) = 128 + (i 2 : ℕ)) (h3 : (j 3 : ℕ) = t.val % 8 * 512 + r + (i 3 : ℕ)) :
    k0_pay218 (F := Ideal) (cos (arow a t r hr)) (sin (arow a t r hr)) (k0_pay214 (F := Ideal) (k0_pay7 (F := Ideal) (iblk m c 11 t)) (qrow q t r hr)) (k0_pay215 (F := Ideal) (k0_pay7 (F := Ideal) (iblk m c 11 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay215, k0_pay214, k0_pay218, k0_pay216, qrow, arow, Cert.Reference3Ideal.Ref.QR]
  simp only [in11]
  refine Eq.trans ?_ (rope_sub _ _ _ _ _ _).symm
  blk_point [h0, h1, h2, h3]

theorem q7 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 6) (h2 : (j 2 : ℕ) = 0 + (i 2 : ℕ)) (h3 : (j 3 : ℕ) = t.val % 8 * 512 + r + (i 3 : ℕ)) :
    k0_pay217 (F := Ideal) (k0_pay213 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay213, k0_pay217, qrow, Cert.Reference3Ideal.Ref.QN]
  simp only [in10]
  rw [← mul_assoc]
  blk_point [h0, h1, h2, h3]

theorem q9 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 5) (h2 : (j 2 : ℕ) = 160 + (i 2 : ℕ)) (h3 : (j 3 : ℕ) = t.val % 8 * 512 + r + (i 3 : ℕ)) :
    k0_pay211 (F := Ideal) (k0_pay208 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay208, k0_pay206, k0_pay204, k0_pay205, k0_pay211, qrow, arow, Cert.Reference3Ideal.Ref.QR]
  simp only [in11]
  refine Eq.trans ?_ (rope_add _ _ _ _ _ _).symm
  blk_point [h0, h1, h2, h3]

theorem q10 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 5) (h2 : (j 2 : ℕ) = 128 + (i 2 : ℕ)) (h3 : (j 3 : ℕ) = t.val % 8 * 512 + r + (i 3 : ℕ)) :
    k0_pay210 (F := Ideal) (k0_pay207 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay207, k0_pay206, k0_pay204, k0_pay205, k0_pay210, qrow, arow, Cert.Reference3Ideal.Ref.QR]
  simp only [in11]
  refine Eq.trans ?_ (rope_sub _ _ _ _ _ _).symm
  blk_point [h0, h1, h2, h3]

theorem q11 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 5) (h2 : (j 2 : ℕ) = 0 + (i 2 : ℕ)) (h3 : (j 3 : ℕ) = t.val % 8 * 512 + r + (i 3 : ℕ)) :
    k0_pay209 (F := Ideal) (k0_pay6 (F := Ideal) (iblk m c 10 t)) (qrow q t r hr) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay209, qrow, Cert.Reference3Ideal.Ref.QN]
  simp only [in10]
  rw [← mul_assoc]
  blk_point [h0, h1, h2, h3]

theorem q13 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 4) (h2 : (j 2 : ℕ) = 160 + (i 2 : ℕ)) (h3 : (j 3 : ℕ) = t.val % 8 * 512 + r + (i 3 : ℕ)) :
    k0_pay202 (F := Ideal) (k0_pay201 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay201, k0_pay198, k0_pay196, k0_pay197, k0_pay202, qrow, arow, Cert.Reference3Ideal.Ref.QR]
  simp only [in11]
  refine Eq.trans ?_ (rope_add _ _ _ _ _ _).symm
  blk_point [h0, h1, h2, h3]

theorem q14 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 4) (h2 : (j 2 : ℕ) = 128 + (i 2 : ℕ)) (h3 : (j 3 : ℕ) = t.val % 8 * 512 + r + (i 3 : ℕ)) :
    k0_pay200 (F := Ideal) (k0_pay7 (F := Ideal) (iblk m c 11 t)) (qrow q t r hr) (cos (arow a t r hr)) (sin (arow a t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay200, k0_pay198, k0_pay196, k0_pay197, qrow, arow, Cert.Reference3Ideal.Ref.QR]
  simp only [in11]
  refine Eq.trans ?_ (rope_sub _ _ _ _ _ _).symm
  blk_point [h0, h1, h2, h3]

theorem q15 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 4) (h2 : (j 2 : ℕ) = 0 + (i 2 : ℕ)) (h3 : (j 3 : ℕ) = t.val % 8 * 512 + r + (i 3 : ℕ)) :
    k0_pay199 (F := Ideal) (k0_pay6 (F := Ideal) (iblk m c 10 t)) (k0_pay194 (F := Ideal) (qrow q t r hr)) (k0_pay195 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay195, k0_pay194, k0_pay6, k0_pay199, qrow, Cert.Reference3Ideal.Ref.QN]
  simp only [in10]
  rw [← mul_assoc]
  blk_point [h0, h1, h2, h3]

theorem q17 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 3) (h2 : (j 2 : ℕ) = 160 + (i 2 : ℕ)) (h3 : (j 3 : ℕ) = t.val % 8 * 512 + r + (i 3 : ℕ)) :
    k0_pay192 (F := Ideal) (k0_pay7 (F := Ideal) (iblk m c 11 t)) (cos (arow a t r hr)) (sin (arow a t r hr)) (k0_pay185 (F := Ideal) (qrow q t r hr)) (k0_pay186 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay186, k0_pay185, k0_pay7, k0_pay192, k0_pay189, k0_pay187, k0_pay188, qrow, arow, Cert.Reference3Ideal.Ref.QR]
  simp only [in11]
  refine Eq.trans ?_ (rope_add _ _ _ _ _ _).symm
  blk_point [h0, h1, h2, h3]

theorem q18 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 3) (h2 : (j 2 : ℕ) = 128 + (i 2 : ℕ)) (h3 : (j 3 : ℕ) = t.val % 8 * 512 + r + (i 3 : ℕ)) :
    k0_pay191 (F := Ideal) (k0_pay7 (F := Ideal) (iblk m c 11 t)) (cos (arow a t r hr)) (sin (arow a t r hr)) (k0_pay185 (F := Ideal) (qrow q t r hr)) (k0_pay186 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay186, k0_pay185, k0_pay7, k0_pay191, k0_pay189, k0_pay187, k0_pay188, qrow, arow, Cert.Reference3Ideal.Ref.QR]
  simp only [in11]
  refine Eq.trans ?_ (rope_sub _ _ _ _ _ _).symm
  blk_point [h0, h1, h2, h3]

theorem q19 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 3) (h2 : (j 2 : ℕ) = 0 + (i 2 : ℕ)) (h3 : (j 3 : ℕ) = t.val % 8 * 512 + r + (i 3 : ℕ)) :
    k0_pay190 (F := Ideal) (k0_pay184 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay184, k0_pay190, qrow, Cert.Reference3Ideal.Ref.QN]
  simp only [in10]
  rw [← mul_assoc]
  blk_point [h0, h1, h2, h3]

theorem q21 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 2) (h2 : (j 2 : ℕ) = 160 + (i 2 : ℕ)) (h3 : (j 3 : ℕ) = t.val % 8 * 512 + r + (i 3 : ℕ)) :
    k0_pay182 (F := Ideal) (cos (arow a t r hr)) (sin (arow a t r hr)) (k0_pay177 (F := Ideal) (k0_pay7 (F := Ideal) (iblk m c 11 t)) (qrow q t r hr)) (k0_pay178 (F := Ideal) (k0_pay7 (F := Ideal) (iblk m c 11 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay178, k0_pay177, k0_pay182, k0_pay179, qrow, arow, Cert.Reference3Ideal.Ref.QR]
  simp only [in11]
  refine Eq.trans ?_ (rope_add _ _ _ _ _ _).symm
  blk_point [h0, h1, h2, h3]

theorem q22 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 2) (h2 : (j 2 : ℕ) = 128 + (i 2 : ℕ)) (h3 : (j 3 : ℕ) = t.val % 8 * 512 + r + (i 3 : ℕ)) :
    k0_pay181 (F := Ideal) (cos (arow a t r hr)) (sin (arow a t r hr)) (k0_pay177 (F := Ideal) (k0_pay7 (F := Ideal) (iblk m c 11 t)) (qrow q t r hr)) (k0_pay178 (F := Ideal) (k0_pay7 (F := Ideal) (iblk m c 11 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay178, k0_pay177, k0_pay181, k0_pay179, qrow, arow, Cert.Reference3Ideal.Ref.QR]
  simp only [in11]
  refine Eq.trans ?_ (rope_sub _ _ _ _ _ _).symm
  blk_point [h0, h1, h2, h3]

theorem q23 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 2) (h2 : (j 2 : ℕ) = 0 + (i 2 : ℕ)) (h3 : (j 3 : ℕ) = t.val % 8 * 512 + r + (i 3 : ℕ)) :
    k0_pay180 (F := Ideal) (k0_pay176 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay176, k0_pay180, qrow, Cert.Reference3Ideal.Ref.QN]
  simp only [in10]
  rw [← mul_assoc]
  blk_point [h0, h1, h2, h3]

theorem q25 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 1) (h2 : (j 2 : ℕ) = 160 + (i 2 : ℕ)) (h3 : (j 3 : ℕ) = t.val % 8 * 512 + r + (i 3 : ℕ)) :
    k0_pay174 (F := Ideal) (k0_pay171 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay171, k0_pay169, k0_pay167, k0_pay168, k0_pay174, qrow, arow, Cert.Reference3Ideal.Ref.QR]
  simp only [in11]
  refine Eq.trans ?_ (rope_add _ _ _ _ _ _).symm
  blk_point [h0, h1, h2, h3]

theorem q26 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 1) (h2 : (j 2 : ℕ) = 128 + (i 2 : ℕ)) (h3 : (j 3 : ℕ) = t.val % 8 * 512 + r + (i 3 : ℕ)) :
    k0_pay173 (F := Ideal) (k0_pay170 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay170, k0_pay169, k0_pay167, k0_pay168, k0_pay173, qrow, arow, Cert.Reference3Ideal.Ref.QR]
  simp only [in11]
  refine Eq.trans ?_ (rope_sub _ _ _ _ _ _).symm
  blk_point [h0, h1, h2, h3]

theorem q27 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 1) (h2 : (j 2 : ℕ) = 0 + (i 2 : ℕ)) (h3 : (j 3 : ℕ) = t.val % 8 * 512 + r + (i 3 : ℕ)) :
    k0_pay172 (F := Ideal) (k0_pay6 (F := Ideal) (iblk m c 10 t)) (qrow q t r hr) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay172, qrow, Cert.Reference3Ideal.Ref.QN]
  simp only [in10]
  rw [← mul_assoc]
  blk_point [h0, h1, h2, h3]

theorem q29 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 0) (h2 : (j 2 : ℕ) = 160 + (i 2 : ℕ)) (h3 : (j 3 : ℕ) = t.val % 8 * 512 + r + (i 3 : ℕ)) :
    k0_pay165 (F := Ideal) (k0_pay164 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay164, k0_pay161, k0_pay159, k0_pay160, k0_pay165, qrow, arow, Cert.Reference3Ideal.Ref.QR]
  simp only [in11]
  refine Eq.trans ?_ (rope_add _ _ _ _ _ _).symm
  blk_point [h0, h1, h2, h3]

theorem q30 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 0) (h2 : (j 2 : ℕ) = 128 + (i 2 : ℕ)) (h3 : (j 3 : ℕ) = t.val % 8 * 512 + r + (i 3 : ℕ)) :
    k0_pay163 (F := Ideal) (k0_pay7 (F := Ideal) (iblk m c 11 t)) (qrow q t r hr) (cos (arow a t r hr)) (sin (arow a t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay163, k0_pay161, k0_pay159, k0_pay160, qrow, arow, Cert.Reference3Ideal.Ref.QR]
  simp only [in11]
  refine Eq.trans ?_ (rope_sub _ _ _ _ _ _).symm
  blk_point [h0, h1, h2, h3]

theorem q31 (c : Dev nD) (t : Fin cfg0.N) (r : ℕ) (hr : r ≤ 256) (g : FVec Ideal Cert.Reference3Ideal.S4x4096x512 .f32) (a : FVec Ideal Cert.Reference3Ideal.S4x4096x32 .f32) (i : S1x1x128x256.Idx) (j : S4x8x192x4096.Idx)
    (h0 : (j 0 : ℕ) = t.val / 8) (h1 : (j 1 : ℕ) = 0) (h2 : (j 2 : ℕ) = 0 + (i 2 : ℕ)) (h3 : (j 3 : ℕ) = t.val % 8 * 512 + r + (i 3 : ℕ)) :
    k0_pay162 (F := Ideal) (k0_pay6 (F := Ideal) (iblk m c 10 t)) (k0_pay157 (F := Ideal) (crow g t r hr) (iblk m c 7 t)) (k0_pay158 (F := Ideal) (crow g t r hr) (iblk m c 7 t)) i = Cert.Reference3Ideal.Ref.O3 (Cert.Reference3Ideal.Ref.QN (Cert.Reference3Ideal.Ref.Q g (m ((c : Thread nD τ).loc main_arg5))) (m ((c : Thread nD τ).loc main_arg8))) (Cert.Reference3Ideal.Ref.QR (Cert.Reference3Ideal.Ref.Q g (m ((c : Thread nD τ).loc main_arg5))) (m ((c : Thread nD τ).loc main_arg9))) a j := by
  have hi : (i 2 : ℕ) < 128 := (i 2).isLt
  rw [O3_n _ _ _ _ (by omega)]
  simp only [k0_pay158, k0_pay157, p24_eq, p151_eq]
  pointwise [k0_pay6, k0_pay162, qrow, Cert.Reference3Ideal.Ref.QN]
  simp only [in10]
  rw [← mul_assoc]
  blk_point [h0, h1, h2, h3]

theorem q33 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 7) (h2 : (j 2 : ℕ) = 160 + (i 2 : ℕ)) (h3 : (j 3 : ℕ) = t.val % 8 * 512 + r + (i 3 : ℕ)) :
    k0_pay104 (F := Ideal) (k0_pay7 (F := Ideal) (iblk m c 11 t)) (cos (arow a t r hr)) (sin (arow a t r hr)) (k0_pay97 (F := Ideal) (qrow q t r hr)) (k0_pay98 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay98, k0_pay97, k0_pay7, k0_pay104, k0_pay101, k0_pay99, k0_pay100, qrow, arow, Cert.Reference3Ideal.Ref.QR]
  simp only [in11]
  refine Eq.trans ?_ (rope_add _ _ _ _ _ _).symm
  blk_point [h0, h1, h2, h3]

theorem q34 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 7) (h2 : (j 2 : ℕ) = 128 + (i 2 : ℕ)) (h3 : (j 3 : ℕ) = t.val % 8 * 512 + r + (i 3 : ℕ)) :
    k0_pay103 (F := Ideal) (k0_pay7 (F := Ideal) (iblk m c 11 t)) (cos (arow a t r hr)) (sin (arow a t r hr)) (k0_pay97 (F := Ideal) (qrow q t r hr)) (k0_pay98 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay98, k0_pay97, k0_pay7, k0_pay103, k0_pay101, k0_pay99, k0_pay100, qrow, arow, Cert.Reference3Ideal.Ref.QR]
  simp only [in11]
  refine Eq.trans ?_ (rope_sub _ _ _ _ _ _).symm
  blk_point [h0, h1, h2, h3]

theorem q35 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 7) (h2 : (j 2 : ℕ) = 0 + (i 2 : ℕ)) (h3 : (j 3 : ℕ) = t.val % 8 * 512 + r + (i 3 : ℕ)) :
    k0_pay102 (F := Ideal) (k0_pay96 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay96, k0_pay102, qrow, Cert.Reference3Ideal.Ref.QN]
  simp only [in10]
  rw [← mul_assoc]
  blk_point [h0, h1, h2, h3]

theorem q37 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 6) (h2 : (j 2 : ℕ) = 160 + (i 2 : ℕ)) (h3 : (j 3 : ℕ) = t.val % 8 * 512 + r + (i 3 : ℕ)) :
    k0_pay94 (F := Ideal) (cos (arow a t r hr)) (sin (arow a t r hr)) (k0_pay88 (F := Ideal) (k0_pay7 (F := Ideal) (iblk m c 11 t)) (qrow q t r hr)) (k0_pay89 (F := Ideal) (k0_pay7 (F := Ideal) (iblk m c 11 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay89, k0_pay87, k0_pay88, k0_pay94, qrow, arow, Cert.Reference3Ideal.Ref.QR]
  simp only [in11]
  refine Eq.trans ?_ (rope_add _ _ _ _ _ _).symm
  blk_point [h0, h1, h2, h3]

theorem q38 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 6) (h2 : (j 2 : ℕ) = 128 + (i 2 : ℕ)) (h3 : (j 3 : ℕ) = t.val % 8 * 512 + r + (i 3 : ℕ)) :
    k0_pay93 (F := Ideal) (k0_pay90 (F := Ideal) (k0_pay7 (F := Ideal) (iblk m c 11 t)) (qrow q t r hr) (cos (arow a t r hr))) (k0_pay91 (F := Ideal) (k0_pay7 (F := Ideal) (iblk m c 11 t)) (qrow q t r hr) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay91, k0_pay89, k0_pay87, k0_pay90, k0_pay88, k0_pay93, qrow, arow, Cert.Reference3Ideal.Ref.QR]
  simp only [in11]
  refine Eq.trans ?_ (rope_sub _ _ _ _ _ _).symm
  blk_point [h0, h1, h2, h3]

theorem q39 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 6) (h2 : (j 2 : ℕ) = 0 + (i 2 : ℕ)) (h3 : (j 3 : ℕ) = t.val % 8 * 512 + r + (i 3 : ℕ)) :
    k0_pay92 (F := Ideal) (k0_pay86 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay86, k0_pay92, qrow, Cert.Reference3Ideal.Ref.QN]
  simp only [in10]
  rw [← mul_assoc]
  blk_point [h0, h1, h2, h3]

theorem q41 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 5) (h2 : (j 2 : ℕ) = 160 + (i 2 : ℕ)) (h3 : (j 3 : ℕ) = t.val % 8 * 512 + r + (i 3 : ℕ)) :
    k0_pay84 (F := Ideal) (k0_pay80 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay80, k0_pay79, k0_pay77, k0_pay78, k0_pay84, qrow, arow, Cert.Reference3Ideal.Ref.QR]
  simp only [in11]
  refine Eq.trans ?_ (rope_add _ _ _ _ _ _).symm
  blk_point [h0, h1, h2, h3]

theorem q42 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 5) (h2 : (j 2 : ℕ) = 128 + (i 2 : ℕ)) (h3 : (j 3 : ℕ) = t.val % 8 * 512 + r + (i 3 : ℕ)) :
    k0_pay83 (F := Ideal) (k0_pay82 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay82, k0_pay79, k0_pay77, k0_pay78, k0_pay83, qrow, arow, Cert.Reference3Ideal.Ref.QR]
  simp only [in11]
  refine Eq.trans ?_ (rope_sub _ _ _ _ _ _).symm
  blk_point [h0, h1, h2, h3]

theorem q43 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 5) (h2 : (j 2 : ℕ) = 0 + (i 2 : ℕ)) (h3 : (j 3 : ℕ) = t.val % 8 * 512 + r + (i 3 : ℕ)) :
    k0_pay81 (F := Ideal) (k0_pay6 (F := Ideal) (iblk m c 10 t)) (qrow q t r hr) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay81, qrow, Cert.Reference3Ideal.Ref.QN]
  simp only [in10]
  rw [← mul_assoc]
  blk_point [h0, h1, h2, h3]

theorem q45 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 4) (h2 : (j 2 : ℕ) = 160 + (i 2 : ℕ)) (h3 : (j 3 : ℕ) = t.val % 8 * 512 + r + (i 3 : ℕ)) :
    k0_pay75 (F := Ideal) (k0_pay7 (F := Ideal) (iblk m c 11 t)) (qrow q t r hr) (cos (arow a t r hr)) (sin (arow a t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay75, k0_pay72, k0_pay70, k0_pay71, qrow, arow, Cert.Reference3Ideal.Ref.QR]
  simp only [in11]
  refine Eq.trans ?_ (rope_add _ _ _ _ _ _).symm
  blk_point [h0, h1, h2, h3]

theorem q46 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 4) (h2 : (j 2 : ℕ) = 128 + (i 2 : ℕ)) (h3 : (j 3 : ℕ) = t.val % 8 * 512 + r + (i 3 : ℕ)) :
    k0_pay74 (F := Ideal) (k0_pay7 (F := Ideal) (iblk m c 11 t)) (qrow q t r hr) (cos (arow a t r hr)) (sin (arow a t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay74, k0_pay72, k0_pay70, k0_pay71, qrow, arow, Cert.Reference3Ideal.Ref.QR]
  simp only [in11]
  refine Eq.trans ?_ (rope_sub _ _ _ _ _ _).symm
  blk_point [h0, h1, h2, h3]

theorem q47 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 4) (h2 : (j 2 : ℕ) = 0 + (i 2 : ℕ)) (h3 : (j 3 : ℕ) = t.val % 8 * 512 + r + (i 3 : ℕ)) :
    k0_pay73 (F := Ideal) (k0_pay6 (F := Ideal) (iblk m c 10 t)) (k0_pay68 (F := Ideal) (qrow q t r hr)) (k0_pay69 (F := Ideal) (qrow q t r hr)) (FloatOps.ofBits (F := Ideal) FTy.f32 1124073472#32) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay69, k0_pay68, k0_pay6, k0_pay73, qrow, Cert.Reference3Ideal.Ref.QN]
  simp only [in10]
  rw [← mul_assoc]
  blk_point [h0, h1, h2, h3]

theorem q49 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 3) (h2 : (j 2 : ℕ) = 160 + (i 2 : ℕ)) (h3 : (j 3 : ℕ) = t.val % 8 * 512 + r + (i 3 : ℕ)) :
    k0_pay66 (F := Ideal) (k0_pay7 (F := Ideal) (iblk m c 11 t)) (cos (arow a t r hr)) (sin (arow a t r hr)) (k0_pay59 (F := Ideal) (qrow q t r hr)) (k0_pay60 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay60, k0_pay59, k0_pay7, k0_pay66, k0_pay63, k0_pay61, k0_pay62, qrow, arow, Cert.Reference3Ideal.Ref.QR]
  simp only [in11]
  refine Eq.trans ?_ (rope_add _ _ _ _ _ _).symm
  blk_point [h0, h1, h2, h3]

theorem q50 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 3) (h2 : (j 2 : ℕ) = 128 + (i 2 : ℕ)) (h3 : (j 3 : ℕ) = t.val % 8 * 512 + r + (i 3 : ℕ)) :
    k0_pay65 (F := Ideal) (k0_pay7 (F := Ideal) (iblk m c 11 t)) (cos (arow a t r hr)) (sin (arow a t r hr)) (k0_pay59 (F := Ideal) (qrow q t r hr)) (k0_pay60 (F := Ideal) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay60, k0_pay59, k0_pay7, k0_pay65, k0_pay63, k0_pay61, k0_pay62, qrow, arow, Cert.Reference3Ideal.Ref.QR]
  simp only [in11]
  refine Eq.trans ?_ (rope_sub _ _ _ _ _ _).symm
  blk_point [h0, h1, h2, h3]

theorem q51 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 3) (h2 : (j 2 : ℕ) = 0 + (i 2 : ℕ)) (h3 : (j 3 : ℕ) = t.val % 8 * 512 + r + (i 3 : ℕ)) :
    k0_pay64 (F := Ideal) (k0_pay58 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay58, k0_pay64, qrow, Cert.Reference3Ideal.Ref.QN]
  simp only [in10]
  rw [← mul_assoc]
  blk_point [h0, h1, h2, h3]

theorem q53 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 2) (h2 : (j 2 : ℕ) = 160 + (i 2 : ℕ)) (h3 : (j 3 : ℕ) = t.val % 8 * 512 + r + (i 3 : ℕ)) :
    k0_pay56 (F := Ideal) (cos (arow a t r hr)) (sin (arow a t r hr)) (k0_pay50 (F := Ideal) (k0_pay7 (F := Ideal) (iblk m c 11 t)) (qrow q t r hr)) (k0_pay51 (F := Ideal) (k0_pay7 (F := Ideal) (iblk m c 11 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay51, k0_pay49, k0_pay50, k0_pay56, qrow, arow, Cert.Reference3Ideal.Ref.QR]
  simp only [in11]
  refine Eq.trans ?_ (rope_add _ _ _ _ _ _).symm
  blk_point [h0, h1, h2, h3]

theorem q54 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 2) (h2 : (j 2 : ℕ) = 128 + (i 2 : ℕ)) (h3 : (j 3 : ℕ) = t.val % 8 * 512 + r + (i 3 : ℕ)) :
    k0_pay55 (F := Ideal) (k0_pay52 (F := Ideal) (k0_pay7 (F := Ideal) (iblk m c 11 t)) (qrow q t r hr) (cos (arow a t r hr))) (k0_pay53 (F := Ideal) (k0_pay7 (F := Ideal) (iblk m c 11 t)) (qrow q t r hr) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay53, k0_pay51, k0_pay49, k0_pay52, k0_pay50, k0_pay55, qrow, arow, Cert.Reference3Ideal.Ref.QR]
  simp only [in11]
  refine Eq.trans ?_ (rope_sub _ _ _ _ _ _).symm
  blk_point [h0, h1, h2, h3]

theorem q55 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 2) (h2 : (j 2 : ℕ) = 0 + (i 2 : ℕ)) (h3 : (j 3 : ℕ) = t.val % 8 * 512 + r + (i 3 : ℕ)) :
    k0_pay54 (F := Ideal) (k0_pay48 (F := Ideal) (k0_pay6 (F := Ideal) (iblk m c 10 t)) (qrow q t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay48, k0_pay54, qrow, Cert.Reference3Ideal.Ref.QN]
  simp only [in10]
  rw [← mul_assoc]
  blk_point [h0, h1, h2, h3]

theorem q57 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 1) (h2 : (j 2 : ℕ) = 160 + (i 2 : ℕ)) (h3 : (j 3 : ℕ) = t.val % 8 * 512 + r + (i 3 : ℕ)) :
    k0_pay46 (F := Ideal) (k0_pay42 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay42, k0_pay41, k0_pay39, k0_pay40, k0_pay46, qrow, arow, Cert.Reference3Ideal.Ref.QR]
  simp only [in11]
  refine Eq.trans ?_ (rope_add _ _ _ _ _ _).symm
  blk_point [h0, h1, h2, h3]

theorem q58 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 1) (h2 : (j 2 : ℕ) = 128 + (i 2 : ℕ)) (h3 : (j 3 : ℕ) = t.val % 8 * 512 + r + (i 3 : ℕ)) :
    k0_pay45 (F := Ideal) (k0_pay44 (F := Ideal) (k0_pay7 (F := Ideal) (iblk m c 11 t)) (qrow q t r hr) (cos (arow a t r hr)) (sin (arow a t r hr))) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay44, k0_pay41, k0_pay39, k0_pay40, k0_pay45, qrow, arow, Cert.Reference3Ideal.Ref.QR]
  simp only [in11]
  refine Eq.trans ?_ (rope_sub _ _ _ _ _ _).symm
  blk_point [h0, h1, h2, h3]

theorem q59 (c : Dev nD) (t : Fin cfg0.N) (r : ℕ) (hr : r ≤ 256) (q : FVec Ideal Cert.Reference3Ideal.S4x4096x8x192 .f32) (a : FVec Ideal Cert.Reference3Ideal.S4x4096x32 .f32) (i : S1x1x128x256.Idx) (j : S4x8x192x4096.Idx)
    (h0 : (j 0 : ℕ) = t.val / 8) (h1 : (j 1 : ℕ) = 1) (h2 : (j 2 : ℕ) = 0 + (i 2 : ℕ)) (h3 : (j 3 : ℕ) = t.val % 8 * 512 + r + (i 3 : ℕ)) :
    k0_pay43 (F := Ideal) (k0_pay6 (F := Ideal) (iblk m c 10 t)) (qrow q t r hr) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 128 := (i 2).isLt
  rw [O3_n _ _ _ _ (by omega)]
  pointwise [k0_pay6, k0_pay43, qrow, Cert.Reference3Ideal.Ref.QN]
  simp only [in10]
  rw [← mul_assoc]
  blk_point [h0, h1, h2, h3]

theorem q61 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 0) (h2 : (j 2 : ℕ) = 160 + (i 2 : ℕ)) (h3 : (j 3 : ℕ) = t.val % 8 * 512 + r + (i 3 : ℕ)) :
    k0_pay37 (F := Ideal) (k0_pay7 (F := Ideal) (iblk m c 11 t)) (qrow q t r hr) (cos (arow a t r hr)) (sin (arow a t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_h _ _ _ _ (by omega) (by omega)]
  pointwise [k0_pay7, k0_pay37, k0_pay34, k0_pay32, k0_pay33, qrow, arow, Cert.Reference3Ideal.Ref.QR]
  simp only [in11]
  refine Eq.trans ?_ (rope_add _ _ _ _ _ _).symm
  blk_point [h0, h1, h2, h3]

theorem q62 (c : Dev nD) (t : Fin cfg0.N) (r : ℕ) (hr : r ≤ 256) (q : FVec Ideal Cert.Reference3Ideal.S4x4096x8x192 .f32) (a : FVec Ideal Cert.Reference3Ideal.S4x4096x32 .f32) (i : S1x1x32x256.Idx) (j : S4x8x192x4096.Idx)
    (h0 : (j 0 : ℕ) = t.val / 8) (h1 : (j 1 : ℕ) = 0) (h2 : (j 2 : ℕ) = 128 + (i 2 : ℕ)) (h3 : (j 3 : ℕ) = t.val % 8 * 512 + r + (i 3 : ℕ)) :
    k0_pay36 (F := Ideal) (k0_pay7 (F := Ideal) (iblk m c 11 t)) (qrow q t r hr) (cos (arow a t r hr)) (sin (arow a t r hr)) i = Cert.Reference3Ideal.Ref.O3 (Cert.Reference3Ideal.Ref.QN q (m ((c : Thread nD τ).loc main_arg8))) (Cert.Reference3Ideal.Ref.QR q (m ((c : Thread nD τ).loc main_arg9))) a j := by
  have hi : (i 2 : ℕ) < 32 := (i 2).isLt
  rw [O3_l _ _ _ _ (by omega) (by omega)]
  pointwise [k0_pay7, k0_pay36, k0_pay34, k0_pay32, k0_pay33, qrow, arow, Cert.Reference3Ideal.Ref.QR]
  simp only [in11]
  refine Eq.trans ?_ (rope_sub _ _ _ _ _ _).symm
  blk_point [h0, h1, h2, h3]

theorem q63 (c : Dev nD) (t : Fin cfg0.N) (r : ℕ) (hr : r ≤ 256) (g : FVec Ideal Cert.Reference3Ideal.S4x4096x512 .f32) (a : FVec Ideal Cert.Reference3Ideal.S4x4096x32 .f32) (i : S1x1x128x256.Idx) (j : S4x8x192x4096.Idx)
    (h0 : (j 0 : ℕ) = t.val / 8) (h1 : (j 1 : ℕ) = 0) (h2 : (j 2 : ℕ) = 0 + (i 2 : ℕ)) (h3 : (j 3 : ℕ) = t.val % 8 * 512 + r + (i 3 : ℕ)) :
    k0_pay35 (F := Ideal) (k0_pay6 (F := Ideal) (iblk m c 10 t)) (k0_pay30 (F := Ideal) (crow g t r hr) (iblk m c 7 t)) (k0_pay31 (F := Ideal) (crow g t r hr) (iblk m c 7 t)) (FloatOps.ofBits (F := Ideal) FTy.f32 1124073472#32) i = Cert.Reference3Ideal.Ref.O3 (Cert.Reference3Ideal.Ref.QN (Cert.Reference3Ideal.Ref.Q g (m ((c : Thread nD τ).loc main_arg5))) (m ((c : Thread nD τ).loc main_arg8))) (Cert.Reference3Ideal.Ref.QR (Cert.Reference3Ideal.Ref.Q g (m ((c : Thread nD τ).loc main_arg5))) (m ((c : Thread nD τ).loc main_arg9))) a j := by
  have hi : (i 2 : ℕ) < 128 := (i 2).isLt
  rw [O3_n _ _ _ _ (by omega)]
  simp only [k0_pay31, k0_pay30, p24_eq, p151_eq]
  pointwise [k0_pay6, k0_pay35, qrow, Cert.Reference3Ideal.Ref.QN]
  simp only [in10]
  rw [← mul_assoc]
  blk_point [h0, h1, h2, h3]

end Cert.Kernel3Ideal.Inp

end
-- ==== Proof.Inp.PtQ.lean ====
module

public import proofs.«01_k».proof.Proof.Inp.Query
public import proofs.«01_k».proof.Proof.Inp.Abbr

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem emb17 (t : Fin cfg0.N) (y : S1x8x256x512.Idx) : ((((cfg0.win 17).blk t).view.emb y 0 : Fin 4) : ℕ) = t.val / 8 ∧ ((((cfg0.win 17).blk t).view.emb y 1 : Fin 8) : ℕ) = (y 1 : ℕ)
    ∧ ((((cfg0.win 17).blk t).view.emb y 2 : Fin 256) : ℕ) = (y 2 : ℕ) ∧ ((((cfg0.win 17).blk t).view.emb y 3 : Fin 4096) : ℕ) = t.val % 8 * 512 + (y 3 : ℕ) := by
  refine ⟨?_, ?_, ?_, ?_⟩ <;> blk_simp [idx t] <;> omega

set_option maxHeartbeats 2000000 in
theorem core17 (c : Dev nD) (t : Fin cfg0.N) (y : S1x8x256x512.Idx)  (j : S4x8x192x4096.Idx)
    (e0 : (j 0 : ℕ) = t.val / 8) (e1 : (j 1 : ℕ) = (y 1 : ℕ)) (e2 : (j 2 : ℕ) = (y 2 : ℕ)) (e3 : (j 3 : ℕ) = t.val % 8 * 512 + (y 3 : ℕ)) :
    (outsAt0 m c t).2.2.2.1 y = Cert.Reference3Ideal.Ref.O3 (Cert.Reference3Ideal.Ref.QN (QQ m c) (m ((c : Thread nD τ).loc main_arg8))) (Cert.Reference3Ideal.Ref.QR (QQ m c) (m ((c : Thread nD τ).loc main_arg9))) (Cert.Reference3Ideal.Ref.ANG (m ((c : Thread nD τ).loc main_arg2))) j := by
  unfold outsAt0
  frame_out
  simp only [h0_eq, h256_eq]
  simp only [h0_eq, h256_eq, p19_eq, p144_eq, p20_eq, p24_eq, p151_eq, p25_eq, p26_eq, p152_eq, p153_eq, p22_eq, p149_eq, p28_eq, p29_eq, p155_eq, p156_eq]
  have hj : (j 2 : ℕ) < 192 := (j 2).isLt
  canon_tiles x h using View.cover_of_tiledBy _ ![1, 1, 32, 256] (by sl_kernel_rfl) _
  case piece0 => exact absurd hj (by omega)
  case piece1 => exact q1 m c t 256 (by omega) _ _ x _ (by omega) (by omega) (by omega) (by omega)
  case piece2 => exact q2 m c t 256 (by omega) _ _ x _ (by omega) (by omega) (by omega) (by omega)
  case piece3 => exact q3 m c t 256 (by omega) _ _ x _ (by omega) (by omega) (by omega) (by omega)
  case piece4 => exact absurd hj (by omega)
  case piece5 => exact q5 m c t 256 (by omega) _ _ x _ (by omega) (by omega) (by omega) (by omega)
  case piece6 => exact q6 m c t 256 (by omega) _ _ x _ (by omega) (by omega) (by omega) (by omega)
  case piece7 => exact q7 m c t 256 (by omega) _ _ x _ (by omega) (by omega) (by omega) (by omega)
  case piece8 => exact absurd hj (by omega)
  case piece9 => exact q9 m c t 256 (by omega) _ _ x _ (by omega) (by omega) (by omega) (by omega)
  case piece10 => exact q10 m c t 256 (by omega) _ _ x _ (by omega) (by omega) (by omega) (by omega)
  case piece11 => exact q11 m c t 256 (by omega) _ _ x _ (by omega) (by omega) (by omega) (by omega)
  case piece12 => exact absurd hj (by omega)
  case piece13 => exact q13 m c t 256 (by omega) _ _ x _ (by omega) (by omega) (by omega) (by omega)
  case piece14 => exact q14 m c t 256 (by omega) _ _ x _ (by omega) (by omega) (by omega) (by omega)
  case piece15 => exact q15 m c t 256 (by omega) _ _ x _ (by omega) (by omega) (by omega) (by omega)
  case piece16 => exact absurd hj (by omega)
  case piece17 => exact q17 m c t 256 (by omega) _ _ x _ (by omega) (by omega) (by omega) (by omega)
  case piece18 => exact q18 m c t 256 (by omega) _ _ x _ (by omega) (by omega) (by omega) (by omega)
  case piece19 => exact q19 m c t 256 (by omega) _ _ x _ (by omega) (by omega) (by omega) (by omega)
  case piece20 => exact absurd hj (by omega)
  case piece21 => exact q21 m c t 256 (by omega) _ _ x _ (by omega) (by omega) (by omega) (by omega)
  case piece22 => exact q22 m c t 256 (by omega) _ _ x _ (by omega) (by omega) (by omega) (by omega)
  case piece23 => exact q23 m c t 256 (by omega) _ _ x _ (by omega) (by omega) (by omega) (by omega)
  case piece24 => exact absurd hj (by omega)
  case piece25 => exact q25 m c t 256 (by omega) _ _ x _ (by omega) (by omega) (by omega) (by omega)
  case piece26 => exact q26 m c t 256 (by omega) _ _ x _ (by omega) (by omega) (by omega) (by omega)
  case piece27 => exact q27 m c t 256 (by omega) _ _ x _ (by omega) (by omega) (by omega) (by omega)
  case piece28 => exact absurd hj (by omega)
  case piece29 => exact q29 m c t 256 (by omega) _ _ x _ (by omega) (by omega) (by omega) (by omega)
  case piece30 => exact q30 m c t 256 (by omega) _ _ x _ (by omega) (by omega) (by omega) (by omega)
  case piece31 => exact q31 m c t 256 (by omega) _ _ x _ (by omega) (by omega) (by omega) (by omega)
  case piece32 => exact absurd hj (by omega)
  case piece33 => exact q33 m c t 0 (by omega) _ _ x _ (by omega) (by omega) (by omega) (by omega)
  case piece34 => exact q34 m c t 0 (by omega) _ _ x _ (by omega) (by omega) (by omega) (by omega)
  case piece35 => exact q35 m c t 0 (by omega) _ _ x _ (by omega) (by omega) (by omega) (by omega)
  case piece36 => exact absurd hj (by omega)
  case piece37 => exact q37 m c t 0 (by omega) _ _ x _ (by omega) (by omega) (by omega) (by omega)
  case piece38 => exact q38 m c t 0 (by omega) _ _ x _ (by omega) (by omega) (by omega) (by omega)
  case piece39 => exact q39 m c t 0 (by omega) _ _ x _ (by omega) (by omega) (by omega) (by omega)
  case piece40 => exact absurd hj (by omega)
  case piece41 => exact q41 m c t 0 (by omega) _ _ x _ (by omega) (by omega) (by omega) (by omega)
  case piece42 => exact q42 m c t 0 (by omega) _ _ x _ (by omega) (by omega) (by omega) (by omega)
  case piece43 => exact q43 m c t 0 (by omega) _ _ x _ (by omega) (by omega) (by omega) (by omega)
  case piece44 => exact absurd hj (by omega)
  case piece45 => exact q45 m c t 0 (by omega) _ _ x _ (by omega) (by omega) (by omega) (by omega)
  case piece46 => exact q46 m c t 0 (by omega) _ _ x _ (by omega) (by omega) (by omega) (by omega)
  case piece47 => exact q47 m c t 0 (by omega) _ _ x _ (by omega) (by omega) (by omega) (by omega)
  case piece48 => exact absurd hj (by omega)
  case piece49 => exact q49 m c t 0 (by omega) _ _ x _ (by omega) (by omega) (by omega) (by omega)
  case piece50 => exact q50 m c t 0 (by omega) _ _ x _ (by omega) (by omega) (by omega) (by omega)
  case piece51 => exact q51 m c t 0 (by omega) _ _ x _ (by omega) (by omega) (by omega) (by omega)
  case piece52 => exact absurd hj (by omega)
  case piece53 => exact q53 m c t 0 (by omega) _ _ x _ (by omega) (by omega) (by omega) (by omega)
  case piece54 => exact q54 m c t 0 (by omega) _ _ x _ (by omega) (by omega) (by omega) (by omega)
  case piece55 => exact q55 m c t 0 (by omega) _ _ x _ (by omega) (by omega) (by omega) (by omega)
  case piece56 => exact absurd hj (by omega)
  case piece57 => exact q57 m c t 0 (by omega) _ _ x _ (by omega) (by omega) (by omega) (by omega)
  case piece58 => exact q58 m c t 0 (by omega) _ _ x _ (by omega) (by omega) (by omega) (by omega)
  case piece59 => exact q59 m c t 0 (by omega) _ _ x _ (by omega) (by omega) (by omega) (by omega)
  case piece60 => exact absurd hj (by omega)
  case piece61 => exact q61 m c t 0 (by omega) _ _ x _ (by omega) (by omega) (by omega) (by omega)
  case piece62 => exact q62 m c t 0 (by omega) _ _ x _ (by omega) (by omega) (by omega) (by omega)
  case piece63 => exact q63 m c t 0 (by omega) _ _ x _ (by omega) (by omega) (by omega) (by omega)

end Cert.Kernel3Ideal.Inp

end
-- ==== Proof.Inp.Key.lean ====
module

public import proofs.«01_k».proof.Proof.Inp.Spec

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- The normalised rotary part of the keys, 256 rows of it. -/
def krr (v7 : FVec Ideal S64x1 .f32) (v127 : FVec Ideal S64x256 .f32) : FVec Ideal S64x256 .f32 :=
  (mulf (mulf v127 (broadcastTo S64x256 (rsqrt (addf (divf (shapeCast S1x256 (multiReduction .add [0] S256 (mulf v127 v127) 0x00000000#32 reduces_S64x256_S256 (.inl rfl) rfl) shapeCasts_S256_S1x256) (broadcast S1x256 ((Scalar.ofBits (F := Ideal) .f32 0x42800000#32)))) (broadcast S1x256 ((Scalar.ofBits (F := Ideal) .f32 0x358637BD#32))))) broadcasts_S1x256_S64x256)) (broadcastTo S64x256 v7 broadcasts_S64x1_S64x256))

/-- The rotated part of the keys with its padding. -/
def kcat (v604 : FVec Ideal S64x256 .f32) (v41 : IVec S64x256 32) (v154 v155 : FVec Ideal S32x256 .f32) : FVec Ideal S256x128 .bf16 :=
  (truncf .bf16 (transpose S256x128 [1, 0] (concatenate S128x256 0 [⟨S32x256, (subf (mulf (extractStridedSlice S32x256 ![0, 0] v604 slices_S64x256_o0_0_S32x256) v154) (mulf (extractStridedSlice S32x256 ![32, 0] v604 slices_S64x256_o32_0_S32x256) v155))⟩, ⟨S32x256, (addf (mulf (extractStridedSlice S32x256 ![0, 0] v604 slices_S64x256_o0_0_S32x256) v155) (mulf (extractStridedSlice S32x256 ![32, 0] v604 slices_S64x256_o32_0_S32x256) v154))⟩, ⟨S64x256, (select (cmpi .eq v41 (broadcast S64x256 0#32)) (broadcast S64x256 ((Scalar.ofBits (F := Ideal) .f32 0x3F800000#32))) (broadcast S64x256 ((Scalar.ofBits (F := Ideal) .f32 0x00000000#32))))⟩] concatenates_S32x256_S32x256_S64x256_S128x256_d0) transposes_S128x256_p1_0_S256x128) bitsLt_bf16_f32)

/-- Rows of the normalised rotary part of the keys. -/
def nrow (T : FVec Ideal Cert.Reference3Ideal.S4x4096x64 .f32) (t : Fin cfg0.N) (r : ℕ) (hr : r ≤ 256) : FVec Ideal S64x256 .f32 :=
  fun i => T (ix3 (⟨t.val / 8, by have := tlt t; omega⟩ : Fin 4) (⟨t.val % 8 * 512 + r + (i 1 : ℕ), by have h : (i 1 : ℕ) < 256 := (i 1).isLt; omega⟩ : Fin 4096) (⟨i 0, by have h : (i 0 : ℕ) < 64 := (i 0).isLt; omega⟩ : Fin 64))

theorem krr_eq (c : Dev nD) (t : Fin cfg0.N) (r : ℕ) (hr : r ≤ 256) (p : FVec Ideal Cert.Reference3Ideal.S4x4096x4160 .f32) :
    krr (k0_pay5 (F := Ideal) (iblk m c 13 t)) (rrow p t r hr) = nrow (Cert.Reference3Ideal.Ref.KR p (m ((c : Thread nD τ).loc main_arg11))) t r hr := by
  funext i
  pointwise [krr, k0_pay5, rrow, nrow, Cert.Reference3Ideal.Ref.KR]
  simp only [in13]
  blk_point []

theorem kcat_l (t : Fin cfg0.N) (r : ℕ) (hr : r ≤ 256) (kr : FVec Ideal Cert.Reference3Ideal.S4x4096x64 .f32) (kn : FVec Ideal Cert.Reference3Ideal.S4x4096x8x128 .f32) (a : FVec Ideal Cert.Reference3Ideal.S4x4096x32 .f32) (w : IVec S64x256 32) (i : S256x128.Idx) (j : S4x8x4096x192.Idx)
    (h0 : (j 0 : ℕ) = t.val / 8) (h2 : (j 2 : ℕ) = t.val % 8 * 512 + r + (i 0 : ℕ)) (h3 : (j 3 : ℕ) = 128 + (i 1 : ℕ)) (h4 : (i 1 : ℕ) < 32) :
    kcat (nrow kr t r hr) w (cos (arow a t r hr)) (sin (arow a t r hr)) i = Cert.Reference3Ideal.Ref.O4 kn kr a j := by
  rw [O4_l _ _ _ _ (by omega) (by omega)]
  pointwise [kcat]
  rw [dif_pos h4]
  simp only [nrow, arow]
  blk_point [h0, h2, h3]

theorem kcat_h (t : Fin cfg0.N) (r : ℕ) (hr : r ≤ 256) (kr : FVec Ideal Cert.Reference3Ideal.S4x4096x64 .f32) (kn : FVec Ideal Cert.Reference3Ideal.S4x4096x8x128 .f32) (a : FVec Ideal Cert.Reference3Ideal.S4x4096x32 .f32) (w : IVec S64x256 32) (i : S256x128.Idx) (j : S4x8x4096x192.Idx)
    (h0 : (j 0 : ℕ) = t.val / 8) (h2 : (j 2 : ℕ) = t.val % 8 * 512 + r + (i 0 : ℕ)) (h3 : (j 3 : ℕ) = 128 + (i 1 : ℕ)) (h4 : 32 ≤ (i 1 : ℕ)) (h5 : (i 1 : ℕ) < 64) :
    kcat (nrow kr t r hr) w (cos (arow a t r hr)) (sin (arow a t r hr)) i = Cert.Reference3Ideal.Ref.O4 kn kr a j := by
  rw [O4_h _ _ _ _ (by omega)]
  pointwise [kcat]
  rw [dif_neg (by omega), dif_pos (by omega)]
  simp only [nrow, arow]
  blk_point [h0, h2, h3]

theorem p117_def (v7 : FVec Ideal S64x1 .f32) (v41 : IVec S64x256 32) (v127 : FVec Ideal S64x256 .f32) (v154 v155 : FVec Ideal S32x256 .f32) :
    k0_pay117 (F := Ideal) v7 v41 v127 v154 v155 = kcat (krr v7 v127) v41 v154 v155 := rfl

theorem p117_eq (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S256x128.Idx) (j : S4x8x4096x192.Idx)
    (h0 : (j 0 : ℕ) = t.val / 8) (h2 : (j 2 : ℕ) = t.val % 8 * 512 + r + (i 0 : ℕ)) (h3 : (j 3 : ℕ) = 128 + (i 1 : ℕ)) :
    k0_pay117 (F := Ideal) (k0_pay5 (F := Ideal) (iblk m c 13 t)) (iota Kind.tc S64x256 32 [0] iota_S64x256_d0_w32) (rrow p t r hr) (cos (arow a t r hr)) (sin (arow a t r hr)) i = Cert.Reference3Ideal.Ref.O4 kn (Cert.Reference3Ideal.Ref.KR p (m ((c : Thread nD τ).loc main_arg11))) a j := by
  have hj : (j 3 : ℕ) < 192 := (j 3).isLt
  rw [p117_def, krr_eq]
  rcases Nat.lt_or_ge (i 1 : ℕ) 32 with hc | hc
  · exact kcat_l t r hr _ kn a _ i j h0 h2 h3 hc
  · exact kcat_h t r hr _ kn a _ i j h0 h2 h3 hc (by omega)

theorem p242_def (v7 : FVec Ideal S64x1 .f32) (v41 : IVec S64x256 32) (v127 : FVec Ideal S64x256 .f32) (v154 v155 : FVec Ideal S32x256 .f32) :
    k0_pay242 (F := Ideal) v7 v41 v127 v154 v155 = kcat (krr v7 v127) v41 v154 v155 := rfl

theorem p242_eq (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S256x128.Idx) (j : S4x8x4096x192.Idx)
    (h0 : (j 0 : ℕ) = t.val / 8) (h2 : (j 2 : ℕ) = t.val % 8 * 512 + r + (i 0 : ℕ)) (h3 : (j 3 : ℕ) = 128 + (i 1 : ℕ)) :
    k0_pay242 (F := Ideal) (k0_pay5 (F := Ideal) (iblk m c 13 t)) (iota Kind.tc S64x256 32 [0] iota_S64x256_d0_w32) (rrow p t r hr) (cos (arow a t r hr)) (sin (arow a t r hr)) i = Cert.Reference3Ideal.Ref.O4 kn (Cert.Reference3Ideal.Ref.KR p (m ((c : Thread nD τ).loc main_arg11))) a j := by
  have hj : (j 3 : ℕ) < 192 := (j 3).isLt
  rw [p242_def, krr_eq]
  rcases Nat.lt_or_ge (i 1 : ℕ) 32 with hc | hc
  · exact kcat_l t r hr _ kn a _ i j h0 h2 h3 hc
  · exact kcat_h t r hr _ kn a _ i j h0 h2 h3 hc (by omega)

theorem k0 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 7) (h2 : (j 2 : ℕ) = t.val % 8 * 512 + r + (i 2 : ℕ)) (h3 : (j 3 : ℕ) = 128 + (i 3 : ℕ)) :
    k0_pay263 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay263]
  exact p242_eq m c t r hr p kn a _ j h0 h2 h3

theorem k1 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 7) (h2 : (j 2 : ℕ) = t.val % 8 * 512 + r + (i 2 : ℕ)) (h3 : (j 3 : ℕ) = (i 3 : ℕ)) :
    k0_pay262 (F := Ideal) (k0_pay4 (F := Ideal) (iblk m c 12 t)) (k0_pay260 (F := Ideal) (krow q t r hr)) (k0_pay261 (F := Ideal) (krow q t r hr)) (FloatOps.ofBits (F := Ideal) FTy.f32 897988541#32) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay261, k0_pay260, k0_pay4, k0_pay262, krow, Cert.Reference3Ideal.Ref.KN]
  simp only [in12]
  blk_point [h0, h1, h2, h3]

theorem k2 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 6) (h2 : (j 2 : ℕ) = t.val % 8 * 512 + r + (i 2 : ℕ)) (h3 : (j 3 : ℕ) = 128 + (i 3 : ℕ)) :
    k0_pay259 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay259]
  exact p242_eq m c t r hr p kn a _ j h0 h2 h3

theorem k3 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 6) (h2 : (j 2 : ℕ) = t.val % 8 * 512 + r + (i 2 : ℕ)) (h3 : (j 3 : ℕ) = (i 3 : ℕ)) :
    k0_pay258 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay258, krow, Cert.Reference3Ideal.Ref.KN]
  simp only [in12]
  blk_point [h0, h1, h2, h3]

theorem k4 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 5) (h2 : (j 2 : ℕ) = t.val % 8 * 512 + r + (i 2 : ℕ)) (h3 : (j 3 : ℕ) = 128 + (i 3 : ℕ)) :
    k0_pay257 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay257]
  exact p242_eq m c t r hr p kn a _ j h0 h2 h3

theorem k5 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 5) (h2 : (j 2 : ℕ) = t.val % 8 * 512 + r + (i 2 : ℕ)) (h3 : (j 3 : ℕ) = (i 3 : ℕ)) :
    k0_pay256 (F := Ideal) (k0_pay254 (F := Ideal) (krow q t r hr)) (k0_pay255 (F := Ideal) (k0_pay4 (F := Ideal) (iblk m c 12 t))) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay255, k0_pay254, k0_pay256, krow, Cert.Reference3Ideal.Ref.KN]
  simp only [in12]
  blk_point [h0, h1, h2, h3]

theorem k6 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 4) (h2 : (j 2 : ℕ) = t.val % 8 * 512 + r + (i 2 : ℕ)) (h3 : (j 3 : ℕ) = 128 + (i 3 : ℕ)) :
    k0_pay253 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay253]
  exact p242_eq m c t r hr p kn a _ j h0 h2 h3

theorem k7 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 4) (h2 : (j 2 : ℕ) = t.val % 8 * 512 + r + (i 2 : ℕ)) (h3 : (j 3 : ℕ) = (i 3 : ℕ)) :
    k0_pay252 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay252, krow, Cert.Reference3Ideal.Ref.KN]
  simp only [in12]
  blk_point [h0, h1, h2, h3]

theorem k8 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 3) (h2 : (j 2 : ℕ) = t.val % 8 * 512 + r + (i 2 : ℕ)) (h3 : (j 3 : ℕ) = 128 + (i 3 : ℕ)) :
    k0_pay251 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay251]
  exact p242_eq m c t r hr p kn a _ j h0 h2 h3

theorem k9 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 3) (h2 : (j 2 : ℕ) = t.val % 8 * 512 + r + (i 2 : ℕ)) (h3 : (j 3 : ℕ) = (i 3 : ℕ)) :
    k0_pay250 (F := Ideal) (k0_pay249 (F := Ideal) (k0_pay4 (F := Ideal) (iblk m c 12 t)) (krow q t r hr)) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay249, k0_pay250, krow, Cert.Reference3Ideal.Ref.KN]
  simp only [in12]
  blk_point [h0, h1, h2, h3]

theorem k10 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 2) (h2 : (j 2 : ℕ) = t.val % 8 * 512 + r + (i 2 : ℕ)) (h3 : (j 3 : ℕ) = 128 + (i 3 : ℕ)) :
    k0_pay248 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay248]
  exact p242_eq m c t r hr p kn a _ j h0 h2 h3

theorem k11 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 2) (h2 : (j 2 : ℕ) = t.val % 8 * 512 + r + (i 2 : ℕ)) (h3 : (j 3 : ℕ) = (i 3 : ℕ)) :
    k0_pay247 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay247, krow, Cert.Reference3Ideal.Ref.KN]
  simp only [in12]
  blk_point [h0, h1, h2, h3]

theorem k12 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 1) (h2 : (j 2 : ℕ) = t.val % 8 * 512 + r + (i 2 : ℕ)) (h3 : (j 3 : ℕ) = 128 + (i 3 : ℕ)) :
    k0_pay246 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay246]
  exact p242_eq m c t r hr p kn a _ j h0 h2 h3

theorem k13 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 1) (h2 : (j 2 : ℕ) = t.val % 8 * 512 + r + (i 2 : ℕ)) (h3 : (j 3 : ℕ) = (i 3 : ℕ)) :
    k0_pay245 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay245, krow, Cert.Reference3Ideal.Ref.KN]
  simp only [in12]
  blk_point [h0, h1, h2, h3]

theorem k14 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 0) (h2 : (j 2 : ℕ) = t.val % 8 * 512 + r + (i 2 : ℕ)) (h3 : (j 3 : ℕ) = 128 + (i 3 : ℕ)) :
    k0_pay244 (F := Ideal) (k0_pay242 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay244]
  exact p242_eq m c t r hr p kn a _ j h0 h2 h3

theorem k15 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 0) (h2 : (j 2 : ℕ) = t.val % 8 * 512 + r + (i 2 : ℕ)) (h3 : (j 3 : ℕ) = (i 3 : ℕ)) :
    k0_pay243 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay243, krow, Cert.Reference3Ideal.Ref.KN]
  simp only [in12]
  blk_point [h0, h1, h2, h3]

theorem k16 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 7) (h2 : (j 2 : ℕ) = t.val % 8 * 512 + r + (i 2 : ℕ)) (h3 : (j 3 : ℕ) = 128 + (i 3 : ℕ)) :
    k0_pay138 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay138]
  exact p117_eq m c t r hr p kn a _ j h0 h2 h3

theorem k17 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 7) (h2 : (j 2 : ℕ) = t.val % 8 * 512 + r + (i 2 : ℕ)) (h3 : (j 3 : ℕ) = (i 3 : ℕ)) :
    k0_pay137 (F := Ideal) (k0_pay4 (F := Ideal) (iblk m c 12 t)) (k0_pay135 (F := Ideal) (krow q t r hr)) (k0_pay136 (F := Ideal) (krow q t r hr)) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay136, k0_pay135, k0_pay4, k0_pay137, krow, Cert.Reference3Ideal.Ref.KN]
  simp only [in12]
  blk_point [h0, h1, h2, h3]

theorem k18 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 6) (h2 : (j 2 : ℕ) = t.val % 8 * 512 + r + (i 2 : ℕ)) (h3 : (j 3 : ℕ) = 128 + (i 3 : ℕ)) :
    k0_pay134 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay134]
  exact p117_eq m c t r hr p kn a _ j h0 h2 h3

theorem k19 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 6) (h2 : (j 2 : ℕ) = t.val % 8 * 512 + r + (i 2 : ℕ)) (h3 : (j 3 : ℕ) = (i 3 : ℕ)) :
    k0_pay133 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay133, krow, Cert.Reference3Ideal.Ref.KN]
  simp only [in12]
  blk_point [h0, h1, h2, h3]

theorem k20 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 5) (h2 : (j 2 : ℕ) = t.val % 8 * 512 + r + (i 2 : ℕ)) (h3 : (j 3 : ℕ) = 128 + (i 3 : ℕ)) :
    k0_pay132 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay132]
  exact p117_eq m c t r hr p kn a _ j h0 h2 h3

theorem k21 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 5) (h2 : (j 2 : ℕ) = t.val % 8 * 512 + r + (i 2 : ℕ)) (h3 : (j 3 : ℕ) = (i 3 : ℕ)) :
    k0_pay131 (F := Ideal) (k0_pay130 (F := Ideal) (k0_pay4 (F := Ideal) (iblk m c 12 t)) (krow q t r hr)) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay130, k0_pay131, krow, Cert.Reference3Ideal.Ref.KN]
  simp only [in12]
  blk_point [h0, h1, h2, h3]

theorem k22 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 4) (h2 : (j 2 : ℕ) = t.val % 8 * 512 + r + (i 2 : ℕ)) (h3 : (j 3 : ℕ) = 128 + (i 3 : ℕ)) :
    k0_pay129 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay129]
  exact p117_eq m c t r hr p kn a _ j h0 h2 h3

theorem k23 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 4) (h2 : (j 2 : ℕ) = t.val % 8 * 512 + r + (i 2 : ℕ)) (h3 : (j 3 : ℕ) = (i 3 : ℕ)) :
    k0_pay128 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay128, krow, Cert.Reference3Ideal.Ref.KN]
  simp only [in12]
  blk_point [h0, h1, h2, h3]

theorem k24 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 3) (h2 : (j 2 : ℕ) = t.val % 8 * 512 + r + (i 2 : ℕ)) (h3 : (j 3 : ℕ) = 128 + (i 3 : ℕ)) :
    k0_pay127 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay127]
  exact p117_eq m c t r hr p kn a _ j h0 h2 h3

theorem k25 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 3) (h2 : (j 2 : ℕ) = t.val % 8 * 512 + r + (i 2 : ℕ)) (h3 : (j 3 : ℕ) = (i 3 : ℕ)) :
    k0_pay126 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay126, krow, Cert.Reference3Ideal.Ref.KN]
  simp only [in12]
  blk_point [h0, h1, h2, h3]

theorem k26 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 2) (h2 : (j 2 : ℕ) = t.val % 8 * 512 + r + (i 2 : ℕ)) (h3 : (j 3 : ℕ) = 128 + (i 3 : ℕ)) :
    k0_pay125 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay125]
  exact p117_eq m c t r hr p kn a _ j h0 h2 h3

theorem k27 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 2) (h2 : (j 2 : ℕ) = t.val % 8 * 512 + r + (i 2 : ℕ)) (h3 : (j 3 : ℕ) = (i 3 : ℕ)) :
    k0_pay124 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay124, krow, Cert.Reference3Ideal.Ref.KN]
  simp only [in12]
  blk_point [h0, h1, h2, h3]

theorem k28 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 1) (h2 : (j 2 : ℕ) = t.val % 8 * 512 + r + (i 2 : ℕ)) (h3 : (j 3 : ℕ) = 128 + (i 3 : ℕ)) :
    k0_pay123 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay123]
  exact p117_eq m c t r hr p kn a _ j h0 h2 h3

theorem k29 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 1) (h2 : (j 2 : ℕ) = t.val % 8 * 512 + r + (i 2 : ℕ)) (h3 : (j 3 : ℕ) = (i 3 : ℕ)) :
    k0_pay122 (F := Ideal) (k0_pay4 (F := Ideal) (iblk m c 12 t)) (krow q t r hr) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay4, k0_pay122, krow, Cert.Reference3Ideal.Ref.KN]
  simp only [in12]
  blk_point [h0, h1, h2, h3]

theorem k30 (c : Dev nD) (t : Fin cfg0.N) (r : ℕ) (hr : r ≤ 256) (p : FVec Ideal Cert.Reference3Ideal.S4x4096x4160 .f32) (kn : FVec Ideal Cert.Reference3Ideal.S4x4096x8x128 .f32) (a : FVec Ideal Cert.Reference3Ideal.S4x4096x32 .f32) (i : S1x1x256x128.Idx) (j : S4x8x4096x192.Idx)
    (h0 : (j 0 : ℕ) = t.val / 8) (h1 : (j 1 : ℕ) = 0) (h2 : (j 2 : ℕ) = t.val % 8 * 512 + r + (i 2 : ℕ)) (h3 : (j 3 : ℕ) = 128 + (i 3 : ℕ)) :
    k0_pay121 (F := Ideal) (k0_pay117 (F := Ideal) (k0_pay5 (F := Ideal) (iblk m c 13 t)) (iota Kind.tc S64x256 32 [0] iota_S64x256_d0_w32) (rrow p t r hr) (cos (arow a t r hr)) (sin (arow a t r hr))) i = Cert.Reference3Ideal.Ref.O4 kn (Cert.Reference3Ideal.Ref.KR p (m ((c : Thread nD τ).loc main_arg11))) a j := by
  pointwise [k0_pay121]
  exact p117_eq m c t r hr p kn a _ j h0 h2 h3

theorem k31 (c : Dev nD) (t : Fin cfg0.N) (r : ℕ) (hr : r ≤ 256) (q : FVec Ideal Cert.Reference3Ideal.S4x4096x8x256 .f32) (kr : FVec Ideal Cert.Reference3Ideal.S4x4096x64 .f32) (a : FVec Ideal Cert.Reference3Ideal.S4x4096x32 .f32) (i : S1x1x256x128.Idx) (j : S4x8x4096x192.Idx)
    (h0 : (j 0 : ℕ) = t.val / 8) (h1 : (j 1 : ℕ) = 0) (h2 : (j 2 : ℕ) = t.val % 8 * 512 + r + (i 2 : ℕ)) (h3 : (j 3 : ℕ) = (i 3 : ℕ)) :
    k0_pay120 (F := Ideal) (k0_pay4 (F := Ideal) (iblk m c 12 t)) (k0_pay118 (F := Ideal) (krow q t r hr)) (k0_pay119 (F := Ideal) (krow q t r hr)) i = Cert.Reference3Ideal.Ref.O4 (Cert.Reference3Ideal.Ref.KN q (m ((c : Thread nD τ).loc main_arg10))) kr a j := by
  have hi : (i 3 : ℕ) < 128 := (i 3).isLt
  rw [O4_n _ _ _ _ (by omega)]
  pointwise [k0_pay119, k0_pay118, k0_pay4, k0_pay120, krow, Cert.Reference3Ideal.Ref.KN]
  simp only [in12]
  blk_point [h0, h1, h2, h3]

end Cert.Kernel3Ideal.Inp

end
-- ==== Proof.Inp.PtK.lean ====
module

public import proofs.«01_k».proof.Proof.Inp.Key
public import proofs.«01_k».proof.Proof.Inp.Abbr

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem emb18 (t : Fin cfg0.N) (y : S1x8x512x256.Idx) : ((((cfg0.win 18).blk t).view.emb y 0 : Fin 4) : ℕ) = t.val / 8 ∧ ((((cfg0.win 18).blk t).view.emb y 1 : Fin 8) : ℕ) = (y 1 : ℕ)
    ∧ ((((cfg0.win 18).blk t).view.emb y 2 : Fin 4096) : ℕ) = t.val % 8 * 512 + (y 2 : ℕ) ∧ ((((cfg0.win 18).blk t).view.emb y 3 : Fin 256) : ℕ) = (y 3 : ℕ) := by
  refine ⟨?_, ?_, ?_, ?_⟩ <;> blk_simp [idx t] <;> omega

set_option maxHeartbeats 2000000 in
theorem core18 (c : Dev nD) (t : Fin cfg0.N) (y : S1x8x512x256.Idx)  (j : S4x8x4096x192.Idx)
    (e0 : (j 0 : ℕ) = t.val / 8) (e1 : (j 1 : ℕ) = (y 1 : ℕ)) (e2 : (j 2 : ℕ) = t.val % 8 * 512 + (y 2 : ℕ)) (e3 : (j 3 : ℕ) = (y 3 : ℕ)) :
    (outsAt0 m c t).2.2.2.2.1 y = Cert.Reference3Ideal.Ref.O4 (Cert.Reference3Ideal.Ref.KN (KK m c) (m ((c : Thread nD τ).loc main_arg10))) (Cert.Reference3Ideal.Ref.KR (PP m c) (m ((c : Thread nD τ).loc main_arg11))) (Cert.Reference3Ideal.Ref.ANG (m ((c : Thread nD τ).loc main_arg2))) j := by
  unfold outsAt0
  frame_out
  simp only [h0_eq, h256_eq]
  simp only [h0_eq, h256_eq, p19_eq, p144_eq, p20_eq, p24_eq, p151_eq, p25_eq, p26_eq, p152_eq, p153_eq, p22_eq, p149_eq, p28_eq, p29_eq, p155_eq, p156_eq]
  have hj : (j 3 : ℕ) < 192 := (j 3).isLt
  canon_tiles x h
  case piece0 => exact k0 m c t 256 (by omega) _ _ _ x _ (by omega) (by omega) (by omega) (by omega)
  case piece1 => exact k1 m c t 256 (by omega) _ _ _ x _ (by omega) (by omega) (by omega) (by omega)
  case piece2 => exact k2 m c t 256 (by omega) _ _ _ x _ (by omega) (by omega) (by omega) (by omega)
  case piece3 => exact k3 m c t 256 (by omega) _ _ _ x _ (by omega) (by omega) (by omega) (by omega)
  case piece4 => exact k4 m c t 256 (by omega) _ _ _ x _ (by omega) (by omega) (by omega) (by omega)
  case piece5 => exact k5 m c t 256 (by omega) _ _ _ x _ (by omega) (by omega) (by omega) (by omega)
  case piece6 => exact k6 m c t 256 (by omega) _ _ _ x _ (by omega) (by omega) (by omega) (by omega)
  case piece7 => exact k7 m c t 256 (by omega) _ _ _ x _ (by omega) (by omega) (by omega) (by omega)
  case piece8 => exact k8 m c t 256 (by omega) _ _ _ x _ (by omega) (by omega) (by omega) (by omega)
  case piece9 => exact k9 m c t 256 (by omega) _ _ _ x _ (by omega) (by omega) (by omega) (by omega)
  case piece10 => exact k10 m c t 256 (by omega) _ _ _ x _ (by omega) (by omega) (by omega) (by omega)
  case piece11 => exact k11 m c t 256 (by omega) _ _ _ x _ (by omega) (by omega) (by omega) (by omega)
  case piece12 => exact k12 m c t 256 (by omega) _ _ _ x _ (by omega) (by omega) (by omega) (by omega)
  case piece13 => exact k13 m c t 256 (by omega) _ _ _ x _ (by omega) (by omega) (by omega) (by omega)
  case piece14 => exact k14 m c t 256 (by omega) _ _ _ x _ (by omega) (by omega) (by omega) (by omega)
  case piece15 => exact k15 m c t 256 (by omega) _ _ _ x _ (by omega) (by omega) (by omega) (by omega)
  case piece16 => exact k16 m c t 0 (by omega) _ _ _ x _ (by omega) (by omega) (by omega) (by omega)
  case piece17 => exact k17 m c t 0 (by omega) _ _ _ x _ (by omega) (by omega) (by omega) (by omega)
  case piece18 => exact k18 m c t 0 (by omega) _ _ _ x _ (by omega) (by omega) (by omega) (by omega)
  case piece19 => exact k19 m c t 0 (by omega) _ _ _ x _ (by omega) (by omega) (by omega) (by omega)
  case piece20 => exact k20 m c t 0 (by omega) _ _ _ x _ (by omega) (by omega) (by omega) (by omega)
  case piece21 => exact k21 m c t 0 (by omega) _ _ _ x _ (by omega) (by omega) (by omega) (by omega)
  case piece22 => exact k22 m c t 0 (by omega) _ _ _ x _ (by omega) (by omega) (by omega) (by omega)
  case piece23 => exact k23 m c t 0 (by omega) _ _ _ x _ (by omega) (by omega) (by omega) (by omega)
  case piece24 => exact k24 m c t 0 (by omega) _ _ _ x _ (by omega) (by omega) (by omega) (by omega)
  case piece25 => exact k25 m c t 0 (by omega) _ _ _ x _ (by omega) (by omega) (by omega) (by omega)
  case piece26 => exact k26 m c t 0 (by omega) _ _ _ x _ (by omega) (by omega) (by omega) (by omega)
  case piece27 => exact k27 m c t 0 (by omega) _ _ _ x _ (by omega) (by omega) (by omega) (by omega)
  case piece28 => exact k28 m c t 0 (by omega) _ _ _ x _ (by omega) (by omega) (by omega) (by omega)
  case piece29 => exact k29 m c t 0 (by omega) _ _ _ x _ (by omega) (by omega) (by omega) (by omega)
  case piece30 => exact k30 m c t 0 (by omega) _ _ _ x _ (by omega) (by omega) (by omega) (by omega)
  case piece31 => exact k31 m c t 0 (by omega) _ _ _ x _ (by omega) (by omega) (by omega) (by omega)

end Cert.Kernel3Ideal.Inp

end
-- ==== Proof.Inp.Value.lean ====
module

public import proofs.«01_k».proof.Proof.Inp.Spec

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem v0 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 7) (h2 : (j 2 : ℕ) = (i 2 : ℕ)) (h3 : (j 3 : ℕ) = t.val % 8 * 512 + r + (i 3 : ℕ)) :
    k0_pay241 (F := Ideal) (vrow q t r hr) i = Cert.Reference3Ideal.Ref.O5 q j := by
  pointwise [k0_pay241, vrow, Cert.Reference3Ideal.Ref.O5]
  blk_point [h0, h1, h2, h3]

theorem v1 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 6) (h2 : (j 2 : ℕ) = (i 2 : ℕ)) (h3 : (j 3 : ℕ) = t.val % 8 * 512 + r + (i 3 : ℕ)) :
    k0_pay240 (F := Ideal) (vrow q t r hr) i = Cert.Reference3Ideal.Ref.O5 q j := by
  pointwise [k0_pay240, vrow, Cert.Reference3Ideal.Ref.O5]
  blk_point [h0, h1, h2, h3]

theorem v2 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 5) (h2 : (j 2 : ℕ) = (i 2 : ℕ)) (h3 : (j 3 : ℕ) = t.val % 8 * 512 + r + (i 3 : ℕ)) :
    k0_pay239 (F := Ideal) (k0_pay238 (F := Ideal) (vrow q t r hr)) i = Cert.Reference3Ideal.Ref.O5 q j := by
  pointwise [k0_pay238, k0_pay239, vrow, Cert.Reference3Ideal.Ref.O5]
  blk_point [h0, h1, h2, h3]

theorem v3 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 4) (h2 : (j 2 : ℕ) = (i 2 : ℕ)) (h3 : (j 3 : ℕ) = t.val % 8 * 512 + r + (i 3 : ℕ)) :
    k0_pay237 (F := Ideal) (vrow q t r hr) i = Cert.Reference3Ideal.Ref.O5 q j := by
  pointwise [k0_pay237, vrow, Cert.Reference3Ideal.Ref.O5]
  blk_point [h0, h1, h2, h3]

theorem v4 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 3) (h2 : (j 2 : ℕ) = (i 2 : ℕ)) (h3 : (j 3 : ℕ) = t.val % 8 * 512 + r + (i 3 : ℕ)) :
    k0_pay236 (F := Ideal) (vrow q t r hr) i = Cert.Reference3Ideal.Ref.O5 q j := by
  pointwise [k0_pay236, vrow, Cert.Reference3Ideal.Ref.O5]
  blk_point [h0, h1, h2, h3]

theorem v5 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 2) (h2 : (j 2 : ℕ) = (i 2 : ℕ)) (h3 : (j 3 : ℕ) = t.val % 8 * 512 + r + (i 3 : ℕ)) :
    k0_pay235 (F := Ideal) (vrow q t r hr) i = Cert.Reference3Ideal.Ref.O5 q j := by
  pointwise [k0_pay235, vrow, Cert.Reference3Ideal.Ref.O5]
  blk_point [h0, h1, h2, h3]

theorem v6 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 1) (h2 : (j 2 : ℕ) = (i 2 : ℕ)) (h3 : (j 3 : ℕ) = t.val % 8 * 512 + r + (i 3 : ℕ)) :
    k0_pay234 (F := Ideal) (vrow q t r hr) i = Cert.Reference3Ideal.Ref.O5 q j := by
  pointwise [k0_pay234, vrow, Cert.Reference3Ideal.Ref.O5]
  blk_point [h0, h1, h2, h3]

theorem v7 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 0) (h2 : (j 2 : ℕ) = (i 2 : ℕ)) (h3 : (j 3 : ℕ) = t.val % 8 * 512 + r + (i 3 : ℕ)) :
    k0_pay233 (F := Ideal) (vrow q t r hr) i = Cert.Reference3Ideal.Ref.O5 q j := by
  pointwise [k0_pay233, vrow, Cert.Reference3Ideal.Ref.O5]
  blk_point [h0, h1, h2, h3]

theorem v8 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 7) (h2 : (j 2 : ℕ) = (i 2 : ℕ)) (h3 : (j 3 : ℕ) = t.val % 8 * 512 + r + (i 3 : ℕ)) :
    k0_pay116 (F := Ideal) (vrow q t r hr) i = Cert.Reference3Ideal.Ref.O5 q j := by
  pointwise [k0_pay116, vrow, Cert.Reference3Ideal.Ref.O5]
  blk_point [h0, h1, h2, h3]

theorem v9 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 6) (h2 : (j 2 : ℕ) = (i 2 : ℕ)) (h3 : (j 3 : ℕ) = t.val % 8 * 512 + r + (i 3 : ℕ)) :
    k0_pay115 (F := Ideal) (vrow q t r hr) i = Cert.Reference3Ideal.Ref.O5 q j := by
  pointwise [k0_pay115, vrow, Cert.Reference3Ideal.Ref.O5]
  blk_point [h0, h1, h2, h3]

theorem v10 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 5) (h2 : (j 2 : ℕ) = (i 2 : ℕ)) (h3 : (j 3 : ℕ) = t.val % 8 * 512 + r + (i 3 : ℕ)) :
    k0_pay114 (F := Ideal) (k0_pay113 (F := Ideal) (vrow q t r hr)) i = Cert.Reference3Ideal.Ref.O5 q j := by
  pointwise [k0_pay113, k0_pay114, vrow, Cert.Reference3Ideal.Ref.O5]
  blk_point [h0, h1, h2, h3]

theorem v11 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 4) (h2 : (j 2 : ℕ) = (i 2 : ℕ)) (h3 : (j 3 : ℕ) = t.val % 8 * 512 + r + (i 3 : ℕ)) :
    k0_pay112 (F := Ideal) (vrow q t r hr) i = Cert.Reference3Ideal.Ref.O5 q j := by
  pointwise [k0_pay112, vrow, Cert.Reference3Ideal.Ref.O5]
  blk_point [h0, h1, h2, h3]

theorem v12 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 3) (h2 : (j 2 : ℕ) = (i 2 : ℕ)) (h3 : (j 3 : ℕ) = t.val % 8 * 512 + r + (i 3 : ℕ)) :
    k0_pay111 (F := Ideal) (vrow q t r hr) i = Cert.Reference3Ideal.Ref.O5 q j := by
  pointwise [k0_pay111, vrow, Cert.Reference3Ideal.Ref.O5]
  blk_point [h0, h1, h2, h3]

theorem v13 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 2) (h2 : (j 2 : ℕ) = (i 2 : ℕ)) (h3 : (j 3 : ℕ) = t.val % 8 * 512 + r + (i 3 : ℕ)) :
    k0_pay110 (F := Ideal) (vrow q t r hr) i = Cert.Reference3Ideal.Ref.O5 q j := by
  pointwise [k0_pay110, vrow, Cert.Reference3Ideal.Ref.O5]
  blk_point [h0, h1, h2, h3]

theorem v14 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 1) (h2 : (j 2 : ℕ) = (i 2 : ℕ)) (h3 : (j 3 : ℕ) = t.val % 8 * 512 + r + (i 3 : ℕ)) :
    k0_pay109 (F := Ideal) (vrow q t r hr) i = Cert.Reference3Ideal.Ref.O5 q j := by
  pointwise [k0_pay109, vrow, Cert.Reference3Ideal.Ref.O5]
  blk_point [h0, h1, h2, h3]

theorem v15 (t : Fin cfg0.N) (r : ℕ) (hr : r ≤ 256) (q : FVec Ideal Cert.Reference3Ideal.S4x4096x8x256 .f32) (i : S1x1x128x256.Idx) (j : S4x8x128x4096.Idx)
    (h0 : (j 0 : ℕ) = t.val / 8) (h1 : (j 1 : ℕ) = 0) (h2 : (j 2 : ℕ) = (i 2 : ℕ)) (h3 : (j 3 : ℕ) = t.val % 8 * 512 + r + (i 3 : ℕ)) :
    k0_pay108 (F := Ideal) (vrow q t r hr) i = Cert.Reference3Ideal.Ref.O5 q j := by
  pointwise [k0_pay108, vrow, Cert.Reference3Ideal.Ref.O5]
  blk_point [h0, h1, h2, h3]

end Cert.Kernel3Ideal.Inp

end
-- ==== Proof.Inp.PtV.lean ====
module

public import proofs.«01_k».proof.Proof.Inp.Value
public import proofs.«01_k».proof.Proof.Inp.Abbr

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem emb19 (t : Fin cfg0.N) (y : S1x8x128x512.Idx) : ((((cfg0.win 19).blk t).view.emb y 0 : Fin 4) : ℕ) = t.val / 8 ∧ ((((cfg0.win 19).blk t).view.emb y 1 : Fin 8) : ℕ) = (y 1 : ℕ)
    ∧ ((((cfg0.win 19).blk t).view.emb y 2 : Fin 128) : ℕ) = (y 2 : ℕ) ∧ ((((cfg0.win 19).blk t).view.emb y 3 : Fin 4096) : ℕ) = t.val % 8 * 512 + (y 3 : ℕ) := by
  refine ⟨?_, ?_, ?_, ?_⟩ <;> blk_simp [idx t] <;> omega

theorem core19 (c : Dev nD) (t : Fin cfg0.N) (y : S1x8x128x512.Idx)  (j : S4x8x128x4096.Idx)
    (e0 : (j 0 : ℕ) = t.val / 8) (e1 : (j 1 : ℕ) = (y 1 : ℕ)) (e2 : (j 2 : ℕ) = (y 2 : ℕ)) (e3 : (j 3 : ℕ) = t.val % 8 * 512 + (y 3 : ℕ)) :
    (outsAt0 m c t).2.2.2.2.2.1 y = Cert.Reference3Ideal.Ref.O5 (KK m c) j := by
  unfold outsAt0
  frame_out
  simp only [h0_eq, h256_eq]
  simp only [h0_eq, h256_eq, p19_eq, p144_eq, p20_eq, p24_eq, p151_eq, p25_eq, p26_eq, p152_eq, p153_eq, p22_eq, p149_eq, p28_eq, p29_eq, p155_eq, p156_eq]
  canon_tiles x h
  case piece0 => exact v0  t 256 (by omega) _ x _ (by omega) (by omega) (by omega) (by omega)
  case piece1 => exact v1  t 256 (by omega) _ x _ (by omega) (by omega) (by omega) (by omega)
  case piece2 => exact v2  t 256 (by omega) _ x _ (by omega) (by omega) (by omega) (by omega)
  case piece3 => exact v3  t 256 (by omega) _ x _ (by omega) (by omega) (by omega) (by omega)
  case piece4 => exact v4  t 256 (by omega) _ x _ (by omega) (by omega) (by omega) (by omega)
  case piece5 => exact v5  t 256 (by omega) _ x _ (by omega) (by omega) (by omega) (by omega)
  case piece6 => exact v6  t 256 (by omega) _ x _ (by omega) (by omega) (by omega) (by omega)
  case piece7 => exact v7  t 256 (by omega) _ x _ (by omega) (by omega) (by omega) (by omega)
  case piece8 => exact v8  t 0 (by omega) _ x _ (by omega) (by omega) (by omega) (by omega)
  case piece9 => exact v9  t 0 (by omega) _ x _ (by omega) (by omega) (by omega) (by omega)
  case piece10 => exact v10  t 0 (by omega) _ x _ (by omega) (by omega) (by omega) (by omega)
  case piece11 => exact v11  t 0 (by omega) _ x _ (by omega) (by omega) (by omega) (by omega)
  case piece12 => exact v12  t 0 (by omega) _ x _ (by omega) (by omega) (by omega) (by omega)
  case piece13 => exact v13  t 0 (by omega) _ x _ (by omega) (by omega) (by omega) (by omega)
  case piece14 => exact v14  t 0 (by omega) _ x _ (by omega) (by omega) (by omega) (by omega)
  case piece15 => exact v15  t 0 (by omega) _ x _ (by omega) (by omega) (by omega) (by omega)

theorem o19 (c : Dev nD) (t : Fin cfg0.N) (y : S1x8x128x512.Idx) :
    (outsAt0 m c t).2.2.2.2.2.1 y = Cert.Reference3Ideal.Ref.O5 (KK m c) (((cfg0.win 19).blk t).view.emb y) :=
  core19 m c t y _ (emb19 t y).1 (emb19 t y).2.1 (emb19 t y).2.2.1 (emb19 t y).2.2.2

end Cert.Kernel3Ideal.Inp

end
-- ==== Proof.Inp.Final.lean ====
module

public import proofs.«01_k».proof.Proof.Inp.PtG
public import proofs.«01_k».proof.Proof.Inp.PtQ
public import proofs.«01_k».proof.Proof.Inp.PtK
public import proofs.«01_k».proof.Proof.Inp.PtV

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem final14 (c : Dev nD) : (dats m 0 c).arrAt 14 (cfgs 0).N = Cert.Reference3Ideal.Ref.O0 (PP m c) := by
  refine (dats m 0 c).arrAt_eq_of_covers 14 _ (by decide +kernel) fun t _ y => ?_
  blk_simp
  rw [after0_14]
  exact o14 m c t y

theorem final15 (c : Dev nD) (hP : ∀ j, ∃ v : ℝ, (PP m c j : EReal) = v) : (dats m 0 c).arrAt 15 (cfgs 0).N = Cert.Reference3Ideal.Ref.O1 (PP m c) := by
  refine (dats m 0 c).arrAt_eq_of_covers 15 _ (by decide +kernel) fun t _ y => ?_
  blk_simp
  rw [after0_15]
  exact o15 m c t hP y

theorem final16 (c : Dev nD) (hP : ∀ j, ∃ v : ℝ, (PP m c j : EReal) = v) : (dats m 0 c).arrAt 16 (cfgs 0).N = Cert.Reference3Ideal.Ref.O2 (PP m c) := by
  refine (dats m 0 c).arrAt_eq_of_covers 16 _ (by decide +kernel) fun t _ y => ?_
  blk_simp
  rw [after0_16]
  exact o16 m c t hP y

theorem final19 (c : Dev nD) : (dats m 0 c).arrAt 19 (cfgs 0).N = Cert.Reference3Ideal.Ref.O5 (KK m c) := by
  refine (dats m 0 c).arrAt_eq_of_covers 19 _ (by decide +kernel) fun t _ y => ?_
  blk_simp
  rw [after0_19]
  exact o19 m c t y

theorem at17 (c : Dev nD) (j : S4x8x192x4096.Idx) : (dats m 0 c).arrAt 17 (cfgs 0).N (ix4 (⟨j 0, (j 0).isLt⟩ : Fin 4) (⟨j 1, (j 1).isLt⟩ : Fin 8) (⟨j 2, by have h : (j 2 : ℕ) < 192 := (j 2).isLt; omega⟩ : Fin 256) (⟨j 3, (j 3).isLt⟩ : Fin 4096))
    = Cert.Reference3Ideal.Ref.O3 (Cert.Reference3Ideal.Ref.QN (QQ m c) (m ((c : Thread nD τ).loc main_arg8))) (Cert.Reference3Ideal.Ref.QR (QQ m c) (m ((c : Thread nD τ).loc main_arg9))) (Cert.Reference3Ideal.Ref.ANG (m ((c : Thread nD τ).loc main_arg2))) j := by
  have b0 : (j 0 : ℕ) < 4 := (j 0).isLt
  have br : (j 3 : ℕ) < 4096 := (j 3).isLt
  obtain ⟨t, ht⟩ : ∃ t : Fin cfg0.N, t.val = (j 0 : ℕ) * 8 + (j 3 : ℕ) / 512 := ⟨⟨(j 0 : ℕ) * 8 + (j 3 : ℕ) / 512, by show _ < 32; omega⟩, rfl⟩
  obtain ⟨y, hy⟩ : ∃ y : S1x8x256x512.Idx, y = ix4 (0 : Fin 1) (⟨j 1, (j 1).isLt⟩ : Fin 8) (⟨j 2, by have h : (j 2 : ℕ) < 192 := (j 2).isLt; omega⟩ : Fin 256) (⟨(j 3 : ℕ) % 512, Nat.mod_lt _ (by decide)⟩ : Fin 512) := ⟨_, rfl⟩
  have e := emb17 t y
  have e1 : (y 1 : ℕ) = (j 1 : ℕ) := by rw [hy]; rfl
  have e2 : (y 2 : ℕ) = (j 2 : ℕ) := by rw [hy]; rfl
  have e3 : (y 3 : ℕ) = (j 3 : ℕ) % 512 := by rw [hy]; rfl
  have he : ((cfg0.win 17).blk t).view.emb y = (ix4 (⟨j 0, (j 0).isLt⟩ : Fin 4) (⟨j 1, (j 1).isLt⟩ : Fin 8) (⟨j 2, by have h : (j 2 : ℕ) < 192 := (j 2).isLt; omega⟩ : Fin 256) (⟨j 3, (j 3).isLt⟩ : Fin 4096) : S4x8x256x4096.Idx) := by
    funext a
    match a with
    | 0 => exact Fin.ext (e.1.trans (by show t.val / 8 = (j 0 : ℕ); omega))
    | 1 => exact Fin.ext (e.2.1.trans (by show (y 1 : ℕ) = (j 1 : ℕ); omega))
    | 2 => exact Fin.ext (e.2.2.1.trans (by show (y 2 : ℕ) = (j 2 : ℕ); omega))
    | 3 => exact Fin.ext (e.2.2.2.trans (by show t.val % 8 * 512 + (y 3 : ℕ) = (j 3 : ℕ); omega))
  have hd := (cfg0.win 17).hdisj_of_index_inj (by decide +kernel)
  have hf : (cfg0.win 17).flush t = true := (by decide +kernel : ∀ t : Fin cfg0.N, (cfg0.win 17).flush t = true) t
  have key := (dats m 0 c).arrAt_emb_eq_flushed 17 hd t hf y
  rw [he] at key
  refine key.trans ?_
  blk_simp
  rw [after0_17]
  exact core17 m c t y j (by omega) (by omega) (by omega) (by omega)

theorem at18 (c : Dev nD) (j : S4x8x4096x192.Idx) : (dats m 0 c).arrAt 18 (cfgs 0).N (ix4 (⟨j 0, (j 0).isLt⟩ : Fin 4) (⟨j 1, (j 1).isLt⟩ : Fin 8) (⟨j 2, (j 2).isLt⟩ : Fin 4096) (⟨j 3, by have h : (j 3 : ℕ) < 192 := (j 3).isLt; omega⟩ : Fin 256))
    = Cert.Reference3Ideal.Ref.O4 (Cert.Reference3Ideal.Ref.KN (KK m c) (m ((c : Thread nD τ).loc main_arg10))) (Cert.Reference3Ideal.Ref.KR (PP m c) (m ((c : Thread nD τ).loc main_arg11))) (Cert.Reference3Ideal.Ref.ANG (m ((c : Thread nD τ).loc main_arg2))) j := by
  have b0 : (j 0 : ℕ) < 4 := (j 0).isLt
  have br : (j 2 : ℕ) < 4096 := (j 2).isLt
  obtain ⟨t, ht⟩ : ∃ t : Fin cfg0.N, t.val = (j 0 : ℕ) * 8 + (j 2 : ℕ) / 512 := ⟨⟨(j 0 : ℕ) * 8 + (j 2 : ℕ) / 512, by show _ < 32; omega⟩, rfl⟩
  obtain ⟨y, hy⟩ : ∃ y : S1x8x512x256.Idx, y = ix4 (0 : Fin 1) (⟨j 1, (j 1).isLt⟩ : Fin 8) (⟨(j 2 : ℕ) % 512, Nat.mod_lt _ (by decide)⟩ : Fin 512) (⟨j 3, by have h : (j 3 : ℕ) < 192 := (j 3).isLt; omega⟩ : Fin 256) := ⟨_, rfl⟩
  have e := emb18 t y
  have e1 : (y 1 : ℕ) = (j 1 : ℕ) := by rw [hy]; rfl
  have e2 : (y 2 : ℕ) = (j 2 : ℕ) % 512 := by rw [hy]; rfl
  have e3 : (y 3 : ℕ) = (j 3 : ℕ) := by rw [hy]; rfl
  have he : ((cfg0.win 18).blk t).view.emb y = (ix4 (⟨j 0, (j 0).isLt⟩ : Fin 4) (⟨j 1, (j 1).isLt⟩ : Fin 8) (⟨j 2, (j 2).isLt⟩ : Fin 4096) (⟨j 3, by have h : (j 3 : ℕ) < 192 := (j 3).isLt; omega⟩ : Fin 256) : S4x8x4096x256.Idx) := by
    funext a
    match a with
    | 0 => exact Fin.ext (e.1.trans (by show t.val / 8 = (j 0 : ℕ); omega))
    | 1 => exact Fin.ext (e.2.1.trans (by show (y 1 : ℕ) = (j 1 : ℕ); omega))
    | 2 => exact Fin.ext (e.2.2.1.trans (by show t.val % 8 * 512 + (y 2 : ℕ) = (j 2 : ℕ); omega))
    | 3 => exact Fin.ext (e.2.2.2.trans (by show (y 3 : ℕ) = (j 3 : ℕ); omega))
  have hd := (cfg0.win 18).hdisj_of_index_inj (by decide +kernel)
  have hf : (cfg0.win 18).flush t = true := (by decide +kernel : ∀ t : Fin cfg0.N, (cfg0.win 18).flush t = true) t
  have key := (dats m 0 c).arrAt_emb_eq_flushed 18 hd t hf y
  rw [he] at key
  refine key.trans ?_
  blk_simp
  rw [after0_18]
  exact core18 m c t y j (by omega) (by omega) (by omega) (by omega)

end Cert.Kernel3Ideal.Inp

end
-- ==== Proof.Inp.Real.lean ====
module

public import proofs.«01_k».proof.Proof.Inp.Spec

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- A value whose magnitude is below infinity is a real number. -/
theorem real_of (x : EReal) (h : BitVec.ofBool (decide ((FloatOps.absf (F := Ideal) (φ := .f32) x : EReal) < Ideal.ofBits .f32 0x7F800000#32)) = 1#1) : ∃ r : ℝ, x = r := by
  have hi : Ideal.ofBits .f32 0x7F800000#32 = (⊤ : EReal) := by simp [Ideal.ofBits, Ideal.ieee]
  rw [hi] at h
  induction x using EReal.rec with
  | coe r => exact ⟨r, rfl⟩
  | top =>
    have : ¬ ((FloatOps.absf (F := Ideal) (φ := .f32) (⊤ : EReal) : EReal) < ⊤) := by
      show ¬ (max (⊤ : EReal) (-⊤) < ⊤)
      simp
    rw [decide_eq_false this] at h
    exact absurd h (by decide)
  | bot =>
    have : ¬ ((FloatOps.absf (F := Ideal) (φ := .f32) (⊥ : EReal) : EReal) < ⊤) := by
      show ¬ (max (⊥ : EReal) (-⊥) < ⊤)
      simp
    rw [decide_eq_false this] at h
    exact absurd h (by decide)

theorem eps_eq : ∃ e : ℝ, 0 < e ∧ Ideal.ofBits .f32 0x358637BD#32 = (e : EReal) := by
  have h : ∃ a b : ℝ, 0 < a ∧ 0 < b ∧ Ideal.ofBits .f32 0x358637BD#32 = (a : EReal) * (b : EReal) := by
    refine ⟨_, _, ?_, ?_, by simp [Ideal.ofBits, Ideal.ieee]; rfl⟩ <;> positivity
  obtain ⟨a, b, ha, hb, h⟩ := h
  exact ⟨a * b, by positivity, by rw [h, EReal.coe_mul]⟩

theorem len_eq : Ideal.ofBits .f32 0x45000000#32 = ((2048 : ℝ) : EReal) := by
  have h : ∃ a b : ℝ, a * b = 2048 ∧ Ideal.ofBits .f32 0x45000000#32 = (a : EReal) * (b : EReal) := by
    refine ⟨_, _, ?_, by simp [Ideal.ofBits, Ideal.ieee]; rfl⟩
    norm_num
  obtain ⟨a, b, ha, h⟩ := h
  rw [h, ← EReal.coe_mul, ha]

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_sum {n : ℕ} (f : Fin n → EReal) (hf : ∀ k, ∃ r : ℝ, f k = r) : ∃ r : ℝ, ∑ k, f k = r := by
  choose g hg using hf
  refine ⟨∑ k, g k, ?_⟩
  rw [Finset.sum_congr rfl fun k _ => hg k]
  exact (map_sum (⟨⟨Real.toEReal, EReal.coe_zero⟩, EReal.coe_add⟩ : ℝ →+ EReal) g Finset.univ).symm

theorem sq_nonneg (x : EReal) : 0 ≤ x * x := by
  induction x using EReal.rec with
  | coe r => rw [← EReal.coe_mul]; exact EReal.coe_nonneg.2 (mul_self_nonneg r)
  | top => simp
  | bot => simp

theorem sq_top (x : EReal) (h : ¬ ∃ r : ℝ, x = r) : x * x = ⊤ := by
  induction x using EReal.rec with
  | coe r => exact absurd ⟨r, rfl⟩ h
  | top => simp
  | bot => simp

/-- The root mean square norm is a real number at every element, also where the row holds an infinity: then it is zero. -/
theorem norm_real {n : ℕ} (f : Fin n → EReal) (k : Fin n) :
    ∃ r : ℝ, f k * Ideal.rsqrt (Ideal.div (∑ x, f x * f x) (Ideal.ofBits .f32 0x45000000#32) + Ideal.ofBits .f32 0x358637BD#32) = r := by
  obtain ⟨e, he, hE⟩ := eps_eq
  rw [len_eq, hE, Ideal.div_coe (by norm_num)]
  have hs : 0 ≤ ∑ x, f x * f x := Finset.sum_nonneg fun x _ => sq_nonneg (f x)
  have hk : f k * f k ≤ ∑ x, f x * f x := Finset.single_le_sum (f := fun x => f x * f x) (fun x _ => sq_nonneg (f x)) (Finset.mem_univ k)
  generalize (∑ x, f x * f x) = s at hs hk
  induction s using EReal.rec with
  | bot => exact absurd hs (by simp)
  | top =>
    refine ⟨0, ?_⟩
    rw [EReal.top_mul_coe_of_pos (by norm_num), EReal.top_add_coe, Ideal.rsqrt_top, mul_zero, EReal.coe_zero]
  | coe s =>
    have hs' : 0 ≤ s := EReal.coe_nonneg.1 hs
    have hp : 0 < s * (1 / 2048) + e := by positivity
    refine real_mul (by_contra fun hn => ?_) ⟨(Real.sqrt (s * (1 / 2048) + e))⁻¹, ?_⟩
    · rw [sq_top _ hn] at hk
      exact absurd (top_le_iff.1 hk) (EReal.coe_ne_top s)
    · rw [← EReal.coe_mul, ← EReal.coe_add, Ideal.rsqrt_coe, if_neg (not_lt.2 hp.le), if_neg hp.ne']

section

variable (A0 : FVec Ideal Cert.Reference3Ideal.S4x4096x2048 .f32) (A1 : FVec Ideal Cert.Reference3Ideal.S4x6144 .f32) (A3 : FVec Ideal Cert.Reference3Ideal.S1x2048x4160 .f32)

theorem H_real (h1 : ∀ j, ∃ r : ℝ, (A1 j : EReal) = r) (j : Cert.Reference3Ideal.S4x4096x2048.Idx) : ∃ r : ℝ, (Cert.Reference3Ideal.Ref.H A0 A1 j : EReal) = r := by
  idx_vars j
  pointwise [Cert.Reference3Ideal.Ref.H]
  refine real_add (real_mul ?_ (real_add ⟨1, rfl⟩ (h1 _))) (h1 _)
  exact norm_real (fun k => A0 (ix3 j0 j1 k)) j2

theorem P_real (h1 : ∀ j, ∃ r : ℝ, (A1 j : EReal) = r) (h3 : ∀ j, ∃ r : ℝ, (A3 j : EReal) = r) (j : Cert.Reference3Ideal.S4x4096x4160.Idx) :
    ∃ r : ℝ, (Cert.Reference3Ideal.Ref.P (Cert.Reference3Ideal.Ref.H A0 A1) A3 j : EReal) = r := by
  pointwise [Cert.Reference3Ideal.Ref.P]
  exact real_sum _ fun k => real_mul (H_real A0 A1 h1 _) (h3 _)

end

end Cert.Kernel3Ideal.Inp

end
-- ==== Proof.Inp.Tail.lean ====
module

public import proofs.«01_k».proof.Proof.Inp.Final
public import proofs.«01_k».proof.Proof.Inp.Real
public import proofs.«01_k».proof.Proof.Gen.Pre_finite3
public import proofs.«01_k».proof.Defs

@[expose] public section

set_option maxRecDepth 16384

noncomputable section

namespace Cert.Kernel3Ideal.Inp

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem arr_inj : Function.Injective (Pipeline.arrRef spec0) := by decide

theorem slice17 (c : Dev nD) (X : FVec Ideal S4x8x256x4096 .bf16) (hX : X = (dats m 0 c).arrAt 17 (cfgs 0).N) :
    extractStridedSlice S4x8x192x4096 ![0, 0, 0, 0] X slices_S4x8x256x4096_S4x8x192x4096_0_0_0_0 = Cert.Reference3Ideal.Ref.O3 (Cert.Reference3Ideal.Ref.QN (QQ m c) (m ((c : Thread nD τ).loc main_arg8))) (Cert.Reference3Ideal.Ref.QR (QQ m c) (m ((c : Thread nD τ).loc main_arg9))) (Cert.Reference3Ideal.Ref.ANG (m ((c : Thread nD τ).loc main_arg2))) := by
  funext j
  refine Eq.trans ?_ (at17 m c j)
  rw [← hX]
  pointwise

theorem tail43 (c : Dev nD) : Pipeline.afterTail₀ cfgs (dats m) 0 (V0 m) [hostOps1] c main_v43 = Cert.Reference3Ideal.Ref.O3 (Cert.Reference3Ideal.Ref.QN (QQ m c) (m ((c : Thread nD τ).loc main_arg8))) (Cert.Reference3Ideal.Ref.QR (QQ m c) (m ((c : Thread nD τ).loc main_arg9))) (Cert.Reference3Ideal.Ref.ANG (m ((c : Thread nD τ).loc main_arg2))) := by
  unfold Pipeline.afterTail₀
  simp only [hostOps1, List.flatten_cons, List.flatten_nil, List.append_nil, List.cons_append, List.nil_append]
  after_results
  exact slice17 m c _ (Pipeline.withArrays_arr spec0 arr_inj c (V0 m c) (fun w => (dats m 0 c).arrAt w (cfgs 0).N) 17)

theorem slice18 (c : Dev nD) (X : FVec Ideal S4x8x4096x256 .bf16) (hX : X = (dats m 0 c).arrAt 18 (cfgs 0).N) :
    extractStridedSlice S4x8x4096x192 ![0, 0, 0, 0] X slices_S4x8x4096x256_S4x8x4096x192_0_0_0_0 = Cert.Reference3Ideal.Ref.O4 (Cert.Reference3Ideal.Ref.KN (KK m c) (m ((c : Thread nD τ).loc main_arg10))) (Cert.Reference3Ideal.Ref.KR (PP m c) (m ((c : Thread nD τ).loc main_arg11))) (Cert.Reference3Ideal.Ref.ANG (m ((c : Thread nD τ).loc main_arg2))) := by
  funext j
  refine Eq.trans ?_ (at18 m c j)
  rw [← hX]
  pointwise

theorem tail44 (c : Dev nD) : Pipeline.afterTail₀ cfgs (dats m) 0 (V0 m) [hostOps1] c main_v44 = Cert.Reference3Ideal.Ref.O4 (Cert.Reference3Ideal.Ref.KN (KK m c) (m ((c : Thread nD τ).loc main_arg10))) (Cert.Reference3Ideal.Ref.KR (PP m c) (m ((c : Thread nD τ).loc main_arg11))) (Cert.Reference3Ideal.Ref.ANG (m ((c : Thread nD τ).loc main_arg2))) := by
  unfold Pipeline.afterTail₀
  simp only [hostOps1, List.flatten_cons, List.flatten_nil, List.append_nil, List.cons_append, List.nil_append]
  after_results
  exact slice18 m c _ (Pipeline.withArrays_arr spec0 arr_inj c (V0 m c) (fun w => (dats m 0 c).arrAt w (cfgs 0).N) 18)

/-- What the run leaves at the results and the arguments. -/
theorem post (r) (h : Pipeline.FramePost cfgs (dats m) 0 (Pipeline.afterTail₀ cfgs (dats m) 0 (V0 m) [hostOps1]) r) (c : Dev nD) (hP : ∀ j, ∃ v : ℝ, (PP m c j : EReal) = v) :
    r.2.mem ((c.tc : Thread nD τ).loc main_v42_0) = Cert.Reference3Ideal.Ref.O0 (PP m c)
      ∧ r.2.mem ((c.tc : Thread nD τ).loc main_v42_1) = Cert.Reference3Ideal.Ref.O1 (PP m c)
      ∧ r.2.mem ((c.tc : Thread nD τ).loc main_v42_2) = Cert.Reference3Ideal.Ref.O2 (PP m c)
      ∧ r.2.mem ((c.tc : Thread nD τ).loc main_v43) = Cert.Reference3Ideal.Ref.O3 (Cert.Reference3Ideal.Ref.QN (QQ m c) (m ((c : Thread nD τ).loc main_arg8))) (Cert.Reference3Ideal.Ref.QR (QQ m c) (m ((c : Thread nD τ).loc main_arg9))) (Cert.Reference3Ideal.Ref.ANG (m ((c : Thread nD τ).loc main_arg2)))
      ∧ r.2.mem ((c.tc : Thread nD τ).loc main_v44) = Cert.Reference3Ideal.Ref.O4 (Cert.Reference3Ideal.Ref.KN (KK m c) (m ((c : Thread nD τ).loc main_arg10))) (Cert.Reference3Ideal.Ref.KR (PP m c) (m ((c : Thread nD τ).loc main_arg11))) (Cert.Reference3Ideal.Ref.ANG (m ((c : Thread nD τ).loc main_arg2)))
      ∧ r.2.mem ((c.tc : Thread nD τ).loc main_v42_5) = Cert.Reference3Ideal.Ref.O5 (KK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 14).trans (final14 m c), ((h c).1 15).trans (final15 m c hP), ((h c).1 16).trans (final16 m c hP),
    ((h c).2 main_v43 (Pipeline.mem_restRefs_of main_v43 (by decide) (by decide))).trans (tail43 m c),
    ((h c).2 main_v44 (Pipeline.mem_restRefs_of main_v44 (by decide) (by decide))).trans (tail44 m c),
    ((h c).1 19).trans (final19 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c)⟩

theorem P_real_of_pre (hpre : Cert.Pre_Kernel3Ideal_finite3 m) (c : Dev nD) : ∀ j, ∃ v : ℝ, (PP m c j : EReal) = v := by
  refine P_real _ _ _ (fun j => ?_) (fun j => ?_)
  · have h' := congrFun (hpre c).1 j
    unfold Cert.Pre_finite3.fn at h'
    pointwise at h'
    exact real_of _ h'
  · have h' := congrFun (hpre c).2 j
    unfold Cert.Pre_finite3.fn at h'
    pointwise at h'
    exact real_of _ h'

end Cert.Kernel3Ideal.Inp

end
-- ==== Proof.Ada.Ref.lean ====
module

public import proofs.«01_k».proof.Proof.Gen.Reference4Ideal
public import Idealize.ShloMosaic.Lib.Pointwise

@[expose] public section

set_option maxRecDepth 16384

noncomputable section

namespace Cert.Reference4Ideal.Ref

open Cert.Reference4Ideal Cert.Reference4Ideal.Gen Idealize.ShloMosaic Idealize.ShloMosaic.TcCoe Idealize.SL.Sem

/-- The modulation. -/
def M (A0 : FVec Ideal S4x2048 .f32) (A1 : FVec Ideal S1x2048x6144 .f32) (A2 : FVec Ideal S1x6144 .f32) : FVec Ideal S4x6144 .f32 :=
  addf (Host.dotGeneral dot_S4x2048_S2048x6144_S4x6144_1_0_0_1_n_n none (mulf A0 (Host.divf (broadcastInDim S4x2048 ![] bcast_S_S4x2048 (constant S_ .f32 0x3F800000#32)) (addf (broadcastInDim S4x2048 ![] bcast_S_S4x2048 (constant S_ .f32 0x3F800000#32)) (Host.exp (Host.negf A0))))) (shapeCast _ A1 shapeCasts_S1x2048x6144_S2048x6144)) (broadcastInDim S4x6144 ![0, 1] bcast_S1x6144_S4x6144_0_1 (broadcastInDim S1x6144 ![1] bcast_S6144_S1x6144_1 (shapeCast _ A2 shapeCasts_S1x6144_S6144)))

end Cert.Reference4Ideal.Ref

end
-- ==== Proof.Ada.Value.lean ====
module

public import proofs.«01_k».proof.Proof.Ada.Ref
public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Routing.OpsOne

@[expose] public section

set_option maxRecDepth 16384

noncomputable section

namespace Cert.Kernel4Ideal.Ada

open Cert.Kernel4Ideal Cert.Kernel4Ideal.Gen Idealize.ShloMosaic Idealize.ShloMosaic.TcCoe Idealize.ShloMosaic.Tactic Idealize.SL.Sem

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val] ∧ t.val < 8 :=
  (by decide +kernel : ∀ t : Fin grid0.N, _)

/-- Where an update row lands in the padded rows. -/
theorem lands (i : IVec S1 32) (hi : ∀ j, i j = 0#32) (k : S4x2048.Idx) (r : Fin 8) (e : Fin 2048) :
    scatter_S8x2048_S1_S4x2048_01_n_0_0.resultIdx? k i = some (ix2 r e) ↔ (k 0).val = r.val ∧ (k 1).val = e.val := by
  have w0 : scatter_S8x2048_S1_S4x2048_01_n_0_0.window k 0 = (k 0).val := rfl
  have w1 : scatter_S8x2048_S1_S4x2048_01_n_0_0.window k 1 = (k 1).val := rfl
  have s1 : scatter_S8x2048_S1_S4x2048_01_n_0_0.start k i 1 = 0 := rfl
  have s0 : scatter_S8x2048_S1_S4x2048_01_n_0_0.start k i 0 = 0 := by
    unfold ScatterDims.start
    rw [dif_pos (show (0 : Fin 2) ∈ scatter_S8x2048_S1_S4x2048_01_n_0_0.scatterDimsToOperandDims from List.mem_singleton.2 rfl), hi]
    rfl
  refine (Routing.resultIdx?_ix2 _ _ _ _ _).trans ?_
  rw [s0, s1, w0, w1]
  omega

/-- The padded rows hold the conditioning rows first. -/
theorem padded (x : FVec Ideal S8x2048 .f32) (i : IVec S1 32) (hi : ∀ j, i j = 0#32) (u : FVec Ideal S4x2048 .f32) (r : Fin 8) (hr : r.val < 4) (e : Fin 2048) :
    Host.scatter scatter_S8x2048_S1_S4x2048_01_n_0_0 (fun _ b => b) x i u (ix2 r e) = u (ix2 (⟨r.val, hr⟩ : Fin 4) e) := by
  refine Routing.scatter_set_hit _ x i u _ _ (fun k hk => ?_) (ix2 (⟨r.val, hr⟩ : Fin 4) e) ((lands i hi _ r e).2 ⟨rfl, rfl⟩)
  obtain ⟨h0, h1⟩ := (lands i hi k r e).1 hk
  refine congrArg u ?_
  funext a
  match a with
  | 0 => exact Fin.ext h0
  | 1 => exact Fin.ext h1

theorem core (X : FVec Ideal S8x2048 .f32) (A0 : FVec Ideal S4x2048 .f32) (hX : ∀ (r : Fin 8) (hr : r.val < 4) (e : Fin 2048), X (ix2 r e) = A0 (ix2 (⟨r.val, hr⟩ : Fin 4) e))
    (W : FVec Ideal S2048x768 .f32) (B : FVec Ideal S1x768 .f32) (A1 : FVec Ideal S1x2048x6144 .f32) (A2 : FVec Ideal S1x6144 .f32) (n : Fin 8)
    (hW : ∀ (k : Fin 2048) (e : Fin 768), W (ix2 k e) = A1 (ix3 (0 : Fin 1) k (⟨n.val * 768 + e.val, by omega⟩ : Fin 6144)))
    (hB : ∀ (e : Fin 768), B (ix2 (0 : Fin 1) e) = A2 (ix2 (0 : Fin 1) (⟨n.val * 768 + e.val, by omega⟩ : Fin 6144)))
    (r : Fin 8) (hr : r.val < 4) (e : Fin 768) :
    k0_pay1 X W B (ix2 r e) = Cert.Reference4Ideal.Ref.M A0 A1 A2 (ix2 (⟨r.val, hr⟩ : Fin 4) (⟨n.val * 768 + e.val, by omega⟩ : Fin 6144)) := by
  pointwise [k0_pay1, Cert.Reference4Ideal.Ref.M]
  rw [hB]
  refine congrArg (· + _) (Finset.sum_congr rfl fun k _ => ?_)
  rw [hX r hr, hW]
  rfl

theorem V_v2 (c : Dev nD) : V m c main_v2 = Host.scatter scatter_S8x2048_S1_S4x2048_01_n_0_0 (fun _ b => b)
    (broadcastInDim S8x2048 ![] bcast_S_S8x2048 (constant (F := Ideal) S_ .f32 0x00000000#32)) (broadcastInDim S1 ![] bcast_S_S1 (constantI S_ 32 0#32)) (m ((c : Thread nD τ).loc main_arg0)) := by
  simp only [V, V0, hostOps0, List.flatten_cons, List.flatten_nil, List.append_nil, List.cons_append, List.nil_append]
  after_results
  try rfl

theorem V_v3 (c : Dev nD) : V m c main_v3 = shapeCast S2048x6144 (m ((c : Thread nD τ).loc main_arg1)) shapeCasts_S1x2048x6144_S2048x6144 := by
  simp only [V, V0, hostOps0, List.flatten_cons, List.flatten_nil, List.append_nil, List.cons_append, List.nil_append]
  after_results
  try rfl

theorem V_v5 (c : Dev nD) : V m c main_v5 = shapeCast S1x6144 (shapeCast S6144 (m ((c : Thread nD τ).loc main_arg2)) shapeCasts_S1x6144_S6144) shapeCasts_S6144_S1x6144 := by
  simp only [V, V0, hostOps0, List.flatten_cons, List.flatten_nil, List.append_nil, List.cons_append, List.nil_append]
  after_results
  try rfl

theorem W3 (A : FVec Ideal S1x2048x6144 .f32) (k : Fin 2048) (e : Fin 6144) : shapeCast S2048x6144 A shapeCasts_S1x2048x6144_S2048x6144 (ix2 k e) = A (ix3 (0 : Fin 1) k e) := by
  pointwise

theorem W5 (A : FVec Ideal S1x6144 .f32) (e : Fin 6144) : shapeCast S1x6144 (shapeCast S6144 A shapeCasts_S1x6144_S6144) shapeCasts_S6144_S1x6144 (ix2 (0 : Fin 1) e) = A (ix2 (0 : Fin 1) e) := by
  pointwise

theorem in0 (c : Dev nD) (t : Fin cfg0.N) (r : Fin 8) (hr : r.val < 4) (e : Fin 2048) : iblk m c 0 t (ix2 r e) = m ((c : Thread nD τ).loc main_arg0) (ix2 (⟨r.val, hr⟩ : Fin 4) e) := by
  have p := padded (broadcastInDim S8x2048 ![] bcast_S_S8x2048 (constant (F := Ideal) S_ .f32 0x00000000#32)) (broadcastInDim S1 ![] bcast_S_S1 (constantI S_ 32 0#32)) (fun _ => rfl) (m ((c : Thread nD τ).loc main_arg0)) r hr e
  rw [← V_v2] at p
  refine Eq.trans ?_ p
  refine (show iblk m c 0 t (ix2 r e) = V m c main_v2 (((cfg0.win 0).blk t).view.emb (ix2 r e)) from rfl).trans ?_
  blk_ext [idx t]

theorem in1 (c : Dev nD) (t : Fin cfg0.N) (n : Fin 8) (hn : n.val = t.val) (k : Fin 2048) (e : Fin 768) : iblk m c 1 t (ix2 k e) = m ((c : Thread nD τ).loc main_arg1) (ix3 (0 : Fin 1) k (⟨n.val * 768 + e.val, by omega⟩ : Fin 6144)) := by
  have p := W3 (m ((c : Thread nD τ).loc main_arg1)) k (⟨n.val * 768 + e.val, by omega⟩ : Fin 6144)
  rw [← V_v3] at p
  refine Eq.trans ?_ p
  refine (show iblk m c 1 t (ix2 k e) = V m c main_v3 (((cfg0.win 1).blk t).view.emb (ix2 k e)) from rfl).trans ?_
  blk_ext [idx t]

theorem in2 (c : Dev nD) (t : Fin cfg0.N) (n : Fin 8) (hn : n.val = t.val) (e : Fin 768) : iblk m c 2 t (ix2 (0 : Fin 1) e) = m ((c : Thread nD τ).loc main_arg2) (ix2 (0 : Fin 1) (⟨n.val * 768 + e.val, by omega⟩ : Fin 6144)) := by
  have p := W5 (m ((c : Thread nD τ).loc main_arg2)) (⟨n.val * 768 + e.val, by omega⟩ : Fin 6144)
  rw [← V_v5] at p
  refine Eq.trans ?_ p
  refine (show iblk m c 2 t (ix2 (0 : Fin 1) e) = V m c main_v5 (((cfg0.win 2).blk t).view.emb (ix2 (0 : Fin 1) e)) from rfl).trans ?_
  blk_ext [idx t]

theorem emb3 (t : Fin cfg0.N) (y : S8x768.Idx) : ((((cfg0.win 3).blk t).view.emb y 0 : Fin 8) : ℕ) = (y 0 : ℕ) ∧ ((((cfg0.win 3).blk t).view.emb y 1 : Fin 6144) : ℕ) = t.val * 768 + (y 1 : ℕ) := by
  refine ⟨?_, ?_⟩ <;> blk_simp [idx t] <;> omega

theorem out (c : Dev nD) (t : Fin cfg0.N) (n : Fin 8) (hn : n.val = t.val) (r : Fin 8) (hr : r.val < 4) (e : Fin 768) :
    out0_3 (iblk m c 0 t) (iblk m c 1 t) (iblk m c 2 t) (ix2 r e) = Cert.Reference4Ideal.Ref.M (m ((c : Thread nD τ).loc main_arg0)) (m ((c : Thread nD τ).loc main_arg1)) (m ((c : Thread nD τ).loc main_arg2)) (ix2 (⟨r.val, hr⟩ : Fin 4) (⟨n.val * 768 + e.val, by omega⟩ : Fin 6144)) := by
  frame_out
  exact core _ _ (in0 m c t) _ _ _ _ n (in1 m c t n hn) (in2 m c t n hn) r hr e

theorem at3 (c : Dev nD) (r : Fin 8) (hr : r.val < 4) (n : Fin 8) (e : Fin 768) : (dats m 0 c).arrAt 3 (cfgs 0).N (ix2 r (⟨n.val * 768 + e.val, by omega⟩ : Fin 6144))
    = Cert.Reference4Ideal.Ref.M (m ((c : Thread nD τ).loc main_arg0)) (m ((c : Thread nD τ).loc main_arg1)) (m ((c : Thread nD τ).loc main_arg2)) (ix2 (⟨r.val, hr⟩ : Fin 4) (⟨n.val * 768 + e.val, by omega⟩ : Fin 6144)) := by
  obtain ⟨t, ht⟩ : ∃ t : Fin cfg0.N, t.val = n.val := ⟨⟨n.val, n.isLt⟩, rfl⟩
  have h := emb3 t (ix2 r e)
  have he : ((cfg0.win 3).blk t).view.emb (ix2 r e) = (ix2 r (⟨n.val * 768 + e.val, by omega⟩ : Fin 6144) : S8x6144.Idx) := by
    funext a
    match a with
    | 0 => exact Fin.ext h.1
    | 1 => exact Fin.ext (h.2.trans (by show t.val * 768 + e.val = n.val * 768 + e.val; omega))
  have hd := (cfg0.win 3).hdisj_of_index_inj (by decide +kernel)
  have hf : (cfg0.win 3).flush t = true := (by decide +kernel : ∀ t : Fin cfg0.N, (cfg0.win 3).flush t = true) t
  have key := (dats m 0 c).arrAt_emb_eq_flushed 3 hd t hf (ix2 r e)
  rw [he] at key
  refine key.trans ?_
  blk_simp
  rw [after0_3]
  exact out m c t n ht.symm r hr e

theorem arr_inj : Function.Injective (Pipeline.arrRef spec0) := by decide

theorem slice3 (c : Dev nD) (X : FVec Ideal S8x6144 .f32) (hX : X = (dats m 0 c).arrAt 3 (cfgs 0).N) :
    extractStridedSlice S4x6144 ![0, 0] X slices_S8x6144_S4x6144_0_0 = Cert.Reference4Ideal.Ref.M (m ((c : Thread nD τ).loc main_arg0)) (m ((c : Thread nD τ).loc main_arg1)) (m ((c : Thread nD τ).loc main_arg2)) := by
  funext j
  have h0 : (j 0 : ℕ) < 4 := (j 0).isLt
  have h1 : (j 1 : ℕ) < 6144 := (j 1).isLt
  have k := at3 m c (⟨(j 0 : ℕ), by omega⟩ : Fin 8) h0 (⟨(j 1 : ℕ) / 768, by omega⟩ : Fin 8) (⟨(j 1 : ℕ) % 768, Nat.mod_lt _ (by decide)⟩ : Fin 768)
  rw [← hX] at k
  have e1 : (⟨(j 1 : ℕ) / 768 * 768 + (j 1 : ℕ) % 768, by omega⟩ : Fin 6144) = (⟨(j 1 : ℕ), h1⟩ : Fin 6144) := Fin.ext (by show (j 1 : ℕ) / 768 * 768 + (j 1 : ℕ) % 768 = (j 1 : ℕ); omega)
  dsimp only at k
  rw [e1] at k
  have ej : j = (ix2 (⟨(j 0 : ℕ), h0⟩ : Fin 4) (⟨(j 1 : ℕ), h1⟩ : Fin 6144) : S4x6144.Idx) := by
    funext a
    match a with
    | 0 => rfl
    | 1 => rfl
  refine Eq.trans ?_ (k.trans (congrArg _ ej.symm))
  pointwise

theorem tail7 (c : Dev nD) : Pipeline.afterTail₀ cfgs (dats m) 0 (V0 m) [hostOps1] c main_v7 = Cert.Reference4Ideal.Ref.M (m ((c : Thread nD τ).loc main_arg0)) (m ((c : Thread nD τ).loc main_arg1)) (m ((c : Thread nD τ).loc main_arg2)) := by
  unfold Pipeline.afterTail₀
  simp only [hostOps1, List.flatten_cons, List.flatten_nil, List.append_nil, List.cons_append, List.nil_append]
  after_results
  exact slice3 m c _ (Pipeline.withArrays_arr spec0 arr_inj c (V0 m c) (fun w => (dats m 0 c).arrAt w (cfgs 0).N) 3)

/-- What the run leaves at the result and the arguments. -/
theorem post (r) (h : Pipeline.FramePost cfgs (dats m) 0 (Pipeline.afterTail₀ cfgs (dats m) 0 (V0 m) [hostOps1]) r) (c : Dev nD) :
    r.2.mem ((c.tc : Thread nD τ).loc main_v7) = Cert.Reference4Ideal.Ref.M (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_v7 (Pipeline.mem_restRefs_of main_v7 (by decide) (by decide))).trans (tail7 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩

end Cert.Kernel4Ideal.Ada

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference2Ideal
public import proofs.«01_k».proof.Proof.Gen.Reference2Ideal.Run
public import proofs.«01_k».proof.Proof.Att.Launch
public import proofs.«01_k».proof.Proof.Att.Bridge
public import proofs.«01_k».proof.Proof.Out.Value
public import proofs.«01_k».proof.Proof.Inp.RefRun
public import proofs.«01_k».proof.Proof.Inp.Tail
public import proofs.«01_k».proof.Proof.Ada.Value
public import Idealize.ShloMosaic.Adequacy
public import Idealize.ShloMosaic.Init

@[expose] public section

noncomputable section

namespace Cert.Proof

open Idealize.ShloMosaic Idealize.SL.Sem

/-- What a run of the kernel leaves, read at its arguments and its semaphores. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => Cert.KernelIdeal.Att.kept h.1 c, h.2⟩)
    (Cert.KernelIdeal.Att.run_main (F := F) m ρ)

/-- The two prints of the kernel have one body table. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- The two prints of the kernel have one table of regions. -/
theorem defs_eq {F : FTy → Type} [FloatOps F] : Cert.Kernel.defs (F := F) = Cert.KernelIdeal.defs (F := F) :=
  congrArg (Pipeline.defs Cert.KernelIdeal.pcfgs) bodies_eq

/-- The kernel as printed keeps its arguments and ends with every semaphore at zero. -/
theorem frame_kernel : Cert.quiescent_Kernel := fun m ρ _ => by
  rw [defs_eq]
  exact frame_any (F := Bits) m ρ

/-- The kernel read over the extended reals keeps its arguments and ends with every semaphore at zero. -/
theorem frame_ideal : Cert.quiescent_KernelIdeal := fun m ρ _ => frame_any (F := Ideal) m ρ

/-- The reference has no semaphore, so every counter is zero. -/
theorem no_sems (f : GSem Cert.ReferenceIdeal.nD Cert.ReferenceIdeal.τ Cert.ReferenceIdeal.sig → Int) : f = fun _ => 0 := by
  funext g
  obtain ⟨_, s⟩ := g
  cases s with
  | reg s => exact s.elim0
  | dma s => exact s.elim0

/-- The reference read over the extended reals keeps its arguments and ends with every semaphore at zero. -/
theorem frame_reference : Cert.quiescent_ReferenceIdeal := fun m ρ _ =>
  (θ_run Cert.ReferenceIdeal.defs _ _).mono (fun _ h => ⟨fun c => (h c).2, no_sems _⟩)
    (Cert.ReferenceIdeal.Value.run (F := Ideal) m ρ)

/-- The kernel and the reference, read over the extended reals, give one result where queries and keys are finite. -/
theorem algebraic : Cert.algebraic_KernelIdeal_ReferenceIdeal_pre_finite := by
  intro m g m' g' hpre hag
  refine ⟨fun c => (Cert.KernelIdeal.Att.dats m 0 c).arrAt 4 Cert.KernelIdeal.cfg0.N, ?_, ?_⟩
  · exact (θ_run Cert.KernelIdeal.defs _ _).mono (fun _ h c => ⟨(h.1 c).1 4, Cert.KernelIdeal.Att.kept h.1 c⟩)
      (Cert.KernelIdeal.Att.run_main (F := Ideal) m g)
  · refine (θ_run Cert.ReferenceIdeal.defs _ _).mono (fun _ h c => ⟨(h c).1.trans ?_, (h c).2⟩)
      (Cert.ReferenceIdeal.Value.run (F := Ideal) m' g')
    exact Cert.Bridge.value m m' c hpre (hag c).1 (hag c).2.1 (hag c).2.2.1 (hag c).2.2.2

/-- The two prints of the second kernel have one body table. -/
theorem bodies2_eq {F : FTy → Type} [FloatOps F] : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) => rfl

/-- The two prints of the second kernel have one table of regions. -/
theorem defs2_eq {F : FTy → Type} [FloatOps F] : Cert.Kernel2.defs (F := F) = Cert.Kernel2Ideal.defs (F := F) :=
  congrArg (Pipeline.defs Cert.Kernel2Ideal.pcfgs) bodies2_eq

/-- The second kernel as printed keeps its arguments and ends with every semaphore at zero. -/
theorem frame_kernel2 : Cert.quiescent_Kernel2 := fun m ρ _ => by
  rw [defs2_eq]
  exact Cert.Kernel2Ideal.Gen.frame (F := Bits) m ρ

/-- The second kernel read over the extended reals keeps its arguments and ends with every semaphore at zero. -/
theorem frame_ideal2 : Cert.quiescent_Kernel2Ideal := fun m ρ _ => Cert.Kernel2Ideal.Gen.frame (F := Ideal) m ρ

/-- The second reference has no semaphore either. -/
theorem no_sems2 (f : GSem Cert.Reference2Ideal.nD Cert.Reference2Ideal.τ Cert.Reference2Ideal.sig → Int) : f = fun _ => 0 := by
  funext g
  obtain ⟨_, s⟩ := g
  cases s with
  | reg s => exact s.elim0
  | dma s => exact s.elim0

/-- The second reference read over the extended reals keeps its arguments and ends with every semaphore at zero. -/
theorem frame_reference2 : Cert.quiescent_Reference2Ideal := fun m ρ _ =>
  (θ_run Cert.Reference2Ideal.defs _ _).mono (fun _ h => ⟨fun c => (h c).2, no_sems2 _⟩)
    (Cert.Reference2Ideal.Value.run (F := Ideal) m ρ)

/-- The second kernel and its reference, read over the extended reals, give one result. -/
theorem algebraic2 : Cert.algebraic_Kernel2Ideal_Reference2Ideal := by
  intro m g m' g' _ hag
  refine ⟨fun c => (Cert.Kernel2Ideal.Gen.dats m 0 c).arrAt 5 Cert.Kernel2Ideal.cfg0.N, ?_, ?_⟩
  · exact (θ_run Cert.Kernel2Ideal.defs _ _).mono (fun r h c => ⟨Cert.Kernel2Ideal.Value.post5 m r h c,
        Cert.Kernel2Ideal.Value.kept_main_arg0 m r h c, Cert.Kernel2Ideal.Value.kept_main_arg1 m r h c,
        Cert.Kernel2Ideal.Value.kept_main_arg2 m r h c, Cert.Kernel2Ideal.Value.kept_main_arg3 m r h c,
        Cert.Kernel2Ideal.Value.kept_main_arg4 m r h c⟩)
      (Cert.Kernel2Ideal.Gen.run_main (F := Ideal) m g)
  · refine (θ_run Cert.Reference2Ideal.defs _ _).mono (fun _ h c => ⟨(h c).1.trans ?_, (h c).2⟩)
      (Cert.Reference2Ideal.Value.run (F := Ideal) m' g')
    refine Eq.trans ?_ (Cert.Kernel2Ideal.Out.final m c).symm
    rw [(hag c).1, (hag c).2.1, (hag c).2.2.1, (hag c).2.2.2.1, (hag c).2.2.2.2]

set_option maxHeartbeats 4000000 in
/-- The two prints of the third kernel have one body table. -/
theorem bodies3_eq {F : FTy → Type} [FloatOps F] : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) => rfl

set_option maxHeartbeats 4000000 in
/-- The two prints of the third kernel have one table of regions. -/
theorem defs3_eq {F : FTy → Type} [FloatOps F] : Cert.Kernel3.defs (F := F) = Cert.Kernel3Ideal.defs (F := F) :=
  congrArg (Pipeline.defs Cert.Kernel3Ideal.pcfgs) bodies3_eq

set_option maxHeartbeats 4000000 in
/-- The third kernel as printed keeps its arguments and ends with every semaphore at zero. -/
theorem frame_kernel3 : Cert.quiescent_Kernel3 := fun m ρ _ => by
  rw [defs3_eq]
  exact Cert.Kernel3Ideal.Gen.frame (F := Bits) m ρ

/-- The third kernel read over the extended reals keeps its arguments and ends with every semaphore at zero. -/
theorem frame_ideal3 : Cert.quiescent_Kernel3Ideal := fun m ρ _ => Cert.Kernel3Ideal.Gen.frame (F := Ideal) m ρ

/-- The third reference has no semaphore either. -/
theorem no_sems3 (f : GSem Cert.Reference3Ideal.nD Cert.Reference3Ideal.τ Cert.Reference3Ideal.sig → Int) : f = fun _ => 0 := by
  funext g
  obtain ⟨_, s⟩ := g
  cases s with
  | reg s => exact s.elim0
  | dma s => exact s.elim0

/-- The third reference read over the extended reals keeps its arguments and ends with every semaphore at zero. -/
theorem frame_reference3 : Cert.quiescent_Reference3Ideal := fun m ρ _ =>
  (θ_run Cert.Reference3Ideal.defs _ _).mono (fun _ h => ⟨fun c => (h c).2.2.2.2.2.2, no_sems3 _⟩)
    (Cert.Reference3Ideal.Value.run (F := Ideal) m ρ)

/-- The third kernel and its reference, read over the extended reals, give the same six results where the modulation and the
projection's weight are finite. -/
theorem algebraic3 : Cert.algebraic_Kernel3Ideal_Reference3Ideal_pre_finite3 := by
  intro m g m' g' hpre hag
  refine ⟨_, _, _, _, _, _, (θ_run Cert.Kernel3Ideal.defs _ _).mono
    (fun r h c => Cert.Kernel3Ideal.Inp.post m r h c (Cert.Kernel3Ideal.Inp.P_real_of_pre m hpre c))
    (Cert.Kernel3Ideal.Gen.run_main (F := Ideal) m g), ?_⟩
  refine (θ_run Cert.Reference3Ideal.defs _ _).mono (fun _ h c => ?_) (Cert.Reference3Ideal.Value.run (F := Ideal) m' g')
  obtain ⟨a0, a1, a2, a3, a4, a5, a6, a7, a8, a9, a10, a11⟩ := hag c
  obtain ⟨r0, r1, r2, r3, r4, r5, hk⟩ := h c
  have b0 := r0.trans (Cert.Reference3Ideal.Ref.o0_eq (StableHlo.launchContents m' c))
  have b1 := r1.trans (Cert.Reference3Ideal.Ref.o1_eq (StableHlo.launchContents m' c))
  have b2 := r2.trans (Cert.Reference3Ideal.Ref.o2_eq (StableHlo.launchContents m' c))
  have b3 := r3.trans (Cert.Reference3Ideal.Ref.o3_eq (StableHlo.launchContents m' c))
  have b4 := r4.trans (Cert.Reference3Ideal.Ref.o4_eq (StableHlo.launchContents m' c))
  have b5 := r5.trans (Cert.Reference3Ideal.Ref.o5_eq (StableHlo.launchContents m' c))
  clear r0 r1 r2 r3 r4 r5
  dsimp only [StableHlo.launchContents] at b0 b1 b2 b3 b4 b5
  rw [a0, a1, a3] at b0 b1 b2
  rw [a0, a1, a3, a4, a5, a8, a9, a2] at b3
  rw [a0, a1, a3, a6, a7, a10, a11, a2] at b4
  rw [a0, a1, a3, a6, a7] at b5
  exact ⟨b0, b1, b2, b3, b4, b5, hk⟩

/-- The two prints of the fourth kernel have one body table. -/
theorem bodies4_eq {F : FTy → Type} [FloatOps F] : Cert.Kernel4.defs₀ (F := F) = Cert.Kernel4Ideal.defs₀ (F := F) := by
  unfold Cert.Kernel4.defs₀ Cert.Kernel4Ideal.defs₀
  refine congrArg Defs.onTc ?_
  funext l a
  match l, a with
  | 0, (t, s) => rfl

/-- The two prints of the fourth kernel have one table of regions. -/
theorem defs4_eq {F : FTy → Type} [FloatOps F] : Cert.Kernel4.defs (F := F) = Cert.Kernel4Ideal.defs (F := F) :=
  congrArg (Pipeline.defs Cert.Kernel4Ideal.pcfgs) bodies4_eq

/-- The fourth kernel as printed keeps its arguments and ends with every semaphore at zero. -/
theorem frame_kernel4 : Cert.quiescent_Kernel4 := fun m ρ _ => by
  rw [defs4_eq]
  exact Cert.Kernel4Ideal.Gen.frame (F := Bits) m ρ

/-- The fourth kernel read over the extended reals keeps its arguments and ends with every semaphore at zero. -/
theorem frame_ideal4 : Cert.quiescent_Kernel4Ideal := fun m ρ _ => Cert.Kernel4Ideal.Gen.frame (F := Ideal) m ρ

/-- The fourth reference has no semaphore either. -/
theorem no_sems4 (f : GSem Cert.Reference4Ideal.nD Cert.Reference4Ideal.τ Cert.Reference4Ideal.sig → Int) : f = fun _ => 0 := by
  funext g
  obtain ⟨_, s⟩ := g
  cases s with
  | reg s => exact s.elim0
  | dma s => exact s.elim0

/-- The fourth reference read over the extended reals keeps its arguments and ends with every semaphore at zero. -/
theorem frame_reference4 : Cert.quiescent_Reference4Ideal := fun m ρ _ =>
  (θ_run Cert.Reference4Ideal.defs _ _).mono (fun _ h => ⟨fun c => (h c).2, no_sems4 _⟩)
    (Cert.Reference4Ideal.Value.run (F := Ideal) m ρ)

/-- The fourth kernel and its reference, read over the extended reals, give one result. -/
theorem algebraic4 : Cert.algebraic_Kernel4Ideal_Reference4Ideal := by
  intro m g m' g' _ hag
  refine ⟨_, (θ_run Cert.Kernel4Ideal.defs _ _).mono (fun r h c => Cert.Kernel4Ideal.Ada.post m r h c)
    (Cert.Kernel4Ideal.Gen.run_main (F := Ideal) m g), ?_⟩
  refine (θ_run Cert.Reference4Ideal.defs _ _).mono (fun _ h c => ⟨(h c).1.trans ?_, (h c).2⟩)
    (Cert.Reference4Ideal.Value.run (F := Ideal) m' g')
  rw [(hag c).1, (hag c).2.1, (hag c).2.2]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_finite3.Gen.facts,
    frame_kernel, frame_ideal, fun m ρ _ => frame_ideal m ρ trivial, frame_reference, fun m ρ _ => frame_reference m ρ trivial,
    frame_kernel2, frame_ideal2, frame_reference2,
    frame_kernel3, frame_ideal3, fun m ρ _ => frame_ideal3 m ρ trivial, frame_reference3, fun m ρ _ => frame_reference3 m ρ trivial,
    frame_kernel4, frame_ideal4, frame_reference4,
    trivial, algebraic, trivial, algebraic2, trivial, algebraic3, trivial, algebraic4⟩

end Cert.Proof

end
